-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v721) = v0 c
          ∧ r.2.mem ((c.tc : Thread Cert.ReferenceIdeal.nD Cert.ReferenceIdeal.τ).loc Cert.ReferenceIdeal.main_v722) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x768x16384 : Shape := ⟨3, ![2, 768, 16384]⟩
abbrev S2 : Shape := ⟨1, ![2]⟩
abbrev S2x768x512x32 : Shape := ⟨4, ![2, 768, 512, 32]⟩
abbrev S_ : Shape := ⟨0, ![]⟩
abbrev S2x768x512 : Shape := ⟨3, ![2, 768, 512]⟩
abbrev S2x1x1 : Shape := ⟨3, ![2, 1, 1]⟩

class Facts : Prop where
  bitsLt_bf16_f32 : FTy.bits .bf16 < FTy.bits .f32
  shapeCasts_S2x768x16384_S2x768x512x32 : S2x768x16384.ShapeCasts S2x768x512x32
  reducesTo_S2x768x512x32_S2x768x512_d3 : S2x768x512x32.ReducesTo [3] S2x768x512
  h_S_ : 0 < S_.numel
  bcast_S_S2x768x512 : S_.BroadcastsInDim S2x768x512 (![] : Fin 0 → Fin S2x768x512.rank)
  bcast_S_S2 : S_.BroadcastsInDim S2 (![] : Fin 0 → Fin S2.rank)
  bcast_S2_S2x1x1_0 : S2.BroadcastsInDim S2x1x1 (![0] : Fin 1 → Fin S2x1x1.rank)
  bcast_S2x1x1_S2x768x512_0_1_2 : S2x1x1.BroadcastsInDim S2x768x512 (![0, 1, 2] : Fin 3 → Fin S2x768x512.rank)

variable [Facts]

def fn_part1 {F : FTy → Type} [FloatOps F] (main_v16 : IVec S2x768x512 1) (main_v17 : IVec S2x1x1 1) : IVec S2x768x512 1 :=
  let main_v18 : IVec S2x768x512 1 := broadcastInDim S2x768x512 ![0, 1, 2] bcast_S2x1x1_S2x768x512_0_1_2 main_v17
  let main_v19 : IVec S2x768x512 1 := andi main_v16 main_v18
  main_v19

def fn {F : FTy → Type} [FloatOps F] (main_arg0 : FVec F S2x768x16384 .bf16) (main_arg1 : IVec S2 32) (main_arg2 : IVec S2 32) : IVec S2x768x512 1 :=
  let main_v0 : FVec F S2x768x16384 .f32 := (extf .f32 · bitsLt_bf16_f32) main_arg0
  let main_v1 : FVec F S2x768x16384 .f32 := Host.absf main_v0
  let main_v2 : FVec F S2x768x512x32 .f32 := shapeCast S2x768x512x32 main_v1 shapeCasts_S2x768x16384_S2x768x512x32
  let main_cst : FVec F S_ .f32 := constant S_ .f32 0xFF800000#32
  let main_v3 : FVec F S2x768x512 .f32 := (fun x v => Host.reduce FloatOps.maximumf x v reducesTo_S2x768x512x32_S2x768x512_d3 h_S_) main_v2 main_cst
  let main_cst_0 : FVec F S_ .f32 := constant S_ .f32 0x00800000#32
  let main_v4 : FVec F S2x768x512 .f32 := broadcastInDim S2x768x512 ![] bcast_S_S2x768x512 main_cst_0
  let main_v5 : IVec S2x768x512 1 := cmpf .oge main_v3 main_v4
  let main_cst_1 : FVec F S_ .f32 := constant S_ .f32 0x7F7F0000#32
  let main_v6 : FVec F S2x768x512 .f32 := broadcastInDim S2x768x512 ![] bcast_S_S2x768x512 main_cst_1
  let main_v7 : IVec S2x768x512 1 := cmpf .ole main_v3 main_v6
  let main_v8 : IVec S2x768x512 1 := andi main_v5 main_v7
  let main_c : IVec S_ 32 := constantI S_ 32 2147484384#32
  let main_v9 : IVec S2 32 := broadcastInDim S2 ![] bcast_S_S2 main_c
  let main_v10 : IVec S2 1 := cmpi .sge main_arg2 main_v9
  let main_c_2 : IVec S_ 32 := constantI S_ 32 2147483616#32
  let main_v11 : IVec S2 32 := broadcastInDim S2 ![] bcast_S_S2 main_c_2
  let main_v12 : IVec S2 1 := cmpi .sle main_arg2 main_v11
  let main_v13 : IVec S2 1 := andi main_v10 main_v12
  let main_cst_3 : FVec F S_ .f32 := constant S_ .f32 0x00000000#32
  let main_v14 : FVec F S2x768x512 .f32 := broadcastInDim S2x768x512 ![] bcast_S_S2x768x512 main_cst_3
  let main_v15 : IVec S2x768x512 1 := cmpf .oeq main_v3 main_v14
  let main_v16 : IVec S2x768x512 1 := ori main_v15 main_v8
  let main_v17 : IVec S2x1x1 1 := broadcastInDim S2x1x1 ![0] bcast_S2_S2x1x1_0 main_v13
  fn_part1 (F := F) main_v16 main_v17
-- ==== Kernel.lean ====
abbrev S2x768x16384 : Shape := ⟨3, ![2, 768, 16384]⟩
abbrev S2 : Shape := ⟨1, ![2]⟩
abbrev S1536x8192 : Shape := ⟨2, ![1536, 8192]⟩
abbrev S1536x512 : Shape := ⟨2, ![1536, 512]⟩
abbrev S1x32x16384 : Shape := ⟨3, ![1, 32, 16384]⟩
abbrev S1 : Shape := ⟨1, ![1]⟩
abbrev S32x8192 : Shape := ⟨2, ![32, 8192]⟩
abbrev S32x512 : Shape := ⟨2, ![32, 512]⟩
abbrev S512x512 : Shape := ⟨2, ![512, 512]⟩
abbrev S512x256 : Shape := ⟨2, ![512, 256]⟩
abbrev S1024x128 : Shape := ⟨2, ![1024, 128]⟩
abbrev S128x512 : Shape := ⟨2, ![128, 512]⟩
abbrev S32x4096 : Shape := ⟨2, ![32, 4096]⟩
abbrev S16x128 : Shape := ⟨2, ![16, 128]⟩
abbrev S1x32x512 : Shape := ⟨3, ![1, 32, 512]⟩
abbrev S16x128x1 : Shape := ⟨3, ![16, 128, 1]⟩
abbrev S32x256 : Shape := ⟨2, ![32, 256]⟩
abbrev S32x1024 : Shape := ⟨2, ![32, 1024]⟩
abbrev S32x128 : Shape := ⟨2, ![32, 128]⟩

abbrev nBuf : Space → Nat
  | .hbm => 3
  | .vmem => 12
  | .smem => 2
  | _ => 0

abbrev bufTy : (tb : Table) → Fin (tcTables nBuf tb) → BufTy
  | .hbm, ⟨0, _⟩ => ⟨S2x768x16384, .bf16⟩
  | .hbm, ⟨1, _⟩ => ⟨S1536x8192, .i8⟩
  | .hbm, ⟨2, _⟩ => ⟨S1536x512, .i8⟩
  | .local _ .vmem, ⟨0, _⟩ => ⟨S1x32x16384, .bf16⟩
  | .local _ .vmem, ⟨1, _⟩ => ⟨S1x32x16384, .bf16⟩
  | .local _ .vmem, ⟨2, _⟩ => ⟨S32x8192, .i8⟩
  | .local _ .vmem, ⟨3, _⟩ => ⟨S32x8192, .i8⟩
  | .local _ .vmem, ⟨4, _⟩ => ⟨S32x512, .i8⟩
  | .local _ .vmem, ⟨5, _⟩ => ⟨S32x512, .i8⟩
  | .local _ .vmem, ⟨6, _⟩ => ⟨S512x512, .bf16⟩
  | .local _ .vmem, ⟨7, _⟩ => ⟨S512x256, .bf16⟩
  | .local _ .vmem, ⟨8, _⟩ => ⟨S1024x128, .bf16⟩
  | .local _ .vmem, ⟨9, _⟩ => ⟨S128x512, .f32⟩
  | .local _ .vmem, ⟨10, _⟩ => ⟨S128x512, .bf16⟩
  | .local _ .vmem, ⟨11, _⟩ => ⟨S32x4096, .bf16⟩
  | .local _ .smem, ⟨0, _⟩ => ⟨S2, .i32⟩
  | .local _ .smem, ⟨1, _⟩ => ⟨S2, .i32⟩
  | _, _ => ⟨S2x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_arg2 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg2.idx, main_arg1.idx], fun | 0 => main_arg2.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c24_i32 : BitVec 32 := 24#32
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let v0 : BitVec 32 := Scalar.divsi arg0 c24_i32
  let c1_i32 : BitVec 32 := 1#32
  let v15 : BitVec 32 := Scalar.subi v0 c1_i32
  let v16 : BitVec 32 := Scalar.select v14 v15 v0
  let v17 : Index := Scalar.indexCast v16
  ![v17.toNat]
@[reducible] def k0_t1_loop : Scf.Loop 32 :=
  let c0_i32_18 : BitVec 32 := 0#32
  let c8_i32 : BitVec 32 := 8#32
  let v49 : BitVec 32 := Scalar.addi c0_i32_18 c8_i32
  let c1_i32_19 : BitVec 32 := 1#32
  ⟨c0_i32_18, v49, c1_i32_19⟩
def k0_mult1 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32 : BitVec 32 := 4#32
  let v269 : BitVec 32 := Scalar.muli arg12 c4_i32
  let c0_i32_85 : BitVec 32 := 0#32
  let v270 : BitVec 32 := Scalar.addi v269 c0_i32_85
  let c512_i32 : BitVec 32 := 512#32
  let v271 : BitVec 32 := Scalar.muli v270 c512_i32
  v271
def k0_off2 (k0_t1 : Fin k0_t1_loop.trips) (c0_i32_85 : BitVec 32) : Fin 3 → Nat :=
  let c0_86 : Index := 0#32
  let c0_87 : Index := 0#32
  let c0_i32_18 : BitVec 32 := 0#32
  let c1_i32_19 : BitVec 32 := 1#32
  let arg12 : BitVec 32 := Scf.iv c0_i32_18 c1_i32_19 k0_t1
  let c4_i32 : BitVec 32 := 4#32
  let v269 : BitVec 32 := Scalar.muli arg12 c4_i32
  let v270 : BitVec 32 := Scalar.addi v269 c0_i32_85
  let c512_i32 : BitVec 32 := 512#32
  let v271 : BitVec 32 := Scalar.muli v270 c512_i32
  let v272 : BitVec 32 := v271
  let v273 : Index := Scalar.indexCast v272
  ![0, 0, v273.toNat]
def k0_mult2 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_93 : BitVec 32 := 4#32
  let v281 : BitVec 32 := Scalar.muli arg12 c4_i32_93
  let c1_i32_94 : BitVec 32 := 1#32
  let v282 : BitVec 32 := Scalar.addi v281 c1_i32_94
  let c512_i32_95 : BitVec 32 := 512#32
  let v283 : BitVec 32 := Scalar.muli v282 c512_i32_95
  v283
def k0_mult3 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_102 : BitVec 32 := 4#32
  let v293 : BitVec 32 := Scalar.muli arg12 c4_i32_102
  let c2_i32_103 : BitVec 32 := 2#32
  let v294 : BitVec 32 := Scalar.addi v293 c2_i32_103
  let c512_i32_104 : BitVec 32 := 512#32
  let v295 : BitVec 32 := Scalar.muli v294 c512_i32_104
  v295
def k0_mult4 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_111 : BitVec 32 := 4#32
  let v305 : BitVec 32 := Scalar.muli arg12 c4_i32_111
  let c3_i32 : BitVec 32 := 3#32
  let v306 : BitVec 32 := Scalar.addi v305 c3_i32
  let c512_i32_112 : BitVec 32 := 512#32
  let v307 : BitVec 32 := Scalar.muli v306 c512_i32_112
  v307
def k0_mult5 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_119 : BitVec 32 := 4#32
  let v317 : BitVec 32 := Scalar.muli arg12 c4_i32_119
  let c0_i32_120 : BitVec 32 := 0#32
  let v318 : BitVec 32 := Scalar.addi v317 c0_i32_120
  let c128_i32_309 : BitVec 32 := 128#32
  let v851 : BitVec 32 := Scalar.muli v318 c128_i32_309
  v851
def k0_off3 (k0_t1 : Fin k0_t1_loop.trips) (c0_i32_120 : BitVec 32) : Fin 2 → Nat :=
  let c0_310 : Index := 0#32
  let c0_i32_18 : BitVec 32 := 0#32
  let c1_i32_19 : BitVec 32 := 1#32
  let arg12 : BitVec 32 := Scf.iv c0_i32_18 c1_i32_19 k0_t1
  let c4_i32_119 : BitVec 32 := 4#32
  let v317 : BitVec 32 := Scalar.muli arg12 c4_i32_119
  let v318 : BitVec 32 := Scalar.addi v317 c0_i32_120
  let c128_i32_309 : BitVec 32 := 128#32
  let v851 : BitVec 32 := Scalar.muli v318 c128_i32_309
  let v852 : BitVec 32 := v851
  let v853 : Index := Scalar.indexCast v852
  ![0, v853.toNat]
def k0_mult6 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_119 : BitVec 32 := 4#32
  let v317 : BitVec 32 := Scalar.muli arg12 c4_i32_119
  let c0_i32_120 : BitVec 32 := 0#32
  let v318 : BitVec 32 := Scalar.addi v317 c0_i32_120
  let c128_i32_561 : BitVec 32 := 128#32
  let v1538 : BitVec 32 := Scalar.muli v318 c128_i32_561
  v1538
def k0_off4 (k0_t1 : Fin k0_t1_loop.trips) (c0_i32_120 : BitVec 32) : Fin 2 → Nat :=
  let c16_562 : Index := 16#32
  let c0_i32_18 : BitVec 32 := 0#32
  let c1_i32_19 : BitVec 32 := 1#32
  let arg12 : BitVec 32 := Scf.iv c0_i32_18 c1_i32_19 k0_t1
  let c4_i32_119 : BitVec 32 := 4#32
  let v317 : BitVec 32 := Scalar.muli arg12 c4_i32_119
  let v318 : BitVec 32 := Scalar.addi v317 c0_i32_120
  let c128_i32_561 : BitVec 32 := 128#32
  let v1538 : BitVec 32 := Scalar.muli v318 c128_i32_561
  let v1539 : BitVec 32 := v1538
  let v1540 : Index := Scalar.indexCast v1539
  ![16, v1540.toNat]
def k0_mult7 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_617 : BitVec 32 := 4#32
  let v1693 : BitVec 32 := Scalar.muli arg12 c4_i32_617
  let c1_i32_618 : BitVec 32 := 1#32
  let v1694 : BitVec 32 := Scalar.addi v1693 c1_i32_618
  let c128_i32_819 : BitVec 32 := 128#32
  let v2227 : BitVec 32 := Scalar.muli v1694 c128_i32_819
  v2227
def k0_mult8 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_617 : BitVec 32 := 4#32
  let v1693 : BitVec 32 := Scalar.muli arg12 c4_i32_617
  let c1_i32_618 : BitVec 32 := 1#32
  let v1694 : BitVec 32 := Scalar.addi v1693 c1_i32_618
  let c128_i32_1074 : BitVec 32 := 128#32
  let v2914 : BitVec 32 := Scalar.muli v1694 c128_i32_1074
  v2914
def k0_mult9 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_1130 : BitVec 32 := 4#32
  let v3069 : BitVec 32 := Scalar.muli arg12 c4_i32_1130
  let c2_i32_1131 : BitVec 32 := 2#32
  let v3070 : BitVec 32 := Scalar.addi v3069 c2_i32_1131
  let c128_i32_1332 : BitVec 32 := 128#32
  let v3603 : BitVec 32 := Scalar.muli v3070 c128_i32_1332
  v3603
def k0_mult10 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_1130 : BitVec 32 := 4#32
  let v3069 : BitVec 32 := Scalar.muli arg12 c4_i32_1130
  let c2_i32_1131 : BitVec 32 := 2#32
  let v3070 : BitVec 32 := Scalar.addi v3069 c2_i32_1131
  let c128_i32_1587 : BitVec 32 := 128#32
  let v4290 : BitVec 32 := Scalar.muli v3070 c128_i32_1587
  v4290
def k0_mult11 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_1643 : BitVec 32 := 4#32
  let v4445 : BitVec 32 := Scalar.muli arg12 c4_i32_1643
  let c3_i32_1644 : BitVec 32 := 3#32
  let v4446 : BitVec 32 := Scalar.addi v4445 c3_i32_1644
  let c128_i32_1845 : BitVec 32 := 128#32
  let v4979 : BitVec 32 := Scalar.muli v4446 c128_i32_1845
  v4979
def k0_mult12 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_1643 : BitVec 32 := 4#32
  let v4445 : BitVec 32 := Scalar.muli arg12 c4_i32_1643
  let c3_i32_1644 : BitVec 32 := 3#32
  let v4446 : BitVec 32 := Scalar.addi v4445 c3_i32_1644
  let c128_i32_2100 : BitVec 32 := 128#32
  let v5666 : BitVec 32 := Scalar.muli v4446 c128_i32_2100
  v5666
def k0_mult13 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_2156 : BitVec 32 := 4#32
  let v5821 : BitVec 32 := Scalar.muli arg12 c4_i32_2156
  let c0_i32_2157 : BitVec 32 := 0#32
  let v5822 : BitVec 32 := Scalar.addi v5821 c0_i32_2157
  let c256_i32 : BitVec 32 := 256#32
  let v5823 : BitVec 32 := Scalar.muli v5822 c256_i32
  v5823
def k0_off5 (k0_t1 : Fin k0_t1_loop.trips) (c0_i32_2157 : BitVec 32) : Fin 2 → Nat :=
  let c0_2163 : Index := 0#32
  let c0_i32_18 : BitVec 32 := 0#32
  let c1_i32_19 : BitVec 32 := 1#32
  let arg12 : BitVec 32 := Scf.iv c0_i32_18 c1_i32_19 k0_t1
  let c4_i32_2156 : BitVec 32 := 4#32
  let v5821 : BitVec 32 := Scalar.muli arg12 c4_i32_2156
  let v5822 : BitVec 32 := Scalar.addi v5821 c0_i32_2157
  let c256_i32 : BitVec 32 := 256#32
  let v5823 : BitVec 32 := Scalar.muli v5822 c256_i32
  let v5824 : BitVec 32 := v5823
  let v5832 : Index := Scalar.indexCast v5824
  ![0, v5832.toNat]
def k0_mult14 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_2164 : BitVec 32 := 4#32
  let v5834 : BitVec 32 := Scalar.muli arg12 c4_i32_2164
  let c1_i32_2165 : BitVec 32 := 1#32
  let v5835 : BitVec 32 := Scalar.addi v5834 c1_i32_2165
  let c256_i32_2166 : BitVec 32 := 256#32
  let v5836 : BitVec 32 := Scalar.muli v5835 c256_i32_2166
  v5836
def k0_mult15 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_2174 : BitVec 32 := 4#32
  let v5847 : BitVec 32 := Scalar.muli arg12 c4_i32_2174
  let c2_i32_2175 : BitVec 32 := 2#32
  let v5848 : BitVec 32 := Scalar.addi v5847 c2_i32_2175
  let c256_i32_2176 : BitVec 32 := 256#32
  let v5849 : BitVec 32 := Scalar.muli v5848 c256_i32_2176
  v5849
def k0_mult16 (k0_t1 : Fin k0_t1_loop.trips) : BitVec 32 :=
  let c0_i32_18 : BitVec 32 := 0#32
  let c1_i32_19 : BitVec 32 := 1#32
  let arg12 : BitVec 32 := Scf.iv c0_i32_18 c1_i32_19 k0_t1
  let c4_i32_2184 : BitVec 32 := 4#32
  let v5860 : BitVec 32 := Scalar.muli arg12 c4_i32_2184
  let c3_i32_2185 : BitVec 32 := 3#32
  let v5861 : BitVec 32 := Scalar.addi v5860 c3_i32_2185
  let c256_i32_2186 : BitVec 32 := 256#32
  let v5862 : BitVec 32 := Scalar.muli v5861 c256_i32_2186
  v5862
@[reducible] def k0_t2_loop : Scf.Loop 32 :=
  let c0_i32_85 : BitVec 32 := 0#32
  let c64_i32 : BitVec 32 := 64#32
  let v270 : BitVec 32 := Scalar.addi c0_i32_85 c64_i32
  let c1_i32_86 : BitVec 32 := 1#32
  ⟨c0_i32_85, v270, c1_i32_86⟩
def k0_mult17 (k0_t2 : Fin k0_t2_loop.trips) : BitVec 32 :=
  let c0_i32_85 : BitVec 32 := 0#32
  let c1_i32_86 : BitVec 32 := 1#32
  let arg12 : BitVec 32 := Scf.iv c0_i32_85 c1_i32_86 k0_t2
  let c128_i32 : BitVec 32 := 128#32
  let v273 : BitVec 32 := Scalar.muli arg12 c128_i32
  v273
def k0_off6 (k0_t2 : Fin k0_t2_loop.trips) : Fin 2 → Nat :=
  let c0_91 : Index := 0#32
  let c0_i32_85 : BitVec 32 := 0#32
  let c1_i32_86 : BitVec 32 := 1#32
  let arg12 : BitVec 32 := Scf.iv c0_i32_85 c1_i32_86 k0_t2
  let c128_i32 : BitVec 32 := 128#32
  let v273 : BitVec 32 := Scalar.muli arg12 c128_i32
  let v274 : BitVec 32 := v273
  let v275 : Index := Scalar.indexCast v274
  ![0, v275.toNat]
@[reducible] def k0_t3_loop : Scf.Loop 32 :=
  let c0_i32_88 : BitVec 32 := 0#32
  let c4_i32 : BitVec 32 := 4#32
  let v272 : BitVec 32 := Scalar.addi c0_i32_88 c4_i32
  let c1_i32_89 : BitVec 32 := 1#32
  ⟨c0_i32_88, v272, c1_i32_89⟩
def k0_mult18 (k0_t3 : Fin k0_t3_loop.trips) : BitVec 32 :=
  let c0_i32_88 : BitVec 32 := 0#32
  let c1_i32_89 : BitVec 32 := 1#32
  let arg12 : BitVec 32 := Scf.iv c0_i32_88 c1_i32_89 k0_t3
  let c128_i32 : BitVec 32 := 128#32
  let v273 : BitVec 32 := Scalar.muli arg12 c128_i32
  v273
def k0_off7 (k0_t3 : Fin k0_t3_loop.trips) : Fin 2 → Nat :=
  let c0_91 : Index := 0#32
  let c0_i32_88 : BitVec 32 := 0#32
  let c1_i32_89 : BitVec 32 := 1#32
  let arg12 : BitVec 32 := Scf.iv c0_i32_88 c1_i32_89 k0_t3
  let c128_i32 : BitVec 32 := 128#32
  let v273 : BitVec 32 := Scalar.muli arg12 c128_i32
  let v274 : BitVec 32 := v273
  let v275 : Index := Scalar.indexCast v274
  ![0, v275.toNat]
def k0_cond2 (i : grid0.Coords) (v18 : BitVec 32) : BitVec 1 :=
  let c32_i32_11 : BitVec 32 := 32#32
  let c0_i32_10 : BitVec 32 := 0#32
  let arg0 : BitVec 32 := BitVec.ofNat 32 (i 0).val
  let c24_i32_4 : BitVec 32 := 24#32
  let c0_i32_5 : BitVec 32 := 0#32
  let v19 : BitVec 1 := Scalar.cmpi .eq c24_i32_4 c0_i32_5
  let c1_i32_6 : BitVec 32 := 1#32
  let v20 : BitVec 32 := Scalar.select v19 c1_i32_6 c24_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let v30 : BitVec 32 := Scalar.subi v18 v29
  let v31 : BitVec 32 := Scalar.maxsi c0_i32_10 v30
  let v32 : BitVec 32 := Scalar.minsi c32_i32_11 v31
  let c0_i32_14 : BitVec 32 := 0#32
  let v36 : BitVec 1 := Scalar.cmpi .eq v32 c0_i32_14
  let v37 : BitVec 32 := Scalar.extui v36
  let c0_i32_15 : BitVec 32 := 0#32
  let v38 : BitVec 1 := Scalar.cmpi .ne v37 c0_i32_15
  v38

def k0_cond3 (i : grid0.Coords) (v18 : BitVec 32) : BitVec 1 :=
  let c32_i32_11 : BitVec 32 := 32#32
  let c0_i32_10 : BitVec 32 := 0#32
  let arg0 : BitVec 32 := BitVec.ofNat 32 (i 0).val
  let c24_i32_4 : BitVec 32 := 24#32
  let c0_i32_5 : BitVec 32 := 0#32
  let v19 : BitVec 1 := Scalar.cmpi .eq c24_i32_4 c0_i32_5
  let c1_i32_6 : BitVec 32 := 1#32
  let v20 : BitVec 32 := Scalar.select v19 c1_i32_6 c24_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let v30 : BitVec 32 := Scalar.subi v18 v29
  let v31 : BitVec 32 := Scalar.maxsi c0_i32_10 v30
  let v32 : BitVec 32 := Scalar.minsi c32_i32_11 v31
  let c0_i32_16 : BitVec 32 := 0#32
  let v39 : BitVec 1 := Scalar.cmpi .sgt v32 c0_i32_16
  let v40 : BitVec 32 := Scalar.extui v39
  let c0_i32_17 : BitVec 32 := 0#32
  let v41 : BitVec 1 := Scalar.cmpi .ne v40 c0_i32_17
  v41

def k0_cond4 (i : grid0.Coords) (v18 : BitVec 32) : BitVec 1 :=
  let c32_i32_11 : BitVec 32 := 32#32
  let c0_i32_10 : BitVec 32 := 0#32
  let arg0 : BitVec 32 := BitVec.ofNat 32 (i 0).val
  let c24_i32_4 : BitVec 32 := 24#32
  let c0_i32_5 : BitVec 32 := 0#32
  let v19 : BitVec 1 := Scalar.cmpi .eq c24_i32_4 c0_i32_5
  let c1_i32_6 : BitVec 32 := 1#32
  let v20 : BitVec 32 := Scalar.select v19 c1_i32_6 c24_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let v30 : BitVec 32 := Scalar.subi v18 v29
  let v31 : BitVec 32 := Scalar.maxsi c0_i32_10 v30
  let v32 : BitVec 32 := Scalar.minsi c32_i32_11 v31
  let c32_i32_83 : BitVec 32 := 32#32
  let v266 : BitVec 1 := Scalar.cmpi .slt v32 c32_i32_83
  let v267 : BitVec 32 := Scalar.extui v266
  let c0_i32_84 : BitVec 32 := 0#32
  let v268 : BitVec 1 := Scalar.cmpi .ne v267 c0_i32_84
  v268

def cc0_transform_0 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c32_i32 : BitVec 32 := 32#32
  let v19 : BitVec 32 := Scalar.addi v18 c32_i32
  let c1_i32_4 : BitVec 32 := 1#32
  let v20 : BitVec 32 := Scalar.subi v19 c1_i32_4
  let c32_i32_5 : BitVec 32 := 32#32
  let v21 : BitVec 32 := Scalar.divsi v20 c32_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c32_i32_5 c0_i32_8
  let v28 : BitVec 32 := Scalar.extui v27
  let c0_i32_9 : BitVec 32 := 0#32
  let v29 : BitVec 1 := Scalar.cmpi .slt c32_i32_5 c0_i32_9
  let v30 : BitVec 32 := Scalar.extui v29
  let v31 : BitVec 32 := Scalar.subi v28 v30
  let v32 : BitVec 1 := Scalar.cmpi .ne v26 v31
  let v33 : BitVec 32 := Scalar.remsi v20 c32_i32_5
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.maxsi v37 c1_i32_12
  let c1_i32_13 : BitVec 32 := 1#32
  let v39 : BitVec 32 := Scalar.subi v38 c1_i32_13
  let c24_i32_14 : BitVec 32 := 24#32
  let c0_i32_15 : BitVec 32 := 0#32
  let v40 : BitVec 1 := Scalar.cmpi .eq c24_i32_14 c0_i32_15
  let c1_i32_16 : BitVec 32 := 1#32
  let v41 : BitVec 32 := Scalar.select v40 c1_i32_16 c24_i32_14
  let v42 : BitVec 32 := Scalar.remsi arg0 v41
  let c0_i32_17 : BitVec 32 := 0#32
  let v43 : BitVec 1 := Scalar.cmpi .ne v42 c0_i32_17
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let v47 : BitVec 1 := Scalar.andi v46 v43
  let v48 : BitVec 32 := Scalar.addi v42 v41
  let v49 : BitVec 32 := Scalar.select v47 v48 v42
  let v50 : BitVec 32 := Scalar.minsi v49 v39
  let c0_i32_20 : BitVec 32 := 0#32
  let c0_i32_21 : BitVec 32 := 0#32
  ![v16.toNat, v50.toNat, c0_i32_20.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x768x16384 : Shape := ⟨3, ![2, 768, 16384]⟩
abbrev S2 : Shape := ⟨1, ![2]⟩
abbrev S254 : Shape := ⟨1, ![254]⟩
abbrev S2x1 : Shape := ⟨2, ![2, 1]⟩
abbrev S_ : Shape := ⟨0, ![]⟩
abbrev S768 : Shape := ⟨1, ![768]⟩
abbrev S1x768 : Shape := ⟨2, ![1, 768]⟩
abbrev S2x768 : Shape := ⟨2, ![2, 768]⟩
abbrev S2x768x1 : Shape := ⟨3, ![2, 768, 1]⟩
abbrev S4096 : Shape := ⟨1, ![4096]⟩
abbrev S1x1x4096 : Shape := ⟨3, ![1, 1, 4096]⟩
abbrev S2x768x4096 : Shape := ⟨3, ![2, 768, 4096]⟩
abbrev S1 : Shape := ⟨1, ![1]⟩
abbrev S2x768x4096x1 : Shape := ⟨4, ![2, 768, 4096, 1]⟩
abbrev S2x768x4096x4 : Shape := ⟨4, ![2, 768, 4096, 4]⟩
abbrev S2x768x512x32 : Shape := ⟨4, ![2, 768, 512, 32]⟩
abbrev S2x768x512 : Shape := ⟨3, ![2, 768, 512]⟩
abbrev S2x768x512x1 : Shape := ⟨4, ![2, 768, 512, 1]⟩
abbrev S1x1x1x254 : Shape := ⟨4, ![1, 1, 1, 254]⟩
abbrev S2x768x512x254 : Shape := ⟨4, ![2, 768, 512, 254]⟩
abbrev S2x768x8192x2 : Shape := ⟨4, ![2, 768, 8192, 2]⟩
abbrev S2x768x8192x1 : Shape := ⟨4, ![2, 768, 8192, 1]⟩
abbrev S2x768x8192 : Shape := ⟨3, ![2, 768, 8192]⟩
abbrev S1536x8192 : Shape := ⟨2, ![1536, 8192]⟩
abbrev S1536x512 : Shape := ⟨2, ![1536, 512]⟩

abbrev nBuf : Space → Nat
  | .hbm => 1005
  | .vmem => 0
  | .smem => 0
  | _ => 0

abbrev hbmTy0_0 (i : Nat) : BufTy := match i % 128 with
  | 0 => ⟨S2x768x16384, .bf16⟩
  | 1 => ⟨S2, .i32⟩
  | 2 => ⟨S2, .i32⟩
  | 3 => ⟨S254, .f32⟩
  | 4 => ⟨S2, .i32⟩
  | 5 => ⟨S2x1, .i32⟩
  | 6 => ⟨S_, .i32⟩
  | 7 => ⟨S2x1, .i32⟩
  | 8 => ⟨S2x1, .i32⟩
  | 9 => ⟨S768, .i32⟩
  | 10 => ⟨S1x768, .i32⟩
  | 11 => ⟨S2x768, .i32⟩
  | 12 => ⟨S2x768, .i32⟩
  | 13 => ⟨S2x768, .i32⟩
  | 14 => ⟨S2x768x1, .i32⟩
  | 15 => ⟨S_, .i32⟩
  | 16 => ⟨S2x768x1, .i32⟩
  | 17 => ⟨S2x768x1, .i32⟩
  | 18 => ⟨S4096, .i32⟩
  | 19 => ⟨S_, .i32⟩
  | 20 => ⟨S4096, .i32⟩
  | 21 => ⟨S4096, .i32⟩
  | 22 => ⟨S1x1x4096, .i32⟩
  | 23 => ⟨S2x768x4096, .i32⟩
  | 24 => ⟨S2x768x4096, .i32⟩
  | 25 => ⟨S2x768x4096, .i32⟩
  | 26 => ⟨S_, .i32⟩
  | 27 => ⟨S2x768x4096, .i32⟩
  | 28 => ⟨S2x768x4096, .i32⟩
  | 29 => ⟨S_, .i32⟩
  | 30 => ⟨S2x768x4096, .i32⟩
  | 31 => ⟨S_, .i32⟩
  | 32 => ⟨S2x768x4096, .i32⟩
  | 33 => ⟨S_, .i32⟩
  | 34 => ⟨S2x768x4096, .i32⟩
  | 35 => ⟨S1, .i32⟩
  | 36 => ⟨S_, .i32⟩
  | 37 => ⟨S1, .i32⟩
  | 38 => ⟨S_, .i32⟩
  | 39 => ⟨S_, .i32⟩
  | 40 => ⟨S2x768x4096, .i32⟩
  | 41 => ⟨S2x768x4096, .i32⟩
  | 42 => ⟨S_, .i32⟩
  | 43 => ⟨S2x768x4096, .i32⟩
  | 44 => ⟨S2x768x4096, .i32⟩
  | 45 => ⟨S_, .i32⟩
  | 46 => ⟨S2x768x4096, .i32⟩
  | 47 => ⟨S2x768x4096, .i32⟩
  | 48 => ⟨S_, .i32⟩
  | 49 => ⟨S2x768x4096, .i32⟩
  | 50 => ⟨S2x768x4096, .i32⟩
  | 51 => ⟨S_, .i32⟩
  | 52 => ⟨S2x768x4096, .i32⟩
  | 53 => ⟨S2x768x4096, .i32⟩
  | 54 => ⟨S_, .i32⟩
  | 55 => ⟨S2x768x4096, .i32⟩
  | 56 => ⟨S2x768x4096, .i32⟩
  | 57 => ⟨S2x768x4096, .i32⟩
  | 58 => ⟨S_, .i32⟩
  | 59 => ⟨S2x768x4096, .i32⟩
  | 60 => ⟨S2x768x4096, .i32⟩
  | 61 => ⟨S_, .i32⟩
  | 62 => ⟨S2x768x4096, .i32⟩
  | 63 => ⟨S2x768x4096, .i32⟩
  | 64 => ⟨S2x768x4096, .i32⟩
  | 65 => ⟨S_, .i32⟩
  | 66 => ⟨S2x768x4096, .i32⟩
  | 67 => ⟨S2x768x4096, .i32⟩
  | 68 => ⟨S_, .i32⟩
  | 69 => ⟨S2x768x4096, .i32⟩
  | 70 => ⟨S2x768x4096, .i32⟩
  | 71 => ⟨S2x768x4096, .i32⟩
  | 72 => ⟨S_, .i32⟩
  | 73 => ⟨S2x768x4096, .i32⟩
  | 74 => ⟨S2x768x4096, .i32⟩
  | 75 => ⟨S2x768x4096, .i32⟩
  | 76 => ⟨S_, .i32⟩
  | 77 => ⟨S2x768x4096, .i32⟩
  | 78 => ⟨S2x768x4096, .i32⟩
  | 79 => ⟨S_, .i32⟩
  | 80 => ⟨S2x768x4096, .i32⟩
  | 81 => ⟨S2x768x4096, .i32⟩
  | 82 => ⟨S_, .i32⟩
  | 83 => ⟨S2x768x4096, .i32⟩
  | 84 => ⟨S2x768x4096, .i32⟩
  | 85 => ⟨S_, .i32⟩
  | 86 => ⟨S2x768x4096, .i32⟩
  | 87 => ⟨S2x768x4096, .i32⟩
  | 88 => ⟨S_, .i32⟩
  | 89 => ⟨S2x768x4096, .i32⟩
  | 90 => ⟨S2x768x4096, .i32⟩
  | 91 => ⟨S_, .i32⟩
  | 92 => ⟨S2x768x4096, .i32⟩
  | 93 => ⟨S2x768x4096, .i32⟩
  | 94 => ⟨S2x768x4096, .i32⟩
  | 95 => ⟨S_, .i32⟩
  | 96 => ⟨S2x768x4096, .i32⟩
  | 97 => ⟨S2x768x4096, .i32⟩
  | 98 => ⟨S_, .i32⟩
  | 99 => ⟨S2x768x4096, .i32⟩
  | 100 => ⟨S2x768x4096, .i32⟩
  | 101 => ⟨S2x768x4096, .i32⟩
  | 102 => ⟨S_, .i32⟩
  | 103 => ⟨S2x768x4096, .i32⟩
  | 104 => ⟨S2x768x4096, .i32⟩
  | 105 => ⟨S_, .i32⟩
  | 106 => ⟨S2x768x4096, .i32⟩
  | 107 => ⟨S2x768x4096, .i32⟩
  | 108 => ⟨S2x768x4096, .i32⟩
  | 109 => ⟨S_, .i32⟩
  | 110 => ⟨S2x768x4096, .i32⟩
  | 111 => ⟨S2x768x4096, .i32⟩
  | 112 => ⟨S2x768x4096, .i32⟩
  | 113 => ⟨S2x768x4096, .i32⟩
  | 114 => ⟨S2x768x4096, .i32⟩
  | 115 => ⟨S2x768x4096, .i32⟩
  | 116 => ⟨S2x768x4096, .i32⟩
  | 117 => ⟨S2x768x4096, .i32⟩
  | 118 => ⟨S2x768x4096, .i32⟩
  | 119 => ⟨S_, .i32⟩
  | 120 => ⟨S_, .i32⟩
  | 121 => ⟨S_, .i32⟩
  | 122 => ⟨S_, .i32⟩
  | 123 => ⟨S_, .i32⟩
  | 124 => ⟨S2x768x4096, .i32⟩
  | 125 => ⟨S2x768x4096, .i32⟩
  | 126 => ⟨S_, .i32⟩
  | 127 => ⟨S2x768x4096, .i32⟩
  | _ => ⟨S2x768x16384, .bf16⟩

abbrev hbmTy0_1 (i : Nat) : BufTy := match i % 128 with
  | 0 => ⟨S2x768x4096, .i32⟩
  | 1 => ⟨S_, .i32⟩
  | 2 => ⟨S2x768x4096, .i32⟩
  | 3 => ⟨S2x768x4096, .i32⟩
  | 4 => ⟨S_, .i32⟩
  | 5 => ⟨S2x768x4096, .i32⟩
  | 6 => ⟨S2x768x4096, .i32⟩
  | 7 => ⟨S_, .i32⟩
  | 8 => ⟨S2x768x4096, .i32⟩
  | 9 => ⟨S2x768x4096, .i32⟩
  | 10 => ⟨S_, .i32⟩
  | 11 => ⟨S2x768x4096, .i32⟩
  | 12 => ⟨S2x768x4096, .i32⟩
  | 13 => ⟨S2x768x4096, .i32⟩
  | 14 => ⟨S_, .i32⟩
  | 15 => ⟨S2x768x4096, .i32⟩
  | 16 => ⟨S2x768x4096, .i32⟩
  | 17 => ⟨S_, .i32⟩
  | 18 => ⟨S2x768x4096, .i32⟩
  | 19 => ⟨S2x768x4096, .i32⟩
  | 20 => ⟨S2x768x4096, .i32⟩
  | 21 => ⟨S_, .i32⟩
  | 22 => ⟨S2x768x4096, .i32⟩
  | 23 => ⟨S2x768x4096, .i32⟩
  | 24 => ⟨S_, .i32⟩
  | 25 => ⟨S2x768x4096, .i32⟩
  | 26 => ⟨S2x768x4096, .i32⟩
  | 27 => ⟨S2x768x4096, .i32⟩
  | 28 => ⟨S_, .i32⟩
  | 29 => ⟨S2x768x4096, .i32⟩
  | 30 => ⟨S2x768x4096, .i32⟩
  | 31 => ⟨S2x768x4096, .i32⟩
  | 32 => ⟨S_, .i32⟩
  | 33 => ⟨S2x768x4096, .i32⟩
  | 34 => ⟨S2x768x4096, .i32⟩
  | 35 => ⟨S_, .i32⟩
  | 36 => ⟨S2x768x4096, .i32⟩
  | 37 => ⟨S2x768x4096, .i32⟩
  | 38 => ⟨S_, .i32⟩
  | 39 => ⟨S2x768x4096, .i32⟩
  | 40 => ⟨S2x768x4096, .i32⟩
  | 41 => ⟨S_, .i32⟩
  | 42 => ⟨S2x768x4096, .i32⟩
  | 43 => ⟨S2x768x4096, .i32⟩
  | 44 => ⟨S_, .i32⟩
  | 45 => ⟨S2x768x4096, .i32⟩
  | 46 => ⟨S2x768x4096, .i32⟩
  | 47 => ⟨S_, .i32⟩
  | 48 => ⟨S2x768x4096, .i32⟩
  | 49 => ⟨S2x768x4096, .i32⟩
  | 50 => ⟨S2x768x4096, .i32⟩
  | 51 => ⟨S_, .i32⟩
  | 52 => ⟨S2x768x4096, .i32⟩
  | 53 => ⟨S2x768x4096, .i32⟩
  | 54 => ⟨S_, .i32⟩
  | 55 => ⟨S2x768x4096, .i32⟩
  | 56 => ⟨S2x768x4096, .i32⟩
  | 57 => ⟨S2x768x4096, .i32⟩
  | 58 => ⟨S_, .i32⟩
  | 59 => ⟨S2x768x4096, .i32⟩
  | 60 => ⟨S2x768x4096, .i32⟩
  | 61 => ⟨S_, .i32⟩
  | 62 => ⟨S2x768x4096, .i32⟩
  | 63 => ⟨S2x768x4096, .i32⟩
  | 64 => ⟨S2x768x4096, .i32⟩
  | 65 => ⟨S_, .i32⟩
  | 66 => ⟨S2x768x4096, .i32⟩
  | 67 => ⟨S2x768x4096, .i32⟩
  | 68 => ⟨S2x768x4096, .i32⟩
  | 69 => ⟨S2x768x4096, .i32⟩
  | 70 => ⟨S2x768x4096, .i32⟩
  | 71 => ⟨S2x768x4096, .i32⟩
  | 72 => ⟨S2x768x4096, .i32⟩
  | 73 => ⟨S2x768x4096, .i32⟩
  | 74 => ⟨S2x768x4096, .i32⟩
  | 75 => ⟨S_, .i32⟩
  | 76 => ⟨S_, .i32⟩
  | 77 => ⟨S_, .i32⟩
  | 78 => ⟨S_, .i32⟩
  | 79 => ⟨S_, .i32⟩
  | 80 => ⟨S2x768x4096, .i32⟩
  | 81 => ⟨S2x768x4096, .i32⟩
  | 82 => ⟨S_, .i32⟩
  | 83 => ⟨S2x768x4096, .i32⟩
  | 84 => ⟨S2x768x4096, .i32⟩
  | 85 => ⟨S_, .i32⟩
  | 86 => ⟨S2x768x4096, .i32⟩
  | 87 => ⟨S2x768x4096, .i32⟩
  | 88 => ⟨S_, .i32⟩
  | 89 => ⟨S2x768x4096, .i32⟩
  | 90 => ⟨S2x768x4096, .i32⟩
  | 91 => ⟨S_, .i32⟩
  | 92 => ⟨S2x768x4096, .i32⟩
  | 93 => ⟨S2x768x4096, .i32⟩
  | 94 => ⟨S_, .i32⟩
  | 95 => ⟨S2x768x4096, .i32⟩
  | 96 => ⟨S2x768x4096, .i32⟩
  | 97 => ⟨S2x768x4096, .i32⟩
  | 98 => ⟨S_, .i32⟩
  | 99 => ⟨S2x768x4096, .i32⟩
  | 100 => ⟨S2x768x4096, .i32⟩
  | 101 => ⟨S_, .i32⟩
  | 102 => ⟨S2x768x4096, .i32⟩
  | 103 => ⟨S2x768x4096, .i32⟩
  | 104 => ⟨S2x768x4096, .i32⟩
  | 105 => ⟨S_, .i32⟩
  | 106 => ⟨S2x768x4096, .i32⟩
  | 107 => ⟨S2x768x4096, .i32⟩
  | 108 => ⟨S_, .i32⟩
  | 109 => ⟨S2x768x4096, .i32⟩
  | 110 => ⟨S2x768x4096, .i32⟩
  | 111 => ⟨S2x768x4096, .i32⟩
  | 112 => ⟨S_, .i32⟩
  | 113 => ⟨S2x768x4096, .i32⟩
  | 114 => ⟨S2x768x4096, .i32⟩
  | 115 => ⟨S2x768x4096, .i32⟩
  | 116 => ⟨S_, .i32⟩
  | 117 => ⟨S2x768x4096, .i32⟩
  | 118 => ⟨S2x768x4096, .i32⟩
  | 119 => ⟨S_, .i32⟩
  | 120 => ⟨S2x768x4096, .i32⟩
  | 121 => ⟨S2x768x4096, .i32⟩
  | 122 => ⟨S_, .i32⟩
  | 123 => ⟨S2x768x4096, .i32⟩
  | 124 => ⟨S2x768x4096, .i32⟩
  | 125 => ⟨S_, .i32⟩
  | 126 => ⟨S2x768x4096, .i32⟩
  | 127 => ⟨S2x768x4096, .i32⟩
  | _ => ⟨S2x768x16384, .bf16⟩

abbrev hbmTy0_2 (i : Nat) : BufTy := match i % 128 with
  | 0 => ⟨S_, .i32⟩
  | 1 => ⟨S2x768x4096, .i32⟩
  | 2 => ⟨S2x768x4096, .i32⟩
  | 3 => ⟨S_, .i32⟩
  | 4 => ⟨S2x768x4096, .i32⟩
  | 5 => ⟨S2x768x4096, .i32⟩
  | 6 => ⟨S2x768x4096, .i32⟩
  | 7 => ⟨S_, .i32⟩
  | 8 => ⟨S2x768x4096, .i32⟩
  | 9 => ⟨S2x768x4096, .i32⟩
  | 10 => ⟨S_, .i32⟩
  | 11 => ⟨S2x768x4096, .i32⟩
  | 12 => ⟨S2x768x4096, .i32⟩
  | 13 => ⟨S2x768x4096, .i32⟩
  | 14 => ⟨S_, .i32⟩
  | 15 => ⟨S2x768x4096, .i32⟩
  | 16 => ⟨S2x768x4096, .i32⟩
  | 17 => ⟨S_, .i32⟩
  | 18 => ⟨S2x768x4096, .i32⟩
  | 19 => ⟨S2x768x4096, .i32⟩
  | 20 => ⟨S2x768x4096, .i32⟩
  | 21 => ⟨S_, .i32⟩
  | 22 => ⟨S2x768x4096, .i32⟩
  | 23 => ⟨S2x768x4096, .i32⟩
  | 24 => ⟨S2x768x4096, .i32⟩
  | 25 => ⟨S2x768x4096, .i32⟩
  | 26 => ⟨S2x768x4096, .i32⟩
  | 27 => ⟨S2x768x4096, .i32⟩
  | 28 => ⟨S2x768x4096, .i32⟩
  | 29 => ⟨S2x768x4096, .i32⟩
  | 30 => ⟨S2x768x4096, .i32⟩
  | 31 => ⟨S_, .i32⟩
  | 32 => ⟨S_, .i32⟩
  | 33 => ⟨S_, .i32⟩
  | 34 => ⟨S_, .i32⟩
  | 35 => ⟨S_, .i32⟩
  | 36 => ⟨S2x768x4096, .i32⟩
  | 37 => ⟨S2x768x4096, .i32⟩
  | 38 => ⟨S_, .i32⟩
  | 39 => ⟨S2x768x4096, .i32⟩
  | 40 => ⟨S2x768x4096, .i32⟩
  | 41 => ⟨S_, .i32⟩
  | 42 => ⟨S2x768x4096, .i32⟩
  | 43 => ⟨S2x768x4096, .i32⟩
  | 44 => ⟨S_, .i32⟩
  | 45 => ⟨S2x768x4096, .i32⟩
  | 46 => ⟨S2x768x4096, .i32⟩
  | 47 => ⟨S_, .i32⟩
  | 48 => ⟨S2x768x4096, .i32⟩
  | 49 => ⟨S2x768x4096, .i32⟩
  | 50 => ⟨S_, .i32⟩
  | 51 => ⟨S2x768x4096, .i32⟩
  | 52 => ⟨S2x768x4096, .i32⟩
  | 53 => ⟨S2x768x4096, .i32⟩
  | 54 => ⟨S_, .i32⟩
  | 55 => ⟨S2x768x4096, .i32⟩
  | 56 => ⟨S2x768x4096, .i32⟩
  | 57 => ⟨S_, .i32⟩
  | 58 => ⟨S2x768x4096, .i32⟩
  | 59 => ⟨S2x768x4096, .i32⟩
  | 60 => ⟨S2x768x4096, .i32⟩
  | 61 => ⟨S_, .i32⟩
  | 62 => ⟨S2x768x4096, .i32⟩
  | 63 => ⟨S2x768x4096, .i32⟩
  | 64 => ⟨S_, .i32⟩
  | 65 => ⟨S2x768x4096, .i32⟩
  | 66 => ⟨S2x768x4096, .i32⟩
  | 67 => ⟨S2x768x4096, .i32⟩
  | 68 => ⟨S_, .i32⟩
  | 69 => ⟨S2x768x4096, .i32⟩
  | 70 => ⟨S2x768x4096, .i32⟩
  | 71 => ⟨S2x768x4096, .i32⟩
  | 72 => ⟨S_, .i32⟩
  | 73 => ⟨S2x768x4096, .i32⟩
  | 74 => ⟨S2x768x4096, .i32⟩
  | 75 => ⟨S_, .i32⟩
  | 76 => ⟨S2x768x4096, .i32⟩
  | 77 => ⟨S2x768x4096, .i32⟩
  | 78 => ⟨S_, .i32⟩
  | 79 => ⟨S2x768x4096, .i32⟩
  | 80 => ⟨S2x768x4096, .i32⟩
  | 81 => ⟨S_, .i32⟩
  | 82 => ⟨S2x768x4096, .i32⟩
  | 83 => ⟨S2x768x4096, .i32⟩
  | 84 => ⟨S_, .i32⟩
  | 85 => ⟨S2x768x4096, .i32⟩
  | 86 => ⟨S2x768x4096, .i32⟩
  | 87 => ⟨S_, .i32⟩
  | 88 => ⟨S2x768x4096, .i32⟩
  | 89 => ⟨S2x768x4096, .i32⟩
  | 90 => ⟨S2x768x4096, .i32⟩
  | 91 => ⟨S_, .i32⟩
  | 92 => ⟨S2x768x4096, .i32⟩
  | 93 => ⟨S2x768x4096, .i32⟩
  | 94 => ⟨S_, .i32⟩
  | 95 => ⟨S2x768x4096, .i32⟩
  | 96 => ⟨S2x768x4096, .i32⟩
  | 97 => ⟨S2x768x4096, .i32⟩
  | 98 => ⟨S_, .i32⟩
  | 99 => ⟨S2x768x4096, .i32⟩
  | 100 => ⟨S2x768x4096, .i32⟩
  | 101 => ⟨S_, .i32⟩
  | 102 => ⟨S2x768x4096, .i32⟩
  | 103 => ⟨S2x768x4096, .i32⟩
  | 104 => ⟨S2x768x4096, .i32⟩
  | 105 => ⟨S_, .i32⟩
  | 106 => ⟨S2x768x4096, .i32⟩
  | 107 => ⟨S2x768x4096, .i32⟩
  | 108 => ⟨S2x768x4096, .i32⟩
  | 109 => ⟨S2x768x4096, .i32⟩
  | 110 => ⟨S2x768x4096, .i32⟩
  | 111 => ⟨S2x768x4096, .i32⟩
  | 112 => ⟨S2x768x4096, .i32⟩
  | 113 => ⟨S2x768x4096, .i32⟩
  | 114 => ⟨S2x768x4096, .i32⟩
  | 115 => ⟨S_, .i32⟩
  | 116 => ⟨S_, .i32⟩
  | 117 => ⟨S_, .i32⟩
  | 118 => ⟨S_, .i32⟩
  | 119 => ⟨S_, .i32⟩
  | 120 => ⟨S2x768x4096, .i32⟩
  | 121 => ⟨S2x768x4096, .i32⟩
  | 122 => ⟨S_, .i32⟩
  | 123 => ⟨S2x768x4096, .i32⟩
  | 124 => ⟨S2x768x4096, .i32⟩
  | 125 => ⟨S_, .i32⟩
  | 126 => ⟨S2x768x4096, .i32⟩
  | 127 => ⟨S2x768x4096, .i32⟩
  | _ => ⟨S2x768x16384, .bf16⟩

abbrev hbmTy0_3 (i : Nat) : BufTy := match i % 128 with
  | 0 => ⟨S_, .i32⟩
  | 1 => ⟨S2x768x4096, .i32⟩
  | 2 => ⟨S2x768x4096, .i32⟩
  | 3 => ⟨S_, .i32⟩
  | 4 => ⟨S2x768x4096, .i32⟩
  | 5 => ⟨S2x768x4096, .i32⟩
  | 6 => ⟨S_, .i32⟩
  | 7 => ⟨S2x768x4096, .i32⟩
  | 8 => ⟨S2x768x4096, .i32⟩
  | 9 => ⟨S2x768x4096, .i32⟩
  | 10 => ⟨S_, .i32⟩
  | 11 => ⟨S2x768x4096, .i32⟩
  | 12 => ⟨S2x768x4096, .i32⟩
  | 13 => ⟨S_, .i32⟩
  | 14 => ⟨S2x768x4096, .i32⟩
  | 15 => ⟨S2x768x4096, .i32⟩
  | 16 => ⟨S2x768x4096, .i32⟩
  | 17 => ⟨S_, .i32⟩
  | 18 => ⟨S2x768x4096, .i32⟩
  | 19 => ⟨S2x768x4096, .i32⟩
  | 20 => ⟨S_, .i32⟩
  | 21 => ⟨S2x768x4096, .i32⟩
  | 22 => ⟨S2x768x4096, .i32⟩
  | 23 => ⟨S2x768x4096, .i32⟩
  | 24 => ⟨S_, .i32⟩
  | 25 => ⟨S2x768x4096, .i32⟩
  | 26 => ⟨S2x768x4096, .i32⟩
  | 27 => ⟨S2x768x4096, .i32⟩
  | 28 => ⟨S_, .i32⟩
  | 29 => ⟨S2x768x4096, .i32⟩
  | 30 => ⟨S2x768x4096, .i32⟩
  | 31 => ⟨S_, .i32⟩
  | 32 => ⟨S2x768x4096, .i32⟩
  | 33 => ⟨S2x768x4096, .i32⟩
  | 34 => ⟨S_, .i32⟩
  | 35 => ⟨S2x768x4096, .i32⟩
  | 36 => ⟨S2x768x4096, .i32⟩
  | 37 => ⟨S_, .i32⟩
  | 38 => ⟨S2x768x4096, .i32⟩
  | 39 => ⟨S2x768x4096, .i32⟩
  | 40 => ⟨S_, .i32⟩
  | 41 => ⟨S2x768x4096, .i32⟩
  | 42 => ⟨S2x768x4096, .i32⟩
  | 43 => ⟨S_, .i32⟩
  | 44 => ⟨S2x768x4096, .i32⟩
  | 45 => ⟨S2x768x4096, .i32⟩
  | 46 => ⟨S2x768x4096, .i32⟩
  | 47 => ⟨S_, .i32⟩
  | 48 => ⟨S2x768x4096, .i32⟩
  | 49 => ⟨S2x768x4096, .i32⟩
  | 50 => ⟨S_, .i32⟩
  | 51 => ⟨S2x768x4096, .i32⟩
  | 52 => ⟨S2x768x4096, .i32⟩
  | 53 => ⟨S2x768x4096, .i32⟩
  | 54 => ⟨S_, .i32⟩
  | 55 => ⟨S2x768x4096, .i32⟩
  | 56 => ⟨S2x768x4096, .i32⟩
  | 57 => ⟨S_, .i32⟩
  | 58 => ⟨S2x768x4096, .i32⟩
  | 59 => ⟨S2x768x4096, .i32⟩
  | 60 => ⟨S2x768x4096, .i32⟩
  | 61 => ⟨S_, .i32⟩
  | 62 => ⟨S2x768x4096, .i32⟩
  | 63 => ⟨S2x768x4096, .i32⟩
  | 64 => ⟨S2x768x4096, .i32⟩
  | 65 => ⟨S2x768x4096, .i32⟩
  | 66 => ⟨S2x768x4096, .i32⟩
  | 67 => ⟨S2x768x4096, .i32⟩
  | 68 => ⟨S2x768x4096, .i32⟩
  | 69 => ⟨S2x768x4096, .i32⟩
  | 70 => ⟨S2x768x4096, .i32⟩
  | 71 => ⟨S_, .i32⟩
  | 72 => ⟨S_, .i32⟩
  | 73 => ⟨S_, .i32⟩
  | 74 => ⟨S_, .i32⟩
  | 75 => ⟨S_, .i32⟩
  | 76 => ⟨S2x768x4096, .i32⟩
  | 77 => ⟨S2x768x4096, .i32⟩
  | 78 => ⟨S_, .i32⟩
  | 79 => ⟨S2x768x4096, .i32⟩
  | 80 => ⟨S2x768x4096, .i32⟩
  | 81 => ⟨S_, .i32⟩
  | 82 => ⟨S2x768x4096, .i32⟩
  | 83 => ⟨S2x768x4096, .i32⟩
  | 84 => ⟨S_, .i32⟩
  | 85 => ⟨S2x768x4096, .i32⟩
  | 86 => ⟨S2x768x4096, .i32⟩
  | 87 => ⟨S_, .i32⟩
  | 88 => ⟨S2x768x4096, .i32⟩
  | 89 => ⟨S2x768x4096, .i32⟩
  | 90 => ⟨S_, .i32⟩
  | 91 => ⟨S2x768x4096, .i32⟩
  | 92 => ⟨S2x768x4096, .i32⟩
  | 93 => ⟨S2x768x4096, .i32⟩
  | 94 => ⟨S_, .i32⟩
  | 95 => ⟨S2x768x4096, .i32⟩
  | 96 => ⟨S2x768x4096, .i32⟩
  | 97 => ⟨S_, .i32⟩
  | 98 => ⟨S2x768x4096, .i32⟩
  | 99 => ⟨S2x768x4096, .i32⟩
  | 100 => ⟨S2x768x4096, .i32⟩
  | 101 => ⟨S_, .i32⟩
  | 102 => ⟨S2x768x4096, .i32⟩
  | 103 => ⟨S2x768x4096, .i32⟩
  | 104 => ⟨S_, .i32⟩
  | 105 => ⟨S2x768x4096, .i32⟩
  | 106 => ⟨S2x768x4096, .i32⟩
  | 107 => ⟨S2x768x4096, .i32⟩
  | 108 => ⟨S_, .i32⟩
  | 109 => ⟨S2x768x4096, .i32⟩
  | 110 => ⟨S2x768x4096, .i32⟩
  | 111 => ⟨S2x768x4096, .i32⟩
  | 112 => ⟨S_, .i32⟩
  | 113 => ⟨S2x768x4096, .i32⟩
  | 114 => ⟨S2x768x4096, .i32⟩
  | 115 => ⟨S_, .i32⟩
  | 116 => ⟨S2x768x4096, .i32⟩
  | 117 => ⟨S2x768x4096, .i32⟩
  | 118 => ⟨S_, .i32⟩
  | 119 => ⟨S2x768x4096, .i32⟩
  | 120 => ⟨S2x768x4096, .i32⟩
  | 121 => ⟨S_, .i32⟩
  | 122 => ⟨S2x768x4096, .i32⟩
  | 123 => ⟨S2x768x4096, .i32⟩
  | 124 => ⟨S_, .i32⟩
  | 125 => ⟨S2x768x4096, .i32⟩
  | 126 => ⟨S2x768x4096, .i32⟩
  | 127 => ⟨S_, .i32⟩
  | _ => ⟨S2x768x16384, .bf16⟩

abbrev hbmTy0_4 (i : Nat) : BufTy := match i % 128 with
  | 0 => ⟨S2x768x4096, .i32⟩
  | 1 => ⟨S2x768x4096, .i32⟩
  | 2 => ⟨S2x768x4096, .i32⟩
  | 3 => ⟨S_, .i32⟩
  | 4 => ⟨S2x768x4096, .i32⟩
  | 5 => ⟨S2x768x4096, .i32⟩
  | 6 => ⟨S_, .i32⟩
  | 7 => ⟨S2x768x4096, .i32⟩
  | 8 => ⟨S2x768x4096, .i32⟩
  | 9 => ⟨S2x768x4096, .i32⟩
  | 10 => ⟨S_, .i32⟩
  | 11 => ⟨S2x768x4096, .i32⟩
  | 12 => ⟨S2x768x4096, .i32⟩
  | 13 => ⟨S_, .i32⟩
  | 14 => ⟨S2x768x4096, .i32⟩
  | 15 => ⟨S2x768x4096, .i32⟩
  | 16 => ⟨S2x768x4096, .i32⟩
  | 17 => ⟨S_, .i32⟩
  | 18 => ⟨S2x768x4096, .i32⟩
  | 19 => ⟨S2x768x4096, .i32⟩
  | 20 => ⟨S2x768x4096, .i32⟩
  | 21 => ⟨S2x768x4096, .i32⟩
  | 22 => ⟨S2x768x4096, .i32⟩
  | 23 => ⟨S2x768x4096, .i32⟩
  | 24 => ⟨S2x768x4096, .i32⟩
  | 25 => ⟨S2x768x4096, .i32⟩
  | 26 => ⟨S2x768x4096, .i32⟩
  | 27 => ⟨S_, .i32⟩
  | 28 => ⟨S_, .i32⟩
  | 29 => ⟨S_, .i32⟩
  | 30 => ⟨S_, .i32⟩
  | 31 => ⟨S_, .i32⟩
  | 32 => ⟨S2x768x4096, .i32⟩
  | 33 => ⟨S2x768x4096, .i32⟩
  | 34 => ⟨S_, .i32⟩
  | 35 => ⟨S2x768x4096, .i32⟩
  | 36 => ⟨S2x768x4096, .i32⟩
  | 37 => ⟨S_, .i32⟩
  | 38 => ⟨S2x768x4096, .i32⟩
  | 39 => ⟨S2x768x4096, .i32⟩
  | 40 => ⟨S_, .i32⟩
  | 41 => ⟨S2x768x4096, .i32⟩
  | 42 => ⟨S2x768x4096, .i32⟩
  | 43 => ⟨S_, .i32⟩
  | 44 => ⟨S2x768x4096, .i32⟩
  | 45 => ⟨S2x768x4096, .i32⟩
  | 46 => ⟨S_, .i32⟩
  | 47 => ⟨S2x768x4096, .i32⟩
  | 48 => ⟨S2x768x4096, .i32⟩
  | 49 => ⟨S2x768x4096, .i32⟩
  | 50 => ⟨S_, .i32⟩
  | 51 => ⟨S2x768x4096, .i32⟩
  | 52 => ⟨S2x768x4096, .i32⟩
  | 53 => ⟨S_, .i32⟩
  | 54 => ⟨S2x768x4096, .i32⟩
  | 55 => ⟨S2x768x4096, .i32⟩
  | 56 => ⟨S2x768x4096, .i32⟩
  | 57 => ⟨S_, .i32⟩
  | 58 => ⟨S2x768x4096, .i32⟩
  | 59 => ⟨S2x768x4096, .i32⟩
  | 60 => ⟨S_, .i32⟩
  | 61 => ⟨S2x768x4096, .i32⟩
  | 62 => ⟨S2x768x4096, .i32⟩
  | 63 => ⟨S2x768x4096, .i32⟩
  | 64 => ⟨S_, .i32⟩
  | 65 => ⟨S2x768x4096, .i32⟩
  | 66 => ⟨S2x768x4096, .i32⟩
  | 67 => ⟨S2x768x4096, .i32⟩
  | 68 => ⟨S_, .i32⟩
  | 69 => ⟨S2x768x4096, .i32⟩
  | 70 => ⟨S2x768x4096, .i32⟩
  | 71 => ⟨S_, .i32⟩
  | 72 => ⟨S2x768x4096, .i32⟩
  | 73 => ⟨S2x768x4096, .i32⟩
  | 74 => ⟨S_, .i32⟩
  | 75 => ⟨S2x768x4096, .i32⟩
  | 76 => ⟨S2x768x4096, .i32⟩
  | 77 => ⟨S_, .i32⟩
  | 78 => ⟨S2x768x4096, .i32⟩
  | 79 => ⟨S2x768x4096, .i32⟩
  | 80 => ⟨S_, .i32⟩
  | 81 => ⟨S2x768x4096, .i32⟩
  | 82 => ⟨S2x768x4096, .i32⟩
  | 83 => ⟨S_, .i32⟩
  | 84 => ⟨S2x768x4096, .i32⟩
  | 85 => ⟨S2x768x4096, .i32⟩
  | 86 => ⟨S2x768x4096, .i32⟩
  | 87 => ⟨S_, .i32⟩
  | 88 => ⟨S2x768x4096, .i32⟩
  | 89 => ⟨S2x768x4096, .i32⟩
  | 90 => ⟨S_, .i32⟩
  | 91 => ⟨S2x768x4096, .i32⟩
  | 92 => ⟨S2x768x4096, .i32⟩
  | 93 => ⟨S2x768x4096, .i32⟩
  | 94 => ⟨S_, .i32⟩
  | 95 => ⟨S2x768x4096, .i32⟩
  | 96 => ⟨S2x768x4096, .i32⟩
  | 97 => ⟨S_, .i32⟩
  | 98 => ⟨S2x768x4096, .i32⟩
  | 99 => ⟨S2x768x4096, .i32⟩
  | 100 => ⟨S2x768x4096, .i32⟩
  | 101 => ⟨S_, .i32⟩
  | 102 => ⟨S2x768x4096, .i32⟩
  | 103 => ⟨S2x768x4096, .i32⟩
  | 104 => ⟨S2x768x4096, .i32⟩
  | 105 => ⟨S2x768x4096, .i32⟩
  | 106 => ⟨S2x768x4096, .i32⟩
  | 107 => ⟨S2x768x4096, .i32⟩
  | 108 => ⟨S2x768x4096, .i32⟩
  | 109 => ⟨S2x768x4096, .i32⟩
  | 110 => ⟨S2x768x4096, .i32⟩
  | 111 => ⟨S_, .i32⟩
  | 112 => ⟨S_, .i32⟩
  | 113 => ⟨S_, .i32⟩
  | 114 => ⟨S_, .i32⟩
  | 115 => ⟨S_, .i32⟩
  | 116 => ⟨S2x768x4096, .i32⟩
  | 117 => ⟨S2x768x4096, .i32⟩
  | 118 => ⟨S_, .i32⟩
  | 119 => ⟨S2x768x4096, .i32⟩
  | 120 => ⟨S2x768x4096, .i32⟩
  | 121 => ⟨S_, .i32⟩
  | 122 => ⟨S2x768x4096, .i32⟩
  | 123 => ⟨S2x768x4096, .i32⟩
  | 124 => ⟨S_, .i32⟩
  | 125 => ⟨S2x768x4096, .i32⟩
  | 126 => ⟨S2x768x4096, .i32⟩
  | 127 => ⟨S_, .i32⟩
  | _ => ⟨S2x768x16384, .bf16⟩

abbrev hbmTy0_5 (i : Nat) : BufTy := match i % 128 with
  | 0 => ⟨S2x768x4096, .i32⟩
  | 1 => ⟨S2x768x4096, .i32⟩
  | 2 => ⟨S_, .i32⟩
  | 3 => ⟨S2x768x4096, .i32⟩
  | 4 => ⟨S2x768x4096, .i32⟩
  | 5 => ⟨S2x768x4096, .i32⟩
  | 6 => ⟨S_, .i32⟩
  | 7 => ⟨S2x768x4096, .i32⟩
  | 8 => ⟨S2x768x4096, .i32⟩
  | 9 => ⟨S_, .i32⟩
  | 10 => ⟨S2x768x4096, .i32⟩
  | 11 => ⟨S2x768x4096, .i32⟩
  | 12 => ⟨S2x768x4096, .i32⟩
  | 13 => ⟨S_, .i32⟩
  | 14 => ⟨S2x768x4096, .i32⟩
  | 15 => ⟨S2x768x4096, .i32⟩
  | 16 => ⟨S_, .i32⟩
  | 17 => ⟨S2x768x4096, .i32⟩
  | 18 => ⟨S2x768x4096, .i32⟩
  | 19 => ⟨S2x768x4096, .i32⟩
  | 20 => ⟨S_, .i32⟩
  | 21 => ⟨S2x768x4096, .i32⟩
  | 22 => ⟨S2x768x4096, .i32⟩
  | 23 => ⟨S2x768x4096, .i32⟩
  | 24 => ⟨S_, .i32⟩
  | 25 => ⟨S2x768x4096, .i32⟩
  | 26 => ⟨S2x768x4096, .i32⟩
  | 27 => ⟨S_, .i32⟩
  | 28 => ⟨S2x768x4096, .i32⟩
  | 29 => ⟨S2x768x4096, .i32⟩
  | 30 => ⟨S_, .i32⟩
  | 31 => ⟨S2x768x4096, .i32⟩
  | 32 => ⟨S2x768x4096, .i32⟩
  | 33 => ⟨S_, .i32⟩
  | 34 => ⟨S2x768x4096, .i32⟩
  | 35 => ⟨S2x768x4096, .i32⟩
  | 36 => ⟨S_, .i32⟩
  | 37 => ⟨S2x768x4096, .i32⟩
  | 38 => ⟨S2x768x4096, .i32⟩
  | 39 => ⟨S_, .i32⟩
  | 40 => ⟨S2x768x4096, .i32⟩
  | 41 => ⟨S2x768x4096, .i32⟩
  | 42 => ⟨S2x768x4096, .i32⟩
  | 43 => ⟨S_, .i32⟩
  | 44 => ⟨S2x768x4096, .i32⟩
  | 45 => ⟨S2x768x4096, .i32⟩
  | 46 => ⟨S_, .i32⟩
  | 47 => ⟨S2x768x4096, .i32⟩
  | 48 => ⟨S2x768x4096, .i32⟩
  | 49 => ⟨S2x768x4096, .i32⟩
  | 50 => ⟨S_, .i32⟩
  | 51 => ⟨S2x768x4096, .i32⟩
  | 52 => ⟨S2x768x4096, .i32⟩
  | 53 => ⟨S_, .i32⟩
  | 54 => ⟨S2x768x4096, .i32⟩
  | 55 => ⟨S2x768x4096, .i32⟩
  | 56 => ⟨S2x768x4096, .i32⟩
  | 57 => ⟨S_, .i32⟩
  | 58 => ⟨S2x768x4096, .i32⟩
  | 59 => ⟨S2x768x4096, .i32⟩
  | 60 => ⟨S2x768x4096, .i32⟩
  | 61 => ⟨S2x768x4096, .i32⟩
  | 62 => ⟨S2x768x4096, .i32⟩
  | 63 => ⟨S2x768x4096, .i32⟩
  | 64 => ⟨S2x768x4096, .i32⟩
  | 65 => ⟨S2x768x4096, .i32⟩
  | 66 => ⟨S2x768x4096, .i32⟩
  | 67 => ⟨S_, .i32⟩
  | 68 => ⟨S_, .i32⟩
  | 69 => ⟨S_, .i32⟩
  | 70 => ⟨S_, .i32⟩
  | 71 => ⟨S_, .i32⟩
  | 72 => ⟨S2x768x4096, .i32⟩
  | 73 => ⟨S2x768x4096, .i32⟩
  | 74 => ⟨S_, .i32⟩
  | 75 => ⟨S2x768x4096, .i32⟩
  | 76 => ⟨S2x768x4096, .i32⟩
  | 77 => ⟨S_, .i32⟩
  | 78 => ⟨S2x768x4096, .i32⟩
  | 79 => ⟨S2x768x4096, .i32⟩
  | 80 => ⟨S_, .i32⟩
  | 81 => ⟨S2x768x4096, .i32⟩
  | 82 => ⟨S2x768x4096, .i32⟩
  | 83 => ⟨S_, .i32⟩
  | 84 => ⟨S2x768x4096, .i32⟩
  | 85 => ⟨S2x768x4096, .i32⟩
  | 86 => ⟨S_, .i32⟩
  | 87 => ⟨S2x768x4096, .i32⟩
  | 88 => ⟨S2x768x4096, .i32⟩
  | 89 => ⟨S2x768x4096, .i32⟩
  | 90 => ⟨S_, .i32⟩
  | 91 => ⟨S2x768x4096, .i32⟩
  | 92 => ⟨S2x768x4096, .i32⟩
  | 93 => ⟨S_, .i32⟩
  | 94 => ⟨S2x768x4096, .i32⟩
  | 95 => ⟨S2x768x4096, .i32⟩
  | 96 => ⟨S2x768x4096, .i32⟩
  | 97 => ⟨S_, .i32⟩
  | 98 => ⟨S2x768x4096, .i32⟩
  | 99 => ⟨S2x768x4096, .i32⟩
  | 100 => ⟨S_, .i32⟩
  | 101 => ⟨S2x768x4096, .i32⟩
  | 102 => ⟨S2x768x4096, .i32⟩
  | 103 => ⟨S2x768x4096, .i32⟩
  | 104 => ⟨S_, .i32⟩
  | 105 => ⟨S2x768x4096, .i32⟩
  | 106 => ⟨S2x768x4096, .i32⟩
  | 107 => ⟨S2x768x4096, .i32⟩
  | 108 => ⟨S_, .i32⟩
  | 109 => ⟨S2x768x4096, .i32⟩
  | 110 => ⟨S2x768x4096, .i32⟩
  | 111 => ⟨S_, .i32⟩
  | 112 => ⟨S2x768x4096, .i32⟩
  | 113 => ⟨S2x768x4096, .i32⟩
  | 114 => ⟨S_, .i32⟩
  | 115 => ⟨S2x768x4096, .i32⟩
  | 116 => ⟨S2x768x4096, .i32⟩
  | 117 => ⟨S_, .i32⟩
  | 118 => ⟨S2x768x4096, .i32⟩
  | 119 => ⟨S2x768x4096, .i32⟩
  | 120 => ⟨S_, .i32⟩
  | 121 => ⟨S2x768x4096, .i32⟩
  | 122 => ⟨S2x768x4096, .i32⟩
  | 123 => ⟨S_, .i32⟩
  | 124 => ⟨S2x768x4096, .i32⟩
  | 125 => ⟨S2x768x4096, .i32⟩
  | 126 => ⟨S2x768x4096, .i32⟩
  | 127 => ⟨S_, .i32⟩
  | _ => ⟨S2x768x16384, .bf16⟩

abbrev hbmTy0_6 (i : Nat) : BufTy := match i % 128 with
  | 0 => ⟨S2x768x4096, .i32⟩
  | 1 => ⟨S2x768x4096, .i32⟩
  | 2 => ⟨S_, .i32⟩
  | 3 => ⟨S2x768x4096, .i32⟩
  | 4 => ⟨S2x768x4096, .i32⟩
  | 5 => ⟨S2x768x4096, .i32⟩
  | 6 => ⟨S_, .i32⟩
  | 7 => ⟨S2x768x4096, .i32⟩
  | 8 => ⟨S2x768x4096, .i32⟩
  | 9 => ⟨S_, .i32⟩
  | 10 => ⟨S2x768x4096, .i32⟩
  | 11 => ⟨S2x768x4096, .i32⟩
  | 12 => ⟨S2x768x4096, .i32⟩
  | 13 => ⟨S_, .i32⟩
  | 14 => ⟨S2x768x4096, .i32⟩
  | 15 => ⟨S2x768x4096, .i32⟩
  | 16 => ⟨S2x768x4096, .i32⟩
  | 17 => ⟨S2x768x4096, .i32⟩
  | 18 => ⟨S2x768x4096, .i32⟩
  | 19 => ⟨S2x768x4096, .i32⟩
  | 20 => ⟨S2x768x4096, .i32⟩
  | 21 => ⟨S2x768x4096, .i32⟩
  | 22 => ⟨S2x768x4096, .i32⟩
  | 23 => ⟨S_, .i32⟩
  | 24 => ⟨S_, .i32⟩
  | 25 => ⟨S_, .i32⟩
  | 26 => ⟨S_, .i32⟩
  | 27 => ⟨S_, .i32⟩
  | 28 => ⟨S2x768x4096, .i32⟩
  | 29 => ⟨S2x768x4096, .i32⟩
  | 30 => ⟨S_, .i32⟩
  | 31 => ⟨S2x768x4096, .i32⟩
  | 32 => ⟨S2x768x4096, .i32⟩
  | 33 => ⟨S_, .i32⟩
  | 34 => ⟨S2x768x4096, .i32⟩
  | 35 => ⟨S2x768x4096, .i32⟩
  | 36 => ⟨S_, .i32⟩
  | 37 => ⟨S2x768x4096, .i32⟩
  | 38 => ⟨S2x768x4096, .i32⟩
  | 39 => ⟨S_, .i32⟩
  | 40 => ⟨S2x768x4096, .i32⟩
  | 41 => ⟨S2x768x4096, .i32⟩
  | 42 => ⟨S_, .i32⟩
  | 43 => ⟨S2x768x4096, .i32⟩
  | 44 => ⟨S2x768x4096, .i32⟩
  | 45 => ⟨S2x768x4096, .i32⟩
  | 46 => ⟨S_, .i32⟩
  | 47 => ⟨S2x768x4096, .i32⟩
  | 48 => ⟨S2x768x4096, .i32⟩
  | 49 => ⟨S_, .i32⟩
  | 50 => ⟨S2x768x4096, .i32⟩
  | 51 => ⟨S2x768x4096, .i32⟩
  | 52 => ⟨S2x768x4096, .i32⟩
  | 53 => ⟨S_, .i32⟩
  | 54 => ⟨S2x768x4096, .i32⟩
  | 55 => ⟨S2x768x4096, .i32⟩
  | 56 => ⟨S_, .i32⟩
  | 57 => ⟨S2x768x4096, .i32⟩
  | 58 => ⟨S2x768x4096, .i32⟩
  | 59 => ⟨S2x768x4096, .i32⟩
  | 60 => ⟨S_, .i32⟩
  | 61 => ⟨S2x768x4096, .i32⟩
  | 62 => ⟨S2x768x4096, .i32⟩
  | 63 => ⟨S2x768x4096, .i32⟩
  | 64 => ⟨S_, .i32⟩
  | 65 => ⟨S2x768x4096, .i32⟩
  | 66 => ⟨S2x768x4096, .i32⟩
  | 67 => ⟨S_, .i32⟩
  | 68 => ⟨S2x768x4096, .i32⟩
  | 69 => ⟨S2x768x4096, .i32⟩
  | 70 => ⟨S_, .i32⟩
  | 71 => ⟨S2x768x4096, .i32⟩
  | 72 => ⟨S2x768x4096, .i32⟩
  | 73 => ⟨S_, .i32⟩
  | 74 => ⟨S2x768x4096, .i32⟩
  | 75 => ⟨S2x768x4096, .i32⟩
  | 76 => ⟨S_, .i32⟩
  | 77 => ⟨S2x768x4096, .i32⟩
  | 78 => ⟨S2x768x4096, .i32⟩
  | 79 => ⟨S_, .i32⟩
  | 80 => ⟨S2x768x4096, .i32⟩
  | 81 => ⟨S2x768x4096, .i32⟩
  | 82 => ⟨S2x768x4096, .i32⟩
  | 83 => ⟨S_, .i32⟩
  | 84 => ⟨S2x768x4096, .i32⟩
  | 85 => ⟨S2x768x4096, .i32⟩
  | 86 => ⟨S_, .i32⟩
  | 87 => ⟨S2x768x4096, .i32⟩
  | 88 => ⟨S2x768x4096, .i32⟩
  | 89 => ⟨S2x768x4096, .i32⟩
  | 90 => ⟨S_, .i32⟩
  | 91 => ⟨S2x768x4096, .i32⟩
  | 92 => ⟨S2x768x4096, .i32⟩
  | 93 => ⟨S_, .i32⟩
  | 94 => ⟨S2x768x4096, .i32⟩
  | 95 => ⟨S2x768x4096, .i32⟩
  | 96 => ⟨S2x768x4096, .i32⟩
  | 97 => ⟨S_, .i32⟩
  | 98 => ⟨S2x768x4096, .i32⟩
  | 99 => ⟨S2x768x4096, .i32⟩
  | 100 => ⟨S2x768x4096, .i32⟩
  | 101 => ⟨S2x768x4096, .i32⟩
  | 102 => ⟨S2x768x4096, .i32⟩
  | 103 => ⟨S2x768x4096, .i32⟩
  | 104 => ⟨S2x768x4096, .i32⟩
  | 105 => ⟨S2x768x4096, .i32⟩
  | 106 => ⟨S2x768x4096, .i32⟩
  | 107 => ⟨S2x768x4096x1, .i32⟩
  | 108 => ⟨S2x768x4096x1, .i32⟩
  | 109 => ⟨S2x768x4096x1, .i32⟩
  | 110 => ⟨S2x768x4096x1, .i32⟩
  | 111 => ⟨S2x768x4096x4, .i32⟩
  | 112 => ⟨S2x768x16384, .i32⟩
  | 113 => ⟨S768, .i32⟩
  | 114 => ⟨S1x768, .i32⟩
  | 115 => ⟨S2x1, .i32⟩
  | 116 => ⟨S2x768, .i32⟩
  | 117 => ⟨S2x768, .i32⟩
  | 118 => ⟨S2x768, .i1⟩
  | 119 => ⟨S2x768x16384, .f32⟩
  | 120 => ⟨S2x768x512x32, .f32⟩
  | 121 => ⟨S2x768x512x32, .i32⟩
  | 122 => ⟨S2x768x512x32, .f32⟩
  | 123 => ⟨S_, .f32⟩
  | 124 => ⟨S2x768x512, .f32⟩
  | 125 => ⟨S_, .f32⟩
  | 126 => ⟨S2x768x512, .f32⟩
  | 127 => ⟨S2x768x512, .i1⟩
  | _ => ⟨S2x768x16384, .bf16⟩

abbrev hbmTy0_7 (i : Nat) : BufTy := match i % 128 with
  | 0 => ⟨S_, .i32⟩
  | 1 => ⟨S2x768x512, .i32⟩
  | 2 => ⟨S2x768x512x1, .f32⟩
  | 3 => ⟨S1x1x1x254, .f32⟩
  | 4 => ⟨S2x768x512x254, .f32⟩
  | 5 => ⟨S2x768x512x254, .f32⟩
  | 6 => ⟨S2x768x512x254, .i1⟩
  | 7 => ⟨S2x768x512x254, .i32⟩
  | 8 => ⟨S_, .i32⟩
  | 9 => ⟨S2x768x512, .i32⟩
  | 10 => ⟨S2x768x512, .i32⟩
  | 11 => ⟨S_, .i32⟩
  | 12 => ⟨S2x768x512, .i32⟩
  | 13 => ⟨S2x768x512, .i32⟩
  | 14 => ⟨S_, .i32⟩
  | 15 => ⟨S_, .i32⟩
  | 16 => ⟨S2x768x512, .i32⟩
  | 17 => ⟨S2x768x512, .i32⟩
  | 18 => ⟨S_, .i32⟩
  | 19 => ⟨S2x768x512, .i32⟩
  | 20 => ⟨S2x768x512, .i32⟩
  | 21 => ⟨S2x768x512, .i8⟩
  | 22 => ⟨S2x768x512x32, .f32⟩
  | 23 => ⟨S_, .f32⟩
  | 24 => ⟨S2x768x512x32, .f32⟩
  | 25 => ⟨S2x768x512x32, .f32⟩
  | 26 => ⟨S2x768x512, .i32⟩
  | 27 => ⟨S2x768x512, .f32⟩
  | 28 => ⟨S_, .f32⟩
  | 29 => ⟨S2x768x512, .f32⟩
  | 30 => ⟨S2x768x512, .f32⟩
  | 31 => ⟨S2x768x512x1, .f32⟩
  | 32 => ⟨S2x768x512x32, .f32⟩
  | 33 => ⟨S2x768x512x32, .f32⟩
  | 34 => ⟨S_, .f32⟩
  | 35 => ⟨S2x768x512x32, .f32⟩
  | 36 => ⟨S2x768x512x32, .f32⟩
  | 37 => ⟨S2x768x512x32, .f32⟩
  | 38 => ⟨S_, .f32⟩
  | 39 => ⟨S2x768x512x32, .f32⟩
  | 40 => ⟨S2x768x512x32, .f32⟩
  | 41 => ⟨S2x768x512x32, .f32⟩
  | 42 => ⟨S_, .f32⟩
  | 43 => ⟨S2x768x512x32, .f32⟩
  | 44 => ⟨S2x768x512x32, .i1⟩
  | 45 => ⟨S_, .f32⟩
  | 46 => ⟨S2x768x512x32, .f32⟩
  | 47 => ⟨S2x768x512x32, .i1⟩
  | 48 => ⟨S_, .f32⟩
  | 49 => ⟨S2x768x512x32, .f32⟩
  | 50 => ⟨S2x768x512x32, .f32⟩
  | 51 => ⟨S_, .f32⟩
  | 52 => ⟨S_, .f32⟩
  | 53 => ⟨S2x768x512x32, .f32⟩
  | 54 => ⟨S2x768x512x32, .f32⟩
  | 55 => ⟨S2x768x512x32, .f32⟩
  | 56 => ⟨S2x768x512x32, .f32⟩
  | 57 => ⟨S_, .f32⟩
  | 58 => ⟨S2x768x512x32, .f32⟩
  | 59 => ⟨S2x768x512x32, .f32⟩
  | 60 => ⟨S2x768x512x32, .f32⟩
  | 61 => ⟨S_, .f32⟩
  | 62 => ⟨S2x768x512x32, .f32⟩
  | 63 => ⟨S2x768x512x32, .f32⟩
  | 64 => ⟨S_, .f32⟩
  | 65 => ⟨S2x768x512x32, .f32⟩
  | 66 => ⟨S2x768x512x32, .f32⟩
  | 67 => ⟨S2x768x512x32, .f32⟩
  | 68 => ⟨S2x768x512x32, .f32⟩
  | 69 => ⟨S_, .i32⟩
  | 70 => ⟨S2x768x512x32, .i32⟩
  | 71 => ⟨S2x768x512x32, .i32⟩
  | 72 => ⟨S2x768x512x32, .f32⟩
  | 73 => ⟨S_, .f32⟩
  | 74 => ⟨S2x768x512x32, .f32⟩
  | 75 => ⟨S2x768x512x32, .f32⟩
  | 76 => ⟨S2x768x512x32, .i32⟩
  | 77 => ⟨S2x768x512x32, .i1⟩
  | 78 => ⟨S2x768x512x32, .i32⟩
  | 79 => ⟨S2x768x512x32, .i32⟩
  | 80 => ⟨S_, .f32⟩
  | 81 => ⟨S2x768x512x32, .f32⟩
  | 82 => ⟨S2x768x512x32, .i1⟩
  | 83 => ⟨S_, .i32⟩
  | 84 => ⟨S2x768x512x32, .i32⟩
  | 85 => ⟨S2x768x512x32, .i32⟩
  | 86 => ⟨S2x768x512x32, .i32⟩
  | 87 => ⟨S2x768x8192x2, .i32⟩
  | 88 => ⟨S2x768x8192x1, .i32⟩
  | 89 => ⟨S2x768x8192, .i32⟩
  | 90 => ⟨S2x768x8192x1, .i32⟩
  | 91 => ⟨S2x768x8192, .i32⟩
  | 92 => ⟨S_, .i32⟩
  | 93 => ⟨S2x768x8192, .i32⟩
  | 94 => ⟨S2x768x8192, .i32⟩
  | 95 => ⟨S2x768x8192, .i32⟩
  | 96 => ⟨S2x768x8192, .i8⟩
  | 97 => ⟨S2x768x1, .i1⟩
  | 98 => ⟨S_, .i8⟩
  | 99 => ⟨S2x768x8192, .i1⟩
  | 100 => ⟨S2x768x8192, .i8⟩
  | 101 => ⟨S2x768x8192, .i8⟩
  | 102 => ⟨S2x768x1, .i1⟩
  | 103 => ⟨S_, .i8⟩
  | 104 => ⟨S2x768x512, .i1⟩
  | 105 => ⟨S2x768x512, .i8⟩
  | 106 => ⟨S2x768x512, .i8⟩
  | 107 => ⟨S1536x8192, .i8⟩
  | 108 => ⟨S1536x512, .i8⟩
  | _ => ⟨S2x768x16384, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x768x16384, .bf16⟩

abbrev bufTy : (tb : Table) → Fin (tcTables nBuf tb) → BufTy
  | .hbm, ⟨i, _⟩ => hbmTy i
  | _, _ => ⟨S2x768x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_c_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_12 : Ref sig .tc := ⟨.hbm, 58, rfl⟩
abbrev main_v41 : Ref sig .tc := ⟨.hbm, 59, rfl⟩
abbrev main_v42 : Ref sig .tc := ⟨.hbm, 60, rfl⟩
abbrev main_c_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_14 : Ref sig .tc := ⟨.hbm, 65, rfl⟩
abbrev main_v46 : Ref sig .tc := ⟨.hbm, 66, rfl⟩
abbrev main_v47 : Ref sig .tc := ⟨.hbm, 67, rfl⟩
abbrev main_c_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_16 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_17 : Ref sig .tc := ⟨.hbm, 76, rfl⟩
abbrev main_v54 : Ref sig .tc := ⟨.hbm, 77, rfl⟩
abbrev main_v55 : Ref sig .tc := ⟨.hbm, 78, rfl⟩
abbrev main_c_18 : Ref sig .tc := ⟨.hbm, 79, rfl⟩
abbrev main_v56 : Ref sig .tc := ⟨.hbm, 80, rfl⟩
abbrev main_v57 : Ref sig .tc := ⟨.hbm, 81, rfl⟩
abbrev main_c_19 : Ref sig .tc := ⟨.hbm, 82, rfl⟩
abbrev main_v58 : Ref sig .tc := ⟨.hbm, 83, rfl⟩
abbrev main_v59 : Ref sig .tc := ⟨.hbm, 84, rfl⟩
abbrev main_c_20 : Ref sig .tc := ⟨.hbm, 85, rfl⟩
abbrev main_v60 : Ref sig .tc := ⟨.hbm, 86, rfl⟩
abbrev main_v61 : Ref sig .tc := ⟨.hbm, 87, rfl⟩
abbrev main_c_21 : Ref sig .tc := ⟨.hbm, 88, rfl⟩
abbrev main_v62 : Ref sig .tc := ⟨.hbm, 89, rfl⟩
abbrev main_v63 : Ref sig .tc := ⟨.hbm, 90, rfl⟩
abbrev main_c_22 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_23 : Ref sig .tc := ⟨.hbm, 95, rfl⟩
abbrev main_v67 : Ref sig .tc := ⟨.hbm, 96, rfl⟩
abbrev main_v68 : Ref sig .tc := ⟨.hbm, 97, rfl⟩
abbrev main_c_24 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_25 : Ref sig .tc := ⟨.hbm, 102, rfl⟩
abbrev main_v72 : Ref sig .tc := ⟨.hbm, 103, rfl⟩
abbrev main_v73 : Ref sig .tc := ⟨.hbm, 104, rfl⟩
abbrev main_c_26 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_27 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_28 : Ref sig .tc := ⟨.hbm, 119, rfl⟩
abbrev main_v86 : Ref sig .tc := ⟨.hbm, 120, rfl⟩
abbrev main_c_29 : Ref sig .tc := ⟨.hbm, 121, rfl⟩
abbrev main_v87 : Ref sig .tc := ⟨.hbm, 122, rfl⟩
abbrev main_c_30 : Ref sig .tc := ⟨.hbm, 123, rfl⟩
abbrev main_v88 : Ref sig .tc := ⟨.hbm, 124, rfl⟩
abbrev main_v89 : Ref sig .tc := ⟨.hbm, 125, rfl⟩
abbrev main_c_31 : Ref sig .tc := ⟨.hbm, 126, rfl⟩
abbrev main_v90 : Ref sig .tc := ⟨.hbm, 127, rfl⟩
abbrev main_v91 : Ref sig .tc := ⟨.hbm, 128, rfl⟩
abbrev main_c_32 : Ref sig .tc := ⟨.hbm, 129, rfl⟩
abbrev main_v92 : Ref sig .tc := ⟨.hbm, 130, rfl⟩
abbrev main_v93 : Ref sig .tc := ⟨.hbm, 131, rfl⟩
abbrev main_c_33 : Ref sig .tc := ⟨.hbm, 132, rfl⟩
abbrev main_v94 : Ref sig .tc := ⟨.hbm, 133, rfl⟩
abbrev main_v95 : Ref sig .tc := ⟨.hbm, 134, rfl⟩
abbrev main_c_34 : Ref sig .tc := ⟨.hbm, 135, rfl⟩
abbrev main_v96 : Ref sig .tc := ⟨.hbm, 136, rfl⟩
abbrev main_v97 : Ref sig .tc := ⟨.hbm, 137, rfl⟩
abbrev main_c_35 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_36 : Ref sig .tc := ⟨.hbm, 142, rfl⟩
abbrev main_v101 : Ref sig .tc := ⟨.hbm, 143, rfl⟩
abbrev main_v102 : Ref sig .tc := ⟨.hbm, 144, rfl⟩
abbrev main_c_37 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_38 : Ref sig .tc := ⟨.hbm, 149, rfl⟩
abbrev main_v106 : Ref sig .tc := ⟨.hbm, 150, rfl⟩
abbrev main_v107 : Ref sig .tc := ⟨.hbm, 151, rfl⟩
abbrev main_c_39 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_40 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_41 : Ref sig .tc := ⟨.hbm, 160, rfl⟩
abbrev main_v114 : Ref sig .tc := ⟨.hbm, 161, rfl⟩
abbrev main_v115 : Ref sig .tc := ⟨.hbm, 162, rfl⟩
abbrev main_c_42 : Ref sig .tc := ⟨.hbm, 163, rfl⟩
abbrev main_v116 : Ref sig .tc := ⟨.hbm, 164, rfl⟩
abbrev main_v117 : Ref sig .tc := ⟨.hbm, 165, rfl⟩
abbrev main_c_43 : Ref sig .tc := ⟨.hbm, 166, rfl⟩
abbrev main_v118 : Ref sig .tc := ⟨.hbm, 167, rfl⟩
abbrev main_v119 : Ref sig .tc := ⟨.hbm, 168, rfl⟩
abbrev main_c_44 : Ref sig .tc := ⟨.hbm, 169, rfl⟩
abbrev main_v120 : Ref sig .tc := ⟨.hbm, 170, rfl⟩
abbrev main_v121 : Ref sig .tc := ⟨.hbm, 171, rfl⟩
abbrev main_c_45 : Ref sig .tc := ⟨.hbm, 172, rfl⟩
abbrev main_v122 : Ref sig .tc := ⟨.hbm, 173, rfl⟩
abbrev main_v123 : Ref sig .tc := ⟨.hbm, 174, rfl⟩
abbrev main_c_46 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_47 : Ref sig .tc := ⟨.hbm, 179, rfl⟩
abbrev main_v127 : Ref sig .tc := ⟨.hbm, 180, rfl⟩
abbrev main_v128 : Ref sig .tc := ⟨.hbm, 181, rfl⟩
abbrev main_c_48 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_c_49 : Ref sig .tc := ⟨.hbm, 186, rfl⟩
abbrev main_v132 : Ref sig .tc := ⟨.hbm, 187, rfl⟩
abbrev main_v133 : Ref sig .tc := ⟨.hbm, 188, rfl⟩
abbrev main_c_50 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_c_51 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_c_52 : Ref sig .tc := ⟨.hbm, 203, rfl⟩
abbrev main_v146 : Ref sig .tc := ⟨.hbm, 204, rfl⟩
abbrev main_c_53 : Ref sig .tc := ⟨.hbm, 205, rfl⟩
abbrev main_v147 : Ref sig .tc := ⟨.hbm, 206, rfl⟩
abbrev main_c_54 : Ref sig .tc := ⟨.hbm, 207, rfl⟩
abbrev main_v148 : Ref sig .tc := ⟨.hbm, 208, rfl⟩
abbrev main_v149 : Ref sig .tc := ⟨.hbm, 209, rfl⟩
abbrev main_c_55 : Ref sig .tc := ⟨.hbm, 210, rfl⟩
abbrev main_v150 : Ref sig .tc := ⟨.hbm, 211, rfl⟩
abbrev main_v151 : Ref sig .tc := ⟨.hbm, 212, rfl⟩
abbrev main_c_56 : Ref sig .tc := ⟨.hbm, 213, rfl⟩
abbrev main_v152 : Ref sig .tc := ⟨.hbm, 214, rfl⟩
abbrev main_v153 : Ref sig .tc := ⟨.hbm, 215, rfl⟩
abbrev main_c_57 : Ref sig .tc := ⟨.hbm, 216, rfl⟩
abbrev main_v154 : Ref sig .tc := ⟨.hbm, 217, rfl⟩
abbrev main_v155 : Ref sig .tc := ⟨.hbm, 218, rfl⟩
abbrev main_c_58 : Ref sig .tc := ⟨.hbm, 219, rfl⟩
abbrev main_v156 : Ref sig .tc := ⟨.hbm, 220, rfl⟩
abbrev main_v157 : Ref sig .tc := ⟨.hbm, 221, rfl⟩
abbrev main_c_59 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_c_60 : Ref sig .tc := ⟨.hbm, 226, rfl⟩
abbrev main_v161 : Ref sig .tc := ⟨.hbm, 227, rfl⟩
abbrev main_v162 : Ref sig .tc := ⟨.hbm, 228, rfl⟩
abbrev main_c_61 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_c_62 : Ref sig .tc := ⟨.hbm, 233, rfl⟩
abbrev main_v166 : Ref sig .tc := ⟨.hbm, 234, rfl⟩
abbrev main_v167 : Ref sig .tc := ⟨.hbm, 235, rfl⟩
abbrev main_c_63 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_c_64 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_c_65 : Ref sig .tc := ⟨.hbm, 244, rfl⟩
abbrev main_v174 : Ref sig .tc := ⟨.hbm, 245, rfl⟩
abbrev main_v175 : Ref sig .tc := ⟨.hbm, 246, rfl⟩
abbrev main_c_66 : Ref sig .tc := ⟨.hbm, 247, rfl⟩
abbrev main_v176 : Ref sig .tc := ⟨.hbm, 248, rfl⟩
abbrev main_v177 : Ref sig .tc := ⟨.hbm, 249, rfl⟩
abbrev main_c_67 : Ref sig .tc := ⟨.hbm, 250, rfl⟩
abbrev main_v178 : Ref sig .tc := ⟨.hbm, 251, rfl⟩
abbrev main_v179 : Ref sig .tc := ⟨.hbm, 252, rfl⟩
abbrev main_c_68 : Ref sig .tc := ⟨.hbm, 253, rfl⟩
abbrev main_v180 : Ref sig .tc := ⟨.hbm, 254, rfl⟩
abbrev main_v181 : Ref sig .tc := ⟨.hbm, 255, rfl⟩
abbrev main_c_69 : Ref sig .tc := ⟨.hbm, 256, rfl⟩
abbrev main_v182 : Ref sig .tc := ⟨.hbm, 257, rfl⟩
abbrev main_v183 : Ref sig .tc := ⟨.hbm, 258, rfl⟩
abbrev main_c_70 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_c_71 : Ref sig .tc := ⟨.hbm, 263, rfl⟩
abbrev main_v187 : Ref sig .tc := ⟨.hbm, 264, rfl⟩
abbrev main_v188 : Ref sig .tc := ⟨.hbm, 265, rfl⟩
abbrev main_c_72 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_c_73 : Ref sig .tc := ⟨.hbm, 270, rfl⟩
abbrev main_v192 : Ref sig .tc := ⟨.hbm, 271, rfl⟩
abbrev main_v193 : Ref sig .tc := ⟨.hbm, 272, rfl⟩
abbrev main_c_74 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_c_75 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_c_76 : Ref sig .tc := ⟨.hbm, 287, rfl⟩
abbrev main_v206 : Ref sig .tc := ⟨.hbm, 288, rfl⟩
abbrev main_c_77 : Ref sig .tc := ⟨.hbm, 289, rfl⟩
abbrev main_v207 : Ref sig .tc := ⟨.hbm, 290, rfl⟩
abbrev main_c_78 : Ref sig .tc := ⟨.hbm, 291, rfl⟩
abbrev main_v208 : Ref sig .tc := ⟨.hbm, 292, rfl⟩
abbrev main_v209 : Ref sig .tc := ⟨.hbm, 293, rfl⟩
abbrev main_c_79 : Ref sig .tc := ⟨.hbm, 294, rfl⟩
abbrev main_v210 : Ref sig .tc := ⟨.hbm, 295, rfl⟩
abbrev main_v211 : Ref sig .tc := ⟨.hbm, 296, rfl⟩
abbrev main_c_80 : Ref sig .tc := ⟨.hbm, 297, rfl⟩
abbrev main_v212 : Ref sig .tc := ⟨.hbm, 298, rfl⟩
abbrev main_v213 : Ref sig .tc := ⟨.hbm, 299, rfl⟩
abbrev main_c_81 : Ref sig .tc := ⟨.hbm, 300, rfl⟩
abbrev main_v214 : Ref sig .tc := ⟨.hbm, 301, rfl⟩
abbrev main_v215 : Ref sig .tc := ⟨.hbm, 302, rfl⟩
abbrev main_c_82 : Ref sig .tc := ⟨.hbm, 303, rfl⟩
abbrev main_v216 : Ref sig .tc := ⟨.hbm, 304, rfl⟩
abbrev main_v217 : Ref sig .tc := ⟨.hbm, 305, rfl⟩
abbrev main_c_83 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_c_84 : Ref sig .tc := ⟨.hbm, 310, rfl⟩
abbrev main_v221 : Ref sig .tc := ⟨.hbm, 311, rfl⟩
abbrev main_v222 : Ref sig .tc := ⟨.hbm, 312, rfl⟩
abbrev main_c_85 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_c_86 : Ref sig .tc := ⟨.hbm, 317, rfl⟩
abbrev main_v226 : Ref sig .tc := ⟨.hbm, 318, rfl⟩
abbrev main_v227 : Ref sig .tc := ⟨.hbm, 319, rfl⟩
abbrev main_c_87 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_c_88 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_c_89 : Ref sig .tc := ⟨.hbm, 328, rfl⟩
abbrev main_v234 : Ref sig .tc := ⟨.hbm, 329, rfl⟩
abbrev main_v235 : Ref sig .tc := ⟨.hbm, 330, rfl⟩
abbrev main_c_90 : Ref sig .tc := ⟨.hbm, 331, rfl⟩
abbrev main_v236 : Ref sig .tc := ⟨.hbm, 332, rfl⟩
abbrev main_v237 : Ref sig .tc := ⟨.hbm, 333, rfl⟩
abbrev main_c_91 : Ref sig .tc := ⟨.hbm, 334, rfl⟩
abbrev main_v238 : Ref sig .tc := ⟨.hbm, 335, rfl⟩
abbrev main_v239 : Ref sig .tc := ⟨.hbm, 336, rfl⟩
abbrev main_c_92 : Ref sig .tc := ⟨.hbm, 337, rfl⟩
abbrev main_v240 : Ref sig .tc := ⟨.hbm, 338, rfl⟩
abbrev main_v241 : Ref sig .tc := ⟨.hbm, 339, rfl⟩
abbrev main_c_93 : Ref sig .tc := ⟨.hbm, 340, rfl⟩
abbrev main_v242 : Ref sig .tc := ⟨.hbm, 341, rfl⟩
abbrev main_v243 : Ref sig .tc := ⟨.hbm, 342, rfl⟩
abbrev main_c_94 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_c_95 : Ref sig .tc := ⟨.hbm, 347, rfl⟩
abbrev main_v247 : Ref sig .tc := ⟨.hbm, 348, rfl⟩
abbrev main_v248 : Ref sig .tc := ⟨.hbm, 349, rfl⟩
abbrev main_c_96 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_c_97 : Ref sig .tc := ⟨.hbm, 354, rfl⟩
abbrev main_v252 : Ref sig .tc := ⟨.hbm, 355, rfl⟩
abbrev main_v253 : Ref sig .tc := ⟨.hbm, 356, rfl⟩
abbrev main_c_98 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_c_99 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_c_100 : Ref sig .tc := ⟨.hbm, 371, rfl⟩
abbrev main_v266 : Ref sig .tc := ⟨.hbm, 372, rfl⟩
abbrev main_c_101 : Ref sig .tc := ⟨.hbm, 373, rfl⟩
abbrev main_v267 : Ref sig .tc := ⟨.hbm, 374, rfl⟩
abbrev main_c_102 : Ref sig .tc := ⟨.hbm, 375, rfl⟩
abbrev main_v268 : Ref sig .tc := ⟨.hbm, 376, rfl⟩
abbrev main_v269 : Ref sig .tc := ⟨.hbm, 377, rfl⟩
abbrev main_c_103 : Ref sig .tc := ⟨.hbm, 378, rfl⟩
abbrev main_v270 : Ref sig .tc := ⟨.hbm, 379, rfl⟩
abbrev main_v271 : Ref sig .tc := ⟨.hbm, 380, rfl⟩
abbrev main_c_104 : Ref sig .tc := ⟨.hbm, 381, rfl⟩
abbrev main_v272 : Ref sig .tc := ⟨.hbm, 382, rfl⟩
abbrev main_v273 : Ref sig .tc := ⟨.hbm, 383, rfl⟩
abbrev main_c_105 : Ref sig .tc := ⟨.hbm, 384, rfl⟩
abbrev main_v274 : Ref sig .tc := ⟨.hbm, 385, rfl⟩
abbrev main_v275 : Ref sig .tc := ⟨.hbm, 386, rfl⟩
abbrev main_c_106 : Ref sig .tc := ⟨.hbm, 387, rfl⟩
abbrev main_v276 : Ref sig .tc := ⟨.hbm, 388, rfl⟩
abbrev main_v277 : Ref sig .tc := ⟨.hbm, 389, rfl⟩
abbrev main_c_107 : Ref sig .tc := ⟨.hbm, 390, rfl⟩
abbrev main_v278 : Ref sig .tc := ⟨.hbm, 391, rfl⟩
abbrev main_v279 : Ref sig .tc := ⟨.hbm, 392, rfl⟩
abbrev main_v280 : Ref sig .tc := ⟨.hbm, 393, rfl⟩
abbrev main_c_108 : Ref sig .tc := ⟨.hbm, 394, rfl⟩
abbrev main_v281 : Ref sig .tc := ⟨.hbm, 395, rfl⟩
abbrev main_v282 : Ref sig .tc := ⟨.hbm, 396, rfl⟩
abbrev main_c_109 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_c_110 : Ref sig .tc := ⟨.hbm, 401, rfl⟩
abbrev main_v286 : Ref sig .tc := ⟨.hbm, 402, rfl⟩
abbrev main_v287 : Ref sig .tc := ⟨.hbm, 403, rfl⟩
abbrev main_c_111 : Ref sig .tc := ⟨.hbm, 404, rfl⟩
abbrev main_v288 : Ref sig .tc := ⟨.hbm, 405, rfl⟩
abbrev main_v289 : Ref sig .tc := ⟨.hbm, 406, rfl⟩
abbrev main_v290 : Ref sig .tc := ⟨.hbm, 407, rfl⟩
abbrev main_c_112 : Ref sig .tc := ⟨.hbm, 408, rfl⟩
abbrev main_v291 : Ref sig .tc := ⟨.hbm, 409, rfl⟩
abbrev main_v292 : Ref sig .tc := ⟨.hbm, 410, rfl⟩
abbrev main_v293 : Ref sig .tc := ⟨.hbm, 411, rfl⟩
abbrev main_c_113 : Ref sig .tc := ⟨.hbm, 412, rfl⟩
abbrev main_v294 : Ref sig .tc := ⟨.hbm, 413, rfl⟩
abbrev main_v295 : Ref sig .tc := ⟨.hbm, 414, rfl⟩
abbrev main_c_114 : Ref sig .tc := ⟨.hbm, 415, rfl⟩
abbrev main_v296 : Ref sig .tc := ⟨.hbm, 416, rfl⟩
abbrev main_v297 : Ref sig .tc := ⟨.hbm, 417, rfl⟩
abbrev main_c_115 : Ref sig .tc := ⟨.hbm, 418, rfl⟩
abbrev main_v298 : Ref sig .tc := ⟨.hbm, 419, rfl⟩
abbrev main_v299 : Ref sig .tc := ⟨.hbm, 420, rfl⟩
abbrev main_c_116 : Ref sig .tc := ⟨.hbm, 421, rfl⟩
abbrev main_v300 : Ref sig .tc := ⟨.hbm, 422, rfl⟩
abbrev main_v301 : Ref sig .tc := ⟨.hbm, 423, rfl⟩
abbrev main_c_117 : Ref sig .tc := ⟨.hbm, 424, rfl⟩
abbrev main_v302 : Ref sig .tc := ⟨.hbm, 425, rfl⟩
abbrev main_v303 : Ref sig .tc := ⟨.hbm, 426, rfl⟩
abbrev main_c_118 : Ref sig .tc := ⟨.hbm, 427, rfl⟩
abbrev main_v304 : Ref sig .tc := ⟨.hbm, 428, rfl⟩
abbrev main_v305 : Ref sig .tc := ⟨.hbm, 429, rfl⟩
abbrev main_v306 : Ref sig .tc := ⟨.hbm, 430, rfl⟩
abbrev main_c_119 : Ref sig .tc := ⟨.hbm, 431, rfl⟩
abbrev main_v307 : Ref sig .tc := ⟨.hbm, 432, rfl⟩
abbrev main_v308 : Ref sig .tc := ⟨.hbm, 433, rfl⟩
abbrev main_c_120 : Ref sig .tc := ⟨.hbm, 434, rfl⟩
abbrev main_v309 : Ref sig .tc := ⟨.hbm, 435, rfl⟩
abbrev main_v310 : Ref sig .tc := ⟨.hbm, 436, rfl⟩
abbrev main_v311 : Ref sig .tc := ⟨.hbm, 437, rfl⟩
abbrev main_c_121 : Ref sig .tc := ⟨.hbm, 438, rfl⟩
abbrev main_v312 : Ref sig .tc := ⟨.hbm, 439, rfl⟩
abbrev main_v313 : Ref sig .tc := ⟨.hbm, 440, rfl⟩
abbrev main_c_122 : Ref sig .tc := ⟨.hbm, 441, rfl⟩
abbrev main_v314 : Ref sig .tc := ⟨.hbm, 442, rfl⟩
abbrev main_v315 : Ref sig .tc := ⟨.hbm, 443, rfl⟩
abbrev main_v316 : Ref sig .tc := ⟨.hbm, 444, rfl⟩
abbrev main_c_123 : Ref sig .tc := ⟨.hbm, 445, rfl⟩
abbrev main_v317 : Ref sig .tc := ⟨.hbm, 446, rfl⟩
abbrev main_v318 : Ref sig .tc := ⟨.hbm, 447, rfl⟩
abbrev main_v319 : Ref sig .tc := ⟨.hbm, 448, rfl⟩
abbrev main_v320 : Ref sig .tc := ⟨.hbm, 449, rfl⟩
abbrev main_v321 : Ref sig .tc := ⟨.hbm, 450, rfl⟩
abbrev main_v322 : Ref sig .tc := ⟨.hbm, 451, rfl⟩
abbrev main_v323 : Ref sig .tc := ⟨.hbm, 452, rfl⟩
abbrev main_v324 : Ref sig .tc := ⟨.hbm, 453, rfl⟩
abbrev main_v325 : Ref sig .tc := ⟨.hbm, 454, rfl⟩
abbrev main_c_124 : Ref sig .tc := ⟨.hbm, 455, rfl⟩
abbrev main_v326 : Ref sig .tc := ⟨.hbm, 456, rfl⟩
abbrev main_c_125 : Ref sig .tc := ⟨.hbm, 457, rfl⟩
abbrev main_v327 : Ref sig .tc := ⟨.hbm, 458, rfl⟩
abbrev main_c_126 : Ref sig .tc := ⟨.hbm, 459, rfl⟩
abbrev main_v328 : Ref sig .tc := ⟨.hbm, 460, rfl⟩
abbrev main_v329 : Ref sig .tc := ⟨.hbm, 461, rfl⟩
abbrev main_c_127 : Ref sig .tc := ⟨.hbm, 462, rfl⟩
abbrev main_v330 : Ref sig .tc := ⟨.hbm, 463, rfl⟩
abbrev main_v331 : Ref sig .tc := ⟨.hbm, 464, rfl⟩
abbrev main_c_128 : Ref sig .tc := ⟨.hbm, 465, rfl⟩
abbrev main_v332 : Ref sig .tc := ⟨.hbm, 466, rfl⟩
abbrev main_v333 : Ref sig .tc := ⟨.hbm, 467, rfl⟩
abbrev main_c_129 : Ref sig .tc := ⟨.hbm, 468, rfl⟩
abbrev main_v334 : Ref sig .tc := ⟨.hbm, 469, rfl⟩
abbrev main_v335 : Ref sig .tc := ⟨.hbm, 470, rfl⟩
abbrev main_c_130 : Ref sig .tc := ⟨.hbm, 471, rfl⟩
abbrev main_v336 : Ref sig .tc := ⟨.hbm, 472, rfl⟩
abbrev main_v337 : Ref sig .tc := ⟨.hbm, 473, rfl⟩
abbrev main_c_131 : Ref sig .tc := ⟨.hbm, 474, rfl⟩
abbrev main_v338 : Ref sig .tc := ⟨.hbm, 475, rfl⟩
abbrev main_v339 : Ref sig .tc := ⟨.hbm, 476, rfl⟩
abbrev main_v340 : Ref sig .tc := ⟨.hbm, 477, rfl⟩
abbrev main_c_132 : Ref sig .tc := ⟨.hbm, 478, rfl⟩
abbrev main_v341 : Ref sig .tc := ⟨.hbm, 479, rfl⟩
abbrev main_v342 : Ref sig .tc := ⟨.hbm, 480, rfl⟩
abbrev main_c_133 : Ref sig .tc := ⟨.hbm, 481, rfl⟩
abbrev main_v343 : Ref sig .tc := ⟨.hbm, 482, rfl⟩
abbrev main_v344 : Ref sig .tc := ⟨.hbm, 483, rfl⟩
abbrev main_v345 : Ref sig .tc := ⟨.hbm, 484, rfl⟩
abbrev main_c_134 : Ref sig .tc := ⟨.hbm, 485, rfl⟩
abbrev main_v346 : Ref sig .tc := ⟨.hbm, 486, rfl⟩
abbrev main_v347 : Ref sig .tc := ⟨.hbm, 487, rfl⟩
abbrev main_c_135 : Ref sig .tc := ⟨.hbm, 488, rfl⟩
abbrev main_v348 : Ref sig .tc := ⟨.hbm, 489, rfl⟩
abbrev main_v349 : Ref sig .tc := ⟨.hbm, 490, rfl⟩
abbrev main_v350 : Ref sig .tc := ⟨.hbm, 491, rfl⟩
abbrev main_c_136 : Ref sig .tc := ⟨.hbm, 492, rfl⟩
abbrev main_v351 : Ref sig .tc := ⟨.hbm, 493, rfl⟩
abbrev main_v352 : Ref sig .tc := ⟨.hbm, 494, rfl⟩
abbrev main_v353 : Ref sig .tc := ⟨.hbm, 495, rfl⟩
abbrev main_c_137 : Ref sig .tc := ⟨.hbm, 496, rfl⟩
abbrev main_v354 : Ref sig .tc := ⟨.hbm, 497, rfl⟩
abbrev main_v355 : Ref sig .tc := ⟨.hbm, 498, rfl⟩
abbrev main_c_138 : Ref sig .tc := ⟨.hbm, 499, rfl⟩
abbrev main_v356 : Ref sig .tc := ⟨.hbm, 500, rfl⟩
abbrev main_v357 : Ref sig .tc := ⟨.hbm, 501, rfl⟩
abbrev main_c_139 : Ref sig .tc := ⟨.hbm, 502, rfl⟩
abbrev main_v358 : Ref sig .tc := ⟨.hbm, 503, rfl⟩
abbrev main_v359 : Ref sig .tc := ⟨.hbm, 504, rfl⟩
abbrev main_c_140 : Ref sig .tc := ⟨.hbm, 505, rfl⟩
abbrev main_v360 : Ref sig .tc := ⟨.hbm, 506, rfl⟩
abbrev main_v361 : Ref sig .tc := ⟨.hbm, 507, rfl⟩
abbrev main_c_141 : Ref sig .tc := ⟨.hbm, 508, rfl⟩
abbrev main_v362 : Ref sig .tc := ⟨.hbm, 509, rfl⟩
abbrev main_v363 : Ref sig .tc := ⟨.hbm, 510, rfl⟩
abbrev main_c_142 : Ref sig .tc := ⟨.hbm, 511, rfl⟩
abbrev main_v364 : Ref sig .tc := ⟨.hbm, 512, rfl⟩
abbrev main_v365 : Ref sig .tc := ⟨.hbm, 513, rfl⟩
abbrev main_v366 : Ref sig .tc := ⟨.hbm, 514, rfl⟩
abbrev main_c_143 : Ref sig .tc := ⟨.hbm, 515, rfl⟩
abbrev main_v367 : Ref sig .tc := ⟨.hbm, 516, rfl⟩
abbrev main_v368 : Ref sig .tc := ⟨.hbm, 517, rfl⟩
abbrev main_c_144 : Ref sig .tc := ⟨.hbm, 518, rfl⟩
abbrev main_v369 : Ref sig .tc := ⟨.hbm, 519, rfl⟩
abbrev main_v370 : Ref sig .tc := ⟨.hbm, 520, rfl⟩
abbrev main_v371 : Ref sig .tc := ⟨.hbm, 521, rfl⟩
abbrev main_c_145 : Ref sig .tc := ⟨.hbm, 522, rfl⟩
abbrev main_v372 : Ref sig .tc := ⟨.hbm, 523, rfl⟩
abbrev main_v373 : Ref sig .tc := ⟨.hbm, 524, rfl⟩
abbrev main_c_146 : Ref sig .tc := ⟨.hbm, 525, rfl⟩
abbrev main_v374 : Ref sig .tc := ⟨.hbm, 526, rfl⟩
abbrev main_v375 : Ref sig .tc := ⟨.hbm, 527, rfl⟩
abbrev main_v376 : Ref sig .tc := ⟨.hbm, 528, rfl⟩
abbrev main_c_147 : Ref sig .tc := ⟨.hbm, 529, rfl⟩
abbrev main_v377 : Ref sig .tc := ⟨.hbm, 530, rfl⟩
abbrev main_v378 : Ref sig .tc := ⟨.hbm, 531, rfl⟩
abbrev main_v379 : Ref sig .tc := ⟨.hbm, 532, rfl⟩
abbrev main_v380 : Ref sig .tc := ⟨.hbm, 533, rfl⟩
abbrev main_v381 : Ref sig .tc := ⟨.hbm, 534, rfl⟩
abbrev main_v382 : Ref sig .tc := ⟨.hbm, 535, rfl⟩
abbrev main_v383 : Ref sig .tc := ⟨.hbm, 536, rfl⟩
abbrev main_v384 : Ref sig .tc := ⟨.hbm, 537, rfl⟩
abbrev main_v385 : Ref sig .tc := ⟨.hbm, 538, rfl⟩
abbrev main_c_148 : Ref sig .tc := ⟨.hbm, 539, rfl⟩
abbrev main_v386 : Ref sig .tc := ⟨.hbm, 540, rfl⟩
abbrev main_c_149 : Ref sig .tc := ⟨.hbm, 541, rfl⟩
abbrev main_v387 : Ref sig .tc := ⟨.hbm, 542, rfl⟩
abbrev main_c_150 : Ref sig .tc := ⟨.hbm, 543, rfl⟩
abbrev main_v388 : Ref sig .tc := ⟨.hbm, 544, rfl⟩
abbrev main_v389 : Ref sig .tc := ⟨.hbm, 545, rfl⟩
abbrev main_c_151 : Ref sig .tc := ⟨.hbm, 546, rfl⟩
abbrev main_v390 : Ref sig .tc := ⟨.hbm, 547, rfl⟩
abbrev main_v391 : Ref sig .tc := ⟨.hbm, 548, rfl⟩
abbrev main_c_152 : Ref sig .tc := ⟨.hbm, 549, rfl⟩
abbrev main_v392 : Ref sig .tc := ⟨.hbm, 550, rfl⟩
abbrev main_v393 : Ref sig .tc := ⟨.hbm, 551, rfl⟩
abbrev main_c_153 : Ref sig .tc := ⟨.hbm, 552, rfl⟩
abbrev main_v394 : Ref sig .tc := ⟨.hbm, 553, rfl⟩
abbrev main_v395 : Ref sig .tc := ⟨.hbm, 554, rfl⟩
abbrev main_c_154 : Ref sig .tc := ⟨.hbm, 555, rfl⟩
abbrev main_v396 : Ref sig .tc := ⟨.hbm, 556, rfl⟩
abbrev main_v397 : Ref sig .tc := ⟨.hbm, 557, rfl⟩
abbrev main_c_155 : Ref sig .tc := ⟨.hbm, 558, rfl⟩
abbrev main_v398 : Ref sig .tc := ⟨.hbm, 559, rfl⟩
abbrev main_v399 : Ref sig .tc := ⟨.hbm, 560, rfl⟩
abbrev main_v400 : Ref sig .tc := ⟨.hbm, 561, rfl⟩
abbrev main_c_156 : Ref sig .tc := ⟨.hbm, 562, rfl⟩
abbrev main_v401 : Ref sig .tc := ⟨.hbm, 563, rfl⟩
abbrev main_v402 : Ref sig .tc := ⟨.hbm, 564, rfl⟩
abbrev main_c_157 : Ref sig .tc := ⟨.hbm, 565, rfl⟩
abbrev main_v403 : Ref sig .tc := ⟨.hbm, 566, rfl⟩
abbrev main_v404 : Ref sig .tc := ⟨.hbm, 567, rfl⟩
abbrev main_v405 : Ref sig .tc := ⟨.hbm, 568, rfl⟩
abbrev main_c_158 : Ref sig .tc := ⟨.hbm, 569, rfl⟩
abbrev main_v406 : Ref sig .tc := ⟨.hbm, 570, rfl⟩
abbrev main_v407 : Ref sig .tc := ⟨.hbm, 571, rfl⟩
abbrev main_c_159 : Ref sig .tc := ⟨.hbm, 572, rfl⟩
abbrev main_v408 : Ref sig .tc := ⟨.hbm, 573, rfl⟩
abbrev main_v409 : Ref sig .tc := ⟨.hbm, 574, rfl⟩
abbrev main_v410 : Ref sig .tc := ⟨.hbm, 575, rfl⟩
abbrev main_c_160 : Ref sig .tc := ⟨.hbm, 576, rfl⟩
abbrev main_v411 : Ref sig .tc := ⟨.hbm, 577, rfl⟩
abbrev main_v412 : Ref sig .tc := ⟨.hbm, 578, rfl⟩
abbrev main_v413 : Ref sig .tc := ⟨.hbm, 579, rfl⟩
abbrev main_c_161 : Ref sig .tc := ⟨.hbm, 580, rfl⟩
abbrev main_v414 : Ref sig .tc := ⟨.hbm, 581, rfl⟩
abbrev main_v415 : Ref sig .tc := ⟨.hbm, 582, rfl⟩
abbrev main_c_162 : Ref sig .tc := ⟨.hbm, 583, rfl⟩
abbrev main_v416 : Ref sig .tc := ⟨.hbm, 584, rfl⟩
abbrev main_v417 : Ref sig .tc := ⟨.hbm, 585, rfl⟩
abbrev main_c_163 : Ref sig .tc := ⟨.hbm, 586, rfl⟩
abbrev main_v418 : Ref sig .tc := ⟨.hbm, 587, rfl⟩
abbrev main_v419 : Ref sig .tc := ⟨.hbm, 588, rfl⟩
abbrev main_c_164 : Ref sig .tc := ⟨.hbm, 589, rfl⟩
abbrev main_v420 : Ref sig .tc := ⟨.hbm, 590, rfl⟩
abbrev main_v421 : Ref sig .tc := ⟨.hbm, 591, rfl⟩
abbrev main_c_165 : Ref sig .tc := ⟨.hbm, 592, rfl⟩
abbrev main_v422 : Ref sig .tc := ⟨.hbm, 593, rfl⟩
abbrev main_v423 : Ref sig .tc := ⟨.hbm, 594, rfl⟩
abbrev main_c_166 : Ref sig .tc := ⟨.hbm, 595, rfl⟩
abbrev main_v424 : Ref sig .tc := ⟨.hbm, 596, rfl⟩
abbrev main_v425 : Ref sig .tc := ⟨.hbm, 597, rfl⟩
abbrev main_v426 : Ref sig .tc := ⟨.hbm, 598, rfl⟩
abbrev main_c_167 : Ref sig .tc := ⟨.hbm, 599, rfl⟩
abbrev main_v427 : Ref sig .tc := ⟨.hbm, 600, rfl⟩
abbrev main_v428 : Ref sig .tc := ⟨.hbm, 601, rfl⟩
abbrev main_c_168 : Ref sig .tc := ⟨.hbm, 602, rfl⟩
abbrev main_v429 : Ref sig .tc := ⟨.hbm, 603, rfl⟩
abbrev main_v430 : Ref sig .tc := ⟨.hbm, 604, rfl⟩
abbrev main_v431 : Ref sig .tc := ⟨.hbm, 605, rfl⟩
abbrev main_c_169 : Ref sig .tc := ⟨.hbm, 606, rfl⟩
abbrev main_v432 : Ref sig .tc := ⟨.hbm, 607, rfl⟩
abbrev main_v433 : Ref sig .tc := ⟨.hbm, 608, rfl⟩
abbrev main_c_170 : Ref sig .tc := ⟨.hbm, 609, rfl⟩
abbrev main_v434 : Ref sig .tc := ⟨.hbm, 610, rfl⟩
abbrev main_v435 : Ref sig .tc := ⟨.hbm, 611, rfl⟩
abbrev main_v436 : Ref sig .tc := ⟨.hbm, 612, rfl⟩
abbrev main_c_171 : Ref sig .tc := ⟨.hbm, 613, rfl⟩
abbrev main_v437 : Ref sig .tc := ⟨.hbm, 614, rfl⟩
abbrev main_v438 : Ref sig .tc := ⟨.hbm, 615, rfl⟩
abbrev main_v439 : Ref sig .tc := ⟨.hbm, 616, rfl⟩
abbrev main_v440 : Ref sig .tc := ⟨.hbm, 617, rfl⟩
abbrev main_v441 : Ref sig .tc := ⟨.hbm, 618, rfl⟩
abbrev main_v442 : Ref sig .tc := ⟨.hbm, 619, rfl⟩
abbrev main_v443 : Ref sig .tc := ⟨.hbm, 620, rfl⟩
abbrev main_v444 : Ref sig .tc := ⟨.hbm, 621, rfl⟩
abbrev main_v445 : Ref sig .tc := ⟨.hbm, 622, rfl⟩
abbrev main_c_172 : Ref sig .tc := ⟨.hbm, 623, rfl⟩
abbrev main_v446 : Ref sig .tc := ⟨.hbm, 624, rfl⟩
abbrev main_c_173 : Ref sig .tc := ⟨.hbm, 625, rfl⟩
abbrev main_v447 : Ref sig .tc := ⟨.hbm, 626, rfl⟩
abbrev main_c_174 : Ref sig .tc := ⟨.hbm, 627, rfl⟩
abbrev main_v448 : Ref sig .tc := ⟨.hbm, 628, rfl⟩
abbrev main_v449 : Ref sig .tc := ⟨.hbm, 629, rfl⟩
abbrev main_c_175 : Ref sig .tc := ⟨.hbm, 630, rfl⟩
abbrev main_v450 : Ref sig .tc := ⟨.hbm, 631, rfl⟩
abbrev main_v451 : Ref sig .tc := ⟨.hbm, 632, rfl⟩
abbrev main_c_176 : Ref sig .tc := ⟨.hbm, 633, rfl⟩
abbrev main_v452 : Ref sig .tc := ⟨.hbm, 634, rfl⟩
abbrev main_v453 : Ref sig .tc := ⟨.hbm, 635, rfl⟩
abbrev main_c_177 : Ref sig .tc := ⟨.hbm, 636, rfl⟩
abbrev main_v454 : Ref sig .tc := ⟨.hbm, 637, rfl⟩
abbrev main_v455 : Ref sig .tc := ⟨.hbm, 638, rfl⟩
abbrev main_c_178 : Ref sig .tc := ⟨.hbm, 639, rfl⟩
abbrev main_v456 : Ref sig .tc := ⟨.hbm, 640, rfl⟩
abbrev main_v457 : Ref sig .tc := ⟨.hbm, 641, rfl⟩
abbrev main_c_179 : Ref sig .tc := ⟨.hbm, 642, rfl⟩
abbrev main_v458 : Ref sig .tc := ⟨.hbm, 643, rfl⟩
abbrev main_v459 : Ref sig .tc := ⟨.hbm, 644, rfl⟩
abbrev main_v460 : Ref sig .tc := ⟨.hbm, 645, rfl⟩
abbrev main_c_180 : Ref sig .tc := ⟨.hbm, 646, rfl⟩
abbrev main_v461 : Ref sig .tc := ⟨.hbm, 647, rfl⟩
abbrev main_v462 : Ref sig .tc := ⟨.hbm, 648, rfl⟩
abbrev main_c_181 : Ref sig .tc := ⟨.hbm, 649, rfl⟩
abbrev main_v463 : Ref sig .tc := ⟨.hbm, 650, rfl⟩
abbrev main_v464 : Ref sig .tc := ⟨.hbm, 651, rfl⟩
abbrev main_v465 : Ref sig .tc := ⟨.hbm, 652, rfl⟩
abbrev main_c_182 : Ref sig .tc := ⟨.hbm, 653, rfl⟩
abbrev main_v466 : Ref sig .tc := ⟨.hbm, 654, rfl⟩
abbrev main_v467 : Ref sig .tc := ⟨.hbm, 655, rfl⟩
abbrev main_c_183 : Ref sig .tc := ⟨.hbm, 656, rfl⟩
abbrev main_v468 : Ref sig .tc := ⟨.hbm, 657, rfl⟩
abbrev main_v469 : Ref sig .tc := ⟨.hbm, 658, rfl⟩
abbrev main_v470 : Ref sig .tc := ⟨.hbm, 659, rfl⟩
abbrev main_c_184 : Ref sig .tc := ⟨.hbm, 660, rfl⟩
abbrev main_v471 : Ref sig .tc := ⟨.hbm, 661, rfl⟩
abbrev main_v472 : Ref sig .tc := ⟨.hbm, 662, rfl⟩
abbrev main_v473 : Ref sig .tc := ⟨.hbm, 663, rfl⟩
abbrev main_c_185 : Ref sig .tc := ⟨.hbm, 664, rfl⟩
abbrev main_v474 : Ref sig .tc := ⟨.hbm, 665, rfl⟩
abbrev main_v475 : Ref sig .tc := ⟨.hbm, 666, rfl⟩
abbrev main_c_186 : Ref sig .tc := ⟨.hbm, 667, rfl⟩
abbrev main_v476 : Ref sig .tc := ⟨.hbm, 668, rfl⟩
abbrev main_v477 : Ref sig .tc := ⟨.hbm, 669, rfl⟩
abbrev main_c_187 : Ref sig .tc := ⟨.hbm, 670, rfl⟩
abbrev main_v478 : Ref sig .tc := ⟨.hbm, 671, rfl⟩
abbrev main_v479 : Ref sig .tc := ⟨.hbm, 672, rfl⟩
abbrev main_c_188 : Ref sig .tc := ⟨.hbm, 673, rfl⟩
abbrev main_v480 : Ref sig .tc := ⟨.hbm, 674, rfl⟩
abbrev main_v481 : Ref sig .tc := ⟨.hbm, 675, rfl⟩
abbrev main_c_189 : Ref sig .tc := ⟨.hbm, 676, rfl⟩
abbrev main_v482 : Ref sig .tc := ⟨.hbm, 677, rfl⟩
abbrev main_v483 : Ref sig .tc := ⟨.hbm, 678, rfl⟩
abbrev main_c_190 : Ref sig .tc := ⟨.hbm, 679, rfl⟩
abbrev main_v484 : Ref sig .tc := ⟨.hbm, 680, rfl⟩
abbrev main_v485 : Ref sig .tc := ⟨.hbm, 681, rfl⟩
abbrev main_v486 : Ref sig .tc := ⟨.hbm, 682, rfl⟩
abbrev main_c_191 : Ref sig .tc := ⟨.hbm, 683, rfl⟩
abbrev main_v487 : Ref sig .tc := ⟨.hbm, 684, rfl⟩
abbrev main_v488 : Ref sig .tc := ⟨.hbm, 685, rfl⟩
abbrev main_c_192 : Ref sig .tc := ⟨.hbm, 686, rfl⟩
abbrev main_v489 : Ref sig .tc := ⟨.hbm, 687, rfl⟩
abbrev main_v490 : Ref sig .tc := ⟨.hbm, 688, rfl⟩
abbrev main_v491 : Ref sig .tc := ⟨.hbm, 689, rfl⟩
abbrev main_c_193 : Ref sig .tc := ⟨.hbm, 690, rfl⟩
abbrev main_v492 : Ref sig .tc := ⟨.hbm, 691, rfl⟩
abbrev main_v493 : Ref sig .tc := ⟨.hbm, 692, rfl⟩
abbrev main_c_194 : Ref sig .tc := ⟨.hbm, 693, rfl⟩
abbrev main_v494 : Ref sig .tc := ⟨.hbm, 694, rfl⟩
abbrev main_v495 : Ref sig .tc := ⟨.hbm, 695, rfl⟩
abbrev main_v496 : Ref sig .tc := ⟨.hbm, 696, rfl⟩
abbrev main_c_195 : Ref sig .tc := ⟨.hbm, 697, rfl⟩
abbrev main_v497 : Ref sig .tc := ⟨.hbm, 698, rfl⟩
abbrev main_v498 : Ref sig .tc := ⟨.hbm, 699, rfl⟩
abbrev main_v499 : Ref sig .tc := ⟨.hbm, 700, rfl⟩
abbrev main_v500 : Ref sig .tc := ⟨.hbm, 701, rfl⟩
abbrev main_v501 : Ref sig .tc := ⟨.hbm, 702, rfl⟩
abbrev main_v502 : Ref sig .tc := ⟨.hbm, 703, rfl⟩
abbrev main_v503 : Ref sig .tc := ⟨.hbm, 704, rfl⟩
abbrev main_v504 : Ref sig .tc := ⟨.hbm, 705, rfl⟩
abbrev main_v505 : Ref sig .tc := ⟨.hbm, 706, rfl⟩
abbrev main_c_196 : Ref sig .tc := ⟨.hbm, 707, rfl⟩
abbrev main_v506 : Ref sig .tc := ⟨.hbm, 708, rfl⟩
abbrev main_c_197 : Ref sig .tc := ⟨.hbm, 709, rfl⟩
abbrev main_v507 : Ref sig .tc := ⟨.hbm, 710, rfl⟩
abbrev main_c_198 : Ref sig .tc := ⟨.hbm, 711, rfl⟩
abbrev main_v508 : Ref sig .tc := ⟨.hbm, 712, rfl⟩
abbrev main_v509 : Ref sig .tc := ⟨.hbm, 713, rfl⟩
abbrev main_c_199 : Ref sig .tc := ⟨.hbm, 714, rfl⟩
abbrev main_v510 : Ref sig .tc := ⟨.hbm, 715, rfl⟩
abbrev main_v511 : Ref sig .tc := ⟨.hbm, 716, rfl⟩
abbrev main_c_200 : Ref sig .tc := ⟨.hbm, 717, rfl⟩
abbrev main_v512 : Ref sig .tc := ⟨.hbm, 718, rfl⟩
abbrev main_v513 : Ref sig .tc := ⟨.hbm, 719, rfl⟩
abbrev main_c_201 : Ref sig .tc := ⟨.hbm, 720, rfl⟩
abbrev main_v514 : Ref sig .tc := ⟨.hbm, 721, rfl⟩
abbrev main_v515 : Ref sig .tc := ⟨.hbm, 722, rfl⟩
abbrev main_c_202 : Ref sig .tc := ⟨.hbm, 723, rfl⟩
abbrev main_v516 : Ref sig .tc := ⟨.hbm, 724, rfl⟩
abbrev main_v517 : Ref sig .tc := ⟨.hbm, 725, rfl⟩
abbrev main_c_203 : Ref sig .tc := ⟨.hbm, 726, rfl⟩
abbrev main_v518 : Ref sig .tc := ⟨.hbm, 727, rfl⟩
abbrev main_v519 : Ref sig .tc := ⟨.hbm, 728, rfl⟩
abbrev main_v520 : Ref sig .tc := ⟨.hbm, 729, rfl⟩
abbrev main_c_204 : Ref sig .tc := ⟨.hbm, 730, rfl⟩
abbrev main_v521 : Ref sig .tc := ⟨.hbm, 731, rfl⟩
abbrev main_v522 : Ref sig .tc := ⟨.hbm, 732, rfl⟩
abbrev main_c_205 : Ref sig .tc := ⟨.hbm, 733, rfl⟩
abbrev main_v523 : Ref sig .tc := ⟨.hbm, 734, rfl⟩
abbrev main_v524 : Ref sig .tc := ⟨.hbm, 735, rfl⟩
abbrev main_v525 : Ref sig .tc := ⟨.hbm, 736, rfl⟩
abbrev main_c_206 : Ref sig .tc := ⟨.hbm, 737, rfl⟩
abbrev main_v526 : Ref sig .tc := ⟨.hbm, 738, rfl⟩
abbrev main_v527 : Ref sig .tc := ⟨.hbm, 739, rfl⟩
abbrev main_c_207 : Ref sig .tc := ⟨.hbm, 740, rfl⟩
abbrev main_v528 : Ref sig .tc := ⟨.hbm, 741, rfl⟩
abbrev main_v529 : Ref sig .tc := ⟨.hbm, 742, rfl⟩
abbrev main_v530 : Ref sig .tc := ⟨.hbm, 743, rfl⟩
abbrev main_c_208 : Ref sig .tc := ⟨.hbm, 744, rfl⟩
abbrev main_v531 : Ref sig .tc := ⟨.hbm, 745, rfl⟩
abbrev main_v532 : Ref sig .tc := ⟨.hbm, 746, rfl⟩
abbrev main_v533 : Ref sig .tc := ⟨.hbm, 747, rfl⟩
abbrev main_c_209 : Ref sig .tc := ⟨.hbm, 748, rfl⟩
abbrev main_v534 : Ref sig .tc := ⟨.hbm, 749, rfl⟩
abbrev main_v535 : Ref sig .tc := ⟨.hbm, 750, rfl⟩
abbrev main_c_210 : Ref sig .tc := ⟨.hbm, 751, rfl⟩
abbrev main_v536 : Ref sig .tc := ⟨.hbm, 752, rfl⟩
abbrev main_v537 : Ref sig .tc := ⟨.hbm, 753, rfl⟩
abbrev main_c_211 : Ref sig .tc := ⟨.hbm, 754, rfl⟩
abbrev main_v538 : Ref sig .tc := ⟨.hbm, 755, rfl⟩
abbrev main_v539 : Ref sig .tc := ⟨.hbm, 756, rfl⟩
abbrev main_c_212 : Ref sig .tc := ⟨.hbm, 757, rfl⟩
abbrev main_v540 : Ref sig .tc := ⟨.hbm, 758, rfl⟩
abbrev main_v541 : Ref sig .tc := ⟨.hbm, 759, rfl⟩
abbrev main_c_213 : Ref sig .tc := ⟨.hbm, 760, rfl⟩
abbrev main_v542 : Ref sig .tc := ⟨.hbm, 761, rfl⟩
abbrev main_v543 : Ref sig .tc := ⟨.hbm, 762, rfl⟩
abbrev main_c_214 : Ref sig .tc := ⟨.hbm, 763, rfl⟩
abbrev main_v544 : Ref sig .tc := ⟨.hbm, 764, rfl⟩
abbrev main_v545 : Ref sig .tc := ⟨.hbm, 765, rfl⟩
abbrev main_v546 : Ref sig .tc := ⟨.hbm, 766, rfl⟩
abbrev main_c_215 : Ref sig .tc := ⟨.hbm, 767, rfl⟩
abbrev main_v547 : Ref sig .tc := ⟨.hbm, 768, rfl⟩
abbrev main_v548 : Ref sig .tc := ⟨.hbm, 769, rfl⟩
abbrev main_c_216 : Ref sig .tc := ⟨.hbm, 770, rfl⟩
abbrev main_v549 : Ref sig .tc := ⟨.hbm, 771, rfl⟩
abbrev main_v550 : Ref sig .tc := ⟨.hbm, 772, rfl⟩
abbrev main_v551 : Ref sig .tc := ⟨.hbm, 773, rfl⟩
abbrev main_c_217 : Ref sig .tc := ⟨.hbm, 774, rfl⟩
abbrev main_v552 : Ref sig .tc := ⟨.hbm, 775, rfl⟩
abbrev main_v553 : Ref sig .tc := ⟨.hbm, 776, rfl⟩
abbrev main_c_218 : Ref sig .tc := ⟨.hbm, 777, rfl⟩
abbrev main_v554 : Ref sig .tc := ⟨.hbm, 778, rfl⟩
abbrev main_v555 : Ref sig .tc := ⟨.hbm, 779, rfl⟩
abbrev main_v556 : Ref sig .tc := ⟨.hbm, 780, rfl⟩
abbrev main_c_219 : Ref sig .tc := ⟨.hbm, 781, rfl⟩
abbrev main_v557 : Ref sig .tc := ⟨.hbm, 782, rfl⟩
abbrev main_v558 : Ref sig .tc := ⟨.hbm, 783, rfl⟩
abbrev main_v559 : Ref sig .tc := ⟨.hbm, 784, rfl⟩
abbrev main_v560 : Ref sig .tc := ⟨.hbm, 785, rfl⟩
abbrev main_v561 : Ref sig .tc := ⟨.hbm, 786, rfl⟩
abbrev main_v562 : Ref sig .tc := ⟨.hbm, 787, rfl⟩
abbrev main_v563 : Ref sig .tc := ⟨.hbm, 788, rfl⟩
abbrev main_v564 : Ref sig .tc := ⟨.hbm, 789, rfl⟩
abbrev main_v565 : Ref sig .tc := ⟨.hbm, 790, rfl⟩
abbrev main_c_220 : Ref sig .tc := ⟨.hbm, 791, rfl⟩
abbrev main_v566 : Ref sig .tc := ⟨.hbm, 792, rfl⟩
abbrev main_c_221 : Ref sig .tc := ⟨.hbm, 793, rfl⟩
abbrev main_v567 : Ref sig .tc := ⟨.hbm, 794, rfl⟩
abbrev main_c_222 : Ref sig .tc := ⟨.hbm, 795, rfl⟩
abbrev main_v568 : Ref sig .tc := ⟨.hbm, 796, rfl⟩
abbrev main_v569 : Ref sig .tc := ⟨.hbm, 797, rfl⟩
abbrev main_c_223 : Ref sig .tc := ⟨.hbm, 798, rfl⟩
abbrev main_v570 : Ref sig .tc := ⟨.hbm, 799, rfl⟩
abbrev main_v571 : Ref sig .tc := ⟨.hbm, 800, rfl⟩
abbrev main_c_224 : Ref sig .tc := ⟨.hbm, 801, rfl⟩
abbrev main_v572 : Ref sig .tc := ⟨.hbm, 802, rfl⟩
abbrev main_v573 : Ref sig .tc := ⟨.hbm, 803, rfl⟩
abbrev main_c_225 : Ref sig .tc := ⟨.hbm, 804, rfl⟩
abbrev main_v574 : Ref sig .tc := ⟨.hbm, 805, rfl⟩
abbrev main_v575 : Ref sig .tc := ⟨.hbm, 806, rfl⟩
abbrev main_c_226 : Ref sig .tc := ⟨.hbm, 807, rfl⟩
abbrev main_v576 : Ref sig .tc := ⟨.hbm, 808, rfl⟩
abbrev main_v577 : Ref sig .tc := ⟨.hbm, 809, rfl⟩
abbrev main_c_227 : Ref sig .tc := ⟨.hbm, 810, rfl⟩
abbrev main_v578 : Ref sig .tc := ⟨.hbm, 811, rfl⟩
abbrev main_v579 : Ref sig .tc := ⟨.hbm, 812, rfl⟩
abbrev main_v580 : Ref sig .tc := ⟨.hbm, 813, rfl⟩
abbrev main_c_228 : Ref sig .tc := ⟨.hbm, 814, rfl⟩
abbrev main_v581 : Ref sig .tc := ⟨.hbm, 815, rfl⟩
abbrev main_v582 : Ref sig .tc := ⟨.hbm, 816, rfl⟩
abbrev main_c_229 : Ref sig .tc := ⟨.hbm, 817, rfl⟩
abbrev main_v583 : Ref sig .tc := ⟨.hbm, 818, rfl⟩
abbrev main_v584 : Ref sig .tc := ⟨.hbm, 819, rfl⟩
abbrev main_v585 : Ref sig .tc := ⟨.hbm, 820, rfl⟩
abbrev main_c_230 : Ref sig .tc := ⟨.hbm, 821, rfl⟩
abbrev main_v586 : Ref sig .tc := ⟨.hbm, 822, rfl⟩
abbrev main_v587 : Ref sig .tc := ⟨.hbm, 823, rfl⟩
abbrev main_c_231 : Ref sig .tc := ⟨.hbm, 824, rfl⟩
abbrev main_v588 : Ref sig .tc := ⟨.hbm, 825, rfl⟩
abbrev main_v589 : Ref sig .tc := ⟨.hbm, 826, rfl⟩
abbrev main_v590 : Ref sig .tc := ⟨.hbm, 827, rfl⟩
abbrev main_c_232 : Ref sig .tc := ⟨.hbm, 828, rfl⟩
abbrev main_v591 : Ref sig .tc := ⟨.hbm, 829, rfl⟩
abbrev main_v592 : Ref sig .tc := ⟨.hbm, 830, rfl⟩
abbrev main_v593 : Ref sig .tc := ⟨.hbm, 831, rfl⟩
abbrev main_c_233 : Ref sig .tc := ⟨.hbm, 832, rfl⟩
abbrev main_v594 : Ref sig .tc := ⟨.hbm, 833, rfl⟩
abbrev main_v595 : Ref sig .tc := ⟨.hbm, 834, rfl⟩
abbrev main_c_234 : Ref sig .tc := ⟨.hbm, 835, rfl⟩
abbrev main_v596 : Ref sig .tc := ⟨.hbm, 836, rfl⟩
abbrev main_v597 : Ref sig .tc := ⟨.hbm, 837, rfl⟩
abbrev main_c_235 : Ref sig .tc := ⟨.hbm, 838, rfl⟩
abbrev main_v598 : Ref sig .tc := ⟨.hbm, 839, rfl⟩
abbrev main_v599 : Ref sig .tc := ⟨.hbm, 840, rfl⟩
abbrev main_c_236 : Ref sig .tc := ⟨.hbm, 841, rfl⟩
abbrev main_v600 : Ref sig .tc := ⟨.hbm, 842, rfl⟩
abbrev main_v601 : Ref sig .tc := ⟨.hbm, 843, rfl⟩
abbrev main_c_237 : Ref sig .tc := ⟨.hbm, 844, rfl⟩
abbrev main_v602 : Ref sig .tc := ⟨.hbm, 845, rfl⟩
abbrev main_v603 : Ref sig .tc := ⟨.hbm, 846, rfl⟩
abbrev main_c_238 : Ref sig .tc := ⟨.hbm, 847, rfl⟩
abbrev main_v604 : Ref sig .tc := ⟨.hbm, 848, rfl⟩
abbrev main_v605 : Ref sig .tc := ⟨.hbm, 849, rfl⟩
abbrev main_v606 : Ref sig .tc := ⟨.hbm, 850, rfl⟩
abbrev main_c_239 : Ref sig .tc := ⟨.hbm, 851, rfl⟩
abbrev main_v607 : Ref sig .tc := ⟨.hbm, 852, rfl⟩
abbrev main_v608 : Ref sig .tc := ⟨.hbm, 853, rfl⟩
abbrev main_c_240 : Ref sig .tc := ⟨.hbm, 854, rfl⟩
abbrev main_v609 : Ref sig .tc := ⟨.hbm, 855, rfl⟩
abbrev main_v610 : Ref sig .tc := ⟨.hbm, 856, rfl⟩
abbrev main_v611 : Ref sig .tc := ⟨.hbm, 857, rfl⟩
abbrev main_c_241 : Ref sig .tc := ⟨.hbm, 858, rfl⟩
abbrev main_v612 : Ref sig .tc := ⟨.hbm, 859, rfl⟩
abbrev main_v613 : Ref sig .tc := ⟨.hbm, 860, rfl⟩
abbrev main_c_242 : Ref sig .tc := ⟨.hbm, 861, rfl⟩
abbrev main_v614 : Ref sig .tc := ⟨.hbm, 862, rfl⟩
abbrev main_v615 : Ref sig .tc := ⟨.hbm, 863, rfl⟩
abbrev main_v616 : Ref sig .tc := ⟨.hbm, 864, rfl⟩
abbrev main_c_243 : Ref sig .tc := ⟨.hbm, 865, rfl⟩
abbrev main_v617 : Ref sig .tc := ⟨.hbm, 866, rfl⟩
abbrev main_v618 : Ref sig .tc := ⟨.hbm, 867, rfl⟩
abbrev main_v619 : Ref sig .tc := ⟨.hbm, 868, rfl⟩
abbrev main_v620 : Ref sig .tc := ⟨.hbm, 869, rfl⟩
abbrev main_v621 : Ref sig .tc := ⟨.hbm, 870, rfl⟩
abbrev main_v622 : Ref sig .tc := ⟨.hbm, 871, rfl⟩
abbrev main_v623 : Ref sig .tc := ⟨.hbm, 872, rfl⟩
abbrev main_v624 : Ref sig .tc := ⟨.hbm, 873, rfl⟩
abbrev main_v625 : Ref sig .tc := ⟨.hbm, 874, rfl⟩
abbrev main_v626 : Ref sig .tc := ⟨.hbm, 875, rfl⟩
abbrev main_v627 : Ref sig .tc := ⟨.hbm, 876, rfl⟩
abbrev main_v628 : Ref sig .tc := ⟨.hbm, 877, rfl⟩
abbrev main_v629 : Ref sig .tc := ⟨.hbm, 878, rfl⟩
abbrev main_v630 : Ref sig .tc := ⟨.hbm, 879, rfl⟩
abbrev main_v631 : Ref sig .tc := ⟨.hbm, 880, rfl⟩
abbrev main_v632 : Ref sig .tc := ⟨.hbm, 881, rfl⟩
abbrev main_v633 : Ref sig .tc := ⟨.hbm, 882, rfl⟩
abbrev main_v634 : Ref sig .tc := ⟨.hbm, 883, rfl⟩
abbrev main_v635 : Ref sig .tc := ⟨.hbm, 884, rfl⟩
abbrev main_v636 : Ref sig .tc := ⟨.hbm, 885, rfl⟩
abbrev main_v637 : Ref sig .tc := ⟨.hbm, 886, rfl⟩
abbrev main_v638 : Ref sig .tc := ⟨.hbm, 887, rfl⟩
abbrev main_v639 : Ref sig .tc := ⟨.hbm, 888, rfl⟩
abbrev main_v640 : Ref sig .tc := ⟨.hbm, 889, rfl⟩
abbrev main_v641 : Ref sig .tc := ⟨.hbm, 890, rfl⟩
abbrev main_cst_244 : Ref sig .tc := ⟨.hbm, 891, rfl⟩
abbrev main_v642 : Ref sig .tc := ⟨.hbm, 892, rfl⟩
abbrev main_cst_245 : Ref sig .tc := ⟨.hbm, 893, rfl⟩
abbrev main_v643 : Ref sig .tc := ⟨.hbm, 894, rfl⟩
abbrev main_v644 : Ref sig .tc := ⟨.hbm, 895, rfl⟩
abbrev main_c_246 : Ref sig .tc := ⟨.hbm, 896, rfl⟩
abbrev main_v645 : Ref sig .tc := ⟨.hbm, 897, rfl⟩
abbrev main_v646 : Ref sig .tc := ⟨.hbm, 898, rfl⟩
abbrev main_v647 : Ref sig .tc := ⟨.hbm, 899, rfl⟩
abbrev main_v648 : Ref sig .tc := ⟨.hbm, 900, rfl⟩
abbrev main_v649 : Ref sig .tc := ⟨.hbm, 901, rfl⟩
abbrev main_v650 : Ref sig .tc := ⟨.hbm, 902, rfl⟩
abbrev main_v651 : Ref sig .tc := ⟨.hbm, 903, rfl⟩
abbrev main_c_247 : Ref sig .tc := ⟨.hbm, 904, rfl⟩
abbrev main_v652 : Ref sig .tc := ⟨.hbm, 905, rfl⟩
abbrev main_v653 : Ref sig .tc := ⟨.hbm, 906, rfl⟩
abbrev main_c_248 : Ref sig .tc := ⟨.hbm, 907, rfl⟩
abbrev main_v654 : Ref sig .tc := ⟨.hbm, 908, rfl⟩
abbrev main_v655 : Ref sig .tc := ⟨.hbm, 909, rfl⟩
abbrev main_c_249 : Ref sig .tc := ⟨.hbm, 910, rfl⟩
abbrev main_call0_v0 : Ref sig .tc := ⟨.hbm, 911, rfl⟩
abbrev main_call0_v1 : Ref sig .tc := ⟨.hbm, 912, rfl⟩
abbrev main_v656 : Ref sig .tc := ⟨.hbm, 913, rfl⟩
abbrev main_c_250 : Ref sig .tc := ⟨.hbm, 914, rfl⟩
abbrev main_v657 : Ref sig .tc := ⟨.hbm, 915, rfl⟩
abbrev main_v658 : Ref sig .tc := ⟨.hbm, 916, rfl⟩
abbrev main_v659 : Ref sig .tc := ⟨.hbm, 917, rfl⟩
abbrev main_v660 : Ref sig .tc := ⟨.hbm, 918, rfl⟩
abbrev main_cst_251 : Ref sig .tc := ⟨.hbm, 919, rfl⟩
abbrev main_v661 : Ref sig .tc := ⟨.hbm, 920, rfl⟩
abbrev main_v662 : Ref sig .tc := ⟨.hbm, 921, rfl⟩
abbrev main_v663 : Ref sig .tc := ⟨.hbm, 922, rfl⟩
abbrev main_v664 : Ref sig .tc := ⟨.hbm, 923, rfl⟩
abbrev main_cst_252 : Ref sig .tc := ⟨.hbm, 924, rfl⟩
abbrev main_v665 : Ref sig .tc := ⟨.hbm, 925, rfl⟩
abbrev main_v666 : Ref sig .tc := ⟨.hbm, 926, rfl⟩
abbrev main_v667 : Ref sig .tc := ⟨.hbm, 927, rfl⟩
abbrev main_v668 : Ref sig .tc := ⟨.hbm, 928, rfl⟩
abbrev main_v669 : Ref sig .tc := ⟨.hbm, 929, rfl⟩
abbrev main_cst_253 : Ref sig .tc := ⟨.hbm, 930, rfl⟩
abbrev main_v670 : Ref sig .tc := ⟨.hbm, 931, rfl⟩
abbrev main_v671 : Ref sig .tc := ⟨.hbm, 932, rfl⟩
abbrev main_v672 : Ref sig .tc := ⟨.hbm, 933, rfl⟩
abbrev main_cst_254 : Ref sig .tc := ⟨.hbm, 934, rfl⟩
abbrev main_v673 : Ref sig .tc := ⟨.hbm, 935, rfl⟩
abbrev main_v674 : Ref sig .tc := ⟨.hbm, 936, rfl⟩
abbrev main_v675 : Ref sig .tc := ⟨.hbm, 937, rfl⟩
abbrev main_cst_255 : Ref sig .tc := ⟨.hbm, 938, rfl⟩
abbrev main_v676 : Ref sig .tc := ⟨.hbm, 939, rfl⟩
abbrev main_v677 : Ref sig .tc := ⟨.hbm, 940, rfl⟩
abbrev main_cst_256 : Ref sig .tc := ⟨.hbm, 941, rfl⟩
abbrev main_v678 : Ref sig .tc := ⟨.hbm, 942, rfl⟩
abbrev main_v679 : Ref sig .tc := ⟨.hbm, 943, rfl⟩
abbrev main_cst_257 : Ref sig .tc := ⟨.hbm, 944, rfl⟩
abbrev main_v680 : Ref sig .tc := ⟨.hbm, 945, rfl⟩
abbrev main_v681 : Ref sig .tc := ⟨.hbm, 946, rfl⟩
abbrev main_cst_258 : Ref sig .tc := ⟨.hbm, 947, rfl⟩
abbrev main_call1_v0 : Ref sig .tc := ⟨.hbm, 948, rfl⟩
abbrev main_call1_v1 : Ref sig .tc := ⟨.hbm, 949, rfl⟩
abbrev main_v682 : Ref sig .tc := ⟨.hbm, 950, rfl⟩
abbrev main_v683 : Ref sig .tc := ⟨.hbm, 951, rfl⟩
abbrev main_v684 : Ref sig .tc := ⟨.hbm, 952, rfl⟩
abbrev main_cst_259 : Ref sig .tc := ⟨.hbm, 953, rfl⟩
abbrev main_v685 : Ref sig .tc := ⟨.hbm, 954, rfl⟩
abbrev main_v686 : Ref sig .tc := ⟨.hbm, 955, rfl⟩
abbrev main_v687 : Ref sig .tc := ⟨.hbm, 956, rfl⟩
abbrev main_cst_260 : Ref sig .tc := ⟨.hbm, 957, rfl⟩
abbrev main_v688 : Ref sig .tc := ⟨.hbm, 958, rfl⟩
abbrev main_v689 : Ref sig .tc := ⟨.hbm, 959, rfl⟩
abbrev main_cst_261 : Ref sig .tc := ⟨.hbm, 960, rfl⟩
abbrev main_v690 : Ref sig .tc := ⟨.hbm, 961, rfl⟩
abbrev main_v691 : Ref sig .tc := ⟨.hbm, 962, rfl⟩
abbrev main_v692 : Ref sig .tc := ⟨.hbm, 963, rfl⟩
abbrev main_v693 : Ref sig .tc := ⟨.hbm, 964, rfl⟩
abbrev main_c_262 : Ref sig .tc := ⟨.hbm, 965, rfl⟩
abbrev main_v694 : Ref sig .tc := ⟨.hbm, 966, rfl⟩
abbrev main_v695 : Ref sig .tc := ⟨.hbm, 967, rfl⟩
abbrev main_v696 : Ref sig .tc := ⟨.hbm, 968, rfl⟩
abbrev main_cst_263 : Ref sig .tc := ⟨.hbm, 969, rfl⟩
abbrev main_v697 : Ref sig .tc := ⟨.hbm, 970, rfl⟩
abbrev main_v698 : Ref sig .tc := ⟨.hbm, 971, rfl⟩
abbrev main_v699 : Ref sig .tc := ⟨.hbm, 972, rfl⟩
abbrev main_v700 : Ref sig .tc := ⟨.hbm, 973, rfl⟩
abbrev main_v701 : Ref sig .tc := ⟨.hbm, 974, rfl⟩
abbrev main_v702 : Ref sig .tc := ⟨.hbm, 975, rfl⟩
abbrev main_cst_264 : Ref sig .tc := ⟨.hbm, 976, rfl⟩
abbrev main_v703 : Ref sig .tc := ⟨.hbm, 977, rfl⟩
abbrev main_v704 : Ref sig .tc := ⟨.hbm, 978, rfl⟩
abbrev main_c_265 : Ref sig .tc := ⟨.hbm, 979, rfl⟩
abbrev main_v705 : Ref sig .tc := ⟨.hbm, 980, rfl⟩
abbrev main_v706 : Ref sig .tc := ⟨.hbm, 981, rfl⟩
abbrev main_v707 : Ref sig .tc := ⟨.hbm, 982, rfl⟩
abbrev main_v708 : Ref sig .tc := ⟨.hbm, 983, rfl⟩
abbrev main_v709 : Ref sig .tc := ⟨.hbm, 984, rfl⟩
abbrev main_v710 : Ref sig .tc := ⟨.hbm, 985, rfl⟩
abbrev main_v711 : Ref sig .tc := ⟨.hbm, 986, rfl⟩
abbrev main_v712 : Ref sig .tc := ⟨.hbm, 987, rfl⟩
abbrev main_c_266 : Ref sig .tc := ⟨.hbm, 988, rfl⟩
abbrev main_v713 : Ref sig .tc := ⟨.hbm, 989, rfl⟩
abbrev main_v714 : Ref sig .tc := ⟨.hbm, 990, rfl⟩
abbrev main_v715 : Ref sig .tc := ⟨.hbm, 991, rfl⟩
abbrev main_v716 : Ref sig .tc := ⟨.hbm, 992, rfl⟩
abbrev main_v717 : Ref sig .tc := ⟨.hbm, 993, rfl⟩
abbrev main_c_267 : Ref sig .tc := ⟨.hbm, 994, rfl⟩
abbrev main_call6_v0 : Ref sig .tc := ⟨.hbm, 995, rfl⟩
abbrev main_call6_v1 : Ref sig .tc := ⟨.hbm, 996, rfl⟩
abbrev main_v718 : Ref sig .tc := ⟨.hbm, 997, rfl⟩
abbrev main_v719 : Ref sig .tc := ⟨.hbm, 998, rfl⟩
abbrev main_c_268 : Ref sig .tc := ⟨.hbm, 999, rfl⟩
abbrev main_call7_v0 : Ref sig .tc := ⟨.hbm, 1000, rfl⟩
abbrev main_call7_v1 : Ref sig .tc := ⟨.hbm, 1001, rfl⟩
abbrev main_v720 : Ref sig .tc := ⟨.hbm, 1002, rfl⟩
abbrev main_v721 : Ref sig .tc := ⟨.hbm, 1003, rfl⟩
abbrev main_v722 : Ref sig .tc := ⟨.hbm, 1004, rfl⟩

abbrev nD : Nat := 1
abbrev τ : Topo := Topo.v7x

variable {F : FTy → Type} [FloatOps F]
-- ==== Proof.KBKit.lean ====
/- The schedule of the written-back windows, the kernel body as the pipeline calls it, the arrays the region finds and the
   tables it prefetches, for `Kernel` at any contents of its tables. -/
module

public import proofs.«01_k».proof.Proof.Gen.Kernel.Launch
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
/-- Window 1 (result 0 (%0#0)) is written back at every point, at any contents of the tables (its index map reads none). -/
theorem flush0_1 (a : (pcfg0 (F := F)).Adm) : ∀ t : Fin (cfg0 a).N, ((cfg0 a).win 1).flush t = true :=
  (fun t => (Pipeline.Window.flushOf_reads cc0_transform_1 reads0_1 hreads0_1 0 (by decide) (by decide) (Pipeline.Window.sep_of_coord cc0_transform_1 0 0 (fun _ => rfl) (by decide)) (P := 1) (m := 0) (by decide) rfl t).mpr (Nat.mod_one _) : ∀ t : Fin grid0.N, Pipeline.Window.flushOf grid0 true cc0_transform_1 t = true)
/-- Window 2 (result 1 (%0#1)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mxfp4_sr (grid0.coords t) (Memref.whole main_arg2) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg2
abbrev htbM0_0 : tbM0_0.IsWhole := Memref.isWhole_whole _
abbrev tbM0_1 : Memref sig .tc .smem S2 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

end Cert.Kernel.Gen

end
-- ==== Proof.KBRun.lean ====
/- The kernel body of `Kernel` at any point of the grid: it runs to its end from any contents of the result windows and of the
   scratch, leaving the input block and the tables as they were. -/
module

public import proofs.«01_k».proof.Proof.KBKit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The length the body reads from its table at point `i`. -/
abbrev lenAt (arg1 : Memref sig .tc .smem S2 .i32) (i : grid0.Coords) {c : Dev nD} (T : TbBuf0 (F := F) c arg1) : BitVec 32 :=
  arg1.view.readAt (Elt F) (Rect.unit (s := S2) (k0_off1 i) S1.size (k0_off1_inb i)).toLoadRect T (Shape.Idx.first (numel1_S1.symm ▸ Nat.one_pos))

/-- The body's first condition: the point is the first of the grid. -/
abbrev isFirst (i : grid0.Coords) : Prop :=
  (Scalar.cmpi .ne (Scalar.extui (Scalar.cmpi .eq (BitVec.ofNat 32 (i 0).val) 0#32)) 0#32) = 1#1

set_option maxHeartbeats 4000000 in
/-- The body runs from the input block, any contents of the rest, and gives everything back. -/
theorem kernel_runs (c : Dev nD) (i : grid0.Coords) (arg1 : Memref sig .tc .smem S2 .i32) (harg1 : arg1.IsWhole) (arg2 : Memref sig .tc .smem S2 .i32) (harg2 : arg2.IsWhole) (arg3 : Memref sig .tc .vmem S1x32x16384 .bf16) (harg3 : arg3.IsWhole) (arg4 : Memref sig .tc .vmem S32x8192 .i8) (harg4 : arg4.IsWhole) (arg5 : Memref sig .tc .vmem S32x512 .i8) (harg5 : arg5.IsWhole) (arg6 : Memref sig .tc .vmem S512x512 .bf16) (harg6 : arg6.IsWhole) (arg7 : Memref sig .tc .vmem S512x256 .bf16) (harg7 : arg7.IsWhole) (arg8 : Memref sig .tc .vmem S1024x128 .bf16) (harg8 : arg8.IsWhole) (arg9 : Memref sig .tc .vmem S128x512 .f32) (harg9 : arg9.IsWhole) (arg10 : Memref sig .tc .vmem S128x512 .bf16) (harg10 : arg10.IsWhole) (arg11 : Memref sig .tc .vmem S32x4096 .bf16) (harg11 : arg11.IsWhole)
    (T1 : TbBuf0 (F := F) c arg1) (T2 : TbBuf0 (F := F) c arg2) (x : Vec F S1x32x16384 .bf16) (E : Set ℕ) (K : PUnit → sProp 𝕄) :
        iprop(tbPt0 c arg1 T1 ∗ tbPt0 c arg2 T2 ∗ owns (c : Thread nD τ) arg3 fullShare x ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)
            ∗ (iprop(tbPt0 c arg1 T1 ∗ tbPt0 c arg2 T2 ∗ owns (c : Thread nD τ) arg3 fullShare x ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mxfp4_sr i arg1 harg1 arg2 harg2 arg3 harg3 arg4 harg4 arg5 harg5 arg6 harg6 arg7 harg7 arg8 harg8 arg9 harg9 arg10 harg10 arg11 harg11) K := by
  simp only [cc0_mxfp4_sr_eq_skeleton]; unfold cc0_mxfp4_sr_skel
  unfold owns
  iintro ⟨HT1, HT2, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg3.eq_unread hf3
  by_cases hc1 : isFirst i
  all_goals by_cases hc2 : k0_cond2 i (lenAt arg1 i T1) = 1#1
  all_goals by_cases hc3 : k0_cond3 i (lenAt arg1 i T1) = 1#1
  all_goals by_cases hc4 : k0_cond4 i (lenAt arg1 i T1) = 1#1
  all_goals
    sl_exec (disch := first | sl_exact hc1 | sl_exact hc2 | sl_exact hc3 | sl_exact hc4)
    sl_step
    iapply Hk
    isplitl [HT1]; · iexact HT1
    isplitl [HT2]; · iexact HT2
    isplitl [H3]
    · iexists _; isplitr; · ipureintro; exact harg3.read_unread _
      iexact H3
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    isplitl [H9]; · iexists _, _; isplitr; swap; · iexact H9
                    ipureintro; rfl
    isplitl [H10]; · iexists _, _; isplitr; swap; · iexact H10
                     ipureintro; rfl
    iexists _, _; isplitr; swap; · iexact H11
    ipureintro; rfl

end Cert.Kernel.Gen

end
-- ==== Proof.Words.lean ====
/- Words of the grid's index maps: the floor division and remainder of a point's number and of a length, as the printed scalar
   operations compute them, and their values. -/
module

public import Idealize.ShloMosaic.PureOps
public import Idealize.ShloMosaic.Lib.Tactic

@[expose] public section

namespace Cert.Words

open Idealize.ShloMosaic

/-- Floor division of `a` by `b`, spelled as printed. -/
def floorDiv (a b : BitVec 32) : BitVec 32 :=
  Scalar.select (Scalar.andi
      (Scalar.cmpi .ne
        (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- Remainder of `a` by `b` with the sign of `b`, spelled as printed. -/
def floorMod (a b : BitVec 32) : BitVec 32 :=
  let d := Scalar.select (Scalar.cmpi .eq b 0#32) 1#32 b
  let r := Scalar.remsi a d
  Scalar.select (Scalar.andi (Scalar.xori (Scalar.cmpi .slt r 0#32) (Scalar.cmpi .slt d 0#32)) (Scalar.cmpi .ne r 0#32))
    (Scalar.addi r d) r

/-- The sequence a point works on. -/
def seqWord (a : BitVec 32) : BitVec 32 := floorDiv a 24#32

/-- The last live block of a sequence of length `L`, block 0 if there is none. -/
def lastWord (L : BitVec 32) : BitVec 32 :=
  Scalar.subi (Scalar.maxsi (floorDiv (Scalar.subi (Scalar.addi L 32#32) 1#32) 32#32) 1#32) 1#32

/-- The block of the sequence a point reads. -/
def blockWord (a L : BitVec 32) : BitVec 32 := Scalar.minsi (floorMod a 24#32) (lastWord L)

theorem seqWord_eq : ∀ n : Fin 48, (seqWord (BitVec.ofNat 32 n.val)).toNat = n.val / 24 := by decide +kernel
theorem floorMod_eq : ∀ n : Fin 48, (floorMod (BitVec.ofNat 32 n.val) 24#32).toNat = n.val % 24 := by decide +kernel

theorem seqWord_toNat (n : Nat) (h : n < 48) : (seqWord (BitVec.ofNat 32 n)).toNat = n / 24 := seqWord_eq ⟨n, h⟩
theorem floorMod_toNat (n : Nat) (h : n < 48) : (floorMod (BitVec.ofNat 32 n) 24#32).toNat = n % 24 := floorMod_eq ⟨n, h⟩

/-- The signed maximum and minimum of two words, read as integers. -/
theorem maxsi_toInt (x y : BitVec 32) : (Scalar.maxsi x y).toInt = max x.toInt y.toInt := by
  have h : Scalar.maxsi x y = if y.slt x then x else y := rfl
  rw [h]; by_cases c : y.slt x = true
  · rw [if_pos c]; rw [BitVec.slt_iff_toInt_lt] at c; omega
  · rw [if_neg c]; rw [BitVec.slt_iff_toInt_lt] at c; omega
theorem minsi_toInt (x y : BitVec 32) : (Scalar.minsi x y).toInt = min x.toInt y.toInt := by
  have h : Scalar.minsi x y = if x.slt y then x else y := rfl
  rw [h]; by_cases c : x.slt y = true
  · rw [if_pos c]; rw [BitVec.slt_iff_toInt_lt] at c; omega
  · rw [if_neg c]; rw [BitVec.slt_iff_toInt_lt] at c; omega

theorem minsi_le (a w : BitVec 32) (h : a.toNat ≤ 23) :
    (Scalar.minsi a (Scalar.subi (Scalar.maxsi w 1#32) 1#32)).toNat ≤ 23 := by
  have h1 := maxsi_toInt w 1#32
  have h2 := minsi_toInt a (Scalar.subi (Scalar.maxsi w 1#32) 1#32)
  have h3 : Scalar.subi (Scalar.maxsi w 1#32) 1#32 = Scalar.maxsi w 1#32 - 1#32 := rfl
  rw [h3] at h2 ⊢
  generalize Scalar.maxsi w 1#32 = u at *
  generalize Scalar.minsi a (u - 1#32) = v at *
  have := u.isLt
  have := v.isLt
  have e1 : (1#32).toInt = 1 := by decide
  have e2 : (u - 1#32).toNat = (2^32 - 1 + u.toNat) % 2^32 := by rw [BitVec.toNat_sub]; rfl
  simp only [BitVec.toInt_eq_toNat_cond (x := u), BitVec.toInt_eq_toNat_cond (x := v), BitVec.toInt_eq_toNat_cond (x := a),
    BitVec.toInt_eq_toNat_cond (x := u - 1#32), e1, e2] at *
  omega

/-- The block a point reads is one of the 24 of its sequence, whatever the length. -/
theorem blockWord_le (n : Nat) (h : n < 48) (L : BitVec 32) : (blockWord (BitVec.ofNat 32 n) L).toNat ≤ 23 :=
  minsi_le _ _ (by rw [floorMod_toNat n h]; omega)

end Cert.Words

end
-- ==== Proof.KBFrame.lean ====
/- The frame of `Kernel`, for every contents of its tables: the block the input window stages is inside its array whatever the
   lengths are, and the body runs at every point. -/
module

public import proofs.«01_k».proof.Proof.KBRun
public import proofs.«01_k».proof.Proof.Words

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input block of a point: the sequence `i / 24` and, in it, the point's own block or the last live one. -/
theorem transform_0_eq (pf : pre0.Contents (Elt F)) (i : grid0.Coords) :
    cc0_transform_0 k0_off1_inb numel1_S1 pf i = ![(Cert.Words.seqWord (BitVec.ofNat 32 (i 0).val)).toNat,
      (Cert.Words.blockWord (BitVec.ofNat 32 (i 0).val) (pf.at 0 (Rect.unit (s := S2) (k0_off1 i) S1.size (k0_off1_inb i)) numel1_S1)).toNat, 0] := rfl

/-- The side condition of the tables holds for all their contents. -/
theorem ok_all : Ok m := fun i => by
  refine ⟨?_, .inr (Affine.block_words_dvd (of_decide_eq_true rfl) (by decide))⟩
  intro a
  rw [transform_0_eq]
  have h0 : (i 0).val < 48 := (i 0).isLt
  fin_cases a
  · have := Cert.Words.seqWord_toNat (i 0).val h0
    show ((Cert.Words.seqWord _).toNat + 1) * 1 ≤ 2
    omega
  · have := Cert.Words.blockWord_le (i 0).val h0 ((tbl m).at 0 (Rect.unit (s := S2) (k0_off1 i) S1.size (k0_off1_inb i)) numel1_S1)
    show ((Cert.Words.blockWord _ _).toNat + 1) * 32 ≤ 768
    omega
  · show (0 + 1) * 16384 ≤ 16384
    omega

/-- The scratch buffers as memrefs. -/
abbrev scM0_0 : Memref sig .tc .vmem S512x512 .bf16 := Memref.whole cc0_scratch0
abbrev scM0_1 : Memref sig .tc .vmem S512x256 .bf16 := Memref.whole cc0_scratch1
abbrev scM0_2 : Memref sig .tc .vmem S1024x128 .bf16 := Memref.whole cc0_scratch2
abbrev scM0_3 : Memref sig .tc .vmem S128x512 .f32 := Memref.whole cc0_scratch3
abbrev scM0_4 : Memref sig .tc .vmem S128x512 .bf16 := Memref.whole cc0_scratch4
abbrev scM0_5 : Memref sig .tc .vmem S32x4096 .bf16 := Memref.whole cc0_scratch5

/-- The kit's invariant with the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- Each window's current staging memref at point `t`. -/
abbrev ms0_0 (t : Fin (cfgM m (ok_all m)).N) : Memref sig .tc .vmem S1x32x16384 .bf16 := ((cfgM m (ok_all m)).win 0).stage ((cfgM m (ok_all m)).slots t 0)
abbrev ms0_1 (t : Fin (cfgM m (ok_all m)).N) : Memref sig .tc .vmem S32x8192 .i8 := ((cfgM m (ok_all m)).win 1).stage ((cfgM m (ok_all m)).slots t 1)
abbrev ms0_2 (t : Fin (cfgM m (ok_all m)).N) : Memref sig .tc .vmem S32x512 .i8 := ((cfgM m (ok_all m)).win 2).stage ((cfgM m (ok_all m)).slots t 2)

/-- The proof data of the frame: what the body leaves in the results is not stated. -/
def dats (_ : Fin 1) (c : Dev nD) : Dat τ (Elt F) Unit ℕ (UR sig nD τ) ℕ (cfgM m (ok_all m)) c where
  A w := V m c (Pipeline.arrRef spec0 w)
  after w t := match w with
    | ⟨0, _⟩ => iblk m (ok_all m) c 0 t
    | ⟨1, _⟩ => (fun _ => (0 : BitVec 8) : Vec F S32x8192 .i8)
    | ⟨2, _⟩ => (fun _ => (0 : BitVec 8) : Vec F S32x512 .i8)
  Φ _ := iprop(Pipeline.ΦA spec0 c ∗ Pipeline.ΦT pre0 (tbl m) c)
  q _ := fullShare
  owed _ := 0

/-- The windows whose contents after the body the frame does not state: the two results. -/
abbrev fgt : Fin (cfgM m (ok_all m)).W → Bool := fun w => match w with
  | ⟨0, _⟩ => false
  | ⟨_ + 1, _⟩ => true

theorem A_eq (c : Dev nD) (w : Fin (cfgM m (ok_all m)).W) : (dats m 0 c).A w = V m c (Pipeline.arrRef spec0 w) := by
  dsimp only [dats]
theorem after0_0 (c : Dev nD) (t : Fin (cfgM m (ok_all m)).N) : (dats m 0 c).after 0 t = iblk m (ok_all m) c 0 t := by dsimp only [dats]; try rfl
theorem before0_0 (c : Dev nD) (t : Fin (cfgM m (ok_all m)).N) (d) : (dats m 0 c).before 0 t d = iblk m (ok_all m) c 0 t :=
  before0_0_of m (ok_all m) (dats m 0 c) (A_eq m c 0) (after0_0 m c) t d

/-- What the body is called with at point `t`, -/
def bodyPre (c : Dev nD) (t : Fin (cfgM m (ok_all m)).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ X, owns (c : Thread nD τ) (ms0_1 m t) fullShare X)
    ∗ (∃ X, owns (c : Thread nD τ) (ms0_2 m t) fullShare X))

/-- and what it returns. -/
def bodyPost (c : Dev nD) (t : Fin (cfgM m (ok_all m)).N) : sProp 𝕄 :=
  iprop((dats m 0 c).Φ t.succ ∗ (dats m 0 c).owesAt () t.succ
    ∗ owns (c : Thread nD τ) (ms0_0 m t) fullShare ((dats m 0 c).after 0 t)
    ∗ (∃ X, owns (c : Thread nD τ) (ms0_1 m t) fullShare X)
    ∗ (∃ X, owns (c : Thread nD τ) (ms0_2 m t) fullShare X))

/-- The body at any point. -/
theorem sound_body (c : Dev nD) (t : Fin (cfgM m (ok_all m)).N) :
    bodyPre m c t ⊢ wp frame (wpE (defs₀ (F := F)) Variants.none c none) Set.univ (bodyAt0 (adm m (ok_all m)) t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0]
  rw [show (dats m 0 c).Φ t.castSucc = iprop(Pipeline.ΦA spec0 c ∗ Pipeline.ΦT pre0 (tbl m) c) from rfl, PhiA0_eq, PhiT0_eq]
  iintro ⟨⟨⟨⟨HS0, HS1, HS2, HS3, HS4, HS5⟩, Hg⟩, ⟨HT0, HT1⟩⟩, Ho, ⟨%d0, H0⟩, H1, H2⟩
  iapply (kernel_runs c (grid0.coords t) _ _ _ _ _ _ _ _ _ _ _ _ _ _ _ _ _ _ _ _ _ _ (tbl m 0) (tbl m 1) (iblk m (ok_all m) c 0 t) Set.univ _)
  isplitl [HT0]; · iexact HT0
  isplitl [HT1]; · iexact HT1
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  iintro ⟨HT0, HT1, H0, H1, H2, HS0, HS1, HS2, HS3, HS4, HS5⟩
  isplitl [HT0 HT1 Hg HS0 HS1 HS2 HS3 HS4 HS5]
  · isplitl [Hg HS0 HS1 HS2 HS3 HS4 HS5]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [HT0]; · iexact HT0
    iexact HT1
  isplitl [Ho]; · iexact Ho
  isplitl [H0]; · iexact H0
  isplitl [H1]; · iexact H1
  iexact H2

/-- The body table's row at point `t`'s slots is the body as `bodyAt0` spells it. -/
theorem defs₀_row (t : Fin (cfgM m (ok_all m)).N) :
    defs₀ (F := F) .tc (cfgM m (ok_all m)).body ((cfgM m (ok_all m)).bodyArgs t ((cfgM m (ok_all m)).slots t)) = bodyAt0 (adm m (ok_all m)) t := by
  unfold defs₀; rw [Defs.onTc_tc]

/-- The library's body obligation, at every point. -/
theorem body_obligation (c : Dev nD) : BodyObligationLoose (dats (F := F) m 0 c) (defs₀ (F := F)) Variants.none () Set.univ (fgt m) := fun t => by
  rw [bigSep_W0, bigSep_W0, defs₀_row m]
  exact triple_restated (sound_body m c t) rfl .rfl fun _ => .rfl

set_option backward.isDefEq.respectTransparency.types false in
/-- The launch: every execution ends, the arrays as the proof data says, the counters at zero. -/
theorem run_main_quiescent : θ_run defs (onTc (τ := τ) (main (F := F))) (s₀ m ρ) (fun r => (Pipeline.RDat.FramePost (cfgM m (ok_all m)) (fun c => (dats m 0 c).toRForget (fgt m)) (V m)) r ∧ r.2.sem = fun _ => 0) :=
  Pipeline.θ_run_frameP_forget (Q' := _) pcfgs (fun _ => adm m (ok_all m)) (dats m) (0 : Fin 1) launch0 defs₀ Variants.none (fgt m) m ρ main
    (hbody := fun c => body_obligation m c) (hshare := fun c => (dats m 0 c).share_full fun _ => rfl)
    (howed := fun _ _ => rfl) (V := V m) (hmain := hmain m Variants.none) (hA := A_eq m) (hpf := V_pre m)
    (hΦ := fun _ _ => rfl)

/-- The frame: every execution ends, the argument arrays are unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans ((A_eq m c 0).trans (V_main_arg0 m c)),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c)⟩, h.2⟩) (run_main_quiescent m ρ)

end Cert.Kernel.Gen

end
-- ==== Proof.KIKit.lean ====
/- The schedule of the written-back windows, the kernel body as the pipeline calls it, the arrays the region finds and the
   tables it prefetches, for `KernelIdeal` at any contents of its tables. -/
module

public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
/-- Window 1 (result 0 (%0#0)) is written back at every point, at any contents of the tables (its index map reads none). -/
theorem flush0_1 (a : (pcfg0 (F := F)).Adm) : ∀ t : Fin (cfg0 a).N, ((cfg0 a).win 1).flush t = true :=
  (fun t => (Pipeline.Window.flushOf_reads cc0_transform_1 reads0_1 hreads0_1 0 (by decide) (by decide) (Pipeline.Window.sep_of_coord cc0_transform_1 0 0 (fun _ => rfl) (by decide)) (P := 1) (m := 0) (by decide) rfl t).mpr (Nat.mod_one _) : ∀ t : Fin grid0.N, Pipeline.Window.flushOf grid0 true cc0_transform_1 t = true)
/-- Window 2 (result 1 (%0#1)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mxfp4_sr (grid0.coords t) (Memref.whole main_arg2) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg2
abbrev htbM0_0 : tbM0_0.IsWhole := Memref.isWhole_whole _
abbrev tbM0_1 : Memref sig .tc .smem S2 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

end Cert.KernelIdeal.Gen

end
-- ==== Proof.KIRun.lean ====
/- The kernel body of `KernelIdeal` at any point of the grid: it runs to its end from any contents of the result windows and of the
   scratch, leaving the input block and the tables as they were. -/
module

public import proofs.«01_k».proof.Proof.KIKit
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The length the body reads from its table at point `i`. -/
abbrev lenAt (arg1 : Memref sig .tc .smem S2 .i32) (i : grid0.Coords) {c : Dev nD} (T : TbBuf0 (F := F) c arg1) : BitVec 32 :=
  arg1.view.readAt (Elt F) (Rect.unit (s := S2) (k0_off1 i) S1.size (k0_off1_inb i)).toLoadRect T (Shape.Idx.first (numel1_S1.symm ▸ Nat.one_pos))

/-- The body's first condition: the point is the first of the grid. -/
abbrev isFirst (i : grid0.Coords) : Prop :=
  (Scalar.cmpi .ne (Scalar.extui (Scalar.cmpi .eq (BitVec.ofNat 32 (i 0).val) 0#32)) 0#32) = 1#1

set_option maxHeartbeats 4000000 in
/-- The body runs from the input block, any contents of the rest, and gives everything back. -/
theorem kernel_runs (c : Dev nD) (i : grid0.Coords) (arg1 : Memref sig .tc .smem S2 .i32) (harg1 : arg1.IsWhole) (arg2 : Memref sig .tc .smem S2 .i32) (harg2 : arg2.IsWhole) (arg3 : Memref sig .tc .vmem S1x32x16384 .bf16) (harg3 : arg3.IsWhole) (arg4 : Memref sig .tc .vmem S32x8192 .i8) (harg4 : arg4.IsWhole) (arg5 : Memref sig .tc .vmem S32x512 .i8) (harg5 : arg5.IsWhole) (arg6 : Memref sig .tc .vmem S512x512 .bf16) (harg6 : arg6.IsWhole) (arg7 : Memref sig .tc .vmem S512x256 .bf16) (harg7 : arg7.IsWhole) (arg8 : Memref sig .tc .vmem S1024x128 .bf16) (harg8 : arg8.IsWhole) (arg9 : Memref sig .tc .vmem S128x512 .f32) (harg9 : arg9.IsWhole) (arg10 : Memref sig .tc .vmem S128x512 .bf16) (harg10 : arg10.IsWhole) (arg11 : Memref sig .tc .vmem S32x4096 .bf16) (harg11 : arg11.IsWhole)
    (T1 : TbBuf0 (F := F) c arg1) (T2 : TbBuf0 (F := F) c arg2) (x : Vec F S1x32x16384 .bf16) (E : Set ℕ) (K : PUnit → sProp 𝕄) :
        iprop(tbPt0 c arg1 T1 ∗ tbPt0 c arg2 T2 ∗ owns (c : Thread nD τ) arg3 fullShare x ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)
            ∗ (iprop(tbPt0 c arg1 T1 ∗ tbPt0 c arg2 T2 ∗ owns (c : Thread nD τ) arg3 fullShare x ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mxfp4_sr i arg1 harg1 arg2 harg2 arg3 harg3 arg4 harg4 arg5 harg5 arg6 harg6 arg7 harg7 arg8 harg8 arg9 harg9 arg10 harg10 arg11 harg11) K := by
  simp only [cc0_mxfp4_sr_eq_skeleton]; unfold cc0_mxfp4_sr_skel
  unfold owns
  iintro ⟨HT1, HT2, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg3.eq_unread hf3
  by_cases hc1 : isFirst i
  all_goals by_cases hc2 : k0_cond2 i (lenAt arg1 i T1) = 1#1
  all_goals by_cases hc3 : k0_cond3 i (lenAt arg1 i T1) = 1#1
  all_goals by_cases hc4 : k0_cond4 i (lenAt arg1 i T1) = 1#1
  all_goals
    sl_exec (disch := first | sl_exact hc1 | sl_exact hc2 | sl_exact hc3 | sl_exact hc4)
    sl_step
    iapply Hk
    isplitl [HT1]; · iexact HT1
    isplitl [HT2]; · iexact HT2
    isplitl [H3]
    · iexists _; isplitr; · ipureintro; exact harg3.read_unread _
      iexact H3
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    isplitl [H9]; · iexists _, _; isplitr; swap; · iexact H9
                    ipureintro; rfl
    isplitl [H10]; · iexists _, _; isplitr; swap; · iexact H10
                     ipureintro; rfl
    iexists _, _; isplitr; swap; · iexact H11
    ipureintro; rfl

end Cert.KernelIdeal.Gen

end
-- ==== Proof.KIFrame.lean ====
/- The frame of `KernelIdeal`, for every contents of its tables: the block the input window stages is inside its array whatever the
   lengths are, and the body runs at every point. -/
module

public import proofs.«01_k».proof.Proof.KIRun
public import proofs.«01_k».proof.Proof.Words

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input block of a point: the sequence `i / 24` and, in it, the point's own block or the last live one. -/
theorem transform_0_eq (pf : pre0.Contents (Elt F)) (i : grid0.Coords) :
    cc0_transform_0 k0_off1_inb numel1_S1 pf i = ![(Cert.Words.seqWord (BitVec.ofNat 32 (i 0).val)).toNat,
      (Cert.Words.blockWord (BitVec.ofNat 32 (i 0).val) (pf.at 0 (Rect.unit (s := S2) (k0_off1 i) S1.size (k0_off1_inb i)) numel1_S1)).toNat, 0] := rfl

/-- The side condition of the tables holds for all their contents. -/
theorem ok_all : Ok m := fun i => by
  refine ⟨?_, .inr (Affine.block_words_dvd (of_decide_eq_true rfl) (by decide))⟩
  intro a
  rw [transform_0_eq]
  have h0 : (i 0).val < 48 := (i 0).isLt
  fin_cases a
  · have := Cert.Words.seqWord_toNat (i 0).val h0
    show ((Cert.Words.seqWord _).toNat + 1) * 1 ≤ 2
    omega
  · have := Cert.Words.blockWord_le (i 0).val h0 ((tbl m).at 0 (Rect.unit (s := S2) (k0_off1 i) S1.size (k0_off1_inb i)) numel1_S1)
    show ((Cert.Words.blockWord _ _).toNat + 1) * 32 ≤ 768
    omega
  · show (0 + 1) * 16384 ≤ 16384
    omega

/-- The scratch buffers as memrefs. -/
abbrev scM0_0 : Memref sig .tc .vmem S512x512 .bf16 := Memref.whole cc0_scratch0
abbrev scM0_1 : Memref sig .tc .vmem S512x256 .bf16 := Memref.whole cc0_scratch1
abbrev scM0_2 : Memref sig .tc .vmem S1024x128 .bf16 := Memref.whole cc0_scratch2
abbrev scM0_3 : Memref sig .tc .vmem S128x512 .f32 := Memref.whole cc0_scratch3
abbrev scM0_4 : Memref sig .tc .vmem S128x512 .bf16 := Memref.whole cc0_scratch4
abbrev scM0_5 : Memref sig .tc .vmem S32x4096 .bf16 := Memref.whole cc0_scratch5

/-- The kit's invariant with the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- Each window's current staging memref at point `t`. -/
abbrev ms0_0 (t : Fin (cfgM m (ok_all m)).N) : Memref sig .tc .vmem S1x32x16384 .bf16 := ((cfgM m (ok_all m)).win 0).stage ((cfgM m (ok_all m)).slots t 0)
abbrev ms0_1 (t : Fin (cfgM m (ok_all m)).N) : Memref sig .tc .vmem S32x8192 .i8 := ((cfgM m (ok_all m)).win 1).stage ((cfgM m (ok_all m)).slots t 1)
abbrev ms0_2 (t : Fin (cfgM m (ok_all m)).N) : Memref sig .tc .vmem S32x512 .i8 := ((cfgM m (ok_all m)).win 2).stage ((cfgM m (ok_all m)).slots t 2)

/-- The proof data of the frame: what the body leaves in the results is not stated. -/
def dats (_ : Fin 1) (c : Dev nD) : Dat τ (Elt F) Unit ℕ (UR sig nD τ) ℕ (cfgM m (ok_all m)) c where
  A w := V m c (Pipeline.arrRef spec0 w)
  after w t := match w with
    | ⟨0, _⟩ => iblk m (ok_all m) c 0 t
    | ⟨1, _⟩ => (fun _ => (0 : BitVec 8) : Vec F S32x8192 .i8)
    | ⟨2, _⟩ => (fun _ => (0 : BitVec 8) : Vec F S32x512 .i8)
  Φ _ := iprop(Pipeline.ΦA spec0 c ∗ Pipeline.ΦT pre0 (tbl m) c)
  q _ := fullShare
  owed _ := 0

/-- The windows whose contents after the body the frame does not state: the two results. -/
abbrev fgt : Fin (cfgM m (ok_all m)).W → Bool := fun w => match w with
  | ⟨0, _⟩ => false
  | ⟨_ + 1, _⟩ => true

theorem A_eq (c : Dev nD) (w : Fin (cfgM m (ok_all m)).W) : (dats m 0 c).A w = V m c (Pipeline.arrRef spec0 w) := by
  dsimp only [dats]
theorem after0_0 (c : Dev nD) (t : Fin (cfgM m (ok_all m)).N) : (dats m 0 c).after 0 t = iblk m (ok_all m) c 0 t := by dsimp only [dats]; try rfl
theorem before0_0 (c : Dev nD) (t : Fin (cfgM m (ok_all m)).N) (d) : (dats m 0 c).before 0 t d = iblk m (ok_all m) c 0 t :=
  before0_0_of m (ok_all m) (dats m 0 c) (A_eq m c 0) (after0_0 m c) t d

/-- What the body is called with at point `t`, -/
def bodyPre (c : Dev nD) (t : Fin (cfgM m (ok_all m)).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ X, owns (c : Thread nD τ) (ms0_1 m t) fullShare X)
    ∗ (∃ X, owns (c : Thread nD τ) (ms0_2 m t) fullShare X))

/-- and what it returns. -/
def bodyPost (c : Dev nD) (t : Fin (cfgM m (ok_all m)).N) : sProp 𝕄 :=
  iprop((dats m 0 c).Φ t.succ ∗ (dats m 0 c).owesAt () t.succ
    ∗ owns (c : Thread nD τ) (ms0_0 m t) fullShare ((dats m 0 c).after 0 t)
    ∗ (∃ X, owns (c : Thread nD τ) (ms0_1 m t) fullShare X)
    ∗ (∃ X, owns (c : Thread nD τ) (ms0_2 m t) fullShare X))

/-- The body at any point. -/
theorem sound_body (c : Dev nD) (t : Fin (cfgM m (ok_all m)).N) :
    bodyPre m c t ⊢ wp frame (wpE (defs₀ (F := F)) Variants.none c none) Set.univ (bodyAt0 (adm m (ok_all m)) t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0]
  rw [show (dats m 0 c).Φ t.castSucc = iprop(Pipeline.ΦA spec0 c ∗ Pipeline.ΦT pre0 (tbl m) c) from rfl, PhiA0_eq, PhiT0_eq]
  iintro ⟨⟨⟨⟨HS0, HS1, HS2, HS3, HS4, HS5⟩, Hg⟩, ⟨HT0, HT1⟩⟩, Ho, ⟨%d0, H0⟩, H1, H2⟩
  iapply (kernel_runs c (grid0.coords t) _ _ _ _ _ _ _ _ _ _ _ _ _ _ _ _ _ _ _ _ _ _ (tbl m 0) (tbl m 1) (iblk m (ok_all m) c 0 t) Set.univ _)
  isplitl [HT0]; · iexact HT0
  isplitl [HT1]; · iexact HT1
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  iintro ⟨HT0, HT1, H0, H1, H2, HS0, HS1, HS2, HS3, HS4, HS5⟩
  isplitl [HT0 HT1 Hg HS0 HS1 HS2 HS3 HS4 HS5]
  · isplitl [Hg HS0 HS1 HS2 HS3 HS4 HS5]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [HT0]; · iexact HT0
    iexact HT1
  isplitl [Ho]; · iexact Ho
  isplitl [H0]; · iexact H0
  isplitl [H1]; · iexact H1
  iexact H2

/-- The body table's row at point `t`'s slots is the body as `bodyAt0` spells it. -/
theorem defs₀_row (t : Fin (cfgM m (ok_all m)).N) :
    defs₀ (F := F) .tc (cfgM m (ok_all m)).body ((cfgM m (ok_all m)).bodyArgs t ((cfgM m (ok_all m)).slots t)) = bodyAt0 (adm m (ok_all m)) t := by
  unfold defs₀; rw [Defs.onTc_tc]

/-- The library's body obligation, at every point. -/
theorem body_obligation (c : Dev nD) : BodyObligationLoose (dats (F := F) m 0 c) (defs₀ (F := F)) Variants.none () Set.univ (fgt m) := fun t => by
  rw [bigSep_W0, bigSep_W0, defs₀_row m]
  exact triple_restated (sound_body m c t) rfl .rfl fun _ => .rfl

set_option backward.isDefEq.respectTransparency.types false in
/-- The launch: every execution ends, the arrays as the proof data says, the counters at zero. -/
theorem run_main_quiescent : θ_run defs (onTc (τ := τ) (main (F := F))) (s₀ m ρ) (fun r => (Pipeline.RDat.FramePost (cfgM m (ok_all m)) (fun c => (dats m 0 c).toRForget (fgt m)) (V m)) r ∧ r.2.sem = fun _ => 0) :=
  Pipeline.θ_run_frameP_forget (Q' := _) pcfgs (fun _ => adm m (ok_all m)) (dats m) (0 : Fin 1) launch0 defs₀ Variants.none (fgt m) m ρ main
    (hbody := fun c => body_obligation m c) (hshare := fun c => (dats m 0 c).share_full fun _ => rfl)
    (howed := fun _ _ => rfl) (V := V m) (hmain := hmain m Variants.none) (hA := A_eq m) (hpf := V_pre m)
    (hΦ := fun _ _ => rfl)

/-- The frame: every execution ends, the argument arrays are unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans ((A_eq m c 0).trans (V_main_arg0 m c)),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c)⟩, h.2⟩) (run_main_quiescent m ρ)

end Cert.KernelIdeal.Gen

end
-- ==== Proof.KITrip.lean ====
/- One trip of the kernel's loop over chunks, run once for every trip: what it stores in the planes, the codes' bf16 values, the
   powers of two and the result, written with one generic function per stored value. -/
module

public import proofs.«01_k».proof.Proof.KIKit
public import proofs.«01_k».proof.Proof.Gen.KernelIdeal.Skeleton
public import Idealize.ShloMosaic.Lib.Exec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The high half of `M0 * b`, of the first Philox constant. -/
abbrev hiA (b : IVec S16x128 32) : IVec S16x128 32 :=
  addi (muli (shrui b (broadcast S16x128 16#32)) (broadcast S16x128 53841#32))
    (shrui (addi (addi (muli b (broadcast S16x128 53841#32)) (muli (shrui b (broadcast S16x128 16#32)) (broadcast S16x128 766451539#32)))
      (shrui (xori (muli b (broadcast S16x128 3528531795#32)) (constantI S16x128 32 4294967295#32)) (broadcast S16x128 16#32))) (broadcast S16x128 16#32))
/-- The low half of `M0 * b`. -/
abbrev loA (b : IVec S16x128 32) : IVec S16x128 32 := muli b (broadcast S16x128 3528531795#32)
/-- The high half of `M1 * b`, of the second Philox constant. -/
abbrev hiB (b : IVec S16x128 32) : IVec S16x128 32 :=
  subi (subi b (muli (shrui b (broadcast S16x128 16#32)) (broadcast S16x128 12897#32)))
    (shrui (addi (addi (addi (muli b (broadcast S16x128 12897#32)) (muli (shrui b (broadcast S16x128 16#32)) (broadcast S16x128 3449778857#32)))
      (shrui (muli b (broadcast S16x128 3449720151#32)) (broadcast S16x128 16#32))) (broadcast S16x128 65535#32)) (broadcast S16x128 16#32))
/-- The low half of `M1 * b`. -/
abbrev loB (b : IVec S16x128 32) : IVec S16x128 32 := muli b (broadcast S16x128 3449720151#32)

/-- The four counters of a Philox state. -/
structure Words4 where
  c0 : IVec S16x128 32
  c1 : IVec S16x128 32
  c2 : IVec S16x128 32
  c3 : IVec S16x128 32

/-- One round on a state, with the round's key. -/
def Words4.step (k0 k1 : BitVec 32) (s : Words4) : Words4 where
  c0 := xori (hiB s.c2) (xori s.c1 (broadcast S16x128 k0))
  c1 := loB s.c2
  c2 := xori (hiA s.c0) (xori s.c3 (broadcast S16x128 k1))
  c3 := loA s.c0

/-- The high half of `M0 * b`, of a scalar. -/
abbrev hiS (b : BitVec 32) : BitVec 32 :=
  Scalar.addi (Scalar.muli (Scalar.shrui b 16#32) 53841#32)
    (Scalar.shrui (Scalar.addi (Scalar.addi (Scalar.muli b 53841#32) (Scalar.muli (Scalar.shrui b 16#32) 766451539#32))
      (Scalar.shrui (Scalar.xori (Scalar.muli b 3528531795#32) 4294967295#32) 16#32)) 16#32)

/-- The key of a round, from the one before. -/
abbrev key0 (k : BitVec 32) : BitVec 32 := Scalar.addi k 2654435769#32
abbrev key1 (k : BitVec 32) : BitVec 32 := Scalar.addi k 3144134277#32

/-- The words after three rounds, the first two written for the zero counters: the counter `q` alone is not zero at first. -/
def words3 (q : IVec S16x128 32) (k0 k1 : BitVec 32) : Words4 where
  c0 := xori (hiB (xori (loA q) (broadcast S16x128 (Scalar.xori (hiS k0) (key1 k1))))) (xori (loB (xori (hiA q) (broadcast S16x128 k1))) (broadcast S16x128 (key0 (key0 k0))))
  c1 := loB (xori (loA q) (broadcast S16x128 (Scalar.xori (hiS k0) (key1 k1))))
  c2 := xori (hiA (xori (hiB (xori (hiA q) (broadcast S16x128 k1))) (broadcast S16x128 (key0 k0)))) (broadcast S16x128 (Scalar.xori (Scalar.muli k0 3528531795#32) (key1 (key1 k1))))
  c3 := loA (xori (hiB (xori (hiA q) (broadcast S16x128 k1))) (broadcast S16x128 (key0 k0)))

/-- The keys of round `n` from the seed's two words. -/
def keys0 (k0 : BitVec 32) : ℕ → BitVec 32 | 0 => k0 | n + 1 => key0 (keys0 k0 n)
def keys1 (k1 : BitVec 32) : ℕ → BitVec 32 | 0 => k1 | n + 1 => key1 (keys1 k1 n)

/-- The words after `n + 3` rounds. -/
def wordsN (q : IVec S16x128 32) (k0 k1 : BitVec 32) : ℕ → Words4
  | 0 => words3 q k0 k1
  | n + 1 => (wordsN q k0 k1 n).step (keys0 k0 (n + 3)) (keys1 k1 (n + 3))

/-- The counters of a sub-block: the `s`-th sixteen rows of chunk `c` of trip `k` at step `i`. -/
def counter (i : BitVec 32) (k : BitVec 32) (c s : BitVec 32) : IVec S16x128 32 :=
  addi k0_pay735 (broadcast S16x128 (Scalar.addi (Scalar.muli (Scalar.addi (Scalar.muli i 32#32) s) 4096#32) (Scalar.muli (Scalar.addi (Scalar.muli k 4#32) c) 128#32)))

/-- The exponent field of the group maximum of a sub-block, from its four planes. -/
def fieldV (x0 x1 x2 x3 : FVec F S16x128 .f32) : IVec S16x128 32 :=
  k0_pay96 (k0_pay94 (k0_pay90 x0) (k0_pay91 x1) (k0_pay92 x2) (k0_pay93 x3)) k0_pay95 1073741824#32

/-- The power of two under the group maximum, stored for the scales. -/
def powerV (x0 x1 x2 x3 : FVec F S16x128 .f32) : FVec F S16x128 .bf16 :=
  k0_pay97 (k0_pay94 (k0_pay90 x0) (k0_pay91 x1) (k0_pay92 x2) (k0_pay93 x3)) k0_pay95 1073741824#32

/-- The codes of one plane of a sub-block, as the bf16 values the packing product takes. -/
def nibV (w : IVec S16x128 32) (x x0 x1 x2 x3 : FVec F S16x128 .f32) : FVec F S16x128 .bf16 :=
  k0_pay100 w x (k0_pay90 x) (fieldV x0 x1 x2 x3) k0_pay98

/-- The pieces a trip stores in the planes: for each chunk its block of the input times the permutation. -/
def planesL (X3 : Fin 4 → Vec F S1x32x512 .bf16) (P : Vec F S512x512 .bf16) : List (View.Piece (Elt F) S128x512 .f32) :=
  [⟨Rect.unit (s := S128x512) ![96, 0] S32x512.size inb_S128x512_S32x512_96_0, k0_pay17 (X3 3) P⟩,
   ⟨Rect.unit (s := S128x512) ![64, 0] S32x512.size inb_S128x512_S32x512_64_0, k0_pay17 (X3 2) P⟩,
   ⟨Rect.unit (s := S128x512) ![32, 0] S32x512.size inb_S128x512_S32x512_32_0, k0_pay17 (X3 1) P⟩,
   ⟨Rect.unit (s := S128x512) ![0, 0] S32x512.size inb_S128x512_S32x512_0_0, k0_pay17 (X3 0) P⟩]

/-- A sixteen-row box of the planes is inside them. -/
theorem inb_box (r j : ℕ) (hr : r + 16 ≤ 128) (hj : j + 128 ≤ 512) : ∀ a, (![r, j] : Fin 2 → ℕ) a + S16x128.size a ≤ S128x512.size a := by
  intro a; fin_cases a
  · exact hr
  · exact hj

/-- The box of the planes at row `r` and column `j`. -/
abbrev box (r j : ℕ) (hr : r + 16 ≤ 128) (hj : j + 128 ≤ 512) : Rect S128x512 := Rect.unit (s := S128x512) ![r, j] S16x128.size (inb_box r j hr hj)

/-- The pieces a sub-block stores in the codes' values: its four planes' codes, from the four words. -/
def nibsOf (r : ℕ) (hr : r + 16 ≤ 128) (w : Words4) (x0 x1 x2 x3 : FVec F S16x128 .f32) : List (View.Piece (Elt F) S128x512 .bf16) :=
  [⟨box r 384 hr (by decide), nibV w.c3 x3 x0 x1 x2 x3⟩,
   ⟨box r 256 hr (by decide), nibV w.c2 x2 x0 x1 x2 x3⟩,
   ⟨box r 128 hr (by decide), nibV w.c1 x1 x0 x1 x2 x3⟩,
   ⟨box r 0 hr (by decide), nibV w.c0 x0 x0 x1 x2 x3⟩]

/-- The loads of a sub-block's planes. -/
def ldP (arg9 : Memref sig .tc .vmem S128x512 .f32) (L : List (View.Piece (Elt F) S128x512 .f32)) (r j : ℕ) (hr : r + 16 ≤ 128) (hj : j + 128 ≤ 512) : FVec F S16x128 .f32 :=
  arg9.view.readCov L (box r j hr hj).toLoadRect

/-- A sub-block's stores of codes' values, its planes loaded from what the trip stored. -/
def nibsAt (arg9 : Memref sig .tc .vmem S128x512 .f32) (L : List (View.Piece (Elt F) S128x512 .f32)) (r : ℕ) (hr : r + 16 ≤ 128) (w : Words4) : List (View.Piece (Elt F) S128x512 .bf16) :=
  nibsOf r hr w (ldP arg9 L r 0 hr (by decide)) (ldP arg9 L r 128 hr (by decide)) (ldP arg9 L r 256 hr (by decide)) (ldP arg9 L r 384 hr (by decide))

/-- A sub-block's powers of two. -/
def powAt (arg9 : Memref sig .tc .vmem S128x512 .f32) (L : List (View.Piece (Elt F) S128x512 .f32)) (r : ℕ) (hr : r + 16 ≤ 128) : FVec F S16x128 .bf16 :=
  powerV (ldP arg9 L r 0 hr (by decide)) (ldP arg9 L r 128 hr (by decide)) (ldP arg9 L r 256 hr (by decide)) (ldP arg9 L r 384 hr (by decide))

/-- The loop's counter at trip `k`, as a word. -/
abbrev tripW (k : ℕ) : BitVec 32 := Scf.iv 0#32 1#32 k

/-- The words of a sub-block. -/
abbrev subW (i : BitVec 32) (k : ℕ) (c s : BitVec 32) (k0 k1 : BitVec 32) : Words4 := wordsN (counter i (tripW k) c s) k0 k1 7

/-- All of a trip's stores of codes' values. -/
def nibsL (arg9 : Memref sig .tc .vmem S128x512 .f32) (L : List (View.Piece (Elt F) S128x512 .f32)) (i : BitVec 32) (k : ℕ) (k0 k1 : BitVec 32) : List (View.Piece (Elt F) S128x512 .bf16) :=
  nibsAt arg9 L 112 (by decide) (subW i k 3#32 16#32 k0 k1) ++ (nibsAt arg9 L 96 (by decide) (subW i k 3#32 0#32 k0 k1)
    ++ (nibsAt arg9 L 80 (by decide) (subW i k 2#32 16#32 k0 k1) ++ (nibsAt arg9 L 64 (by decide) (subW i k 2#32 0#32 k0 k1)
    ++ (nibsAt arg9 L 48 (by decide) (subW i k 1#32 16#32 k0 k1) ++ (nibsAt arg9 L 32 (by decide) (subW i k 1#32 0#32 k0 k1)
    ++ (nibsAt arg9 L 16 (by decide) (subW i k 0#32 16#32 k0 k1) ++ nibsAt arg9 L 0 (by decide) (subW i k 0#32 0#32 k0 k1)))))))

/-- The pieces a trip stores in the powers of two. -/
def powL (arg9 : Memref sig .tc .vmem S128x512 .f32) (L : List (View.Piece (Elt F) S128x512 .f32)) (k : Fin k0_t1_loop.trips) : List (View.Piece (Elt F) S32x4096 .bf16) :=
  [⟨Rect.unit (s := S32x4096) (k0_off4 k 3#32) S16x128.size (k0_off4_inb k 3), powAt arg9 L 112 (by decide)⟩,
   ⟨Rect.unit (s := S32x4096) (k0_off3 k 3#32) S16x128.size (k0_off3_inb k 3), powAt arg9 L 96 (by decide)⟩,
   ⟨Rect.unit (s := S32x4096) (k0_off4 k 2#32) S16x128.size (k0_off4_inb k 2), powAt arg9 L 80 (by decide)⟩,
   ⟨Rect.unit (s := S32x4096) (k0_off3 k 2#32) S16x128.size (k0_off3_inb k 2), powAt arg9 L 64 (by decide)⟩,
   ⟨Rect.unit (s := S32x4096) (k0_off4 k 1#32) S16x128.size (k0_off4_inb k 1), powAt arg9 L 48 (by decide)⟩,
   ⟨Rect.unit (s := S32x4096) (k0_off3 k 1#32) S16x128.size (k0_off3_inb k 1), powAt arg9 L 32 (by decide)⟩,
   ⟨Rect.unit (s := S32x4096) (k0_off4 k 0#32) S16x128.size (k0_off4_inb k 0), powAt arg9 L 16 (by decide)⟩,
   ⟨Rect.unit (s := S32x4096) (k0_off3 k 0#32) S16x128.size (k0_off3_inb k 0), powAt arg9 L 0 (by decide)⟩]

/-- The four chunks' values loaded for the packing product. -/
def ldN (arg10 : Memref sig .tc .vmem S128x512 .bf16) (L : List (View.Piece (Elt F) S128x512 .bf16)) (c : Fin 4) : Vec F S32x512 .bf16 :=
  arg10.view.readCov L (Rect.unit (s := S128x512) ![32 * c.val, 0] S32x512.size (by intro a; have := c.isLt; fin_cases a; · show 32 * c.val + 32 ≤ 128; omega
                                                                                    · exact Nat.le_refl 512)).toLoadRect

/-- The pieces a trip stores in the codes: each chunk's values packed in bytes. -/
def codesL (arg10 : Memref sig .tc .vmem S128x512 .bf16) (L : List (View.Piece (Elt F) S128x512 .bf16)) (K : Vec F S512x256 .bf16) (k : Fin k0_t1_loop.trips) : List (View.Piece (Elt F) S32x8192 .i8) :=
  [⟨Rect.unit (s := S32x8192) (k0_off5 k 3#32) S32x256.size (k0_off5_inb k 3), k0_pay731 (ldN arg10 L 3) K⟩,
   ⟨Rect.unit (s := S32x8192) (k0_off5 k 2#32) S32x256.size (k0_off5_inb k 2), k0_pay731 (ldN arg10 L 2) K⟩,
   ⟨Rect.unit (s := S32x8192) (k0_off5 k 1#32) S32x256.size (k0_off5_inb k 1), k0_pay731 (ldN arg10 L 1) K⟩,
   ⟨Rect.unit (s := S32x8192) (k0_off5 k 0#32) S32x256.size (k0_off5_inb k 0), k0_pay731 (ldN arg10 L 0) K⟩]

/-- The trip's blocks of the input. -/
abbrev inL (arg3 : Memref sig .tc .vmem S1x32x16384 .bf16) (X : BufTy.Contents (Elt F) arg3.view.ty) (k : Fin k0_t1_loop.trips) : Fin 4 → Vec F S1x32x512 .bf16 := fun c =>
  arg3.view.readAt (Elt F) (Rect.unit (s := S1x32x16384) (k0_off2 k (BitVec.ofNat 32 c.val)) S1x32x512.size (k0_off2_inb k c)).toLoadRect X
abbrev permL (arg6 : Memref sig .tc .vmem S512x512 .bf16) (X : BufTy.Contents (Elt F) arg6.view.ty) : Vec F S512x512 .bf16 :=
  arg6.view.readAt (Elt F) (Rect.unit (s := S512x512) ![0, 0] S512x512.size inb_S512x512_S512x512_0_0).toLoadRect X
abbrev packL (arg7 : Memref sig .tc .vmem S512x256 .bf16) (X : BufTy.Contents (Elt F) arg7.view.ty) : Vec F S512x256 .bf16 :=
  arg7.view.readAt (Elt F) (Rect.unit (s := S512x256) ![0, 0] S512x256.size inb_S512x256_S512x256_0_0).toLoadRect X

/-- One trip's resources. -/
abbrev TripR (c : Dev nD) (arg3 : Memref sig .tc .vmem S1x32x16384 .bf16) (arg6 : Memref sig .tc .vmem S512x512 .bf16) (arg7 : Memref sig .tc .vmem S512x256 .bf16) (arg4 : Memref sig .tc .vmem S32x8192 .i8) (arg9 : Memref sig .tc .vmem S128x512 .f32) (arg10 : Memref sig .tc .vmem S128x512 .bf16) (arg11 : Memref sig .tc .vmem S32x4096 .bf16) (X_arg3 : BufTy.Contents (Elt F) arg3.view.ty) (X_arg6 : BufTy.Contents (Elt F) arg6.view.ty) (X_arg7 : BufTy.Contents (Elt F) arg7.view.ty) (f_arg4 : BufTy.Contents (Elt F) arg4.view.ty) (f_arg9 : BufTy.Contents (Elt F) arg9.view.ty) (f_arg10 : BufTy.Contents (Elt F) arg10.view.ty) (f_arg11 : BufTy.Contents (Elt F) arg11.view.ty) : sProp 𝕄 :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg4.view.loc (c : Thread nD τ) ↦[arg4.view.set]{fullShare} f_arg4) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

set_option maxHeartbeats 8000000 in
/-- One trip of the loop over chunks: the stores it makes, over any contents. -/
theorem trip_run (c : Dev nD) (i : grid0.Coords) (arg1 : Memref sig .tc .smem S2 .i32) (harg1 : arg1.IsWhole) (arg2 : Memref sig .tc .smem S2 .i32) (harg2 : arg2.IsWhole) (arg3 : Memref sig .tc .vmem S1x32x16384 .bf16) (harg3 : arg3.IsWhole) (arg4 : Memref sig .tc .vmem S32x8192 .i8) (harg4 : arg4.IsWhole) (arg5 : Memref sig .tc .vmem S32x512 .i8) (harg5 : arg5.IsWhole) (arg6 : Memref sig .tc .vmem S512x512 .bf16) (harg6 : arg6.IsWhole) (arg7 : Memref sig .tc .vmem S512x256 .bf16) (harg7 : arg7.IsWhole) (arg8 : Memref sig .tc .vmem S1024x128 .bf16) (harg8 : arg8.IsWhole) (arg9 : Memref sig .tc .vmem S128x512 .f32) (harg9 : arg9.IsWhole) (arg10 : Memref sig .tc .vmem S128x512 .bf16) (harg10 : arg10.IsWhole) (arg11 : Memref sig .tc .vmem S32x4096 .bf16) (harg11 : arg11.IsWhole) (arg0 : BitVec 32) (v42 : Elt F .i32) (v43 : Elt F .i32)
   (X_arg3 : BufTy.Contents (Elt F) arg3.view.ty) (X_arg6 : BufTy.Contents (Elt F) arg6.view.ty) (X_arg7 : BufTy.Contents (Elt F) arg7.view.ty) (k : Fin k0_t1_loop.trips) (E : Set ℕ) (f_arg4 : BufTy.Contents (Elt F) arg4.view.ty) (f_arg9 : BufTy.Contents (Elt F) arg9.view.ty) (f_arg10 : BufTy.Contents (Elt F) arg10.view.ty) (f_arg11 : BufTy.Contents (Elt F) arg11.view.ty) :
      TripR (F := F) c arg3 arg6 arg7 arg4 arg9 arg10 arg11 X_arg3 X_arg6 X_arg7 f_arg4 f_arg9 f_arg10 f_arg11
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg0 v42 v43 k PUnit.unit)
          (fun _ => TripR (F := F) c arg3 arg6 arg7 arg4 arg9 arg10 arg11 X_arg3 X_arg6 X_arg7
            (arg4.view.writes (Elt F) f_arg4 (codesL arg10 (nibsL arg9 (planesL (inL arg3 X_arg3 k) (permL arg6 X_arg6)) arg0 k.val v42 v43) (packL arg7 X_arg7) k))
            (arg9.view.writes (Elt F) f_arg9 (planesL (inL arg3 X_arg3 k) (permL arg6 X_arg6)))
            (arg10.view.writes (Elt F) f_arg10 (nibsL arg9 (planesL (inL arg3 X_arg3 k) (permL arg6 X_arg6)) arg0 k.val v42 v43))
            (arg11.view.writes (Elt F) f_arg11 (powL arg9 (planesL (inL arg3 X_arg3 k) (permL arg6 X_arg6)) k))) := by
    have hk : k.val < 8 := Nat.lt_of_lt_of_le k.isLt k0_t1_abs.2.1
    unfold k0_t1_body
    iintro ⟨HR_arg3, HR_arg6, HR_arg7, HW_arg4, HW_arg9, HW_arg10, HW_arg11⟩
    sl_exec
    sl_step
    isplitl [HR_arg3]; · iexact HR_arg3
    isplitl [HR_arg6]; · iexact HR_arg6
    isplitl [HR_arg7]; · iexact HR_arg7
    isplitl [HW_arg4]; · iexact HW_arg4
    isplitl [HW_arg9]; · iexact HW_arg9
    isplitl [HW_arg10]; · iexact HW_arg10
    iexact HW_arg11

end Cert.KernelIdeal.Gen

end
-- ==== Proof.KISpec.lean ====
/- What one trip of the loop over chunks stores, read as functions of the input block, the permutation and the packing matrix. -/
module

public import proofs.«01_k».proof.Proof.KITrip
public import Idealize.ShloMosaic.Lib.ValueIdxCore
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Chunk `ch` of an input block. -/
def blkG (X : Vec F S1x32x16384 .bf16) (ch : ℕ) : Vec F S1x32x512 .bf16 := fun j =>
  X (ix3 (j 0) (j 1) ⟨(512 * ch + (j 2).val) % 16384, Nat.mod_lt _ (by decide)⟩)

/-- Plane `j` of the `s`-th sixteen rows of chunk `ch`. -/
def planeG (X : Vec F S1x32x16384 .bf16) (P : Vec F S512x512 .bf16) (ch s j : ℕ) : FVec F S16x128 .f32 := fun y =>
  k0_pay17 (blkG X ch) P (ix2 ⟨(16 * s + (y 0).val) % 32, Nat.mod_lt _ (by decide)⟩ ⟨(128 * j + (y 1).val) % 512, Nat.mod_lt _ (by decide)⟩)

/-- The word of plane `j`. -/
def Words4.get (w : Words4) : ℕ → IVec S16x128 32
  | 0 => w.c0 | 1 => w.c1 | 2 => w.c2 | _ => w.c3

/-- The words of the `s`-th sixteen rows of chunk `ch`. -/
def wordsG (i k0 k1 : BitVec 32) (ch s : ℕ) : Words4 := subW i (ch / 4) (BitVec.ofNat 32 (ch % 4)) (BitVec.ofNat 32 (16 * s)) k0 k1

/-- The codes' values of plane `j` of the `s`-th sixteen rows of chunk `ch`. -/
def nibSub (X : Vec F S1x32x16384 .bf16) (P : Vec F S512x512 .bf16) (i k0 k1 : BitVec 32) (ch s j : ℕ) : FVec F S16x128 .bf16 :=
  nibV ((wordsG i k0 k1 ch s).get j) (planeG X P ch s j) (planeG X P ch s 0) (planeG X P ch s 1) (planeG X P ch s 2) (planeG X P ch s 3)

/-- The codes' values of chunk `ch`. -/
def nibG (X : Vec F S1x32x16384 .bf16) (P : Vec F S512x512 .bf16) (i k0 k1 : BitVec 32) (ch : ℕ) : Vec F S32x512 .bf16 := fun y =>
  nibSub X P i k0 k1 ch ((y 0).val / 16) ((y 1).val / 128) (ix2 ⟨(y 0).val % 16, Nat.mod_lt _ (by decide)⟩ ⟨(y 1).val % 128, Nat.mod_lt _ (by decide)⟩)

/-- The powers of two of an input block. -/
def powG (X : Vec F S1x32x16384 .bf16) (P : Vec F S512x512 .bf16) : Vec F S32x4096 .bf16 := fun y =>
  powerV (planeG X P ((y 1).val / 128) ((y 0).val / 16) 0) (planeG X P ((y 1).val / 128) ((y 0).val / 16) 1)
    (planeG X P ((y 1).val / 128) ((y 0).val / 16) 2) (planeG X P ((y 1).val / 128) ((y 0).val / 16) 3)
    (ix2 ⟨(y 0).val % 16, Nat.mod_lt _ (by decide)⟩ ⟨(y 1).val % 128, Nat.mod_lt _ (by decide)⟩)

/-- The packed codes of an input block. -/
def codeG (X : Vec F S1x32x16384 .bf16) (P : Vec F S512x512 .bf16) (K : Vec F S512x256 .bf16) (i k0 k1 : BitVec 32) : Vec F S32x8192 .i8 := fun y =>
  k0_pay731 (nibG X P i k0 k1 ((y 1).val / 256)) K (ix2 (y 0) ⟨(y 1).val % 256, Nat.mod_lt _ (by decide)⟩)

theorem off2_eq : ∀ (k : Fin k0_t1_loop.trips) (c : Fin 4), k0_off2 k (BitVec.ofNat 32 c.val) = ![0, 0, 512 * (4 * k.val + c.val)] := by decide +kernel
theorem off3_eq : ∀ (k : Fin k0_t1_loop.trips) (c : Fin 4), k0_off3 k (BitVec.ofNat 32 c.val) = ![0, 128 * (4 * k.val + c.val)] := by decide +kernel
theorem off4_eq : ∀ (k : Fin k0_t1_loop.trips) (c : Fin 4), k0_off4 k (BitVec.ofNat 32 c.val) = ![16, 128 * (4 * k.val + c.val)] := by decide +kernel
theorem off5_eq : ∀ (k : Fin k0_t1_loop.trips) (c : Fin 4), k0_off5 k (BitVec.ofNat 32 c.val) = ![0, 256 * (4 * k.val + c.val)] := by decide +kernel
theorem trips_lt (k : Fin k0_t1_loop.trips) : k.val < 8 := Nat.lt_of_lt_of_le k.isLt k0_t1_abs.2.1

/-- The trip's blocks of the input are its chunks. -/
theorem inL_eq (arg3 : Memref sig .tc .vmem S1x32x16384 .bf16) (X : BufTy.Contents (Elt F) arg3.view.ty) (k : Fin k0_t1_loop.trips) (c : Fin 4) :
    inL arg3 X k c = blkG (arg3.view.read (Elt F) X) (4 * k.val + c.val) := by
  funext j
  have hk := trips_lt k
  have hc := c.isLt
  have h2 : (j 2).val < 512 := (j 2).isLt
  show arg3.view.read (Elt F) X _ = arg3.view.read (Elt F) X _
  congr 1
  funext a
  apply Fin.ext
  have e : ((Rect.unit (s := S1x32x16384) (k0_off2 k (BitVec.ofNat 32 c.val)) S1x32x512.size (k0_off2_inb k c)).emb j a : ℕ) = k0_off2 k (BitVec.ofNat 32 c.val) a + 1 * (j a).val := rfl
  refine e.trans ?_
  rw [off2_eq]
  fin_cases a
  · show 0 + 1 * (j 0).val = (j 0).val; omega
  · show 0 + 1 * (j 1).val = (j 1).val; omega
  · show 512 * (4 * k.val + c.val) + 1 * (j 2).val = (512 * (4 * k.val + c.val) + (j 2).val) % 16384
    rw [Nat.mod_eq_of_lt (by omega)]; omega

/-- The whole planes of a trip. -/
def planesG (X : Vec F S1x32x16384 .bf16) (P : Vec F S512x512 .bf16) (k : ℕ) : Vec F S128x512 .f32 := fun y =>
  k0_pay17 (blkG X (4 * k + (y 0).val / 32)) P (ix2 ⟨(y 0).val % 32, Nat.mod_lt _ (by decide)⟩ (y 1))

/-- A stored block of rows is the same block of `G`, coordinate by coordinate. -/
theorem ix2_congr {m n : ℕ} {a a' : Fin m} {b b' : Fin n} (ha : a.val = a'.val) (hb : b.val = b'.val) : (ix2 a b : (⟨2, ![m, n]⟩ : Shape).Idx) = ix2 a' b' := by
  rw [Fin.ext ha, Fin.ext hb]

theorem planes_piece (X : Vec F S1x32x16384 .bf16) (P : Vec F S512x512 .bf16) (k c : ℕ) (hc : c < 4) (inb : ∀ a, (![32 * c, 0] : Fin 2 → ℕ) a + S32x512.size a ≤ S128x512.size a)
    (x : S32x512.Idx) : k0_pay17 (blkG X (4 * k + c)) P x = planesG X P k ((Rect.unit (s := S128x512) ![32 * c, 0] S32x512.size inb).emb x) := by
  have h0 : (x 0).val < 32 := (x 0).isLt
  have e0 : (((Rect.unit (s := S128x512) ![32 * c, 0] S32x512.size inb).emb x 0 : Fin _) : ℕ) = 32 * c + 1 * (x 0).val := rfl
  have e1 : (((Rect.unit (s := S128x512) ![32 * c, 0] S32x512.size inb).emb x 1 : Fin _) : ℕ) = 0 + 1 * (x 1).val := rfl
  unfold planesG
  rw [show 4 * k + (((Rect.unit (s := S128x512) ![32 * c, 0] S32x512.size inb).emb x 0 : Fin _) : ℕ) / 32 = 4 * k + c by omega]
  conv_lhs => rw [eq_ix2 x]
  congr 1
  refine ix2_congr ?_ ?_
  · show (x 0).val = (((Rect.unit (s := S128x512) ![32 * c, 0] S32x512.size inb).emb x 0 : Fin _) : ℕ) % 32
    omega
  · omega

theorem planesL_pieces (arg3 : Memref sig .tc .vmem S1x32x16384 .bf16) (X : BufTy.Contents (Elt F) arg3.view.ty) (P : Vec F S512x512 .bf16) (k : Fin k0_t1_loop.trips) :
    View.PiecesOf (planesG (arg3.view.read (Elt F) X) P k.val) (planesL (inL arg3 X k) P) := by
  have key := fun c : Fin 4 => inL_eq arg3 X k c
  refine ⟨fun x => ?_, fun x => ?_, fun x => ?_, fun x => ?_, trivial⟩
  · dsimp only; rw [key 3]; exact planes_piece _ P k.val 3 (by decide) _ x
  · dsimp only; rw [key 2]; exact planes_piece _ P k.val 2 (by decide) _ x
  · dsimp only; rw [key 1]; exact planes_piece _ P k.val 1 (by decide) _ x
  · dsimp only; rw [key 0]; exact planes_piece _ P k.val 0 (by decide) _ x

/-- Rows `lo` to `lo + n`, columns `co` to `co + w` of a rank-two array: the box of them holds the index. -/
theorem mem_unit2 {d : Fin 2 → ℕ} {off size : Fin 2 → ℕ} {inb : ∀ a : Fin 2, off a + size a ≤ d a} (y : (⟨2, d⟩ : Shape).Idx)
    (h0 : off 0 ≤ (y 0).val ∧ (y 0).val < off 0 + size 0) (h1 : off 1 ≤ (y 1).val ∧ (y 1).val < off 1 + size 1) :
    y ∈ (Rect.unit (s := ⟨2, d⟩) off size inb).set := by
  rw [Rect.mem_set_unit]; intro a; match a with
  | ⟨0, _⟩ => exact h0
  | ⟨1, _⟩ => exact h1

theorem planesL_cover (X3 : Fin 4 → Vec F S1x32x512 .bf16) (P : Vec F S512x512 .bf16) (y : S128x512.Idx) : ∃ p ∈ planesL X3 P, y ∈ p.1.set := by
  have h0 : (y 0).val < 128 := (y 0).isLt
  have h1 : (y 1).val < 512 := (y 1).isLt
  have hy1 : (0 : ℕ) ≤ (y 1).val ∧ (y 1).val < 0 + 512 := by omega
  unfold planesL
  by_cases a3 : 96 ≤ (y 0).val
  · refine ⟨_, List.mem_cons_self, ?_⟩; exact mem_unit2 (inb := inb_S128x512_S32x512_96_0) y (show 96 ≤ (y 0).val ∧ (y 0).val < 96 + 32 by omega) hy1
  by_cases a2 : 64 ≤ (y 0).val
  · refine ⟨_, List.mem_cons_of_mem _ List.mem_cons_self, ?_⟩; exact mem_unit2 (inb := inb_S128x512_S32x512_64_0) y (show 64 ≤ (y 0).val ∧ (y 0).val < 64 + 32 by omega) hy1
  by_cases a1 : 32 ≤ (y 0).val
  · refine ⟨_, List.mem_cons_of_mem _ (List.mem_cons_of_mem _ List.mem_cons_self), ?_⟩; exact mem_unit2 (inb := inb_S128x512_S32x512_32_0) y (show 32 ≤ (y 0).val ∧ (y 0).val < 32 + 32 by omega) hy1
  · refine ⟨_, List.mem_cons_of_mem _ (List.mem_cons_of_mem _ (List.mem_cons_of_mem _ List.mem_cons_self)), ?_⟩; exact mem_unit2 (inb := inb_S128x512_S32x512_0_0) y (show 0 ≤ (y 0).val ∧ (y 0).val < 0 + 32 by omega) hy1

/-- A load of the planes a trip has stored is a plane of the spec. -/
theorem ldP_eq (arg3 : Memref sig .tc .vmem S1x32x16384 .bf16) (X : BufTy.Contents (Elt F) arg3.view.ty) (P : Vec F S512x512 .bf16) (k : Fin k0_t1_loop.trips)
    (arg9 : Memref sig .tc .vmem S128x512 .f32) (c s j : ℕ) (hs : s < 2) (hr : 32 * c + 16 * s + 16 ≤ 128) (hj : 128 * j + 128 ≤ 512) :
    ldP arg9 (planesL (inL arg3 X k) P) (32 * c + 16 * s) (128 * j) hr hj = planeG (arg3.view.read (Elt F) X) P (4 * k.val + c) s j := by
  unfold ldP
  rw [View.readCov_eq_canon']
  funext x
  have hx0 : (x 0).val < 16 := (x 0).isLt
  have hx1 : (x 1).val < 128 := (x 1).isLt
  have := View.canon_append_of_piecesOf (planesG (arg3.view.read (Elt F) X) P k.val) [] (planesL (inL arg3 X k) P) (planesL_pieces arg3 X P k)
    ((box (32 * c + 16 * s) (128 * j) hr hj).emb x) (planesL_cover _ _ _)
  rw [List.append_nil] at this
  refine this.trans ?_
  have e0 : (((box (32 * c + 16 * s) (128 * j) hr hj).emb x 0 : Fin _) : ℕ) = 32 * c + 16 * s + 1 * (x 0).val := rfl
  have e1 : (((box (32 * c + 16 * s) (128 * j) hr hj).emb x 1 : Fin _) : ℕ) = 128 * j + 1 * (x 1).val := rfl
  unfold planesG planeG
  rw [show 4 * k.val + (((box (32 * c + 16 * s) (128 * j) hr hj).emb x 0 : Fin _) : ℕ) / 32 = 4 * k.val + c by omega]
  congr 1
  refine ix2_congr ?_ ?_
  · show (((box (32 * c + 16 * s) (128 * j) hr hj).emb x 0 : Fin _) : ℕ) % 32 = (16 * s + (x 0).val) % 32
    omega
  · show (((box (32 * c + 16 * s) (128 * j) hr hj).emb x 1 : Fin _) : ℕ) = (128 * j + (x 1).val) % 512
    omega

/-- The whole codes' values of a trip. -/
def nibsG (X : Vec F S1x32x16384 .bf16) (P : Vec F S512x512 .bf16) (i k0 k1 : BitVec 32) (k : ℕ) : Vec F S128x512 .bf16 := fun y =>
  nibG X P i k0 k1 (4 * k + (y 0).val / 32) (ix2 ⟨(y 0).val % 32, Nat.mod_lt _ (by decide)⟩ (y 1))

/-- A stored block of sixteen rows of a plane's codes is its block of the whole. -/
theorem nib_piece (X : Vec F S1x32x16384 .bf16) (P : Vec F S512x512 .bf16) (i k0 k1 : BitVec 32) (k c s j : ℕ) (hs : s < 2) (hr : 32 * c + 16 * s + 16 ≤ 128) (hj : 128 * j + 128 ≤ 512)
    (x : S16x128.Idx) : nibSub X P i k0 k1 (4 * k + c) s j x = nibsG X P i k0 k1 k ((box (32 * c + 16 * s) (128 * j) hr hj).emb x) := by
  have hx0 : (x 0).val < 16 := (x 0).isLt
  have hx1 : (x 1).val < 128 := (x 1).isLt
  have e0 : (((box (32 * c + 16 * s) (128 * j) hr hj).emb x 0 : Fin _) : ℕ) = 32 * c + 16 * s + 1 * (x 0).val := rfl
  have e1 : (((box (32 * c + 16 * s) (128 * j) hr hj).emb x 1 : Fin _) : ℕ) = 128 * j + 1 * (x 1).val := rfl
  unfold nibsG nibG
  have q0 : (((box (32 * c + 16 * s) (128 * j) hr hj).emb x 0 : Fin _) : ℕ) / 32 = c := by omega
  have q1 : (((box (32 * c + 16 * s) (128 * j) hr hj).emb x 0 : Fin _) : ℕ) % 32 / 16 = s := by omega
  have q2 : (((box (32 * c + 16 * s) (128 * j) hr hj).emb x 1 : Fin _) : ℕ) / 128 = j := by omega
  show _ = nibSub X P i k0 k1 (4 * k + (((box (32 * c + 16 * s) (128 * j) hr hj).emb x 0 : Fin _) : ℕ) / 32) ((((box (32 * c + 16 * s) (128 * j) hr hj).emb x 0 : Fin _) : ℕ) % 32 / 16)
    ((((box (32 * c + 16 * s) (128 * j) hr hj).emb x 1 : Fin _) : ℕ) / 128) _
  rw [q0, q1, q2]
  conv_lhs => rw [eq_ix2 x]
  congr 1
  refine ix2_congr ?_ ?_
  · show (x 0).val = (((box (32 * c + 16 * s) (128 * j) hr hj).emb x 0 : Fin _) : ℕ) % 32 % 16
    omega
  · show (x 1).val = (((box (32 * c + 16 * s) (128 * j) hr hj).emb x 1 : Fin _) : ℕ) % 128
    omega

theorem nibsAt_pieces (arg3 : Memref sig .tc .vmem S1x32x16384 .bf16) (X : BufTy.Contents (Elt F) arg3.view.ty) (P : Vec F S512x512 .bf16) (k : Fin k0_t1_loop.trips)
    (arg9 : Memref sig .tc .vmem S128x512 .f32) (i k0 k1 : BitVec 32) (c s : ℕ) (hc : c < 4) (hs : s < 2) (hr : 32 * c + 16 * s + 16 ≤ 128)
    (L : List (View.Piece (Elt F) S128x512 .bf16)) (hL : View.PiecesOf (nibsG (arg3.view.read (Elt F) X) P i k0 k1 k.val) L) :
    View.PiecesOf (nibsG (arg3.view.read (Elt F) X) P i k0 k1 k.val)
      (nibsAt arg9 (planesL (inL arg3 X k) P) (32 * c + 16 * s) hr (subW i k.val (BitVec.ofNat 32 c) (BitVec.ofNat 32 (16 * s)) k0 k1) ++ L) := by
  have l := fun (j : ℕ) (hj : 128 * j + 128 ≤ 512) => ldP_eq arg3 X P k arg9 c s j hs hr hj
  have hw : subW i k.val (BitVec.ofNat 32 c) (BitVec.ofNat 32 (16 * s)) k0 k1 = wordsG i k0 k1 (4 * k.val + c) s := by
    unfold wordsG; rw [show (4 * k.val + c) / 4 = k.val by omega, show (4 * k.val + c) % 4 = c by omega]
  rw [hw]
  have l0 := l 0 (by decide); have l1 := l 1 (by decide); have l2 := l 2 (by decide); have l3 := l 3 (by decide)
  simp only [Nat.reduceMul] at l0 l1 l2 l3
  unfold nibsAt
  rw [l0, l1, l2, l3]
  refine ⟨fun x => ?_, fun x => ?_, fun x => ?_, fun x => ?_, hL⟩
  · exact nib_piece _ P i k0 k1 k.val c s 3 hs hr (by decide) x
  · exact nib_piece _ P i k0 k1 k.val c s 2 hs hr (by decide) x
  · exact nib_piece _ P i k0 k1 k.val c s 1 hs hr (by decide) x
  · exact nib_piece _ P i k0 k1 k.val c s 0 hs hr (by decide) x

theorem nibsL_pieces (arg3 : Memref sig .tc .vmem S1x32x16384 .bf16) (X : BufTy.Contents (Elt F) arg3.view.ty) (P : Vec F S512x512 .bf16) (k : Fin k0_t1_loop.trips)
    (arg9 : Memref sig .tc .vmem S128x512 .f32) (i k0 k1 : BitVec 32) :
    View.PiecesOf (nibsG (arg3.view.read (Elt F) X) P i k0 k1 k.val) (nibsL arg9 (planesL (inL arg3 X k) P) i k.val k0 k1) := by
  have h := fun c s hc hs hr L hL => nibsAt_pieces arg3 X P k arg9 i k0 k1 c s hc hs hr L hL
  unfold nibsL
  refine h 3 1 (by decide) (by decide) (by decide) _ (h 3 0 (by decide) (by decide) (by decide) _ (h 2 1 (by decide) (by decide) (by decide) _
    (h 2 0 (by decide) (by decide) (by decide) _ (h 1 1 (by decide) (by decide) (by decide) _ (h 1 0 (by decide) (by decide) (by decide) _
    (h 0 1 (by decide) (by decide) (by decide) _ ?_))))))
  have := h 0 0 (by decide) (by decide) (by decide) [] trivial
  rw [List.append_nil] at this
  exact this

theorem nibsAt_cover (arg9 : Memref sig .tc .vmem S128x512 .f32) (L : List (View.Piece (Elt F) S128x512 .f32)) (r : ℕ) (hr : r + 16 ≤ 128) (w : Words4) (y : S128x512.Idx)
    (h : r ≤ (y 0).val ∧ (y 0).val < r + 16) : ∃ p ∈ nibsAt arg9 L r hr w, y ∈ p.1.set := by
  have h1 : (y 1).val < 512 := (y 1).isLt
  unfold nibsAt nibsOf
  by_cases a3 : 384 ≤ (y 1).val
  · refine ⟨_, List.mem_cons_self, ?_⟩; exact mem_unit2 (inb := inb_box r 384 hr (by decide)) y h (show 384 ≤ (y 1).val ∧ (y 1).val < 384 + 128 by omega)
  by_cases a2 : 256 ≤ (y 1).val
  · refine ⟨_, List.mem_cons_of_mem _ List.mem_cons_self, ?_⟩; exact mem_unit2 (inb := inb_box r 256 hr (by decide)) y h (show 256 ≤ (y 1).val ∧ (y 1).val < 256 + 128 by omega)
  by_cases a1 : 128 ≤ (y 1).val
  · refine ⟨_, List.mem_cons_of_mem _ (List.mem_cons_of_mem _ List.mem_cons_self), ?_⟩; exact mem_unit2 (inb := inb_box r 128 hr (by decide)) y h (show 128 ≤ (y 1).val ∧ (y 1).val < 128 + 128 by omega)
  · refine ⟨_, List.mem_cons_of_mem _ (List.mem_cons_of_mem _ (List.mem_cons_of_mem _ List.mem_cons_self)), ?_⟩; exact mem_unit2 (inb := inb_box r 0 hr (by decide)) y h (show 0 ≤ (y 1).val ∧ (y 1).val < 0 + 128 by omega)

theorem nibsL_cover (arg9 : Memref sig .tc .vmem S128x512 .f32) (L : List (View.Piece (Elt F) S128x512 .f32)) (i : BitVec 32) (k : ℕ) (k0 k1 : BitVec 32) (y : S128x512.Idx) :
    ∃ p ∈ nibsL arg9 L i k k0 k1, y ∈ p.1.set := by
  have h0 : (y 0).val < 128 := (y 0).isLt
  have lift : ∀ (A B : List (View.Piece (Elt F) S128x512 .bf16)), ((∃ p ∈ A, y ∈ p.1.set) ∨ (∃ p ∈ B, y ∈ p.1.set)) → ∃ p ∈ A ++ B, y ∈ p.1.set := fun A B h => by
    rcases h with ⟨p, hp, hy⟩ | ⟨p, hp, hy⟩
    · exact ⟨p, List.mem_append_left _ hp, hy⟩
    · exact ⟨p, List.mem_append_right _ hp, hy⟩
  unfold nibsL
  by_cases a7 : 112 ≤ (y 0).val
  · exact lift _ _ (.inl (nibsAt_cover _ _ _ _ _ y (by omega)))
  refine lift _ _ (.inr ?_)
  by_cases a6 : 96 ≤ (y 0).val
  · exact lift _ _ (.inl (nibsAt_cover _ _ _ _ _ y (by omega)))
  refine lift _ _ (.inr ?_)
  by_cases a5 : 80 ≤ (y 0).val
  · exact lift _ _ (.inl (nibsAt_cover _ _ _ _ _ y (by omega)))
  refine lift _ _ (.inr ?_)
  by_cases a4 : 64 ≤ (y 0).val
  · exact lift _ _ (.inl (nibsAt_cover _ _ _ _ _ y (by omega)))
  refine lift _ _ (.inr ?_)
  by_cases a3 : 48 ≤ (y 0).val
  · exact lift _ _ (.inl (nibsAt_cover _ _ _ _ _ y (by omega)))
  refine lift _ _ (.inr ?_)
  by_cases a2 : 32 ≤ (y 0).val
  · exact lift _ _ (.inl (nibsAt_cover _ _ _ _ _ y (by omega)))
  refine lift _ _ (.inr ?_)
  by_cases a1 : 16 ≤ (y 0).val
  · exact lift _ _ (.inl (nibsAt_cover _ _ _ _ _ y (by omega)))
  exact lift _ _ (.inr (nibsAt_cover _ _ _ _ _ y (by omega)))

/-- A load of a buffer whose stores are pieces of `G` and hold every index reads `G`. -/
theorem readCov_pieces {S : Shape} {e : EltTy} (v : Memref sig .tc .vmem S e) (G : Vec F S e) (L : List (View.Piece (Elt F) S e)) (hp : View.PiecesOf G L) (B : Rect S)
    (hc : ∀ y, ∃ p ∈ L, y ∈ p.1.set) : v.view.readCov L B.toLoadRect = fun x => G (B.emb x) := by
  rw [View.readCov_eq_canon']
  funext x
  have := View.canon_append_of_piecesOf G [] L hp (B.emb x) (hc _)
  rw [List.append_nil] at this
  exact this

/-- The thirty-two rows of a chunk in the trip's values. -/
theorem nibs_row (X : Vec F S1x32x16384 .bf16) (P : Vec F S512x512 .bf16) (i k0 k1 : BitVec 32) (k c : ℕ)
    (inb : ∀ a, (![32 * c, 0] : Fin 2 → ℕ) a + S32x512.size a ≤ S128x512.size a) (x : S32x512.Idx) :
    nibsG X P i k0 k1 k ((Rect.unit (s := S128x512) ![32 * c, 0] S32x512.size inb).emb x) = nibG X P i k0 k1 (4 * k + c) x := by
  have hx0 : (x 0).val < 32 := (x 0).isLt
  have e0 : (((Rect.unit (s := S128x512) ![32 * c, 0] S32x512.size inb).emb x 0 : Fin _) : ℕ) = 32 * c + 1 * (x 0).val := rfl
  have e1 : (((Rect.unit (s := S128x512) ![32 * c, 0] S32x512.size inb).emb x 1 : Fin _) : ℕ) = 0 + 1 * (x 1).val := rfl
  unfold nibsG
  rw [show 4 * k + (((Rect.unit (s := S128x512) ![32 * c, 0] S32x512.size inb).emb x 0 : Fin _) : ℕ) / 32 = 4 * k + c by omega]
  conv_rhs => rw [eq_ix2 x]
  congr 1
  refine ix2_congr ?_ ?_
  · show (((Rect.unit (s := S128x512) ![32 * c, 0] S32x512.size inb).emb x 0 : Fin _) : ℕ) % 32 = (x 0).val
    omega
  · omega

/-- A chunk's values as the packing product loads them. -/
theorem ldN_eq (arg3 : Memref sig .tc .vmem S1x32x16384 .bf16) (X : BufTy.Contents (Elt F) arg3.view.ty) (P : Vec F S512x512 .bf16) (k : Fin k0_t1_loop.trips)
    (arg9 : Memref sig .tc .vmem S128x512 .f32) (arg10 : Memref sig .tc .vmem S128x512 .bf16) (i k0 k1 : BitVec 32) (c : Fin 4) :
    ldN arg10 (nibsL arg9 (planesL (inL arg3 X k) P) i k.val k0 k1) c = nibG (arg3.view.read (Elt F) X) P i k0 k1 (4 * k.val + c.val) := by
  have hc := c.isLt
  refine (readCov_pieces arg10 (nibsG (arg3.view.read (Elt F) X) P i k0 k1 k.val) _ (nibsL_pieces arg3 X P k arg9 i k0 k1) _ (nibsL_cover arg9 (planesL (inL arg3 X k) P) i k.val k0 k1)).trans ?_
  funext x
  exact nibs_row (arg3.view.read (Elt F) X) P i k0 k1 k.val c.val _ x

theorem code_piece (X : Vec F S1x32x16384 .bf16) (P : Vec F S512x512 .bf16) (K : Vec F S512x256 .bf16) (i k0 k1 : BitVec 32) (k : Fin k0_t1_loop.trips) (c : Fin 4) (x : S32x256.Idx) :
    k0_pay731 (nibG X P i k0 k1 (4 * k.val + c.val)) K x = codeG X P K i k0 k1 ((Rect.unit (s := S32x8192) (k0_off5 k (BitVec.ofNat 32 c.val)) S32x256.size (k0_off5_inb k c)).emb x) := by
  set R := Rect.unit (s := S32x8192) (k0_off5 k (BitVec.ofNat 32 c.val)) S32x256.size (k0_off5_inb k c) with hR
  have hx1 : (x 1).val < 256 := (x 1).isLt
  have e0 : ((R.emb x 0 : Fin _) : ℕ) = k0_off5 k (BitVec.ofNat 32 c.val) 0 + 1 * (x 0).val := rfl
  have e1 : ((R.emb x 1 : Fin _) : ℕ) = k0_off5 k (BitVec.ofNat 32 c.val) 1 + 1 * (x 1).val := rfl
  rw [off5_eq] at e0 e1
  replace e0 : ((R.emb x 0 : Fin _) : ℕ) = 0 + 1 * (x 0).val := e0
  replace e1 : ((R.emb x 1 : Fin _) : ℕ) = 256 * (4 * k.val + c.val) + 1 * (x 1).val := e1
  unfold codeG
  rw [show ((R.emb x 1 : Fin _) : ℕ) / 256 = 4 * k.val + c.val by omega]
  conv_lhs => rw [eq_ix2 x]
  congr 1
  refine ix2_congr ?_ ?_
  · show (x 0).val = ((R.emb x 0 : Fin _) : ℕ)
    omega
  · show (x 1).val = ((R.emb x 1 : Fin _) : ℕ) % 256
    omega

theorem codesL_pieces (arg3 : Memref sig .tc .vmem S1x32x16384 .bf16) (X : BufTy.Contents (Elt F) arg3.view.ty) (P : Vec F S512x512 .bf16) (K : Vec F S512x256 .bf16) (k : Fin k0_t1_loop.trips)
    (arg9 : Memref sig .tc .vmem S128x512 .f32) (arg10 : Memref sig .tc .vmem S128x512 .bf16) (i k0 k1 : BitVec 32) :
    View.PiecesOf (codeG (arg3.view.read (Elt F) X) P K i k0 k1) (codesL arg10 (nibsL arg9 (planesL (inL arg3 X k) P) i k.val k0 k1) K k) := by
  unfold codesL
  rw [ldN_eq, ldN_eq, ldN_eq, ldN_eq]
  exact ⟨fun x => code_piece _ P K i k0 k1 k 3 x, fun x => code_piece _ P K i k0 k1 k 2 x, fun x => code_piece _ P K i k0 k1 k 1 x, fun x => code_piece _ P K i k0 k1 k 0 x, trivial⟩

theorem pow_piece (X : Vec F S1x32x16384 .bf16) (P : Vec F S512x512 .bf16) (ch s : ℕ) (off : Fin 2 → ℕ) (inb : ∀ a, off a + S16x128.size a ≤ S32x4096.size a) (hoff : off = ![16 * s, 128 * ch]) (x : S16x128.Idx) :
    powerV (planeG X P ch s 0) (planeG X P ch s 1) (planeG X P ch s 2) (planeG X P ch s 3) x = powG X P ((Rect.unit (s := S32x4096) off S16x128.size inb).emb x) := by
  subst hoff
  set R := Rect.unit (s := S32x4096) ![16 * s, 128 * ch] S16x128.size inb with hR
  have hx0 : (x 0).val < 16 := (x 0).isLt
  have hx1 : (x 1).val < 128 := (x 1).isLt
  have e0 : ((R.emb x 0 : Fin _) : ℕ) = 16 * s + 1 * (x 0).val := rfl
  have e1 : ((R.emb x 1 : Fin _) : ℕ) = 128 * ch + 1 * (x 1).val := rfl
  unfold powG
  rw [show ((R.emb x 1 : Fin _) : ℕ) / 128 = ch by omega, show ((R.emb x 0 : Fin _) : ℕ) / 16 = s by omega]
  conv_lhs => rw [eq_ix2 x]
  congr 1
  refine ix2_congr ?_ ?_
  · show (x 0).val = ((R.emb x 0 : Fin _) : ℕ) % 16
    omega
  · show (x 1).val = ((R.emb x 1 : Fin _) : ℕ) % 128
    omega

theorem powAt_eq (arg3 : Memref sig .tc .vmem S1x32x16384 .bf16) (X : BufTy.Contents (Elt F) arg3.view.ty) (P : Vec F S512x512 .bf16) (k : Fin k0_t1_loop.trips)
    (arg9 : Memref sig .tc .vmem S128x512 .f32) (c s : ℕ) (hs : s < 2) (hr : 32 * c + 16 * s + 16 ≤ 128) :
    powAt arg9 (planesL (inL arg3 X k) P) (32 * c + 16 * s) hr = powerV (planeG (arg3.view.read (Elt F) X) P (4 * k.val + c) s 0) (planeG (arg3.view.read (Elt F) X) P (4 * k.val + c) s 1)
      (planeG (arg3.view.read (Elt F) X) P (4 * k.val + c) s 2) (planeG (arg3.view.read (Elt F) X) P (4 * k.val + c) s 3) := by
  have l := fun (j : ℕ) (hj : 128 * j + 128 ≤ 512) => ldP_eq arg3 X P k arg9 c s j hs hr hj
  have l0 := l 0 (by decide); have l1 := l 1 (by decide); have l2 := l 2 (by decide); have l3 := l 3 (by decide)
  simp only [Nat.reduceMul] at l0 l1 l2 l3
  unfold powAt
  rw [l0, l1, l2, l3]

theorem powL_pieces (arg3 : Memref sig .tc .vmem S1x32x16384 .bf16) (X : BufTy.Contents (Elt F) arg3.view.ty) (P : Vec F S512x512 .bf16) (k : Fin k0_t1_loop.trips)
    (arg9 : Memref sig .tc .vmem S128x512 .f32) :
    View.PiecesOf (powG (arg3.view.read (Elt F) X) P) (powL arg9 (planesL (inL arg3 X k) P) k) := by
  have h := fun c s hs hr => powAt_eq arg3 X P k arg9 c s hs hr
  have h30 := h 3 0 (by decide) (by decide); have h31 := h 3 1 (by decide) (by decide)
  have h20 := h 2 0 (by decide) (by decide); have h21 := h 2 1 (by decide) (by decide)
  have h10 := h 1 0 (by decide) (by decide); have h11 := h 1 1 (by decide) (by decide)
  have h00 := h 0 0 (by decide) (by decide); have h01 := h 0 1 (by decide) (by decide)
  simp only [Nat.reduceMul, Nat.reduceAdd] at h30 h31 h20 h21 h10 h11 h00 h01
  unfold powL
  rw [h30, h31, h20, h21, h10, h11, h00, h01]
  exact ⟨fun x => pow_piece _ P _ 1 _ (k0_off4_inb k 3) (off4_eq k 3) x, fun x => pow_piece _ P _ 0 _ (k0_off3_inb k 3) (off3_eq k 3) x, fun x => pow_piece _ P _ 1 _ (k0_off4_inb k 2) (off4_eq k 2) x, fun x => pow_piece _ P _ 0 _ (k0_off3_inb k 2) (off3_eq k 2) x,
    fun x => pow_piece _ P _ 1 _ (k0_off4_inb k 1) (off4_eq k 1) x, fun x => pow_piece _ P _ 0 _ (k0_off3_inb k 1) (off3_eq k 1) x, fun x => pow_piece _ P _ 1 _ (k0_off4_inb k 0) (off4_eq k 0) x, fun x => pow_piece _ P _ 0 _ (k0_off3_inb k 0) (off3_eq k 0) x, trivial⟩

/-- A trip's stores leave the columns before it as they were and give its own the codes. -/
theorem codes_step (arg3 : Memref sig .tc .vmem S1x32x16384 .bf16) (X : BufTy.Contents (Elt F) arg3.view.ty) (P : Vec F S512x512 .bf16) (K : Vec F S512x256 .bf16) (k : Fin k0_t1_loop.trips)
    (arg4 : Memref sig .tc .vmem S32x8192 .i8) (f : BufTy.Contents (Elt F) arg4.view.ty) (arg9 : Memref sig .tc .vmem S128x512 .f32) (arg10 : Memref sig .tc .vmem S128x512 .bf16) (i k0 k1 : BitVec 32)
    (hf : ∀ y : S32x8192.Idx, (y 1).val < 1024 * k.val → arg4.view.read (Elt F) f y = codeG (arg3.view.read (Elt F) X) P K i k0 k1 y) (y : S32x8192.Idx) (hy : (y 1).val < 1024 * (k.val + 1)) :
    arg4.view.read (Elt F) (arg4.view.writes (Elt F) f (codesL arg10 (nibsL arg9 (planesL (inL arg3 X k) P) i k.val k0 k1) K k)) y = codeG (arg3.view.read (Elt F) X) P K i k0 k1 y := by
  have hy0 : (y 0).val < 32 := (y 0).isLt
  have h0 : ∀ z : ℕ, z = 0 → z ≤ (y 0).val ∧ (y 0).val < z + 32 := fun z hz => by omega
  by_cases hlo : (y 1).val < 1024 * k.val
  · rw [View.read_writes_apply_of_forall_not_mem, hf y hlo]
    have no : ∀ c : Fin 4, y ∉ (Rect.unit (s := S32x8192) (k0_off5 k (BitVec.ofNat 32 c.val)) S32x256.size (k0_off5_inb k c)).set := fun c hm => by
      have := (Rect.mem_set_unit.mp hm) 1
      rw [off5_eq] at this
      have : 256 * (4 * k.val + c.val) ≤ (y 1).val := this.1
      omega
    intro p hp
    unfold codesL at hp
    simp only [List.mem_cons, List.not_mem_nil, or_false] at hp
    rcases hp with rfl | rfl | rfl | rfl
    exacts [no 3, no 2, no 1, no 0]
  · refine View.read_writes_apply_of_pieces arg4.view f _ _ (codesL_pieces arg3 X P K k arg9 arg10 i k0 k1).mem y ?_
    have yes : ∀ c : Fin 4, (y 1).val / 256 = 4 * k.val + c.val → y ∈ (Rect.unit (s := S32x8192) (k0_off5 k (BitVec.ofNat 32 c.val)) S32x256.size (k0_off5_inb k c)).set := fun c hm => by
      refine mem_unit2 y ?_ ?_ <;> rw [off5_eq]
      · exact h0 0 rfl
      · show 256 * (4 * k.val + c.val) ≤ (y 1).val ∧ (y 1).val < 256 * (4 * k.val + c.val) + 256
        omega
    unfold codesL
    obtain h | h | h | h : (y 1).val / 256 = 4 * k.val + 3 ∨ (y 1).val / 256 = 4 * k.val + 2 ∨ (y 1).val / 256 = 4 * k.val + 1 ∨ (y 1).val / 256 = 4 * k.val + 0 := by omega
    · exact ⟨_, List.mem_cons_self, yes 3 h⟩
    · exact ⟨_, List.mem_cons_of_mem _ List.mem_cons_self, yes 2 h⟩
    · exact ⟨_, List.mem_cons_of_mem _ (List.mem_cons_of_mem _ List.mem_cons_self), yes 1 h⟩
    · exact ⟨_, List.mem_cons_of_mem _ (List.mem_cons_of_mem _ (List.mem_cons_of_mem _ List.mem_cons_self)), yes 0 h⟩

/-- The same of the powers of two. -/
theorem pow_step (arg3 : Memref sig .tc .vmem S1x32x16384 .bf16) (X : BufTy.Contents (Elt F) arg3.view.ty) (P : Vec F S512x512 .bf16) (k : Fin k0_t1_loop.trips)
    (arg11 : Memref sig .tc .vmem S32x4096 .bf16) (f : BufTy.Contents (Elt F) arg11.view.ty) (arg9 : Memref sig .tc .vmem S128x512 .f32)
    (hf : ∀ y : S32x4096.Idx, (y 1).val < 512 * k.val → arg11.view.read (Elt F) f y = powG (arg3.view.read (Elt F) X) P y) (y : S32x4096.Idx) (hy : (y 1).val < 512 * (k.val + 1)) :
    arg11.view.read (Elt F) (arg11.view.writes (Elt F) f (powL arg9 (planesL (inL arg3 X k) P) k)) y = powG (arg3.view.read (Elt F) X) P y := by
  have hy0 : (y 0).val < 32 := (y 0).isLt
  by_cases hlo : (y 1).val < 512 * k.val
  · rw [View.read_writes_apply_of_forall_not_mem, hf y hlo]
    have no3 : ∀ c : Fin 4, y ∉ (Rect.unit (s := S32x4096) (k0_off3 k (BitVec.ofNat 32 c.val)) S16x128.size (k0_off3_inb k c)).set := fun c hm => by
      have := (Rect.mem_set_unit.mp hm) 1
      rw [off3_eq] at this
      have : 128 * (4 * k.val + c.val) ≤ (y 1).val := this.1
      omega
    have no4 : ∀ c : Fin 4, y ∉ (Rect.unit (s := S32x4096) (k0_off4 k (BitVec.ofNat 32 c.val)) S16x128.size (k0_off4_inb k c)).set := fun c hm => by
      have := (Rect.mem_set_unit.mp hm) 1
      rw [off4_eq] at this
      have : 128 * (4 * k.val + c.val) ≤ (y 1).val := this.1
      omega
    intro p hp
    unfold powL at hp
    simp only [List.mem_cons, List.not_mem_nil, or_false] at hp
    rcases hp with rfl | rfl | rfl | rfl | rfl | rfl | rfl | rfl
    exacts [no4 3, no3 3, no4 2, no3 2, no4 1, no3 1, no4 0, no3 0]
  · refine View.read_writes_apply_of_pieces arg11.view f _ _ (powL_pieces arg3 X P k arg9).mem y ?_
    have yes3 : ∀ c : Fin 4, (y 0).val < 16 → (y 1).val / 128 = 4 * k.val + c.val → y ∈ (Rect.unit (s := S32x4096) (k0_off3 k (BitVec.ofNat 32 c.val)) S16x128.size (k0_off3_inb k c)).set := fun c hs hm => by
      refine mem_unit2 y ?_ ?_ <;> rw [off3_eq]
      · show 0 ≤ (y 0).val ∧ (y 0).val < 0 + 16
        omega
      · show 128 * (4 * k.val + c.val) ≤ (y 1).val ∧ (y 1).val < 128 * (4 * k.val + c.val) + 128
        omega
    have yes4 : ∀ c : Fin 4, ¬(y 0).val < 16 → (y 1).val / 128 = 4 * k.val + c.val → y ∈ (Rect.unit (s := S32x4096) (k0_off4 k (BitVec.ofNat 32 c.val)) S16x128.size (k0_off4_inb k c)).set := fun c hs hm => by
      refine mem_unit2 y ?_ ?_ <;> rw [off4_eq]
      · show 16 ≤ (y 0).val ∧ (y 0).val < 16 + 16
        omega
      · show 128 * (4 * k.val + c.val) ≤ (y 1).val ∧ (y 1).val < 128 * (4 * k.val + c.val) + 128
        omega
    have get : ∀ (n : ℕ) (h : n < (powL arg9 (planesL (inL arg3 X k) P) k).length), y ∈ ((powL arg9 (planesL (inL arg3 X k) P) k)[n]).1.set → ∃ p ∈ powL arg9 (planesL (inL arg3 X k) P) k, y ∈ p.1.set :=
      fun n h hm => ⟨_, List.getElem_mem h, hm⟩
    obtain h | h | h | h : (y 1).val / 128 = 4 * k.val + 3 ∨ (y 1).val / 128 = 4 * k.val + 2 ∨ (y 1).val / 128 = 4 * k.val + 1 ∨ (y 1).val / 128 = 4 * k.val + 0 := by omega
    all_goals by_cases hs : (y 0).val < 16
    · exact get 1 (show (1 : ℕ) < 8 by decide) (yes3 3 hs h)
    · exact get 0 (show (0 : ℕ) < 8 by decide) (yes4 3 hs h)
    · exact get 3 (show (3 : ℕ) < 8 by decide) (yes3 2 hs h)
    · exact get 2 (show (2 : ℕ) < 8 by decide) (yes4 2 hs h)
    · exact get 5 (show (5 : ℕ) < 8 by decide) (yes3 1 hs h)
    · exact get 4 (show (4 : ℕ) < 8 by decide) (yes4 1 hs h)
    · exact get 7 (show (7 : ℕ) < 8 by decide) (yes3 0 hs h)
    · exact get 6 (show (6 : ℕ) < 8 by decide) (yes4 0 hs h)

end Cert.KernelIdeal.Gen

end
-- ==== Proof.KILoops.lean ====
/- The three counted loops by their invariants: the loop over chunks, and the two that clear the rows past the length. -/
module

public import proofs.«01_k».proof.Proof.KISpec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The codes' buffer after `k` trips. -/
def codesAt (arg3 : Memref sig .tc .vmem S1x32x16384 .bf16) (arg6 : Memref sig .tc .vmem S512x512 .bf16) (arg7 : Memref sig .tc .vmem S512x256 .bf16) (arg4 : Memref sig .tc .vmem S32x8192 .i8)
    (arg9 : Memref sig .tc .vmem S128x512 .f32) (arg10 : Memref sig .tc .vmem S128x512 .bf16) (i k0 k1 : BitVec 32)
    (X3 : BufTy.Contents (Elt F) arg3.view.ty) (X6 : BufTy.Contents (Elt F) arg6.view.ty) (X7 : BufTy.Contents (Elt F) arg7.view.ty) (G : BufTy.Contents (Elt F) arg4.view.ty) : ℕ → BufTy.Contents (Elt F) arg4.view.ty
  | 0 => G
  | k + 1 => if h : k < k0_t1_loop.trips then
      arg4.view.writes (Elt F) (codesAt arg3 arg6 arg7 arg4 arg9 arg10 i k0 k1 X3 X6 X7 G k)
        (codesL arg10 (nibsL arg9 (planesL (inL arg3 X3 ⟨k, h⟩) (permL arg6 X6)) i k k0 k1) (packL arg7 X7) ⟨k, h⟩)
    else codesAt arg3 arg6 arg7 arg4 arg9 arg10 i k0 k1 X3 X6 X7 G k

/-- The buffer of powers of two after `k` trips. -/
def powsAt (arg3 : Memref sig .tc .vmem S1x32x16384 .bf16) (arg6 : Memref sig .tc .vmem S512x512 .bf16) (arg11 : Memref sig .tc .vmem S32x4096 .bf16)
    (arg9 : Memref sig .tc .vmem S128x512 .f32)
    (X3 : BufTy.Contents (Elt F) arg3.view.ty) (X6 : BufTy.Contents (Elt F) arg6.view.ty) (G : BufTy.Contents (Elt F) arg11.view.ty) : ℕ → BufTy.Contents (Elt F) arg11.view.ty
  | 0 => G
  | k + 1 => if h : k < k0_t1_loop.trips then
      arg11.view.writes (Elt F) (powsAt arg3 arg6 arg11 arg9 X3 X6 G k) (powL arg9 (planesL (inL arg3 X3 ⟨k, h⟩) (permL arg6 X6)) ⟨k, h⟩)
    else powsAt arg3 arg6 arg11 arg9 X3 X6 G k

theorem codesAt_read (arg3 : Memref sig .tc .vmem S1x32x16384 .bf16) (arg6 : Memref sig .tc .vmem S512x512 .bf16) (arg7 : Memref sig .tc .vmem S512x256 .bf16) (arg4 : Memref sig .tc .vmem S32x8192 .i8)
    (arg9 : Memref sig .tc .vmem S128x512 .f32) (arg10 : Memref sig .tc .vmem S128x512 .bf16) (i k0 k1 : BitVec 32)
    (X3 : BufTy.Contents (Elt F) arg3.view.ty) (X6 : BufTy.Contents (Elt F) arg6.view.ty) (X7 : BufTy.Contents (Elt F) arg7.view.ty) (G : BufTy.Contents (Elt F) arg4.view.ty) :
    ∀ k, k ≤ 8 → ∀ y : S32x8192.Idx, (y 1).val < 1024 * k → arg4.view.read (Elt F) (codesAt arg3 arg6 arg7 arg4 arg9 arg10 i k0 k1 X3 X6 X7 G k) y
      = codeG (arg3.view.read (Elt F) X3) (permL arg6 X6) (packL arg7 X7) i k0 k1 y
  | 0, _ => fun y hy => absurd hy (by omega)
  | k + 1, hk => fun y hy => by
    have h : k < k0_t1_loop.trips := Nat.lt_of_lt_of_le (show k < 8 by omega) (by decide +kernel)
    unfold codesAt
    rw [dif_pos h]
    exact codes_step arg3 X3 (permL arg6 X6) (packL arg7 X7) ⟨k, h⟩ arg4 _ arg9 arg10 i k0 k1 (codesAt_read arg3 arg6 arg7 arg4 arg9 arg10 i k0 k1 X3 X6 X7 G k (by omega)) y hy

theorem powsAt_read (arg3 : Memref sig .tc .vmem S1x32x16384 .bf16) (arg6 : Memref sig .tc .vmem S512x512 .bf16) (arg11 : Memref sig .tc .vmem S32x4096 .bf16)
    (arg9 : Memref sig .tc .vmem S128x512 .f32)
    (X3 : BufTy.Contents (Elt F) arg3.view.ty) (X6 : BufTy.Contents (Elt F) arg6.view.ty) (G : BufTy.Contents (Elt F) arg11.view.ty) :
    ∀ k, k ≤ 8 → ∀ y : S32x4096.Idx, (y 1).val < 512 * k → arg11.view.read (Elt F) (powsAt arg3 arg6 arg11 arg9 X3 X6 G k) y
      = powG (arg3.view.read (Elt F) X3) (permL arg6 X6) y
  | 0, _ => fun y hy => absurd hy (by omega)
  | k + 1, hk => fun y hy => by
    have h : k < k0_t1_loop.trips := Nat.lt_of_lt_of_le (show k < 8 by omega) (by decide +kernel)
    unfold powsAt
    rw [dif_pos h]
    exact pow_step arg3 X3 (permL arg6 X6) ⟨k, h⟩ arg11 _ arg9 (powsAt_read arg3 arg6 arg11 arg9 X3 X6 G k (by omega)) y hy

set_option warn.classDefReducibility false in
/-- The loop over chunks. -/
@[sl_loop] def chunkLoop (c : Dev nD) (E : Set ℕ) (i : grid0.Coords) (arg1 : Memref sig .tc .smem S2 .i32) (harg1 : arg1.IsWhole) (arg2 : Memref sig .tc .smem S2 .i32) (harg2 : arg2.IsWhole) (arg3 : Memref sig .tc .vmem S1x32x16384 .bf16) (harg3 : arg3.IsWhole) (arg4 : Memref sig .tc .vmem S32x8192 .i8) (harg4 : arg4.IsWhole) (arg5 : Memref sig .tc .vmem S32x512 .i8) (harg5 : arg5.IsWhole) (arg6 : Memref sig .tc .vmem S512x512 .bf16) (harg6 : arg6.IsWhole) (arg7 : Memref sig .tc .vmem S512x256 .bf16) (harg7 : arg7.IsWhole) (arg8 : Memref sig .tc .vmem S1024x128 .bf16) (harg8 : arg8.IsWhole) (arg9 : Memref sig .tc .vmem S128x512 .f32) (harg9 : arg9.IsWhole) (arg10 : Memref sig .tc .vmem S128x512 .bf16) (harg10 : arg10.IsWhole) (arg11 : Memref sig .tc .vmem S32x4096 .bf16) (harg11 : arg11.IsWhole) (arg0 : BitVec 32) (v42 : Elt F .i32) (v43 : Elt F .i32) (X_arg3 : BufTy.Contents (Elt F) arg3.view.ty) (X_arg6 : BufTy.Contents (Elt F) arg6.view.ty) (X_arg7 : BufTy.Contents (Elt F) arg7.view.ty) (G_arg4 : BufTy.Contents (Elt F) arg4.view.ty) (G_arg11 : BufTy.Contents (Elt F) arg11.view.ty) :
    Idealize.ShloMosaic.LoopInv (M := 𝕄) Idealize.ShloMosaic.frame (wpE defs₀ Variants.none (c : Thread nD τ) none) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg0 v42 v43) where
  inv k _ := iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7)
    ∗ (∃ f, (arg4.view.loc (c : Thread nD τ) ↦[arg4.view.set]{fullShare} f) ∗ ⌜f = codesAt arg3 arg6 arg7 arg4 arg9 arg10 arg0 v42 v43 X_arg3 X_arg6 X_arg7 G_arg4 k⌝)
    ∗ (∃ f, (arg9.view.loc (c : Thread nD τ) ↦[arg9.view.set]{fullShare} f))
    ∗ (∃ f, (arg10.view.loc (c : Thread nD τ) ↦[arg10.view.set]{fullShare} f))
    ∗ (∃ f, (arg11.view.loc (c : Thread nD τ) ↦[arg11.view.set]{fullShare} f) ∗ ⌜f = powsAt arg3 arg6 arg11 arg9 X_arg3 X_arg6 G_arg11 k⌝))
  step k acc := by
    iintro ⟨HR_arg3, HR_arg6, HR_arg7, ⟨%f_arg4, HW_arg4, %h_arg4⟩, ⟨%f_arg9, HW_arg9⟩, ⟨%f_arg10, HW_arg10⟩, ⟨%f_arg11, HW_arg11, %h_arg11⟩⟩
    iapply (wp_wand_r Idealize.ShloMosaic.frame (wpE (defs₀ (F := F)) Variants.none (c : Thread nD τ) none) E)
    isplitl [HR_arg3 HR_arg6 HR_arg7 HW_arg4 HW_arg9 HW_arg10 HW_arg11]
    · iapply (trip_run (F := F) c i arg1 harg1 arg2 harg2 arg3 harg3 arg4 harg4 arg5 harg5 arg6 harg6 arg7 harg7 arg8 harg8 arg9 harg9 arg10 harg10 arg11 harg11 arg0 v42 v43 X_arg3 X_arg6 X_arg7 k E f_arg4 f_arg9 f_arg10 f_arg11)
      isplitl [HR_arg3]; · iexact HR_arg3
      isplitl [HR_arg6]; · iexact HR_arg6
      isplitl [HR_arg7]; · iexact HR_arg7
      isplitl [HW_arg4]; · iexact HW_arg4
      isplitl [HW_arg9]; · iexact HW_arg9
      isplitl [HW_arg10]; · iexact HW_arg10
      iexact HW_arg11
    · iintro %_ ⟨HR_arg3, HR_arg6, HR_arg7, HW_arg4, HW_arg9, HW_arg10, HW_arg11⟩
      isplitl [HR_arg3]; · iexact HR_arg3
      isplitl [HR_arg6]; · iexact HR_arg6
      isplitl [HR_arg7]; · iexact HR_arg7
      isplitl [HW_arg4]
      · iexists _; isplitl [HW_arg4]; · iexact HW_arg4
        ipureintro
        rw [h_arg4]
        conv_rhs => unfold codesAt
        rw [dif_pos k.isLt]
      isplitl [HW_arg9]; · iexists _; iexact HW_arg9
      isplitl [HW_arg10]; · iexists _; iexact HW_arg10
      iexists _; isplitl [HW_arg11]; · iexact HW_arg11
      ipureintro
      rw [h_arg11]
      conv_rhs => unfold powsAt
      rw [dif_pos k.isLt]

/-- The codes' buffer after `k` trips of the clearing loop. -/
def clearC (arg4 : Memref sig .tc .vmem S32x8192 .i8) (live : BitVec 32) (G : BufTy.Contents (Elt F) arg4.view.ty) : ℕ → BufTy.Contents (Elt F) arg4.view.ty
  | 0 => G
  | k + 1 => if h : k < k0_t2_loop.trips then
      arg4.view.writes (Elt F) (clearC arg4 live G k) [⟨Rect.unit (s := S32x8192) (k0_off6 ⟨k, h⟩) S32x128.size (k0_off6_inb ⟨k, h⟩),
        k0_pay4 (F := F) live (arg4.view.readAt (Elt F) (Rect.unit (s := S32x8192) (k0_off6 ⟨k, h⟩) S32x128.size (k0_off6_inb ⟨k, h⟩)).toLoadRect (clearC arg4 live G k))⟩]
    else clearC arg4 live G k

/-- The scales' buffer after `k` trips of the clearing loop. -/
def clearS (arg5 : Memref sig .tc .vmem S32x512 .i8) (live : BitVec 32) (G : BufTy.Contents (Elt F) arg5.view.ty) : ℕ → BufTy.Contents (Elt F) arg5.view.ty
  | 0 => G
  | k + 1 => if h : k < k0_t3_loop.trips then
      arg5.view.writes (Elt F) (clearS arg5 live G k) [⟨Rect.unit (s := S32x512) (k0_off7 ⟨k, h⟩) S32x128.size (k0_off7_inb ⟨k, h⟩),
        k0_pay5 (F := F) live (arg5.view.readAt (Elt F) (Rect.unit (s := S32x512) (k0_off7 ⟨k, h⟩) S32x128.size (k0_off7_inb ⟨k, h⟩)).toLoadRect (clearS arg5 live G k))⟩]
    else clearS arg5 live G k

/-- A row is kept below the live count, cleared from it on. -/
def keepEl (live : BitVec 32) (r : ℕ) (b : BitVec 8) : BitVec 8 := if (BitVec.ofNat 32 r).slt live then b else 0#8

theorem iota_apply_dim0 (h) (y : S32x128.Idx) : iota .tc S32x128 32 [0] h y = BitVec.ofNat 32 (y 0).val := by
  simp [iota]

theorem pay4_apply (live : BitVec 32) (v : Vec F S32x128 .i8) (y : S32x128.Idx) : k0_pay4 (F := F) live v y = keepEl live (y 0).val (v y) := by
  have e : k0_pay4 (F := F) live v y = BitVec.setWidth 8 (Scalar.select (BitVec.ofBool ((iota .tc S32x128 32 [0] iota_S32x128_d0_w32 y).slt live)) (BitVec.setWidth 32 ((shapeCast S32x128 v shapeCasts_S32x128_S32x128 : IVec S32x128 8) y)) 0#32) := rfl
  rw [e, shapeCast_self, iota_apply_dim0]
  unfold keepEl
  cases (BitVec.ofNat 32 (y 0).val).slt live
  · rfl
  · show BitVec.setWidth 8 (BitVec.setWidth 32 (v y)) = v y
    have : ∀ b : BitVec 8, BitVec.setWidth 8 (BitVec.setWidth 32 b) = b := by decide
    exact this _

theorem pay5_apply (live : BitVec 32) (v : Vec F S32x128 .i8) (y : S32x128.Idx) : k0_pay5 (F := F) live v y = keepEl live (y 0).val (v y) := pay4_apply live v y

theorem off6_eq : ∀ k : Fin k0_t2_loop.trips, k0_off6 k = ![0, 128 * k.val] := by decide +kernel
theorem off7_eq : ∀ k : Fin k0_t3_loop.trips, k0_off7 k = ![0, 128 * k.val] := by decide +kernel

theorem clearC_read (arg4 : Memref sig .tc .vmem S32x8192 .i8) (live : BitVec 32) (G : BufTy.Contents (Elt F) arg4.view.ty) :
    ∀ k, k ≤ 64 → ∀ y : S32x8192.Idx, arg4.view.read (Elt F) (clearC arg4 live G k) y = if (y 1).val < 128 * k then keepEl live (y 0).val (arg4.view.read (Elt F) G y) else arg4.view.read (Elt F) G y
  | 0, _ => fun y => by rw [if_neg (by omega)]; rfl
  | k + 1, hk => fun y => by
    have h : k < k0_t2_loop.trips := Nat.lt_of_lt_of_le (show k < 64 by omega) (by decide +kernel)
    have ih := clearC_read arg4 live G k (by omega)
    have hy0 : (y 0).val < 32 := (y 0).isLt
    unfold clearC
    rw [dif_pos h]
    by_cases hm : y ∈ (Rect.unit (s := S32x8192) (k0_off6 ⟨k, h⟩) S32x128.size (k0_off6_inb ⟨k, h⟩)).set
    · have b := (Rect.mem_set_unit.mp hm) 1
      rw [off6_eq] at b
      have b1 : 128 * k ≤ (y 1).val := b.1
      have b2 : (y 1).val < 128 * k + 128 := b.2
      obtain ⟨x, rfl⟩ := (Rect.unit (s := S32x8192) (k0_off6 ⟨k, h⟩) S32x128.size (k0_off6_inb ⟨k, h⟩)).exists_idx_of_mem hm
      rw [if_pos (by omega)]
      refine (View.read_writes_cons_emb arg4.view _ _ _ _ x).trans ?_
      rw [pay4_apply]
      have e1 : k0_off6 ⟨k, h⟩ 0 = 0 := congrFun (off6_eq ⟨k, h⟩) 0
      have e2 : (((Rect.unit (s := S32x8192) (k0_off6 ⟨k, h⟩) S32x128.size (k0_off6_inb ⟨k, h⟩)).emb x 0 : Fin _) : ℕ) = k0_off6 ⟨k, h⟩ 0 + 1 * (x 0).val := rfl
      have e0 : (((Rect.unit (s := S32x8192) (k0_off6 ⟨k, h⟩) S32x128.size (k0_off6_inb ⟨k, h⟩)).emb x 0 : Fin _) : ℕ) = 0 + 1 * (x 0).val := by rw [e2, e1]
      have e : (x 0).val = (((Rect.unit (s := S32x8192) (k0_off6 ⟨k, h⟩) S32x128.size (k0_off6_inb ⟨k, h⟩)).emb x 0 : Fin _) : ℕ) := by omega
      rw [e]
      congr 1
      refine (ih _).trans (if_neg ?_)
      have : 128 * k ≤ (((Rect.unit (s := S32x8192) (k0_off6 ⟨k, h⟩) S32x128.size (k0_off6_inb ⟨k, h⟩)).emb x 1 : Fin _) : ℕ) := b1
      exact Nat.not_lt.mpr this
    · have hn : (y 1).val < 128 * k ↔ (y 1).val < 128 * (k + 1) := by
        constructor
        · omega
        · intro hlt
          by_contra hge
          refine hm (mem_unit2 y ?_ ?_) <;> rw [off6_eq]
          · show 0 ≤ (y 0).val ∧ (y 0).val < 0 + 32
            omega
          · show 128 * k ≤ (y 1).val ∧ (y 1).val < 128 * k + 128
            omega
      rw [View.read_writes_apply_of_forall_not_mem _ _ y _ (fun p hp => by rw [List.mem_singleton.mp hp]; exact hm), ih y]
      simp only [hn]

theorem clearS_read (arg5 : Memref sig .tc .vmem S32x512 .i8) (live : BitVec 32) (G : BufTy.Contents (Elt F) arg5.view.ty) :
    ∀ k, k ≤ 4 → ∀ y : S32x512.Idx, arg5.view.read (Elt F) (clearS arg5 live G k) y = if (y 1).val < 128 * k then keepEl live (y 0).val (arg5.view.read (Elt F) G y) else arg5.view.read (Elt F) G y
  | 0, _ => fun y => by rw [if_neg (by omega)]; rfl
  | k + 1, hk => fun y => by
    have h : k < k0_t3_loop.trips := Nat.lt_of_lt_of_le (show k < 4 by omega) (by decide +kernel)
    have ih := clearS_read arg5 live G k (by omega)
    have hy0 : (y 0).val < 32 := (y 0).isLt
    unfold clearS
    rw [dif_pos h]
    by_cases hm : y ∈ (Rect.unit (s := S32x512) (k0_off7 ⟨k, h⟩) S32x128.size (k0_off7_inb ⟨k, h⟩)).set
    · have b := (Rect.mem_set_unit.mp hm) 1
      rw [off7_eq] at b
      have b1 : 128 * k ≤ (y 1).val := b.1
      have b2 : (y 1).val < 128 * k + 128 := b.2
      obtain ⟨x, rfl⟩ := (Rect.unit (s := S32x512) (k0_off7 ⟨k, h⟩) S32x128.size (k0_off7_inb ⟨k, h⟩)).exists_idx_of_mem hm
      rw [if_pos (by omega)]
      refine (View.read_writes_cons_emb arg5.view _ _ _ _ x).trans ?_
      rw [pay5_apply]
      have e1 : k0_off7 ⟨k, h⟩ 0 = 0 := congrFun (off7_eq ⟨k, h⟩) 0
      have e2 : (((Rect.unit (s := S32x512) (k0_off7 ⟨k, h⟩) S32x128.size (k0_off7_inb ⟨k, h⟩)).emb x 0 : Fin _) : ℕ) = k0_off7 ⟨k, h⟩ 0 + 1 * (x 0).val := rfl
      have e0 : (((Rect.unit (s := S32x512) (k0_off7 ⟨k, h⟩) S32x128.size (k0_off7_inb ⟨k, h⟩)).emb x 0 : Fin _) : ℕ) = 0 + 1 * (x 0).val := by rw [e2, e1]
      have e : (x 0).val = (((Rect.unit (s := S32x512) (k0_off7 ⟨k, h⟩) S32x128.size (k0_off7_inb ⟨k, h⟩)).emb x 0 : Fin _) : ℕ) := by omega
      rw [e]
      congr 1
      refine (ih _).trans (if_neg ?_)
      have : 128 * k ≤ (((Rect.unit (s := S32x512) (k0_off7 ⟨k, h⟩) S32x128.size (k0_off7_inb ⟨k, h⟩)).emb x 1 : Fin _) : ℕ) := b1
      exact Nat.not_lt.mpr this
    · have hn : (y 1).val < 128 * k ↔ (y 1).val < 128 * (k + 1) := by
        constructor
        · omega
        · intro hlt
          by_contra hge
          refine hm (mem_unit2 y ?_ ?_) <;> rw [off7_eq]
          · show 0 ≤ (y 0).val ∧ (y 0).val < 0 + 32
            omega
          · show 128 * k ≤ (y 1).val ∧ (y 1).val < 128 * k + 128
            omega
      rw [View.read_writes_apply_of_forall_not_mem _ _ y _ (fun p hp => by rw [List.mem_singleton.mp hp]; exact hm), ih y]
      simp only [hn]

set_option warn.classDefReducibility false in
/-- The loop that clears the codes. -/
@[sl_loop] def clearCLoop (c : Dev nD) (E : Set ℕ) (i : grid0.Coords) (arg1 : Memref sig .tc .smem S2 .i32) (harg1 : arg1.IsWhole) (arg2 : Memref sig .tc .smem S2 .i32) (harg2 : arg2.IsWhole) (arg3 : Memref sig .tc .vmem S1x32x16384 .bf16) (harg3 : arg3.IsWhole) (arg4 : Memref sig .tc .vmem S32x8192 .i8) (harg4 : arg4.IsWhole) (arg5 : Memref sig .tc .vmem S32x512 .i8) (harg5 : arg5.IsWhole) (arg6 : Memref sig .tc .vmem S512x512 .bf16) (harg6 : arg6.IsWhole) (arg7 : Memref sig .tc .vmem S512x256 .bf16) (harg7 : arg7.IsWhole) (arg8 : Memref sig .tc .vmem S1024x128 .bf16) (harg8 : arg8.IsWhole) (arg9 : Memref sig .tc .vmem S128x512 .f32) (harg9 : arg9.IsWhole) (arg10 : Memref sig .tc .vmem S128x512 .bf16) (harg10 : arg10.IsWhole) (arg11 : Memref sig .tc .vmem S32x4096 .bf16) (harg11 : arg11.IsWhole) (v32 : BitVec 32) (G_arg4 : BufTy.Contents (Elt F) arg4.view.ty) :
    Idealize.ShloMosaic.LoopInv (M := 𝕄) Idealize.ShloMosaic.frame (wpE defs₀ Variants.none (c : Thread nD τ) none) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 v32) where
  inv k _ := iprop(∃ f, (arg4.view.loc (c : Thread nD τ) ↦[arg4.view.set]{fullShare} f) ∗ ⌜f = clearC arg4 v32 G_arg4 k⌝)
  step k acc := by
    have hk : k.val < 64 := Nat.lt_of_lt_of_le k.isLt k0_t2_abs.2.1
    unfold k0_t2_body
    iintro ⟨%f_arg4, HW_arg4, %h_arg4⟩
    sl_exec
    sl_step
    iexists _; isplitl [HW_arg4]; · iexact HW_arg4
    ipureintro
    rw [h_arg4]
    conv_rhs => unfold clearC
    rw [dif_pos k.isLt]
    try rfl

set_option warn.classDefReducibility false in
/-- The loop that clears the scales. -/
@[sl_loop] def clearSLoop (c : Dev nD) (E : Set ℕ) (i : grid0.Coords) (arg1 : Memref sig .tc .smem S2 .i32) (harg1 : arg1.IsWhole) (arg2 : Memref sig .tc .smem S2 .i32) (harg2 : arg2.IsWhole) (arg3 : Memref sig .tc .vmem S1x32x16384 .bf16) (harg3 : arg3.IsWhole) (arg4 : Memref sig .tc .vmem S32x8192 .i8) (harg4 : arg4.IsWhole) (arg5 : Memref sig .tc .vmem S32x512 .i8) (harg5 : arg5.IsWhole) (arg6 : Memref sig .tc .vmem S512x512 .bf16) (harg6 : arg6.IsWhole) (arg7 : Memref sig .tc .vmem S512x256 .bf16) (harg7 : arg7.IsWhole) (arg8 : Memref sig .tc .vmem S1024x128 .bf16) (harg8 : arg8.IsWhole) (arg9 : Memref sig .tc .vmem S128x512 .f32) (harg9 : arg9.IsWhole) (arg10 : Memref sig .tc .vmem S128x512 .bf16) (harg10 : arg10.IsWhole) (arg11 : Memref sig .tc .vmem S32x4096 .bf16) (harg11 : arg11.IsWhole) (v32 : BitVec 32) (G_arg5 : BufTy.Contents (Elt F) arg5.view.ty) :
    Idealize.ShloMosaic.LoopInv (M := 𝕄) Idealize.ShloMosaic.frame (wpE defs₀ Variants.none (c : Thread nD τ) none) E
      k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 v32) where
  inv k _ := iprop(∃ f, (arg5.view.loc (c : Thread nD τ) ↦[arg5.view.set]{fullShare} f) ∗ ⌜f = clearS arg5 v32 G_arg5 k⌝)
  step k acc := by
    have hk : k.val < 4 := Nat.lt_of_lt_of_le k.isLt k0_t3_abs.2.1
    unfold k0_t3_body
    iintro ⟨%f_arg5, HW_arg5, %h_arg5⟩
    sl_exec
    sl_step
    iexists _; isplitl [HW_arg5]; · iexact HW_arg5
    ipureintro
    rw [h_arg5]
    conv_rhs => unfold clearS
    rw [dif_pos k.isLt]
    try rfl

end Cert.KernelIdeal.Gen

end
-- ==== Proof.KIVRun.lean ====
/- The kernel body from the contents of its input block to the contents of its results. -/
module

public import proofs.«01_k».proof.Proof.KILoops
public import proofs.«01_k».proof.Proof.Words
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The permutation that sorts the columns of a chunk into four planes. -/
def permC : Vec F S512x512 .bf16 := k0_pay7 (F := F) k0_pay6
/-- The matrix that packs two codes into a byte. -/
def packC : Vec F S512x256 .bf16 :=
  k0_pay750 (F := F) (k0_pay12 (iota .tc S512x256 32 [1] iota_S512x256_d1_w32) k0_pay8 (Scalar.select (Scalar.cmpi .eq 128#32 0#32) 1#32 128#32) k0_pay9 k0_pay10 k0_pay11 (Scalar.cmpi .slt (Scalar.select (Scalar.cmpi .eq 128#32 0#32) 1#32 128#32) 0#32))
    (Scalar.select (Scalar.cmpi .eq 2#32 0#32) 1#32 2#32) (k0_pay13 k0_pay8) (k0_pay14 k0_pay8) (k0_pay15 k0_pay8) k0_pay16
/-- The matrix that picks every eighth lane. -/
def pickC : Vec F S1024x128 .bf16 := k0_pay751 (F := F)

/-- The number of live rows at point `i`. -/
def liveW (i : grid0.Coords) (L : BitVec 32) : BitVec 32 :=
  Scalar.minsi 32#32 (Scalar.maxsi 0#32 (Scalar.subi L (Scalar.muli (Cert.Words.floorMod (BitVec.ofNat 32 (i 0).val) 24#32) 32#32)))

/-- One block of scales. -/
def scaleB (v : Vec F S32x1024 .bf16) (w : Vec F S1024x128 .bf16) : Vec F S32x128 .i8 := k0_pay740 (k0_pay736 v w) (k0_pay737 v w) (k0_pay738 v w) (k0_pay739 v w)

theorem scaleB_1 (v : Vec F S32x1024 .bf16) (w : Vec F S1024x128 .bf16) : k0_pay743 (k0_pay741 v w) (k0_pay742 v w) 134217728#32 = scaleB v w := rfl
theorem scaleB_2 (v : Vec F S32x1024 .bf16) (w : Vec F S1024x128 .bf16) : k0_pay748 (k0_pay744 v w) k0_pay745 k0_pay746 k0_pay747 = scaleB v w := rfl
theorem scaleB_3 (v : Vec F S32x1024 .bf16) (w : Vec F S1024x128 .bf16) : k0_pay3 (k0_pay749 v w) 23#32 = scaleB v w := rfl

/-- The scales of powers `Q`. -/
def scaleG (Q : Vec F S32x4096 .bf16) (W : Vec F S1024x128 .bf16) : Vec F S32x512 .i8 := fun y =>
  scaleB (fun z => Q (ix2 (z 0) ⟨(1024 * ((y 1).val / 128) + (z 1).val) % 4096, Nat.mod_lt _ (by decide)⟩)) W (ix2 (y 0) ⟨(y 1).val % 128, Nat.mod_lt _ (by decide)⟩)

/-- The codes of a block: rows past the live ones are zero. -/
def outC (i : grid0.Coords) (L k0 k1 : BitVec 32) (x : Vec F S1x32x16384 .bf16) : Vec F S32x8192 .i8 := fun y =>
  keepEl (liveW i L) (y 0).val (codeG x permC packC (BitVec.ofNat 32 (i 0).val) k0 k1 y)
/-- The scales of a block: rows past the live ones are zero. -/
def outS (i : grid0.Coords) (L : BitVec 32) (x : Vec F S1x32x16384 .bf16) : Vec F S32x512 .i8 := fun y =>
  keepEl (liveW i L) (y 0).val (scaleG (powG x permC) pickC y)

theorem word_cond (b : Bool) : (Scalar.cmpi .ne (Scalar.extui (BitVec.ofBool b) : BitVec 32) 0#32 = 1#1) ↔ b = true := by cases b <;> decide

theorem cond2_iff (i : grid0.Coords) (L : BitVec 32) : k0_cond2 i L = 1#1 ↔ (liveW i L).toInt = 0 := by
  have e : k0_cond2 i L = Scalar.cmpi .ne (Scalar.extui (BitVec.ofBool (liveW i L == 0#32)) : BitVec 32) 0#32 := rfl
  rw [e, word_cond]
  constructor
  · intro h; rw [eq_of_beq h]; rfl
  · intro h; rw [BitVec.toInt_inj.mp (h.trans (show (0 : ℤ) = (0#32).toInt by decide))]; rfl
theorem cond3_iff (i : grid0.Coords) (L : BitVec 32) : k0_cond3 i L = 1#1 ↔ 0 < (liveW i L).toInt := by
  have e : k0_cond3 i L = Scalar.cmpi .ne (Scalar.extui (BitVec.ofBool ((0#32).slt (liveW i L))) : BitVec 32) 0#32 := rfl
  rw [e, word_cond, BitVec.slt_iff_toInt_lt]; rfl
theorem cond4_iff (i : grid0.Coords) (L : BitVec 32) : k0_cond4 i L = 1#1 ↔ (liveW i L).toInt < 32 := by
  have e : k0_cond4 i L = Scalar.cmpi .ne (Scalar.extui (BitVec.ofBool ((liveW i L).slt 32#32)) : BitVec 32) 0#32 := rfl
  rw [e, word_cond, BitVec.slt_iff_toInt_lt]; rfl
theorem liveW_toInt (i : grid0.Coords) (L : BitVec 32) : 0 ≤ (liveW i L).toInt ∧ (liveW i L).toInt ≤ 32 := by
  unfold liveW
  rw [Cert.Words.minsi_toInt, Cert.Words.maxsi_toInt]
  have a : (0#32).toInt = 0 := by decide
  have b : (32#32).toInt = 32 := by decide
  omega
theorem row_toInt (r : ℕ) (h : r < 32) : (BitVec.ofNat 32 r).toInt = r := by
  have := (by decide : ∀ r : Fin 32, (BitVec.ofNat 32 r.val).toInt = r.val) ⟨r, h⟩
  exact this
theorem keepEl_all (live : BitVec 32) (r : ℕ) (hr : r < 32) (h : ¬ live.toInt < 32) (b : BitVec 8) : keepEl live r b = b := by
  unfold keepEl
  rw [if_pos]
  rw [BitVec.slt_iff_toInt_lt, row_toInt r hr]; omega
theorem keepEl_none (live : BitVec 32) (r : ℕ) (hr : r < 32) (h : live.toInt = 0) (b : BitVec 8) : keepEl live r b = 0#8 := by
  unfold keepEl
  rw [if_neg]
  rw [BitVec.slt_iff_toInt_lt, row_toInt r hr]; omega

theorem permL_read (arg6 : Memref sig .tc .vmem S512x512 .bf16) (X : BufTy.Contents (Elt F) arg6.view.ty) : permL arg6 X = arg6.view.read (Elt F) X := View.readAt_full _ _ _
theorem packL_read (arg7 : Memref sig .tc .vmem S512x256 .bf16) (X : BufTy.Contents (Elt F) arg7.view.ty) : packL arg7 X = arg7.view.read (Elt F) X := View.readAt_full _ _ _

/-- The codes' buffer after the loop over chunks. -/
theorem codes_done (arg3 : Memref sig .tc .vmem S1x32x16384 .bf16) (arg6 : Memref sig .tc .vmem S512x512 .bf16) (arg7 : Memref sig .tc .vmem S512x256 .bf16) (arg4 : Memref sig .tc .vmem S32x8192 .i8)
    (arg9 : Memref sig .tc .vmem S128x512 .f32) (arg10 : Memref sig .tc .vmem S128x512 .bf16) (i k0 k1 : BitVec 32)
    (X3 : BufTy.Contents (Elt F) arg3.view.ty) (X6 : BufTy.Contents (Elt F) arg6.view.ty) (X7 : BufTy.Contents (Elt F) arg7.view.ty) (G : BufTy.Contents (Elt F) arg4.view.ty)
    (h6 : arg6.view.read (Elt F) X6 = permC) (h7 : arg7.view.read (Elt F) X7 = packC) :
    arg4.view.read (Elt F) (codesAt arg3 arg6 arg7 arg4 arg9 arg10 i k0 k1 X3 X6 X7 G 8) = codeG (arg3.view.read (Elt F) X3) permC packC i k0 k1 := by
  funext y
  have hy : (y 1).val < 8192 := (y 1).isLt
  rw [codesAt_read arg3 arg6 arg7 arg4 arg9 arg10 i k0 k1 X3 X6 X7 G 8 (Nat.le_refl 8) y (by omega), permL_read, packL_read, h6, h7]

theorem pows_done (arg3 : Memref sig .tc .vmem S1x32x16384 .bf16) (arg6 : Memref sig .tc .vmem S512x512 .bf16) (arg11 : Memref sig .tc .vmem S32x4096 .bf16)
    (arg9 : Memref sig .tc .vmem S128x512 .f32)
    (X3 : BufTy.Contents (Elt F) arg3.view.ty) (X6 : BufTy.Contents (Elt F) arg6.view.ty) (G : BufTy.Contents (Elt F) arg11.view.ty) (h6 : arg6.view.read (Elt F) X6 = permC) :
    arg11.view.read (Elt F) (powsAt arg3 arg6 arg11 arg9 X3 X6 G 8) = powG (arg3.view.read (Elt F) X3) permC := by
  funext y
  have hy : (y 1).val < 4096 := (y 1).isLt
  rw [powsAt_read arg3 arg6 arg11 arg9 X3 X6 G 8 (Nat.le_refl 8) y (by omega), permL_read, h6]

theorem clearC_done (arg4 : Memref sig .tc .vmem S32x8192 .i8) (live : BitVec 32) (G : BufTy.Contents (Elt F) arg4.view.ty) :
    arg4.view.read (Elt F) (clearC arg4 live G 64) = fun y => keepEl live (y 0).val (arg4.view.read (Elt F) G y) := by
  funext y
  have hy : (y 1).val < 8192 := (y 1).isLt
  rw [clearC_read arg4 live G 64 (Nat.le_refl 64) y, if_pos (by omega)]
theorem clearS_done (arg5 : Memref sig .tc .vmem S32x512 .i8) (live : BitVec 32) (G : BufTy.Contents (Elt F) arg5.view.ty) :
    arg5.view.read (Elt F) (clearS arg5 live G 4) = fun y => keepEl live (y 0).val (arg5.view.read (Elt F) G y) := by
  funext y
  have hy : (y 1).val < 512 := (y 1).isLt
  rw [clearS_read arg5 live G 4 (Nat.le_refl 4) y, if_pos (by omega)]

/-- Block `t` of the scales is the scales of its columns. -/
theorem scale_piece (Q : Vec F S32x4096 .bf16) (W : Vec F S1024x128 .bf16) (t : ℕ) (ht : t < 4)
    (inb : ∀ a, (![0, 1024 * t] : Fin 2 → ℕ) a + S32x1024.size a ≤ S32x4096.size a) (inb' : ∀ a, (![0, 128 * t] : Fin 2 → ℕ) a + S32x128.size a ≤ S32x512.size a) (x : S32x128.Idx) :
    scaleB (fun z => Q ((Rect.unit (s := S32x4096) ![0, 1024 * t] S32x1024.size inb).emb z)) W x = scaleG Q W ((Rect.unit (s := S32x512) ![0, 128 * t] S32x128.size inb').emb x) := by
  have hx1 : (x 1).val < 128 := (x 1).isLt
  have e0 : (((Rect.unit (s := S32x512) ![0, 128 * t] S32x128.size inb').emb x 0 : Fin _) : ℕ) = 0 + 1 * (x 0).val := rfl
  have e1 : (((Rect.unit (s := S32x512) ![0, 128 * t] S32x128.size inb').emb x 1 : Fin _) : ℕ) = 128 * t + 1 * (x 1).val := rfl
  unfold scaleG
  have hq : (((Rect.unit (s := S32x512) ![0, 128 * t] S32x128.size inb').emb x 1 : Fin _) : ℕ) / 128 = t := by omega
  have hz : (fun z : S32x1024.Idx => Q ((Rect.unit (s := S32x4096) ![0, 1024 * t] S32x1024.size inb).emb z))
      = fun z : S32x1024.Idx => Q (ix2 (z 0) ⟨(1024 * ((((Rect.unit (s := S32x512) ![0, 128 * t] S32x128.size inb').emb x 1 : Fin _) : ℕ) / 128) + (z 1).val) % 4096, Nat.mod_lt _ (by decide)⟩) := by
    funext z
    have hz1 : (z 1).val < 1024 := (z 1).isLt
    refine congrArg Q ((eq_ix2 _).trans (ix2_congr ?_ ?_))
    · show 0 + 1 * (z 0).val = (z 0).val
      omega
    · refine Eq.trans ?_ (congrArg (fun q => (1024 * q + (z 1).val) % 4096) hq.symm)
      show 1024 * t + 1 * (z 1).val = (1024 * t + (z 1).val) % 4096
      omega
  rw [hz]
  refine congrArg _ ((eq_ix2 x).trans (ix2_congr ?_ ?_))
  · omega
  · show (x 1).val = _ % 128
    omega

/-- The store of block `t` of the scales. -/
def scaleP (arg11 : Memref sig .tc .vmem S32x4096 .bf16) (X11 : BufTy.Contents (Elt F) arg11.view.ty) (W : Vec F S1024x128 .bf16) (t : Fin 4)
    (inb : ∀ a, (![0, 1024 * t.val] : Fin 2 → ℕ) a + S32x1024.size a ≤ S32x4096.size a) (inb' : ∀ a, (![0, 128 * t.val] : Fin 2 → ℕ) a + S32x128.size a ≤ S32x512.size a) : View.Piece (Elt F) S32x512 .i8 :=
  ⟨Rect.unit (s := S32x512) ![0, 128 * t.val] S32x128.size inb',
    scaleB (arg11.view.readAt (Elt F) (Rect.unit (s := S32x4096) ![0, 1024 * t.val] S32x1024.size inb).toLoadRect X11) W⟩

/-- The scales' buffer after the four blocks. -/
def scalesW (arg5 : Memref sig .tc .vmem S32x512 .i8) (f : BufTy.Contents (Elt F) arg5.view.ty) (arg11 : Memref sig .tc .vmem S32x4096 .bf16) (X11 : BufTy.Contents (Elt F) arg11.view.ty)
    (arg8 : Memref sig .tc .vmem S1024x128 .bf16) (X8 : BufTy.Contents (Elt F) arg8.view.ty) : BufTy.Contents (Elt F) arg5.view.ty :=
  arg5.view.writes (Elt F) f
    [scaleP arg11 X11 (arg8.view.readAt (Elt F) (Rect.unit (s := S1024x128) ![0, 0] S1024x128.size inb_S1024x128_S1024x128_0_0).toLoadRect X8) 3 inb_S32x4096_S32x1024_0_3072 inb_S32x512_S32x128_0_384,
     scaleP arg11 X11 (arg8.view.readAt (Elt F) (Rect.unit (s := S1024x128) ![0, 0] S1024x128.size inb_S1024x128_S1024x128_0_0).toLoadRect X8) 2 inb_S32x4096_S32x1024_0_2048 inb_S32x512_S32x128_0_256,
     scaleP arg11 X11 (arg8.view.readAt (Elt F) (Rect.unit (s := S1024x128) ![0, 0] S1024x128.size inb_S1024x128_S1024x128_0_0).toLoadRect X8) 1 inb_S32x4096_S32x1024_0_1024 inb_S32x512_S32x128_0_128,
     scaleP arg11 X11 (arg8.view.readAt (Elt F) (Rect.unit (s := S1024x128) ![0, 0] S1024x128.size inb_S1024x128_S1024x128_0_0).toLoadRect X8) 0 inb_S32x4096_S32x1024_0_0 inb_S32x512_S32x128_0_0]

theorem scalesW_read (arg5 : Memref sig .tc .vmem S32x512 .i8) (f : BufTy.Contents (Elt F) arg5.view.ty) (arg11 : Memref sig .tc .vmem S32x4096 .bf16) (X11 : BufTy.Contents (Elt F) arg11.view.ty)
    (arg8 : Memref sig .tc .vmem S1024x128 .bf16) (X8 : BufTy.Contents (Elt F) arg8.view.ty) :
    arg5.view.read (Elt F) (scalesW arg5 f arg11 X11 arg8 X8) = scaleG (arg11.view.read (Elt F) X11) (arg8.view.read (Elt F) X8) := by
  have hw : arg8.view.readAt (Elt F) (Rect.unit (s := S1024x128) ![0, 0] S1024x128.size inb_S1024x128_S1024x128_0_0).toLoadRect X8 = arg8.view.read (Elt F) X8 := View.readAt_full _ _ _
  unfold scalesW
  rw [hw]
  funext y
  have hy0 : (y 0).val < 32 := (y 0).isLt
  have hy1 : (y 1).val < 512 := (y 1).isLt
  have key : ∀ (t : Fin 4) (inb) (inb'), ∀ x, (scaleP arg11 X11 (arg8.view.read (Elt F) X8) t inb inb').2 x
      = scaleG (arg11.view.read (Elt F) X11) (arg8.view.read (Elt F) X8) ((scaleP arg11 X11 (arg8.view.read (Elt F) X8) t inb inb').1.emb x) := fun t inb inb' x =>
    scale_piece (arg11.view.read (Elt F) X11) (arg8.view.read (Elt F) X8) t.val t.isLt inb inb' x
  have mem : ∀ (t : Fin 4) (inb) (inb'), (y 1).val / 128 = t.val → y ∈ (scaleP arg11 X11 (arg8.view.read (Elt F) X8) t inb inb').1.set := fun t inb inb' ht =>
    mem_unit2 (inb := inb') y (by show 0 ≤ (y 0).val ∧ (y 0).val < 0 + 32; omega) (by show 128 * t.val ≤ (y 1).val ∧ (y 1).val < 128 * t.val + 128; omega)
  refine View.read_writes_apply_of_pieces _ _ _ _ ?_ y ?_
  · intro p hp
    simp only [List.mem_cons, List.not_mem_nil, or_false] at hp
    rcases hp with rfl | rfl | rfl | rfl <;> exact key _ _ _
  · have h4 : (y 1).val / 128 < 4 := by omega
    rcases (by omega : (y 1).val / 128 = 3 ∨ (y 1).val / 128 = 2 ∨ (y 1).val / 128 = 1 ∨ (y 1).val / 128 = 0) with h | h | h | h
    · exact ⟨_, List.mem_cons_self, mem 3 _ _ h⟩
    · exact ⟨_, List.mem_cons_of_mem _ List.mem_cons_self, mem 2 _ _ h⟩
    · exact ⟨_, List.mem_cons_of_mem _ (List.mem_cons_of_mem _ List.mem_cons_self), mem 1 _ _ h⟩
    · exact ⟨_, List.mem_cons_of_mem _ (List.mem_cons_of_mem _ (List.mem_cons_of_mem _ List.mem_cons_self)), mem 0 _ _ h⟩

theorem clearC_end (arg4 : Memref sig .tc .vmem S32x8192 .i8) (live : BitVec 32) (G : BufTy.Contents (Elt F) arg4.view.ty) (n : ℕ) (hn : n = 64) (V : Vec F S32x8192 .i8) (hV : arg4.view.read (Elt F) G = V) :
    arg4.view.read (Elt F) (clearC arg4 live G n) = fun y => keepEl live (y 0).val (V y) := by
  subst hn hV
  exact clearC_done arg4 live G
theorem clearS_end (arg5 : Memref sig .tc .vmem S32x512 .i8) (live : BitVec 32) (G : BufTy.Contents (Elt F) arg5.view.ty) (n : ℕ) (hn : n = 4) (V : Vec F S32x512 .i8) (hV : arg5.view.read (Elt F) G = V) :
    arg5.view.read (Elt F) (clearS arg5 live G n) = fun y => keepEl live (y 0).val (V y) := by
  subst hn hV
  exact clearS_done arg5 live G

/-- The codes' buffer after the loop over chunks, its last trip spelled out. -/
theorem codes_end (arg3 : Memref sig .tc .vmem S1x32x16384 .bf16) (arg6 : Memref sig .tc .vmem S512x512 .bf16) (arg7 : Memref sig .tc .vmem S512x256 .bf16) (arg4 : Memref sig .tc .vmem S32x8192 .i8)
    (arg9 : Memref sig .tc .vmem S128x512 .f32) (arg10 : Memref sig .tc .vmem S128x512 .bf16) (i k0 k1 : BitVec 32)
    (X3 : BufTy.Contents (Elt F) arg3.view.ty) (X6 : BufTy.Contents (Elt F) arg6.view.ty) (X7 : BufTy.Contents (Elt F) arg7.view.ty) (G : BufTy.Contents (Elt F) arg4.view.ty)
    (x : Vec F S1x32x16384 .bf16) (h3 : arg3.view.read (Elt F) X3 = x) (h6 : arg6.view.read (Elt F) X6 = permC) (h7 : arg7.view.read (Elt F) X7 = packC) :
    arg4.view.read (Elt F) (if h : 7 < k0_t1_loop.trips then
      arg4.view.writes (Elt F) (codesAt arg3 arg6 arg7 arg4 arg9 arg10 i k0 k1 X3 X6 X7 G 7)
        (codesL arg10 (nibsL arg9 (planesL (inL arg3 X3 ⟨7, h⟩) (permL arg6 X6)) i 7 k0 k1) (packL arg7 X7) ⟨7, h⟩)
      else codesAt arg3 arg6 arg7 arg4 arg9 arg10 i k0 k1 X3 X6 X7 G 7) = codeG x permC packC i k0 k1 := by
  subst h3
  have := codes_done arg3 arg6 arg7 arg4 arg9 arg10 i k0 k1 X3 X6 X7 G h6 h7
  rw [codesAt] at this
  exact this

theorem scales_end (arg3 : Memref sig .tc .vmem S1x32x16384 .bf16) (arg6 : Memref sig .tc .vmem S512x512 .bf16) (arg11 : Memref sig .tc .vmem S32x4096 .bf16) (arg9 : Memref sig .tc .vmem S128x512 .f32)
    (arg5 : Memref sig .tc .vmem S32x512 .i8) (arg8 : Memref sig .tc .vmem S1024x128 .bf16) (f : BufTy.Contents (Elt F) arg5.view.ty) (X8 : BufTy.Contents (Elt F) arg8.view.ty)
    (X3 : BufTy.Contents (Elt F) arg3.view.ty) (X6 : BufTy.Contents (Elt F) arg6.view.ty) (G : BufTy.Contents (Elt F) arg11.view.ty) (n : ℕ) (hn : n = 8)
    (x : Vec F S1x32x16384 .bf16) (h3 : arg3.view.read (Elt F) X3 = x) (h6 : arg6.view.read (Elt F) X6 = permC) (h8 : arg8.view.read (Elt F) X8 = pickC) :
    arg5.view.read (Elt F) (scalesW arg5 f arg11 (powsAt arg3 arg6 arg11 arg9 X3 X6 G n) arg8 X8) = scaleG (powG x permC) pickC := by
  subst h3 hn
  rw [scalesW_read, pows_done arg3 arg6 arg11 arg9 X3 X6 G h6, h8]

/-- The codes when no row is dead, when some are, and when all are. -/
theorem outC_all (i : grid0.Coords) (L k0 k1 : BitVec 32) (x : Vec F S1x32x16384 .bf16) (h : ¬ k0_cond4 i L = 1#1) : codeG x permC packC (BitVec.ofNat 32 (i 0).val) k0 k1 = outC i L k0 k1 x := by
  funext y
  rw [cond4_iff] at h
  exact (keepEl_all _ _ (y 0).isLt h _).symm
theorem outS_all (i : grid0.Coords) (L : BitVec 32) (x : Vec F S1x32x16384 .bf16) (h : ¬ k0_cond4 i L = 1#1) : scaleG (powG x permC) pickC = outS i L x := by
  funext y
  rw [cond4_iff] at h
  exact (keepEl_all _ _ (y 0).isLt h _).symm
theorem outC_none (i : grid0.Coords) (L k0 k1 : BitVec 32) (x : Vec F S1x32x16384 .bf16) (h : k0_cond2 i L = 1#1) : k0_pay1 = outC i L k0 k1 x := by
  funext y
  rw [cond2_iff] at h
  exact (keepEl_none _ _ (y 0).isLt h _).symm
theorem outS_none (i : grid0.Coords) (L : BitVec 32) (x : Vec F S1x32x16384 .bf16) (h : k0_cond2 i L = 1#1) : k0_pay2 = outS i L x := by
  funext y
  rw [cond2_iff] at h
  exact (keepEl_none _ _ (y 0).isLt h _).symm

/-- The two words of the seed. -/
def seed0 (arg2 : Memref sig .tc .smem S2 .i32) {c : Dev nD} (T : TbBuf0 (F := F) c arg2) : BitVec 32 :=
  arg2.view.readAt (Elt F) (Rect.unit (s := S2) ![0] S1.size inb_S2_S1_0).toLoadRect T (Shape.Idx.first (numel1_S1.symm ▸ Nat.one_pos))
def seed1 (arg2 : Memref sig .tc .smem S2 .i32) {c : Dev nD} (T : TbBuf0 (F := F) c arg2) : BitVec 32 :=
  arg2.view.readAt (Elt F) (Rect.unit (s := S2) ![1] S1.size inb_S2_S1_1).toLoadRect T (Shape.Idx.first (numel1_S1.symm ▸ Nat.one_pos))

/-- The length the body reads from its table at point `i`. -/
abbrev lenP (arg1 : Memref sig .tc .smem S2 .i32) (i : grid0.Coords) {c : Dev nD} (T : TbBuf0 (F := F) c arg1) : BitVec 32 :=
  arg1.view.readAt (Elt F) (Rect.unit (s := S2) (k0_off1 i) S1.size (k0_off1_inb i)).toLoadRect T (Shape.Idx.first (numel1_S1.symm ▸ Nat.one_pos))

/-- The body's first condition: the point is the first of the grid. -/
abbrev firstP (i : grid0.Coords) : Prop :=
  (Scalar.cmpi .ne (Scalar.extui (Scalar.cmpi .eq (BitVec.ofNat 32 (i 0).val) 0#32)) 0#32) = 1#1

set_option maxHeartbeats 4000000 in
/-- What the body leaves in its results and in the buffers it carries from point to point. -/
theorem kernel_value (c : Dev nD) (i : grid0.Coords) (arg1 : Memref sig .tc .smem S2 .i32) (harg1 : arg1.IsWhole) (arg2 : Memref sig .tc .smem S2 .i32) (harg2 : arg2.IsWhole) (arg3 : Memref sig .tc .vmem S1x32x16384 .bf16) (harg3 : arg3.IsWhole) (arg4 : Memref sig .tc .vmem S32x8192 .i8) (harg4 : arg4.IsWhole) (arg5 : Memref sig .tc .vmem S32x512 .i8) (harg5 : arg5.IsWhole) (arg6 : Memref sig .tc .vmem S512x512 .bf16) (harg6 : arg6.IsWhole) (arg7 : Memref sig .tc .vmem S512x256 .bf16) (harg7 : arg7.IsWhole) (arg8 : Memref sig .tc .vmem S1024x128 .bf16) (harg8 : arg8.IsWhole) (arg9 : Memref sig .tc .vmem S128x512 .f32) (harg9 : arg9.IsWhole) (arg10 : Memref sig .tc .vmem S128x512 .bf16) (harg10 : arg10.IsWhole) (arg11 : Memref sig .tc .vmem S32x4096 .bf16) (harg11 : arg11.IsWhole)
    (T1 : TbBuf0 (F := F) c arg1) (T2 : TbBuf0 (F := F) c arg2) (x : Vec F S1x32x16384 .bf16) (d6 : Vec F S512x512 .bf16) (d7 : Vec F S512x256 .bf16) (d8 : Vec F S1024x128 .bf16)
    (hd : ¬ firstP i → d6 = permC ∧ d7 = packC ∧ d8 = pickC) (E : Set ℕ) (K : PUnit → sProp 𝕄) :
        iprop(tbPt0 c arg1 T1 ∗ tbPt0 c arg2 T2 ∗ owns (c : Thread nD τ) arg3 fullShare x ∗ (∃ d, owns (c : Thread nD τ) arg4 fullShare d) ∗ (∃ d, owns (c : Thread nD τ) arg5 fullShare d)
            ∗ owns (c : Thread nD τ) arg6 fullShare d6 ∗ owns (c : Thread nD τ) arg7 fullShare d7 ∗ owns (c : Thread nD τ) arg8 fullShare d8
            ∗ (∃ d, owns (c : Thread nD τ) arg9 fullShare d) ∗ (∃ d, owns (c : Thread nD τ) arg10 fullShare d) ∗ (∃ d, owns (c : Thread nD τ) arg11 fullShare d)
            ∗ (iprop(tbPt0 c arg1 T1 ∗ tbPt0 c arg2 T2 ∗ owns (c : Thread nD τ) arg3 fullShare x
            ∗ owns (c : Thread nD τ) arg4 fullShare (outC i (lenP arg1 i T1) (seed0 arg2 T2) (seed1 arg2 T2) x) ∗ owns (c : Thread nD τ) arg5 fullShare (outS i (lenP arg1 i T1) x)
            ∗ owns (c : Thread nD τ) arg6 fullShare permC ∗ owns (c : Thread nD τ) arg7 fullShare packC ∗ owns (c : Thread nD τ) arg8 fullShare pickC
            ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mxfp4_sr i arg1 harg1 arg2 harg2 arg3 harg3 arg4 harg4 arg5 harg5 arg6 harg6 arg7 harg7 arg8 harg8 arg9 harg9 arg10 harg10 arg11 harg11) K := by
  simp only [cc0_mxfp4_sr_eq_skeleton]; unfold cc0_mxfp4_sr_skel
  unfold owns
  iintro ⟨HT1, HT2, ⟨%f3, %hf3, H3⟩, ⟨%d4, %f4, -, H4⟩, ⟨%d5, %f5, -, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  have hlive := liveW_toInt i (lenP arg1 i T1)
  by_cases hc1 : firstP i
  all_goals by_cases hc2 : k0_cond2 i (lenP arg1 i T1) = 1#1
  all_goals by_cases hc3 : k0_cond3 i (lenP arg1 i T1) = 1#1
  all_goals by_cases hc4 : k0_cond4 i (lenP arg1 i T1) = 1#1
  all_goals try (exfalso; rw [cond2_iff] at hc2; rw [cond3_iff] at hc3; rw [cond4_iff] at hc4; omega)
  · sl_exec (disch := first | sl_exact hc1 | sl_exact hc2 | sl_exact hc3 | sl_exact hc4)
    sl_step
    iapply Hk
    isplitl [HT1]; · iexact HT1
    isplitl [HT2]; · iexact HT2
    isplitl [H3]; · iexists _; isplitr; swap; · iexact H3
                    ipureintro; exact hf3
    isplitl [H4]
    · iexists _; isplitr; swap; · iexact H4
      ipureintro
      exact (View.read_writes_full _ _ _ _ _).trans (outC_none _ _ _ _ _ hc2)
    isplitl [H5]
    · iexists _; isplitr; swap; · iexact H5
      ipureintro
      exact (View.read_writes_full _ _ _ _ _).trans (outS_none _ _ _ hc2)
    isplitl [H6]; · iexists _; isplitr; swap; · iexact H6
                    ipureintro; exact (View.read_writes_full _ _ _ _ _)
    isplitl [H7]; · iexists _; isplitr; swap; · iexact H7
                    ipureintro; exact (View.read_writes_full _ _ _ _ _)
    isplitl [H8]; · iexists _; isplitr; swap; · iexact H8
                    ipureintro; exact (View.read_writes_full _ _ _ _ _)
    isplitl [H9]; · iexists _, _; isplitr; swap; · iexact H9
                    ipureintro; rfl
    isplitl [H10]; · iexists _, _; isplitr; swap; · iexact H10
                     ipureintro; rfl
    iexists _, _; isplitr; swap; · iexact H11
    ipureintro; rfl
  · sl_exec (disch := first | sl_exact hc1 | sl_exact hc2 | sl_exact hc3 | sl_exact hc4)
    sl_step
    iapply Hk
    isplitl [HT1]; · iexact HT1
    isplitl [HT2]; · iexact HT2
    isplitl [H3]; · iexists _; isplitr; swap; · iexact H3
                    ipureintro; exact hf3
    isplitl [H4]
    · iexists _; isplitr; swap; · iexact H4
      ipureintro
      exact clearC_end arg4 _ _ _ (by decide +kernel) _ (codes_end arg3 arg6 arg7 arg4 arg9 arg10 _ _ _ f3 _ _ _ x hf3 (View.read_writes_full _ _ _ _ _) (View.read_writes_full _ _ _ _ _))
    isplitl [H5]
    · iexists _; isplitr; swap; · iexact H5
      ipureintro
      exact clearS_end arg5 _ (scalesW arg5 arg5.view.junk arg11 (powsAt arg3 arg6 arg11 arg9 f3 (arg6.view.writes (Elt F) arg6.view.junk [⟨Rect.unit (s := S512x512) ![0, 0] S512x512.size inb_S512x512_S512x512_0_0, permC⟩]) f11 (Scf.trips k0_t1_loop.lb k0_t1_loop.ub k0_t1_loop.st)) arg8 (arg8.view.writes (Elt F) arg8.view.junk [⟨Rect.unit (s := S1024x128) ![0, 0] S1024x128.size inb_S1024x128_S1024x128_0_0, pickC⟩])) _ (by decide +kernel) _ (scales_end arg3 arg6 arg11 arg9 arg5 arg8 _ _ f3 _ f11 _ (by decide +kernel) x hf3 (View.read_writes_full _ _ _ _ _) (View.read_writes_full _ _ _ _ _))
    isplitl [H6]; · iexists _; isplitr; swap; · iexact H6
                    ipureintro; exact (View.read_writes_full _ _ _ _ _)
    isplitl [H7]; · iexists _; isplitr; swap; · iexact H7
                    ipureintro; exact (View.read_writes_full _ _ _ _ _)
    isplitl [H8]; · iexists _; isplitr; swap; · iexact H8
                    ipureintro; exact (View.read_writes_full _ _ _ _ _)
    isplitl [H9]; · iexists _, _; isplitr; swap; · iexact H9
                    ipureintro; rfl
    isplitl [H10]; · iexists _, _; isplitr; swap; · iexact H10
                     ipureintro; rfl
    iexists _, _; isplitr; swap; · iexact H11
    ipureintro; rfl
  · sl_exec (disch := first | sl_exact hc1 | sl_exact hc2 | sl_exact hc3 | sl_exact hc4)
    sl_step
    iapply Hk
    isplitl [HT1]; · iexact HT1
    isplitl [HT2]; · iexact HT2
    isplitl [H3]; · iexists _; isplitr; swap; · iexact H3
                    ipureintro; exact hf3
    isplitl [H4]
    · iexists _; isplitr; swap; · iexact H4
      ipureintro
      exact (codes_end arg3 arg6 arg7 arg4 arg9 arg10 _ _ _ f3 _ _ _ x hf3 (View.read_writes_full _ _ _ _ _) (View.read_writes_full _ _ _ _ _)).trans (outC_all _ _ _ _ _ hc4)
    isplitl [H5]
    · iexists _; isplitr; swap; · iexact H5
      ipureintro
      change arg5.view.read (Elt F) (scalesW arg5 f5 arg11 (powsAt arg3 arg6 arg11 arg9 f3 (arg6.view.writes (Elt F) arg6.view.junk [⟨Rect.unit (s := S512x512) ![0, 0] S512x512.size inb_S512x512_S512x512_0_0, permC⟩]) f11 (Scf.trips k0_t1_loop.lb k0_t1_loop.ub k0_t1_loop.st)) arg8 (arg8.view.writes (Elt F) arg8.view.junk [⟨Rect.unit (s := S1024x128) ![0, 0] S1024x128.size inb_S1024x128_S1024x128_0_0, pickC⟩])) = _
      exact (scales_end arg3 arg6 arg11 arg9 arg5 arg8 _ _ f3 _ f11 _ (by decide +kernel) x hf3 (View.read_writes_full _ _ _ _ _) (View.read_writes_full _ _ _ _ _)).trans (outS_all _ _ _ hc4)
    isplitl [H6]; · iexists _; isplitr; swap; · iexact H6
                    ipureintro; exact (View.read_writes_full _ _ _ _ _)
    isplitl [H7]; · iexists _; isplitr; swap; · iexact H7
                    ipureintro; exact (View.read_writes_full _ _ _ _ _)
    isplitl [H8]; · iexists _; isplitr; swap; · iexact H8
                    ipureintro; exact (View.read_writes_full _ _ _ _ _)
    isplitl [H9]; · iexists _, _; isplitr; swap; · iexact H9
                    ipureintro; rfl
    isplitl [H10]; · iexists _, _; isplitr; swap; · iexact H10
                     ipureintro; rfl
    iexists _, _; isplitr; swap; · iexact H11
    ipureintro; rfl
  · sl_exec (disch := first | sl_exact hc1 | sl_exact hc2 | sl_exact hc3 | sl_exact hc4)
    sl_step
    iapply Hk
    isplitl [HT1]; · iexact HT1
    isplitl [HT2]; · iexact HT2
    isplitl [H3]; · iexists _; isplitr; swap; · iexact H3
                    ipureintro; exact hf3
    isplitl [H4]
    · iexists _; isplitr; swap; · iexact H4
      ipureintro
      exact (View.read_writes_full _ _ _ _ _).trans (outC_none _ _ _ _ _ hc2)
    isplitl [H5]
    · iexists _; isplitr; swap; · iexact H5
      ipureintro
      exact (View.read_writes_full _ _ _ _ _).trans (outS_none _ _ _ hc2)
    isplitl [H6]; · iexists _; isplitr; swap; · iexact H6
                    ipureintro; exact (hf6.trans (hd hc1).1)
    isplitl [H7]; · iexists _; isplitr; swap; · iexact H7
                    ipureintro; exact (hf7.trans (hd hc1).2.1)
    isplitl [H8]; · iexists _; isplitr; swap; · iexact H8
                    ipureintro; exact (hf8.trans (hd hc1).2.2)
    isplitl [H9]; · iexists _, _; isplitr; swap; · iexact H9
                    ipureintro; rfl
    isplitl [H10]; · iexists _, _; isplitr; swap; · iexact H10
                     ipureintro; rfl
    iexists _, _; isplitr; swap; · iexact H11
    ipureintro; rfl
  · sl_exec (disch := first | sl_exact hc1 | sl_exact hc2 | sl_exact hc3 | sl_exact hc4)
    sl_step
    iapply Hk
    isplitl [HT1]; · iexact HT1
    isplitl [HT2]; · iexact HT2
    isplitl [H3]; · iexists _; isplitr; swap; · iexact H3
                    ipureintro; exact hf3
    isplitl [H4]
    · iexists _; isplitr; swap; · iexact H4
      ipureintro
      exact clearC_end arg4 _ _ _ (by decide +kernel) _ (codes_end arg3 arg6 arg7 arg4 arg9 arg10 _ _ _ f3 _ _ _ x hf3 (hf6.trans (hd hc1).1) (hf7.trans (hd hc1).2.1))
    isplitl [H5]
    · iexists _; isplitr; swap; · iexact H5
      ipureintro
      exact clearS_end arg5 _ (scalesW arg5 arg5.view.junk arg11 (powsAt arg3 arg6 arg11 arg9 f3 f6 f11 (Scf.trips k0_t1_loop.lb k0_t1_loop.ub k0_t1_loop.st)) arg8 f8) _ (by decide +kernel) _ (scales_end arg3 arg6 arg11 arg9 arg5 arg8 _ _ f3 _ f11 _ (by decide +kernel) x hf3 (hf6.trans (hd hc1).1) (hf8.trans (hd hc1).2.2))
    isplitl [H6]; · iexists _; isplitr; swap; · iexact H6
                    ipureintro; exact (hf6.trans (hd hc1).1)
    isplitl [H7]; · iexists _; isplitr; swap; · iexact H7
                    ipureintro; exact (hf7.trans (hd hc1).2.1)
    isplitl [H8]; · iexists _; isplitr; swap; · iexact H8
                    ipureintro; exact (hf8.trans (hd hc1).2.2)
    isplitl [H9]; · iexists _, _; isplitr; swap; · iexact H9
                    ipureintro; rfl
    isplitl [H10]; · iexists _, _; isplitr; swap; · iexact H10
                     ipureintro; rfl
    iexists _, _; isplitr; swap; · iexact H11
    ipureintro; rfl
  · sl_exec (disch := first | sl_exact hc1 | sl_exact hc2 | sl_exact hc3 | sl_exact hc4)
    sl_step
    iapply Hk
    isplitl [HT1]; · iexact HT1
    isplitl [HT2]; · iexact HT2
    isplitl [H3]; · iexists _; isplitr; swap; · iexact H3
                    ipureintro; exact hf3
    isplitl [H4]
    · iexists _; isplitr; swap; · iexact H4
      ipureintro
      exact (codes_end arg3 arg6 arg7 arg4 arg9 arg10 _ _ _ f3 _ _ _ x hf3 (hf6.trans (hd hc1).1) (hf7.trans (hd hc1).2.1)).trans (outC_all _ _ _ _ _ hc4)
    isplitl [H5]
    · iexists _; isplitr; swap; · iexact H5
      ipureintro
      change arg5.view.read (Elt F) (scalesW arg5 f5 arg11 (powsAt arg3 arg6 arg11 arg9 f3 f6 f11 (Scf.trips k0_t1_loop.lb k0_t1_loop.ub k0_t1_loop.st)) arg8 f8) = _
      exact (scales_end arg3 arg6 arg11 arg9 arg5 arg8 _ _ f3 _ f11 _ (by decide +kernel) x hf3 (hf6.trans (hd hc1).1) (hf8.trans (hd hc1).2.2)).trans (outS_all _ _ _ hc4)
    isplitl [H6]; · iexists _; isplitr; swap; · iexact H6
                    ipureintro; exact (hf6.trans (hd hc1).1)
    isplitl [H7]; · iexists _; isplitr; swap; · iexact H7
                    ipureintro; exact (hf7.trans (hd hc1).2.1)
    isplitl [H8]; · iexists _; isplitr; swap; · iexact H8
                    ipureintro; exact (hf8.trans (hd hc1).2.2)
    isplitl [H9]; · iexists _, _; isplitr; swap; · iexact H9
                    ipureintro; rfl
    isplitl [H10]; · iexists _, _; isplitr; swap; · iexact H10
                     ipureintro; rfl
    iexists _, _; isplitr; swap; · iexact H11
    ipureintro; rfl

end Cert.KernelIdeal.Gen

end
-- ==== Proof.Scal.lean ====
/- The scalar arithmetic of the kernel's groups over the extended reals: powers of two as f32 patterns, the exponent field
   found by comparison, and the codes' magnitudes. -/
module

public import Idealize.ShloMosaic.PureOps
public import Idealize.ShloMosaic.PureOps.Ideal
public import Idealize.ShloMosaic.PureOps.Ideal.Laws
public import Idealize.ShloMosaic.Lib.Tactic

@[expose] public section

noncomputable section

namespace Cert.Scal

open Idealize.ShloMosaic

/-- The f32 pattern of the exponent field `k`. -/
def fp (k : ℕ) : BitVec 32 := BitVec.ofNat 32 (k * 8388608)

/-- The power of two of the f32 exponent field `k`. -/
def pw (k : ℕ) : EReal := (((2:ℝ) ^ ((k:ℤ) - 127) : ℝ) : EReal)

theorem ofBits_field : ∀ k : Fin 256, (fp k.val).extractLsb' 31 1 = 0#1
    ∧ ((fp k.val).extractLsb' 23 8).toNat = k.val ∧ ((fp k.val).extractLsb' 0 23).toNat = 0 := by
  decide +kernel

theorem ofBits_pw (k : ℕ) (h1 : 1 ≤ k) (h2 : k ≤ 254) : Ideal.ofBits .f32 (fp k) = pw k := by
  obtain ⟨e1, e2, e3⟩ := ofBits_field ⟨k, by omega⟩
  simp only at e1 e2 e3
  simp only [Ideal.ofBits, Ideal.ieee, e1, e2, e3, pw]
  rw [if_neg (by omega), if_neg (by omega)]
  congr 1
  rw [show ((2:ℝ) ^ ((k:ℤ) - 127)) = 2 ^ (23:ℕ) * (2:ℝ) ^ ((k:ℤ) - (2 ^ (8-1) - 1) - (23:ℕ)) by
    rw [← zpow_natCast, ← zpow_add₀ (by norm_num)]; congr 1; norm_num]
  norm_num

theorem ofBits_pw255 : Ideal.ofBits .f32 (fp 255) = ⊤ := by
  obtain ⟨e1, e2, e3⟩ := ofBits_field ⟨255, by omega⟩
  simp only [Ideal.ofBits, Ideal.ieee, e1, e2, e3]
  rfl

theorem pw_mono {a b : ℕ} (h : a ≤ b) : pw a ≤ pw b := by
  unfold pw
  exact EReal.coe_le_coe_iff.mpr (zpow_le_zpow_right₀ (by norm_num) (by omega))

theorem pw_pos (a : ℕ) : 0 < pw a := by
  unfold pw
  exact EReal.coe_lt_coe_iff.mpr (zpow_pos (by norm_num) _)

/-- The exponent field of a value that is nothing, or between the powers of two of `K` and the next: `K`. -/
def Fld (v : EReal) (K : ℕ) : Prop := (v = 0 ∧ K = 0) ∨ (1 ≤ K ∧ K ≤ 254 ∧ pw K ≤ v ∧ v < pw (K + 1))

theorem Fld.le {v : EReal} {K : ℕ} (h : Fld v K) : K ≤ 254 := by
  rcases h with ⟨_, h⟩ | h <;> omega

theorem Fld.iff {v : EReal} {K : ℕ} (h : Fld v K) (k : ℕ) (h1 : 1 ≤ k) : pw k ≤ v ↔ k ≤ K := by
  rcases h with ⟨rfl, rfl⟩ | ⟨a, b, c, d⟩
  · exact ⟨fun h => absurd h (not_le.mpr (pw_pos k)), fun h => by omega⟩
  · exact ⟨fun h => by
      by_contra hk
      exact absurd (lt_of_lt_of_le d ((pw_mono (by omega)).trans h)) (lt_irrefl _), fun h => (pw_mono h).trans c⟩

theorem Fld.iffB {v : EReal} {K : ℕ} (h : Fld v K) (k : ℕ) (h1 : 1 ≤ k) (h2 : k ≤ 255) :
    Ideal.ofBits .f32 (fp k) ≤ v ↔ k ≤ K := by
  by_cases hk : k = 255
  · subst hk
    rw [ofBits_pw255]
    rcases h with ⟨rfl, rfl⟩ | ⟨a, b, c, d⟩
    · simp
    · refine ⟨fun h => ?_, fun h => by omega⟩
      rw [top_le_iff] at h
      subst h
      exact absurd d not_top_lt
  · rw [ofBits_pw k h1 (by omega), h.iff k h1]

/-- One step of the search for the exponent field: the bit `b` joins where the value is not below the pattern with it. -/
def fstep (v : EReal) (f b : BitVec 32) : BitVec 32 :=
  Scalar.select (Ideal.cmp .oge v (Ideal.ofBits .f32 (IntOp.addi f b))) (IntOp.addi f b) f

/-- The search, from the highest bit of the field down. -/
def fieldS (v : EReal) : BitVec 32 :=
  fstep v (fstep v (fstep v (fstep v (fstep v (fstep v (fstep v (fstep v 0#32 1073741824#32) 536870912#32) 268435456#32) 134217728#32) 67108864#32) 33554432#32) 16777216#32) 8388608#32

theorem fp_add (a b : ℕ) : IntOp.addi (fp a) (fp b) = fp (a + b) := by
  unfold fp IntOp.addi
  rw [Nat.add_mul, BitVec.ofNat_add]

theorem fstep_eq {v : EReal} {K : ℕ} (h : Fld v K) (t b : ℕ) (hb : 1 ≤ b) (htb : t + b ≤ 255) (hl : t ≤ K) (hu : K < t + 2 * b) :
    ∃ t', fstep v (fp t) (fp b) = fp t' ∧ t' ≤ K ∧ K < t' + b ∧ t' ≤ t + b := by
  have := h.iffB (t + b) (by omega) htb
  unfold fstep
  rw [fp_add]
  by_cases hk : t + b ≤ K
  · have e : Ideal.cmp .oge v (Ideal.ofBits .f32 (fp (t + b))) = 1 := by
      unfold Ideal.cmp
      rw [show decide (Ideal.ofBits .f32 (fp (t + b)) ≤ v) = true from decide_eq_true (this.mpr hk)]
      rfl
    refine ⟨t + b, ?_, hk, by omega, le_refl _⟩
    unfold Scalar.select
    rw [if_pos e]
  · have e : Ideal.cmp .oge v (Ideal.ofBits .f32 (fp (t + b))) = 0 := by
      unfold Ideal.cmp
      rw [show decide (Ideal.ofBits .f32 (fp (t + b)) ≤ v) = false from decide_eq_false (mt this.mp hk)]
      rfl
    refine ⟨t, ?_, hl, by omega, by omega⟩
    unfold Scalar.select
    rw [if_neg (by rw [e]; decide)]

theorem fp_lits : (1073741824#32) = fp 128 ∧ (536870912#32) = fp 64 ∧ (268435456#32) = fp 32 ∧ (134217728#32) = fp 16 ∧ (67108864#32) = fp 8
    ∧ (33554432#32) = fp 4 ∧ (16777216#32) = fp 2 ∧ (8388608#32) = fp 1 ∧ (0#32) = fp 0 := by decide +kernel

theorem fieldS_eq {v : EReal} {K : ℕ} (h : Fld v K) : fieldS v = fp K := by
  have hK := h.le
  obtain ⟨l1, l2, l3, l4, l5, l6, l7, l8, l9⟩ := fp_lits
  obtain ⟨t1, e1, a1, b1, c1⟩ := fstep_eq h 0 128 (by omega) (by omega) (by omega) (by omega)
  obtain ⟨t2, e2, a2, b2, c2⟩ := fstep_eq h t1 64 (by omega) (by omega) a1 (by omega)
  obtain ⟨t3, e3, a3, b3, c3⟩ := fstep_eq h t2 32 (by omega) (by omega) a2 (by omega)
  obtain ⟨t4, e4, a4, b4, c4⟩ := fstep_eq h t3 16 (by omega) (by omega) a3 (by omega)
  obtain ⟨t5, e5, a5, b5, c5⟩ := fstep_eq h t4 8 (by omega) (by omega) a4 (by omega)
  obtain ⟨t6, e6, a6, b6, c6⟩ := fstep_eq h t5 4 (by omega) (by omega) a5 (by omega)
  obtain ⟨t7, e7, a7, b7, c7⟩ := fstep_eq h t6 2 (by omega) (by omega) a6 (by omega)
  obtain ⟨t8, e8, a8, b8, c8⟩ := fstep_eq h t7 1 (by omega) (by omega) a7 (by omega)
  unfold fieldS
  rw [l1, l2, l3, l4, l5, l6, l7, l8, l9, e1, e2, e3, e4, e5, e6, e7, e8]
  congr 1
  omega

/-- The value the field's pattern denotes. -/
def fldVal (K : ℕ) : EReal := if K = 0 then 0 else pw K

theorem ofBits_fld (K : ℕ) (h : K ≤ 254) : Ideal.ofBits .f32 (fp K) = fldVal K := by
  unfold fldVal
  split_ifs with h0
  · subst h0; exact Ideal.ofBits_zero_f32
  · exact ofBits_pw K (by omega) h

/-- A field's value has that field. -/
theorem Fld_fldVal (K : ℕ) (h : K ≤ 254) : Fld (fldVal K) K := by
  unfold fldVal
  split_ifs with h0
  · exact Or.inl ⟨rfl, h0⟩
  · refine Or.inr ⟨by omega, h, le_refl _, ?_⟩
    unfold pw
    exact EReal.coe_lt_coe_iff.mpr (zpow_lt_zpow_right₀ (by norm_num) (by omega))

/-- Every value that is nothing, or normal and below two to the 128th, has a field. -/
theorem Fld_exists (v : EReal) (h : v = 0 ∨ (pw 1 ≤ v ∧ v < pw 255)) : ∃ K, Fld v K := by
  rcases h with rfl | ⟨h1, h2⟩
  · exact ⟨0, Or.inl ⟨rfl, rfl⟩⟩
  · by_contra hne
    have : ∀ n : ℕ, n + 1 ≤ 255 → pw (n + 1) ≤ v := by
      intro n
      induction n with
      | zero => exact fun _ => h1
      | succ n ih =>
        intro hn
        by_contra hlt
        exact hne ⟨n + 1, Or.inr ⟨by omega, by omega, ih (by omega), not_le.mp hlt⟩⟩
    exact absurd (lt_of_lt_of_le h2 (this 254 (by omega))) (lt_irrefl _)

end Cert.Scal
-- ==== Proof.Mag.lean ====
/- The magnitude of one code: the kernel's two ceilings and arithmetic shift, and the reference's level and stochastic step, are one
   ceiling. -/
module

public import proofs.«01_k».proof.Proof.Scal
public import Mathlib.Tactic.Ring
public import Mathlib.Tactic.Linarith

@[expose] public section

noncomputable section

namespace Cert.Scal

open Idealize.ShloMosaic

/-- The level of a scaled magnitude, the fraction its place between two levels. -/
def lev (a : ℝ) : ℝ := if a < 2 then 2 * a else if a < 4 then a + 2 else a / 2 + 4

/-- The rounded level, `U` the random numerator. -/
def magI (U : ℕ) (a : ℝ) : ℤ := ⌈lev a - U / 16777216⌉

theorem lev_nonneg {a : ℝ} (h : 0 ≤ a) : 0 ≤ lev a := by unfold lev; split_ifs <;> linarith
theorem lev_lt {a : ℝ} (h : a < 6) : lev a < 7 := by unfold lev; split_ifs <;> linarith

theorem magI_range {U : ℕ} {a : ℝ} (hU : U < 16777216) (h0 : 0 ≤ a) (h6 : a < 6) : 0 ≤ magI U a ∧ magI U a ≤ 7 := by
  have hu : (U : ℝ) / 16777216 < 1 := by rw [div_lt_one (by norm_num)]; exact_mod_cast hU
  have hu0 : 0 ≤ (U : ℝ) / 16777216 := by positivity
  have l0 := lev_nonneg h0
  have l1 := lev_lt h6
  unfold magI
  constructor
  · have : (-1 : ℤ) < ⌈lev a - U / 16777216⌉ := by rw [Int.lt_ceil]; push_cast; linarith
    omega
  · rw [Int.ceil_le]; push_cast; linarith

/-- The reference's level and step. -/
theorem floor_step {U : ℕ} {x : ℝ} (hU : U < 16777216) :
    ⌊x⌋ + (if (U : ℝ) * (1 / 16777216) < x - ⌊x⌋ then 1 else 0) = ⌈x - U / 16777216⌉ := by
  have hu : (U : ℝ) / 16777216 < 1 := by rw [div_lt_one (by norm_num)]; exact_mod_cast hU
  have hu0 : 0 ≤ (U : ℝ) / 16777216 := by positivity
  have f0 := Int.floor_le x
  have f1 := Int.lt_floor_add_one x
  symm
  rw [Int.ceil_eq_iff]
  split_ifs with h
  · push_cast; constructor <;> linarith
  · push_cast; constructor <;> linarith

/-- The kernel's two ceilings. -/
theorem ceil_sum {a : ℝ} (h0 : 0 ≤ a) : ⌈min (a * 33554432) 67108864⌉ + ⌈(max a 2 + (min (max a 2) 4 - 4)) * 8388608⌉ = ⌈lev a * 16777216⌉ := by
  unfold lev
  by_cases h2 : a < 2
  · rw [if_pos h2, min_eq_left (by linarith), max_eq_right h2.le, min_eq_left (by norm_num),
      show (2 + (2 - 4) : ℝ) * 8388608 = ((0 : ℤ) : ℝ) by norm_num, Int.ceil_intCast, add_zero]
    congr 1; ring
  · rw [if_neg h2, min_eq_right (by linarith), max_eq_left (by linarith)]
    rw [show (67108864 : ℝ) = ((67108864 : ℤ) : ℝ) by norm_num, Int.ceil_intCast, ← Int.ceil_intCast_add]
    by_cases h4 : a < 4
    · rw [if_pos h4, min_eq_left h4.le]
      congr 1; push_cast; ring
    · rw [if_neg h4, min_eq_right (by linarith)]
      congr 1; push_cast; ring

theorem ediv_mag {U : ℕ} {a : ℝ} : ((U : ℤ) - ⌈lev a * 16777216⌉) / 16777216 = -magI U a := by
  have h := (Int.ceil_eq_iff (a := lev a - U / 16777216) (z := magI U a)).mp rfl
  obtain ⟨h1, h2⟩ := h
  have t1 : 16777216 * (magI U a - 1) + U < ⌈lev a * 16777216⌉ := by
    rw [Int.lt_ceil]; push_cast; linarith
  have t2 : ⌈lev a * 16777216⌉ ≤ 16777216 * magI U a + U := by
    rw [Int.ceil_le]; push_cast; linarith
  omega

/-- A conversion of an integer in range. -/
theorem fptosi_int {w : ℕ} (hw : w = 32) (z : ℤ) (h1 : -2147483648 ≤ z) (h2 : z ≤ 2147483647) : Ideal.fptosi w (((z : ℝ) : ℝ) : EReal) = BitVec.ofInt w z := by
  subst hw
  unfold Ideal.fptosi
  rw [Ideal.toIntClamped_coe]
  congr 1
  have : (if (0 : ℝ) ≤ (z : ℝ) then ⌊(z : ℝ)⌋ else ⌈(z : ℝ)⌉) = z := by rw [Int.floor_intCast, Int.ceil_intCast, ite_self]
  rw [this]
  have g1 : (-((2 ^ (32 - 1) : ℕ) : ℤ)) = -2147483648 := by norm_num
  have g2 : (((2 ^ (32 - 1) : ℕ) : ℤ) - 1) = 2147483647 := by norm_num
  rw [g1, g2]
  omega

theorem coe_min' (a b : ℝ) : min (a : EReal) (b : EReal) = ((min a b : ℝ) : EReal) := (EReal.coe_strictMono.monotone.map_min).symm
theorem coe_max' (a b : ℝ) : max (a : EReal) (b : EReal) = ((max a b : ℝ) : EReal) := (EReal.coe_strictMono.monotone.map_max).symm

theorem ofInt_sub' (x y : ℤ) : BitVec.ofInt 32 x - BitVec.ofInt 32 y = BitVec.ofInt 32 (x - y) := by
  have h : BitVec.ofInt 32 x = BitVec.ofInt 32 (x - y) + BitVec.ofInt 32 y := by rw [← BitVec.ofInt_add, Int.sub_add_cancel]
  rw [h, BitVec.add_sub_cancel]

theorem lit33554432 : Ideal.ofBits .f32 0x4C000000#32 = ((33554432 : ℝ) : EReal) := by
  simp [Ideal.ofBits, Ideal.ieee, -EReal.coe_mul]; norm_num
theorem lit67108864 : Ideal.ofBits .f32 0x4C800000#32 = ((67108864 : ℝ) : EReal) := by
  simp [Ideal.ofBits, Ideal.ieee, -EReal.coe_mul]; norm_num
theorem lit8388608 : Ideal.ofBits .f32 0x4B000000#32 = ((8388608 : ℝ) : EReal) := by
  simp [Ideal.ofBits, Ideal.ieee, -EReal.coe_mul]
theorem lit2 : Ideal.ofBits .f32 0x40000000#32 = ((2 : ℝ) : EReal) := by
  simp [Ideal.ofBits, Ideal.ieee, -EReal.coe_mul]; norm_num
theorem lit4 : Ideal.ofBits .f32 0x40800000#32 = ((4 : ℝ) : EReal) := by
  simp [Ideal.ofBits, Ideal.ieee, -EReal.coe_mul]; norm_num
theorem lit6 : Ideal.ofBits .f32 0x40C00000#32 = ((6 : ℝ) : EReal) := by
  simp [Ideal.ofBits, Ideal.ieee, -EReal.coe_mul]; norm_num
theorem lit34 : Ideal.ofBits .f32 0x3F400000#32 = ((3 / 4 : ℝ) : EReal) := by
  simp [Ideal.ofBits, Ideal.ieee, -EReal.coe_mul]; norm_num
theorem litHalf : Ideal.ofBits .f32 0x3F000000#32 = ((1 / 2 : ℝ) : EReal) := by
  simp [Ideal.ofBits, Ideal.ieee, -EReal.coe_mul]; norm_num
theorem litUnit : Ideal.ofBits .f32 0x33800000#32 = ((1 / 16777216 : ℝ) : EReal) := by
  simp [Ideal.ofBits, Ideal.ieee, -EReal.coe_mul]; norm_num

/-- The kernel's magnitude, negated. -/
def magS (w : BitVec 32) (a : EReal) : BitVec 32 :=
  IntOp.shrsi .vector (IntOp.subi (IntOp.subi (IntOp.shrui .vector w 8#32)
      (Ideal.fptosi 32 (Ideal.liftRound Int.ceil (min (a * Ideal.ofBits .f32 0x4C000000#32) (Ideal.ofBits .f32 0x4C800000#32)))))
    (Ideal.fptosi 32 (Ideal.liftRound Int.ceil ((max a (Ideal.ofBits .f32 0x40000000#32)
      + (min (max a (Ideal.ofBits .f32 0x40000000#32)) (Ideal.ofBits .f32 0x40800000#32) - Ideal.ofBits .f32 0x40800000#32)) * Ideal.ofBits .f32 0x4B000000#32)))) 24#32

theorem magS_eq (w : BitVec 32) {a : ℝ} (h0 : 0 ≤ a) (h6 : a < 6) : magS w (a : EReal) = BitVec.ofInt 32 (-magI (w.toNat / 256) a) := by
  unfold magS
  rw [lit33554432, lit67108864, lit8388608, lit2, lit4]
  rw [← EReal.coe_mul, coe_min', coe_max', coe_min', ← EReal.coe_sub, ← EReal.coe_add, ← EReal.coe_mul, Ideal.liftRound_coe, Ideal.liftRound_coe]
  have hs := ceil_sum h0
  have hd := ediv_mag (U := w.toNat / 256) (a := a)
  have hlow0 : 0 ≤ ⌈min (a * 33554432) 67108864⌉ := Int.ceil_nonneg (le_min (by positivity) (by norm_num))
  have hlow1 : ⌈min (a * 33554432) 67108864⌉ ≤ 67108864 := by rw [Int.ceil_le]; push_cast; exact min_le_right _ _
  have hT0 : 0 ≤ ⌈lev a * 16777216⌉ := Int.ceil_nonneg (mul_nonneg (lev_nonneg h0) (by norm_num))
  have hT1 : ⌈lev a * 16777216⌉ ≤ 117440512 := by rw [Int.ceil_le]; push_cast; linarith [lev_lt h6]
  generalize ⌈min (a * 33554432) 67108864⌉ = low at *
  generalize ⌈(max a 2 + (min (max a 2) 4 - 4)) * 8388608⌉ = high at *
  generalize ⌈lev a * 16777216⌉ = T at *
  rw [fptosi_int rfl low (by omega) (by omega), fptosi_int rfl high (by omega) (by omega)]
  have hw := w.isLt
  have e8 : IntOp.shrui .vector w 8#32 = w >>> 8 := rfl
  have e24 : ∀ x : BitVec 32, IntOp.shrsi .vector x 24#32 = x.sshiftRight 24 := fun _ => rfl
  rw [e8, e24]
  have e1 : w >>> 8 = BitVec.ofInt 32 ((w.toNat / 256 : ℕ) : ℤ) := by
    rw [BitVec.ofInt_natCast]
    apply BitVec.eq_of_toNat_eq
    rw [BitVec.toNat_ushiftRight, Nat.shiftRight_eq_div_pow, BitVec.toNat_ofNat]
    omega
  have e2 : IntOp.subi (IntOp.subi (w >>> 8) (BitVec.ofInt 32 low)) (BitVec.ofInt 32 high) = BitVec.ofInt 32 (((w.toNat / 256 : ℕ) : ℤ) - T) := by
    unfold IntOp.subi
    rw [e1, ← hs, ofInt_sub', ofInt_sub']
    congr 1
    omega
  rw [e2]
  apply BitVec.eq_of_toInt_eq
  rw [BitVec.toInt_sshiftRight, BitVec.toInt_ofInt, BitVec.toInt_ofInt, Int.shiftRight_eq_div_pow]
  rw [Int.bmod_eq_of_le (by omega) (by omega), ← hd]
  rw [Int.bmod_eq_of_le (by omega) (by omega)]
  norm_num

/-- The scale of a group with exponent field `K`. -/
def scaleS (f : BitVec 32) : EReal := Ideal.ofBits .f32 (IntOp.subi 2143289344#32 (IntOp.maxsi f 8388608#32))

theorem scale_field : ∀ k : Fin 255, IntOp.subi 2143289344#32 (IntOp.maxsi (fp k.val) 8388608#32) = BitVec.ofNat 32 ((255 - max k.val 1) * 8388608 + 4194304) := by
  decide +kernel
theorem ofBits_half : ∀ k : Fin 255, (BitVec.ofNat 32 (k.val * 8388608 + 4194304)).extractLsb' 31 1 = 0#1
    ∧ ((BitVec.ofNat 32 (k.val * 8388608 + 4194304)).extractLsb' 23 8).toNat = k.val ∧ ((BitVec.ofNat 32 (k.val * 8388608 + 4194304)).extractLsb' 0 23).toNat = 4194304 := by
  decide +kernel

theorem half_real (k : ℤ) : (1 : ℝ) * ((2 ^ 23 + 4194304 : ℕ) : ℝ) * (2:ℝ) ^ (255 - k - (2 ^ (8-1) - 1) - ((23 : ℕ) : ℤ)) = 3 * (2:ℝ) ^ (127 - k) := by
  rw [show (2:ℝ) ^ (127 - k) = 2 ^ (22:ℕ) * (2:ℝ) ^ (255 - k - (2 ^ (8-1) - 1) - ((23:ℕ) : ℤ)) by
    rw [← zpow_natCast, ← zpow_add₀ (by norm_num)]; congr 1; norm_num; ring]
  norm_num
  ring

theorem ofBits_halfpat (e : ℕ) (k : ℤ) (h1 : 1 ≤ e) (h2 : e ≤ 254) (hk : (e : ℤ) = 255 - k) :
    Ideal.ofBits .f32 (BitVec.ofNat 32 (e * 8388608 + 4194304)) = ((3 * (2:ℝ) ^ (127 - k) : ℝ) : EReal) := by
  obtain ⟨e1, e2, e3⟩ := ofBits_half ⟨e, by omega⟩
  simp only at e1 e2 e3
  simp only [Ideal.ofBits, Ideal.ieee, e1, e2, e3]
  rw [if_neg (by omega), if_neg (by omega)]
  apply congrArg (fun r : ℝ => (r : EReal))
  rw [hk, ← half_real]
  norm_num

theorem scaleS_eq (K : ℕ) (h : K ≤ 254) : scaleS (fp K) = ((3 * (2:ℝ) ^ (127 - ((max K 1 : ℕ) : ℤ)) : ℝ) : EReal) := by
  unfold scaleS
  rw [scale_field ⟨K, by omega⟩]
  exact ofBits_halfpat _ _ (by show 1 ≤ 255 - max K 1; omega) (by show 255 - max K 1 ≤ 254; omega) (by show ((255 - max K 1 : ℕ) : ℤ) = _; omega)

/-- The scaled magnitude of an element of a group. -/
def sca (K : ℕ) (a : ℝ) : ℝ := a * (3 * (2:ℝ) ^ (127 - ((max K 1 : ℕ) : ℤ)))

theorem sca_range {K : ℕ} {v : EReal} {a : ℝ} (h : Fld v K) (h0 : 0 ≤ a) (hv : (a : EReal) ≤ v) : 0 ≤ sca K a ∧ sca K a < 6 := by
  have hp : 0 < (2:ℝ) ^ (127 - ((max K 1 : ℕ) : ℤ)) := zpow_pos (by norm_num) _
  unfold sca
  refine ⟨by positivity, ?_⟩
  rcases h with ⟨rfl, rfl⟩ | ⟨a1, a2, a3, a4⟩
  · have : a ≤ 0 := by exact_mod_cast hv
    have : a = 0 := le_antisymm this h0
    rw [this]; norm_num
  · have hlt : a < (2:ℝ) ^ (((K + 1 : ℕ) : ℤ) - 127) := by
      have := lt_of_le_of_lt hv a4
      unfold pw at this
      exact EReal.coe_lt_coe_iff.mp this
    rw [max_eq_left a1]
    have e : (2:ℝ) ^ (((K + 1 : ℕ) : ℤ) - 127) * (2:ℝ) ^ (127 - (K : ℤ)) = 2 := by
      rw [← zpow_add₀ (by norm_num)]
      rw [show (((K + 1 : ℕ) : ℤ) - 127 + (127 - (K : ℤ))) = 1 by push_cast; ring]
      norm_num
    rw [max_eq_left a1] at hp
    have := mul_lt_mul_of_pos_right hlt hp
    rw [e] at this
    linarith

end Cert.Scal
-- ==== Proof.Code.lean ====
/- The scalars of one code and one scale on the reference's side, and the packing of two codes into a byte on both sides. -/
module

public import proofs.«01_k».proof.Proof.Mag

@[expose] public section

noncomputable section

namespace Cert.Scal

open Idealize.ShloMosaic

/-- The reference's magnitude of a scaled element `a` and a random word `w`. -/
def magR (w : BitVec 32) (a : EReal) : BitVec 32 :=
  Ideal.fptosi 32 (Scalar.select (Ideal.cmp .olt a (Ideal.ofBits .f32 0x40000000#32)) (Ideal.liftRound Int.floor (Ideal.ofBits .f32 0x40000000#32 * a))
      (Scalar.select (Ideal.cmp .olt a (Ideal.ofBits .f32 0x40800000#32)) (Ideal.ofBits .f32 0x40800000#32 + Ideal.liftRound Int.floor (a - Ideal.ofBits .f32 0x40000000#32)) (Ideal.ofBits .f32 0x40C00000#32)))
    + (Ideal.cmp .olt ((((w >>> 8).toNat : ℝ) : EReal) * Ideal.ofBits .f32 0x33800000#32)
        (Scalar.select (Ideal.cmp .olt a (Ideal.ofBits .f32 0x40000000#32)) (Ideal.ofBits .f32 0x40000000#32 * a - Ideal.liftRound Int.floor (Ideal.ofBits .f32 0x40000000#32 * a))
          (Scalar.select (Ideal.cmp .olt a (Ideal.ofBits .f32 0x40800000#32)) (a - Ideal.ofBits .f32 0x40000000#32 - Ideal.liftRound Int.floor (a - Ideal.ofBits .f32 0x40000000#32))
            ((a - Ideal.ofBits .f32 0x40800000#32) * Ideal.ofBits .f32 0x3F000000#32)))).setWidth 32

theorem sel_olt {α : Type} (x y : ℝ) (a b : α) : Scalar.select (Ideal.cmp .olt (x : EReal) (y : EReal)) a b = if x < y then a else b := by
  unfold Scalar.select Ideal.cmp
  by_cases h : x < y
  · simp [h]
  · simp [h]

theorem bit_olt (x y : ℝ) : (Ideal.cmp .olt (x : EReal) (y : EReal)).setWidth 32 = BitVec.ofInt 32 (if x < y then 1 else 0) := by
  unfold Ideal.cmp
  by_cases h : x < y
  · simp [h]
  · simp [h]

theorem step_int {U : ℕ} (hU : U < 16777216) {x l : ℝ} (z k : ℤ) (hk : ⌊x⌋ = k) (d : ℝ) (hd : d = x - k) (hz : l - x = z) (hb : -100 ≤ z + k ∧ z + k ≤ 100) :
    BitVec.ofInt 32 (z + k) + (Ideal.cmp .olt ((U : ℝ) : EReal) (((d * 16777216 : ℝ)) : EReal)).setWidth 32 = BitVec.ofInt 32 ⌈l - U / 16777216⌉ := by
  rw [bit_olt, ← BitVec.ofInt_add]
  congr 1
  have h := floor_step (x := x) hU
  have e : l - (U : ℝ) / 16777216 = (z : ℝ) + (x - U / 16777216) := by rw [← hz]; ring
  rw [e, Int.ceil_intCast_add, ← h, hk, hd]
  by_cases g : (U : ℝ) * (1 / 16777216) < x - k
  · rw [if_pos g, if_pos (by linarith)]; ring
  · rw [if_neg g, if_neg (by linarith)]; ring

theorem cmp_scale (u d : ℝ) : Ideal.cmp .olt (((u * (1 / 16777216) : ℝ)) : EReal) (d : EReal) = Ideal.cmp .olt (u : EReal) ((d * 16777216 : ℝ) : EReal) := by
  unfold Ideal.cmp
  congr 1
  simp only [EReal.coe_lt_coe_iff]
  congr 1
  apply propext
  constructor <;> intro h <;> linarith

theorem shr8_toNat (w : BitVec 32) : (w >>> 8).toNat = w.toNat / 256 := by
  rw [BitVec.toNat_ushiftRight, Nat.shiftRight_eq_div_pow]

theorem word_lt (w : BitVec 32) : w.toNat / 256 < 16777216 := by have := w.isLt; omega

theorem magR_eq (w : BitVec 32) {a : ℝ} (h0 : 0 ≤ a) (h6 : a < 6) : magR w (a : EReal) = BitVec.ofInt 32 (magI (w.toNat / 256) a) := by
  have hU := word_lt w
  unfold magR magI lev
  rw [lit2, lit4, lit6, litHalf, litUnit, shr8_toNat, ← EReal.coe_mul, ← EReal.coe_mul, ← EReal.coe_sub, ← EReal.coe_sub, ← EReal.coe_mul, Ideal.liftRound_coe, Ideal.liftRound_coe,
    ← EReal.coe_sub, ← EReal.coe_sub, ← EReal.coe_add]
  rw [sel_olt, sel_olt, sel_olt, sel_olt]
  by_cases h2 : a < 2
  · simp only [if_pos h2]
    have f0 : 0 ≤ ⌊2 * a⌋ := Int.floor_nonneg.mpr (by linarith)
    have f1 : ⌊2 * a⌋ < 4 := Int.floor_lt.mpr (by push_cast; linarith)
    rw [cmp_scale, fptosi_int rfl _ (by omega) (by omega)]
    have := step_int (l := 2 * a) hU (x := 2 * a) 0 ⌊2 * a⌋ rfl _ rfl (by simp) (by omega)
    rw [zero_add] at this
    exact this
  · simp only [if_neg h2]
    by_cases h4 : a < 4
    · simp only [if_pos h4]
      have f0 : 0 ≤ ⌊a - 2⌋ := Int.floor_nonneg.mpr (by linarith)
      have f1 : ⌊a - 2⌋ < 2 := Int.floor_lt.mpr (by push_cast; linarith)
      have e4 : (4 : ℝ) + (⌊a - 2⌋ : ℝ) = ((4 + ⌊a - 2⌋ : ℤ) : ℝ) := by push_cast; ring
      rw [cmp_scale, e4, fptosi_int rfl _ (by omega) (by omega)]
      exact step_int (l := a + 2) hU (x := a - 2) 4 ⌊a - 2⌋ rfl _ rfl (by push_cast; ring) (by omega)
    · simp only [if_neg h4]
      have e6 : (6 : ℝ) = ((6 + 0 : ℤ) : ℝ) := by norm_num
      rw [cmp_scale, e6, fptosi_int rfl _ (by omega) (by omega)]
      refine step_int (l := a / 2 + 4) hU (x := (a - 4) * (1 / 2)) 6 0 ?_ _ (by push_cast; ring) (by push_cast; ring) (by omega)
      rw [Int.floor_eq_iff]; push_cast
      constructor <;> linarith

/-- The code of an element `r` of a group with exponent field `K`, `w` its random word. -/
def codeN (w : BitVec 32) (K : ℕ) (r : ℝ) : ℕ := (magI (w.toNat / 256) (sca K |r|)).toNat + if r < 0 then 8 else 0

theorem codeN_parts (w : BitVec 32) {K : ℕ} {v : EReal} {r : ℝ} (h : Fld v K) (hv : ((|r| : ℝ) : EReal) ≤ v) :
    ∃ M : Fin 8, magI (w.toNat / 256) (sca K |r|) = (M.val : ℤ) ∧ codeN w K r = M.val + if r < 0 then 8 else 0 := by
  obtain ⟨s0, s1⟩ := sca_range h (abs_nonneg r) hv
  obtain ⟨m0, m1⟩ := magI_range (word_lt w) s0 s1
  refine ⟨⟨(magI (w.toNat / 256) (sca K |r|)).toNat, by omega⟩, by simp only; omega, rfl⟩

theorem codeN_lt (w : BitVec 32) {K : ℕ} {v : EReal} {r : ℝ} (h : Fld v K) (hv : ((|r| : ℝ) : EReal) ≤ v) : codeN w K r < 16 := by
  obtain ⟨M, _, e⟩ := codeN_parts w h hv
  rw [e]; have := M.isLt; split_ifs <;> omega

/-- The reference's code: magnitude, and the sign's bit. -/
theorem refCode (M : Fin 8) : (BitVec.ofInt 32 (M.val : ℤ) ||| 8#32) = BitVec.ofNat 32 (M.val + 8) := by
  revert M; decide +kernel
theorem refCode0 (M : Fin 8) : (BitVec.ofInt 32 (M.val : ℤ)) = BitVec.ofNat 32 (M.val + 0) := by
  revert M; decide +kernel
theorem refByte (a b : Fin 16) : (BitVec.ofNat 32 a.val ||| (BitVec.ofNat 32 b.val <<< 4)).setWidth 8 = BitVec.ofNat 8 (a.val + 16 * b.val) := by
  revert a b; decide +kernel

/-- The kernel's code value: the bf16 pattern it forms, as a number. -/
theorem nibBits (M : Fin 8) : Ideal.ofBits .bf16 ((BitVec.ofInt 32 (-(M.val : ℤ))).setWidth 16 + 17168#16) = ((144 - (M.val : ℝ) : ℝ) : EReal)
    ∧ Ideal.ofBits .bf16 ((BitVec.ofInt 32 (-(M.val : ℤ))).setWidth 16 + 17160#16) = ((144 - ((M.val : ℝ) + 8) : ℝ) : EReal) := by
  fin_cases M <;> constructor <;> simp [Ideal.ofBits, Ideal.ieee, -EReal.coe_mul, -EReal.coe_sub, -EReal.coe_add] <;> norm_num [-EReal.coe_sub, -EReal.coe_add]

/-- The kernel's code value of an element. -/
def nibS (w : BitVec 32) (x : EReal) (s : EReal) : EReal :=
  Ideal.ofBits .bf16 ((magS w (max x (-x) * s)).setWidth 16 + Scalar.select (Ideal.cmp .olt x (Ideal.ofBits .bf16 0x0000#16)) 17160#16 17168#16)

theorem lit0b : Ideal.ofBits .bf16 0x0000#16 = ((0 : ℝ) : EReal) := by
  simp [Ideal.ofBits, Ideal.ieee, -EReal.coe_mul]
theorem lit0f : Ideal.ofBits .f32 0x00000000#32 = ((0 : ℝ) : EReal) := by
  simp [Ideal.ofBits, Ideal.ieee, -EReal.coe_mul]

theorem abs_coe (r : ℝ) : max (r : EReal) (-(r : EReal)) = ((|r| : ℝ) : EReal) := by
  rw [← EReal.coe_neg, coe_max']; rfl

theorem nibS_eq (w : BitVec 32) {K : ℕ} {v : EReal} {r : ℝ} (h : Fld v K) (hv : ((|r| : ℝ) : EReal) ≤ v) :
    nibS w (r : EReal) (scaleS (fp K)) = ((144 - (codeN w K r : ℝ) : ℝ) : EReal) := by
  obtain ⟨M, hM, e⟩ := codeN_parts w h hv
  obtain ⟨s0, s1⟩ := sca_range h (abs_nonneg r) hv
  unfold nibS
  rw [abs_coe, scaleS_eq K h.le, ← EReal.coe_mul, show |r| * (3 * (2:ℝ) ^ (127 - ((max K 1 : ℕ) : ℤ))) = sca K |r| from rfl, magS_eq w s0 s1, hM, e, lit0b, sel_olt]
  by_cases g : r < 0
  · rw [if_pos g, if_pos g, (nibBits M).2]; push_cast; rfl
  · rw [if_neg g, if_neg g, (nibBits M).1, add_zero]

/-- The kernel's packed byte of two codes. -/
theorem kerByte (a b : Fin 16) :
    (Ideal.fptosi 32 (((144 - (a.val : ℝ)) * (-1) + (144 - (b.val : ℝ)) * (-16) : ℝ) : EReal) + 2448#32).setWidth 8 = BitVec.ofNat 8 (a.val + 16 * b.val) := by
  have e : ((144 - (a.val : ℝ)) * (-1) + (144 - (b.val : ℝ)) * (-16) : ℝ) = (((a.val + 16 * b.val : ℕ) : ℤ) - 2448 : ℤ) := by push_cast; ring
  have ha := a.isLt
  have hb := b.isLt
  rw [e, fptosi_int rfl _ (by omega) (by omega)]
  have : (2448#32 : BitVec 32) = BitVec.ofInt 32 2448 := by decide
  rw [this, ← BitVec.ofInt_add, Int.sub_add_cancel, BitVec.ofInt_natCast, BitVec.setWidth_ofNat_of_le (by decide)]

/-- The reference's scaled magnitude. -/
def refA (x : EReal) (e : BitVec 32) : EReal :=
  max x (-x) * Ideal.ofBits .f32 0x3F400000#32 * Ideal.pow (Ideal.ofBits .f32 0x40000000#32) ((((-e).toInt : ℝ)) : EReal)

/-- The reference's exponent of a group's field. -/
def expI (K : ℕ) : BitVec 32 := if K = 0 then 0#32 else (4294967170#32 + BitVec.ofNat 32 K) - 3#32

theorem expI_toInt : ∀ K : Fin 255, (-(expI K.val)).toInt = if K.val = 0 then 0 else 129 - (K.val : ℤ) := by decide +kernel

theorem refA_eq {K : ℕ} {v : EReal} {r : ℝ} (h : Fld v K) (hv : ((|r| : ℝ) : EReal) ≤ v) : refA (r : EReal) (expI K) = ((sca K |r| : ℝ) : EReal) := by
  have hK := h.le
  unfold refA
  rw [abs_coe, lit34, lit2, expI_toInt ⟨K, by omega⟩]
  simp only
  rw [Ideal.pow_coe_coe, ← EReal.coe_mul, ← EReal.coe_mul]
  congr 1
  by_cases g : K = 0
  · have v0 : v = 0 := by rcases h with h | h; exacts [h.1, by omega]
    have : |r| ≤ 0 := by rw [v0] at hv; exact_mod_cast hv
    have : |r| = 0 := le_antisymm this (abs_nonneg r)
    rw [this]; simp [sca]
  · rw [if_neg g]
    unfold sca
    rw [max_eq_left (by omega)]
    have : Real.rpow 2 ((129 - (K : ℤ) : ℤ) : ℝ) = (2:ℝ) ^ (129 - (K : ℤ)) := Real.rpow_intCast 2 _
    rw [this, show (129 - (K : ℤ)) = 2 + (127 - (K : ℤ)) by ring, zpow_add₀ (by norm_num)]
    norm_num
    ring

/-- The scale's byte. -/
def scaleN (K : ℕ) : BitVec 8 := if K = 0 then 127#8 else BitVec.ofNat 32 (K - 2) |>.setWidth 8

theorem refScale : ∀ K : Fin 255, (expI K.val + 127#32).setWidth 8 = (if K.val = 0 then 127#32 else BitVec.ofNat 32 K.val - 2#32).setWidth 8 := by decide +kernel

end Cert.Scal
-- ==== Proof.KMat.lean ====
/- The kernel's three constant matrices over the extended reals, and the products with them. -/
module

public import proofs.«01_k».proof.Proof.KIVRun
public import proofs.«01_k».proof.Proof.Code
public import Idealize.ShloMosaic.Lib.MatmulPlain

@[expose] public section

set_option maxRecDepth 16384

noncomputable section

namespace Cert.KernelIdeal.Gen

open Idealize.ShloMosaic Idealize.ShloMosaic.TcCoe
open Idealize.ShloMosaic.ValueIdx
open Cert.Scal

/-- Division rounding down, and the remainder with the divisor's sign, as printed. -/
def divW (a d : BitVec 32) : BitVec 32 :=
  Scalar.select (IntOp.andi (IntOp.cmpi .ne (IntOp.subi ((IntOp.cmpi .sgt a 0#32).setWidth 32) ((IntOp.cmpi .slt a 0#32).setWidth 32))
      (IntOp.subi ((IntOp.cmpi .sgt d 0#32).setWidth 32) ((IntOp.cmpi .slt d 0#32).setWidth 32))) (IntOp.cmpi .ne (IntOp.remsi .vector a d) 0#32))
    (IntOp.subi (IntOp.divsi .vector a d) 1#32) (IntOp.divsi .vector a d)
def modW (a d : BitVec 32) : BitVec 32 :=
  Scalar.select (IntOp.andi (IntOp.xori (IntOp.cmpi .slt (IntOp.remsi .vector a (Scalar.select (IntOp.cmpi .eq d 0#32) 1#32 d)) 0#32) (IntOp.cmpi .slt (Scalar.select (IntOp.cmpi .eq d 0#32) 1#32 d) 0#32))
      (IntOp.cmpi .ne (IntOp.remsi .vector a (Scalar.select (IntOp.cmpi .eq d 0#32) 1#32 d)) 0#32))
    (IntOp.addi (IntOp.remsi .vector a (Scalar.select (IntOp.cmpi .eq d 0#32) 1#32 d)) (Scalar.select (IntOp.cmpi .eq d 0#32) 1#32 d)) (IntOp.remsi .vector a (Scalar.select (IntOp.cmpi .eq d 0#32) 1#32 d))

theorem divW128 : ∀ a : Fin 512, divW (BitVec.ofNat 32 a.val) 128#32 = BitVec.ofNat 32 (a.val / 128) := by decide +kernel
theorem modW128 : ∀ a : Fin 512, modW (BitVec.ofNat 32 a.val) 128#32 = BitVec.ofNat 32 (a.val % 128) := by decide +kernel
theorem divW2 : ∀ a : Fin 4, divW (BitVec.ofNat 32 a.val) 2#32 = BitVec.ofNat 32 (a.val / 2) := by decide +kernel
theorem modW2 : ∀ a : Fin 4, modW (BitVec.ofNat 32 a.val) 2#32 = BitVec.ofNat 32 (a.val % 2) := by decide +kernel

theorem ofNat_inj32 {a b : ℕ} (ha : a < 4096) (hb : b < 4096) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem sel_eq {α : Type} {a b : ℕ} (ha : a < 4096) (hb : b < 4096) (x y : α) : Scalar.select (IntOp.cmpi .eq (BitVec.ofNat 32 a) (BitVec.ofNat 32 b)) x y = if a = b then x else y := by
  have e : IntOp.cmpi .eq (BitVec.ofNat 32 a) (BitVec.ofNat 32 b) = BitVec.ofBool (BitVec.ofNat 32 a == BitVec.ofNat 32 b) := rfl
  rw [e]
  unfold Scalar.select
  by_cases h : a = b
  · subst h; simp
  · have h2 : (BitVec.ofNat 32 a == BitVec.ofNat 32 b) = false := by simpa using (ofNat_inj32 ha hb).not.mpr h
    rw [h2, if_neg h]; rfl

theorem lit1f : Ideal.ofBits .f32 0x3F800000#32 = 1 := by
  have : Ideal.ofBits .f32 0x3F800000#32 = ((1 : ℝ) : EReal) := by
    simp [Ideal.ofBits, Ideal.ieee, -EReal.coe_mul, -EReal.coe_one]; norm_num
  rw [this, EReal.coe_one]
theorem lit0z : Ideal.ofBits .f32 0x00000000#32 = 0 := by
  simp [Ideal.ofBits, Ideal.ieee, -EReal.coe_mul]
theorem litm1 : Ideal.ofBits .f32 0xBF800000#32 = ((-1 : ℝ) : EReal) := by
  simp [Ideal.ofBits, Ideal.ieee, -EReal.coe_mul, -EReal.coe_neg, -EReal.coe_one]; norm_num
theorem litm16 : Ideal.ofBits .f32 0xC1800000#32 = ((-16 : ℝ) : EReal) := by
  simp [Ideal.ofBits, Ideal.ieee, -EReal.coe_mul, -EReal.coe_neg]; norm_num

theorem iota0_at {m n : ℕ} (h) (a : Fin m) (b : Fin n) : iota .tc (⟨2, ![m, n]⟩ : Shape) 32 [0] h (ix2 a b) = BitVec.ofNat 32 a.val := by
  simp [iota]; rfl
theorem iota1_at {m n : ℕ} (h) (a : Fin m) (b : Fin n) : iota .tc (⟨2, ![m, n]⟩ : Shape) 32 [1] h (ix2 a b) = BitVec.ofNat 32 b.val := by
  simp [iota]; rfl

theorem permC_at (k c : Fin 512) : permC (F := Ideal) (ix2 k c) = if k.val = 4 * (c.val % 128) + c.val / 128 then (1 : EReal) else 0 := by
  have hc := c.isLt
  have hk := k.isLt
  have e : permC (F := Ideal) (ix2 k c) = (shapeCast S512x512 (fun y : S512x512.Idx => Scalar.select (IntOp.cmpi .eq (iota .tc S512x512 32 [0] iota_S512x512_d0_w32 y)
      (IntOp.addi (IntOp.muli (modW (iota .tc S512x512 32 [1] iota_S512x512_d1_w32 y) 128#32) 4#32) (divW (iota .tc S512x512 32 [1] iota_S512x512_d1_w32 y) 128#32))) (Ideal.ofBits .f32 0x3F800000#32) (Ideal.ofBits .f32 0x00000000#32)) shapeCasts_S512x512_S512x512) (ix2 k c) := rfl
  rw [e, shapeCast_self]
  rw [show iota .tc S512x512 32 [0] iota_S512x512_d0_w32 (ix2 k c) = BitVec.ofNat 32 k.val from iota0_at _ k c, show iota .tc S512x512 32 [1] iota_S512x512_d1_w32 (ix2 k c) = BitVec.ofNat 32 c.val from iota1_at _ k c]
  show Scalar.select (IntOp.cmpi .eq (BitVec.ofNat 32 k.val) (IntOp.addi (IntOp.muli (modW (BitVec.ofNat 32 c.val) 128#32) 4#32) (divW (BitVec.ofNat 32 c.val) 128#32))) _ _ = _
  rw [modW128, divW128]
  have g : IntOp.addi (IntOp.muli (BitVec.ofNat 32 (c.val % 128)) 4#32) (BitVec.ofNat 32 (c.val / 128)) = BitVec.ofNat 32 (4 * (c.val % 128) + c.val / 128) := by
    unfold IntOp.addi IntOp.muli
    rw [BitVec.ofNat_add, Nat.mul_comm, BitVec.ofNat_mul]
  rw [g, sel_eq (by omega) (by omega), lit1f, lit0z]

theorem pickC_at (k : Fin 1024) (c : Fin 128) : pickC (F := Ideal) (ix2 k c) = if k.val = 8 * c.val then (1 : EReal) else 0 := by
  have hc := c.isLt
  have hk := k.isLt
  have e : pickC (F := Ideal) (ix2 k c) = (shapeCast S1024x128 (fun y : S1024x128.Idx => Scalar.select (IntOp.cmpi .eq (iota .tc S1024x128 32 [0] iota_S1024x128_d0_w32 y)
      (IntOp.muli (iota .tc S1024x128 32 [1] iota_S1024x128_d1_w32 y) 8#32)) (Ideal.ofBits .f32 0x3F800000#32) (Ideal.ofBits .f32 0x00000000#32)) shapeCasts_S1024x128_S1024x128) (ix2 k c) := rfl
  rw [e, shapeCast_self]
  rw [show iota .tc S1024x128 32 [0] iota_S1024x128_d0_w32 (ix2 k c) = BitVec.ofNat 32 k.val from iota0_at _ k c, show iota .tc S1024x128 32 [1] iota_S1024x128_d1_w32 (ix2 k c) = BitVec.ofNat 32 c.val from iota1_at _ k c]
  show Scalar.select (IntOp.cmpi .eq (BitVec.ofNat 32 k.val) (IntOp.muli (BitVec.ofNat 32 c.val) 8#32)) _ _ = _
  have g : IntOp.muli (BitVec.ofNat 32 c.val) 8#32 = BitVec.ofNat 32 (8 * c.val) := by
    unfold IntOp.muli
    rw [Nat.mul_comm, BitVec.ofNat_mul]
  rw [g, sel_eq (by omega) (by omega), lit1f, lit0z]

theorem packC_at (k : Fin 512) (c : Fin 256) : packC (F := Ideal) (ix2 k c)
    = if c.val = 2 * (k.val % 128) + k.val / 128 / 2 then (if k.val / 128 % 2 = 0 then ((-1 : ℝ) : EReal) else ((-16 : ℝ) : EReal)) else 0 := by
  have hc := c.isLt
  have hk := k.isLt
  have e : packC (F := Ideal) (ix2 k c) = (shapeCast S512x256 (fun y : S512x256.Idx => Scalar.select (IntOp.cmpi .eq (iota .tc S512x256 32 [1] iota_S512x256_d1_w32 y)
      (IntOp.addi (IntOp.muli (modW (iota .tc S512x256 32 [0] iota_S512x256_d0_w32 y) 128#32) 2#32) (divW (divW (iota .tc S512x256 32 [0] iota_S512x256_d0_w32 y) 128#32) 2#32)))
      (Scalar.select (IntOp.cmpi .eq (modW (divW (iota .tc S512x256 32 [0] iota_S512x256_d0_w32 y) 128#32) 2#32) 0#32) (Ideal.ofBits .f32 0xBF800000#32) (Ideal.ofBits .f32 0xC1800000#32)) (Ideal.ofBits .f32 0x00000000#32)) shapeCasts_S512x256_S512x256) (ix2 k c) := rfl
  rw [e, shapeCast_self]
  rw [show iota .tc S512x256 32 [0] iota_S512x256_d0_w32 (ix2 k c) = BitVec.ofNat 32 k.val from iota0_at _ k c, show iota .tc S512x256 32 [1] iota_S512x256_d1_w32 (ix2 k c) = BitVec.ofNat 32 c.val from iota1_at _ k c]
  show Scalar.select (IntOp.cmpi .eq (BitVec.ofNat 32 c.val) (IntOp.addi (IntOp.muli (modW (BitVec.ofNat 32 k.val) 128#32) 2#32) (divW (divW (BitVec.ofNat 32 k.val) 128#32) 2#32)))
    (Scalar.select (IntOp.cmpi .eq (modW (divW (BitVec.ofNat 32 k.val) 128#32) 2#32) 0#32) _ _) _ = _
  rw [modW128, divW128, divW2 ⟨k.val / 128, by omega⟩, modW2 ⟨k.val / 128, by omega⟩]
  have g : IntOp.addi (IntOp.muli (BitVec.ofNat 32 (k.val % 128)) 2#32) (BitVec.ofNat 32 (k.val / 128 / 2)) = BitVec.ofNat 32 (2 * (k.val % 128) + k.val / 128 / 2) := by
    unfold IntOp.addi IntOp.muli
    rw [BitVec.ofNat_add, Nat.mul_comm, BitVec.ofNat_mul]
  rw [g, sel_eq (by omega) (by omega), sel_eq (by simp only; omega) (by omega), litm1, litm16, lit0z]

/-- A product with a matrix that picks one row per column. -/
theorem sum_pick {n : ℕ} (f : Fin n → EReal) (k0 : Fin n) : ∑ k : Fin n, f k * (if k.val = k0.val then (1 : EReal) else 0) = f k0 := by
  rw [Finset.sum_eq_single k0]
  · rw [if_pos rfl, mul_one]
  · intro b _ hb
    rw [if_neg (fun h => hb (Fin.ext h)), mul_zero]
  · intro h; exact absurd (Finset.mem_univ _) h

theorem constZ {s : Shape} (j : s.Idx) : constant (F := Ideal) s .f32 0x00000000#32 j = 0 := lit0z

/-- A chunk's product with the permutation. -/
theorem pay17_at (B : Vec Ideal S1x32x512 .bf16) (r : Fin 32) (c : Fin 512) :
    k0_pay17 B (permC (F := Ideal)) (ix2 r c) = (show EReal from B (ix3 (0 : Fin 1) r (⟨4 * (c.val % 128) + c.val / 128, by have := c.isLt; omega⟩ : Fin 512))) := by
  have e : k0_pay17 B (permC (F := Ideal)) (ix2 r c) = shapeCast S32x512 (FloatOps.matmul (DotDims.plain 32 512 512) none (shapeCast S32x512 B shapeCasts_S1x32x512_S32x512 : FVec Ideal S32x512 .bf16) (permC (F := Ideal)) (constant S32x512 .f32 0x00000000#32)) shapeCasts_S32x512_S32x512 (ix2 r c) := rfl
  rw [e, shapeCast_self, Ideal.matmul_plain_apply, constZ, zero_add]
  have hx : ∀ k : Fin 512, (shapeCast S32x512 B shapeCasts_S1x32x512_S32x512 : FVec Ideal S32x512 .bf16) (ix2 r k) = B (ix3 (0 : Fin 1) r k) := fun k =>
    shapeCast_apply _ _ _ _ (by
      rw [Shape.rowMajor_val_three, Shape.rowMajor_val_two]
      show (0 * 32 + r.val) * 512 + k.val = r.val * 512 + k.val
      omega)
  refine Eq.trans (Finset.sum_congr rfl fun k _ => ?_) (sum_pick (fun k => (show EReal from B (ix3 (0 : Fin 1) r k))) ⟨4 * (c.val % 128) + c.val / 128, by have := c.isLt; omega⟩)
  rw [permC_at, hx]

/-- A product with the matrix that picks every eighth lane. -/
theorem pay736_at (B : Vec Ideal S32x1024 .bf16) (r : Fin 32) (c : Fin 128) :
    k0_pay736 B (pickC (F := Ideal)) (ix2 r c) = (show EReal from B (ix2 r (⟨8 * c.val, by have := c.isLt; omega⟩ : Fin 1024))) := by
  have e : k0_pay736 B (pickC (F := Ideal)) (ix2 r c) = FloatOps.matmul (DotDims.plain 32 1024 128) none (show FVec Ideal S32x1024 .bf16 from B) (pickC (F := Ideal)) (constant S32x128 .f32 0x00000000#32) (ix2 r c) := rfl
  rw [e, Ideal.matmul_plain_apply, constZ, zero_add]
  refine Eq.trans (Finset.sum_congr rfl fun k _ => ?_) (sum_pick (fun k => (show EReal from B (ix2 r k))) ⟨8 * c.val, by have := c.isLt; omega⟩)
  rw [pickC_at]

/-- A product with the packing matrix: two codes' values, the second sixteen times. -/
theorem pay731_at (B : Vec Ideal S32x512 .bf16) (r : Fin 32) (c : Fin 256) :
    k0_pay731 B (packC (F := Ideal)) (ix2 r c)
      = (Ideal.fptosi 32 ((show EReal from B (ix2 r (⟨128 * (2 * (c.val % 2)) + c.val / 2, by have := c.isLt; omega⟩ : Fin 512))) * ((-1 : ℝ) : EReal)
        + (show EReal from B (ix2 r (⟨128 * (2 * (c.val % 2) + 1) + c.val / 2, by have := c.isLt; omega⟩ : Fin 512))) * ((-16 : ℝ) : EReal)) + 2448#32).setWidth 8 := by
  have hc := c.isLt
  have e : k0_pay731 B (packC (F := Ideal)) (ix2 r c) = (Ideal.fptosi 32 (FloatOps.matmul (DotDims.plain 32 512 256) none (show FVec Ideal S32x512 .bf16 from B) (packC (F := Ideal)) (constant S32x256 .f32 0x00000000#32) (ix2 r c)) + 2448#32).setWidth 8 := rfl
  rw [e, Ideal.matmul_plain_apply, constZ, zero_add]
  have hs : ∑ k : Fin 512, (show EReal from B (ix2 r k)) * packC (F := Ideal) (ix2 k c) = (show EReal from B (ix2 r (⟨128 * (2 * (c.val % 2)) + c.val / 2, by omega⟩ : Fin 512))) * ((-1 : ℝ) : EReal)
        + (show EReal from B (ix2 r (⟨128 * (2 * (c.val % 2) + 1) + c.val / 2, by omega⟩ : Fin 512))) * ((-16 : ℝ) : EReal) := by
    have a1 : (128 * (2 * (c.val % 2)) + c.val / 2) / 128 = 2 * (c.val % 2) := by omega
    have a2 : (128 * (2 * (c.val % 2)) + c.val / 2) % 128 = c.val / 2 := by omega
    have b1 : (128 * (2 * (c.val % 2) + 1) + c.val / 2) / 128 = 2 * (c.val % 2) + 1 := by omega
    have b2 : (128 * (2 * (c.val % 2) + 1) + c.val / 2) % 128 = c.val / 2 := by omega
    rw [Finset.sum_eq_add (⟨128 * (2 * (c.val % 2)) + c.val / 2, by omega⟩ : Fin 512) (⟨128 * (2 * (c.val % 2) + 1) + c.val / 2, by omega⟩ : Fin 512)]
    · rw [packC_at, packC_at]
      simp only [a1, a2, b1, b2]
      rw [if_pos (by omega), if_pos (by omega), if_pos (by omega), if_neg (by omega)]
    · intro h; have := congrArg Fin.val h; simp only at this; omega
    · intro k _ hk
      rw [packC_at, if_neg, mul_zero]
      intro h
      have hk0 := k.isLt
      rcases hk with ⟨h1, h2⟩
      have h1' : k.val ≠ 128 * (2 * (c.val % 2)) + c.val / 2 := fun h => h1 (Fin.ext h)
      have h2' : k.val ≠ 128 * (2 * (c.val % 2) + 1) + c.val / 2 := fun h => h2 (Fin.ext h)
      have u1 : k.val / 128 < 4 := by omega
      have u2 : c.val % 2 = k.val / 128 / 2 := by omega
      have u3 : c.val / 2 = k.val % 128 := by omega
      rw [u2, u3] at h1' h2'
      omega
    · intro h; exact absurd (Finset.mem_univ _) h
    · intro h; exact absurd (Finset.mem_univ _) h
  exact congrArg (fun x => (Ideal.fptosi 32 x + 2448#32).setWidth 8) hs

end Cert.KernelIdeal.Gen
-- ==== Proof.Phil.lean ====
/- The words of the counter-based generator, one element at a time: the high half of a product by each of its two constants, as the
   kernel computes it and as the reference does, and its ten rounds. -/
module

public import Idealize.ShloMosaic.PureOps
public import Idealize.ShloMosaic.Lib.Tactic
public import Mathlib.Tactic.Ring

@[expose] public section

namespace Cert.Phil

open Idealize.ShloMosaic

/-- The high word of a product of two words. -/
def mulhi (m : ℕ) (b : BitVec 32) : BitVec 32 := BitVec.ofNat 32 (m * b.toNat / 4294967296)

/-- The kernel's high halves. -/
def kA (b : BitVec 32) : BitVec 32 :=
  (b >>> 16) * 53841#32 + ((b * 53841#32 + (b >>> 16) * 766451539#32 + (((b * 3528531795#32) ^^^ 4294967295#32) >>> 16)) >>> 16)
def kB (b : BitVec 32) : BitVec 32 :=
  b - (b >>> 16) * 12897#32 - ((b * 12897#32 + (b >>> 16) * 3449778857#32 + ((b * 3449720151#32) >>> 16) + 65535#32) >>> 16)

/-- The reference's high half, of the constant of halves `ah` and `al`. -/
def rU (ah al : BitVec 32) (b : BitVec 32) : BitVec 32 := ah * (b &&& 65535#32) + ((al * (b &&& 65535#32)) >>> 16)
def rH (ah al : BitVec 32) (b : BitVec 32) : BitVec 32 :=
  ah * (b >>> 16) + (rU ah al b >>> 16) + ((al * (b >>> 16) + (rU ah al b &&& 65535#32)) >>> 16)

theorem and65535 (x : BitVec 32) : (x &&& 65535#32).toNat = x.toNat % 65536 := by
  rw [BitVec.toNat_and]
  exact Nat.and_two_pow_sub_one_eq_mod x.toNat 16

theorem shr16 (x : BitVec 32) : (x >>> 16).toNat = x.toNat / 65536 := by
  rw [BitVec.toNat_ushiftRight, Nat.shiftRight_eq_div_pow]

theorem rH_eq (ah al : ℕ) (hah : ah < 65536) (hal : al < 65536) (b : BitVec 32) :
    rH (BitVec.ofNat 32 ah) (BitVec.ofNat 32 al) b = mulhi (ah * 65536 + al) b := by
  have hb := b.isLt
  generalize hN : b.toNat = N at *
  obtain ⟨bh, bl, hbl, hbh, rfl⟩ : ∃ bh bl, bl < 65536 ∧ bh < 65536 ∧ N = 65536 * bh + bl := ⟨N / 65536, N % 65536, by omega, by omega, by omega⟩
  have p1 : ah * bl ≤ 65535 * 65535 := Nat.mul_le_mul (by omega) (by omega)
  have p2 : al * bl ≤ 65535 * 65535 := Nat.mul_le_mul (by omega) (by omega)
  have p3 : ah * bh ≤ 65535 * 65535 := Nat.mul_le_mul (by omega) (by omega)
  have p4 : al * bh ≤ 65535 * 65535 := Nat.mul_le_mul (by omega) (by omega)
  have e1 : (65536 * bh + bl) / 65536 = bh := by omega
  have e2 : (65536 * bh + bl) % 65536 = bl := by omega
  have ea : (BitVec.ofNat 32 ah).toNat = ah := by rw [BitVec.toNat_ofNat]; omega
  have el : (BitVec.ofNat 32 al).toNat = al := by rw [BitVec.toNat_ofNat]; omega
  have hU : (rU (BitVec.ofNat 32 ah) (BitVec.ofNat 32 al) b).toNat = ah * bl + al * bl / 65536 := by
    unfold rU
    rw [BitVec.toNat_add, shr16, BitVec.toNat_mul, BitVec.toNat_mul, and65535, hN, e2, ea, el]
    omega
  have hp : (ah * 65536 + al) * (65536 * bh + bl) = ah * bh * 4294967296 + (ah * bl + al * bh) * 65536 + al * bl := by ring
  apply BitVec.eq_of_toNat_eq
  unfold rH mulhi
  rw [BitVec.toNat_ofNat, hN, hp]
  simp only [BitVec.toNat_add, BitVec.toNat_mul, shr16, and65535, hU, hN, e1, ea, el]
  generalize ah * bl = a at *
  generalize al * bl = c at *
  generalize ah * bh = d at *
  generalize al * bh = e at *
  clear hU hp ea el hN
  omega

theorem natA (bh S T : ℕ) (hbh : bh < 65536) (hSb : S < 4294967296 - 65536) (hTb : T < 65536 * 65536) :
    (bh * 53841 + ((S + (4294967295 - (S * 65536 + T) % 4294967296) / 65536) % 4294967296) / 65536) % 4294967296
      = bh * 53841 + (S * 65536 + T) / 4294967296 := by
  have hA : (S * 65536 + T) / 4294967296 = (S + T / 65536) / 65536 := by omega
  have hB : (4294967295 - (S * 65536 + T) % 4294967296) / 65536 = 65535 - (S + T / 65536) % 65536 := by omega
  rw [hA, hB]
  omega

theorem natB1 (S T : ℕ) (hSb : S < 4294967296 - 131072) (hTb : T < 65536 * 29353) :
    ((S + (4294967296 - (S * 65536 + T) % 4294967296) % 4294967296 / 65536) % 4294967296 + 65535) % 4294967296 / 65536 = (S * 65536 + T + 4294967295) / 4294967296 := by
  obtain ⟨u, v, hv, hu, rfl⟩ : ∃ u v, v < 65536 ∧ u < 29353 ∧ T = 65536 * u + v := ⟨T / 65536, T % 65536, by omega, by omega, by omega⟩
  obtain ⟨a, b, hb, hab⟩ : ∃ a b, b < 65536 ∧ S + u = 65536 * a + b := ⟨(S + u) / 65536, (S + u) % 65536, by omega, by omega⟩
  have ha : a < 65536 := by omega
  have e : (S * 65536 + (65536 * u + v)) % 4294967296 = 65536 * b + v := by omega
  rw [e]
  by_cases h : b = 0 ∧ v = 0
  · obtain ⟨rfl, rfl⟩ := h
    omega
  · have e2 : (4294967296 - (65536 * b + v)) % 4294967296 = 4294967296 - (65536 * b + v) := by omega
    rw [e2]
    by_cases hv0 : v = 0
    · subst hv0
      have e3 : (4294967296 - (65536 * b + 0)) / 65536 = 65536 - b := by omega
      rw [e3]
      omega
    · have e3 : (4294967296 - (65536 * b + v)) / 65536 = 65535 - b := by omega
      rw [e3]
      omega

theorem natB2 (N bh C : ℕ) (hN : N < 4294967296) (hbh : bh < 65536) (hle : bh * 12897 + C ≤ N) :
    (4294967296 - C + (4294967296 - bh * 12897 % 4294967296 + N) % 4294967296) % 4294967296 = N - (bh * 12897 + C) := by
  omega

theorem kA_eq (b : BitVec 32) : kA b = mulhi 3528531795 b := by
  have hb := b.isLt
  generalize hN : b.toNat = N at *
  obtain ⟨bh, bl, hbl, hbh, rfl⟩ : ∃ bh bl, bl < 65536 ∧ bh < 65536 ∧ N = 65536 * bh + bl := ⟨N / 65536, N % 65536, by omega, by omega, by omega⟩
  have e1 : (b >>> 16).toNat = bh := by rw [shr16, hN]; omega
  have hs : (b * 53841#32 + (b >>> 16) * 766451539#32).toNat = bl * 53841 + bh * 8019 := by
    rw [BitVec.toNat_add, BitVec.toNat_mul, BitVec.toNat_mul, e1, hN]
    simp only [BitVec.toNat_ofNat]
    omega
  have hl : ((b * 3528531795#32) ^^^ 4294967295#32).toNat = 4294967295 - ((65536 * bh + bl) * 3528531795) % 4294967296 := by
    rw [show (4294967295#32) = BitVec.allOnes 32 from rfl, BitVec.xor_allOnes, BitVec.toNat_not, BitVec.toNat_mul, hN]
    simp only [BitVec.toNat_ofNat]
  have hl2 : ((65536 * bh + bl) * 3528531795) % 4294967296 = ((bl * 53841 + bh * 8019) * 65536 + bl * 8019) % 4294967296 := by omega
  have hm : (mulhi 3528531795 b).toNat = bh * 53841 + ((bl * 53841 + bh * 8019) * 65536 + bl * 8019) / 4294967296 := by
    unfold mulhi
    rw [BitVec.toNat_ofNat, hN]
    have g1 : 3528531795 * (65536 * bh + bl) / 4294967296 = bh * 53841 + ((bl * 53841 + bh * 8019) * 65536 + bl * 8019) / 4294967296 := by omega
    have g2 : bh * 53841 + ((bl * 53841 + bh * 8019) * 65536 + bl * 8019) / 4294967296 < 4294967296 := by omega
    omega
  have hk : (kA b).toNat = (bh * 53841 + ((bl * 53841 + bh * 8019 + (4294967295 - ((bl * 53841 + bh * 8019) * 65536 + bl * 8019) % 4294967296) / 65536) % 4294967296) / 65536) % 4294967296 := by
    unfold kA
    rw [BitVec.toNat_add, BitVec.toNat_mul, e1, shr16, BitVec.toNat_add, hs, shr16, hl, hl2]
    simp only [BitVec.toNat_ofNat]
    omega
  apply BitVec.eq_of_toNat_eq
  rw [hm, hk]
  exact natA bh _ _ hbh (by omega) (by omega)

theorem kB_eq (b : BitVec 32) : kB b = mulhi 3449720151 b := by
  have hb := b.isLt
  generalize hN : b.toNat = N at *
  obtain ⟨bh, bl, hbl, hbh, rfl⟩ : ∃ bh bl, bl < 65536 ∧ bh < 65536 ∧ N = 65536 * bh + bl := ⟨N / 65536, N % 65536, by omega, by omega, by omega⟩
  have e1 : (b >>> 16).toNat = bh := by rw [shr16, hN]; omega
  have hs : (b * 12897#32 + (b >>> 16) * 3449778857#32).toNat = bl * 12897 + bh * 29353 := by
    rw [BitVec.toNat_add, BitVec.toNat_mul, BitVec.toNat_mul, e1, hN]
    simp only [BitVec.toNat_ofNat]
    omega
  have hle : bh * 12897 + ((bl * 12897 + bh * 29353) * 65536 + bl * 29353 + 4294967295) / 4294967296 ≤ 65536 * bh + bl := by omega
  have hm : (mulhi 3449720151 b).toNat = 65536 * bh + bl - (bh * 12897 + ((bl * 12897 + bh * 29353) * 65536 + bl * 29353 + 4294967295) / 4294967296) := by
    unfold mulhi
    rw [BitVec.toNat_ofNat, hN]
    have g1 : 3449720151 * (65536 * bh + bl) / 4294967296 = 65536 * bh + bl - (bh * 12897 + ((bl * 12897 + bh * 29353) * 65536 + bl * 29353 + 4294967295) / 4294967296) := by omega
    omega
  have hl : (b * 3449720151#32).toNat = (4294967296 - ((bl * 12897 + bh * 29353) * 65536 + bl * 29353) % 4294967296) % 4294967296 := by
    rw [BitVec.toNat_mul, hN]
    simp only [BitVec.toNat_ofNat]
    omega
  have hc : (b * 12897#32 + (b >>> 16) * 3449778857#32 + ((b * 3449720151#32) >>> 16) + 65535#32).toNat / 65536 = ((bl * 12897 + bh * 29353) * 65536 + bl * 29353 + 4294967295) / 4294967296 := by
    rw [BitVec.toNat_add, BitVec.toNat_add, hs, shr16, hl]
    exact natB1 _ _ (by omega) (by omega)
  apply BitVec.eq_of_toNat_eq
  rw [hm]
  unfold kB
  rw [BitVec.toNat_sub, BitVec.toNat_sub, BitVec.toNat_mul, e1, shr16, hc, hN]
  exact natB2 _ _ _ (by omega) hbh hle

/-- The state of the generator at one element. -/
structure W where
  c0 : BitVec 32
  c1 : BitVec 32
  c2 : BitVec 32
  c3 : BitVec 32

/-- One round, with the round's key. -/
def W.step (k0 k1 : BitVec 32) (s : W) : W where
  c0 := mulhi 3449720151 s.c2 ^^^ s.c1 ^^^ k0
  c1 := 3449720151#32 * s.c2
  c2 := mulhi 3528531795 s.c0 ^^^ s.c3 ^^^ k1
  c3 := 3528531795#32 * s.c0

/-- The keys of round `n`. -/
def key0 (k : BitVec 32) : ℕ → BitVec 32 | 0 => k | n + 1 => key0 k n + 2654435769#32
def key1 (k : BitVec 32) : ℕ → BitVec 32 | 0 => k | n + 1 => key1 k n + 3144134277#32

/-- The state after `n` rounds from the counter `q`. -/
def rounds (q k0 k1 : BitVec 32) : ℕ → W
  | 0 => ⟨q, 0#32, 0#32, 0#32⟩
  | n + 1 => (rounds q k0 k1 n).step (key0 k0 n) (key1 k1 n)

theorem mulhi_zero (m : ℕ) : mulhi m 0#32 = 0#32 := by
  unfold mulhi
  rw [show (0#32).toNat = 0 from rfl, Nat.mul_zero, Nat.zero_div]

end Cert.Phil
-- ==== Proof.RefWords.lean ====
/- The reference's random words: its ten rounds, element by element, are the generator's. -/
module

public import proofs.«01_k».proof.Proof.Phil
public import proofs.«01_k».proof.Proof.Gen.ReferenceIdeal.Run
public import Idealize.ShloMosaic.Lib.ValueIdx
public import Idealize.ShloMosaic.Lib.ValueIdxCore
public import Idealize.ShloMosaic.Lib.Pipeline.Value

@[expose] public section

set_option maxRecDepth 8192

noncomputable section

namespace Cert.ReferenceIdeal.Value

open Idealize.ShloMosaic Idealize.ShloMosaic.TcCoe Cert.ReferenceIdeal.Gen Idealize.ShloMosaic.ValueIdx
open Cert.Phil (mulhi rH rH_eq rounds key0 key1 W)

variable {F : FTy → Type} [FloatOps F]

theorem hiB_eq (b : BitVec 32) : rH 52638#32 36183#32 b = mulhi 3449720151 b := rH_eq 52638 36183 (by decide) (by decide) b
theorem hiA_eq (b : BitVec 32) : rH 53841#32 8019#32 b = mulhi 3528531795 b := rH_eq 53841 8019 (by decide) (by decide) b

/-- The seed's words. -/
def seedR0 (V0 : Valuation τ sig (Elt F)) : BitVec 32 := (show IVec S2 32 from V0 (Proc.devRef .tc main_arg1)) (ix1 (0 : Fin 2))
def seedR1 (V0 : Valuation τ sig (Elt F)) : BitVec 32 := (show IVec S2 32 from V0 (Proc.devRef .tc main_arg1)) (ix1 (1 : Fin 2))

/-- An element of a word array. -/
abbrev rd (v : IVec S2x768x4096 32) (j : S2x768x4096.Idx) : BitVec 32 := v j
abbrev rs (v : IVec S_ 32) (i : S_.Idx) : BitVec 32 := v i

theorem v25_at (V0 : Valuation τ sig (Elt F)) (i : S_.Idx) : rs (res_main_v25 V0) i = seedR0 V0 := by
  show shapeCast S_ (extractStridedSlice S1 ![0] (show IVec S2 32 from V0 (Proc.devRef .tc main_arg1)) slices_S2_S1_0) shapeCasts_S1_S_ i = _
  rw [shapeCast_apply _ _ i (ix1 (0 : Fin 1)) (by rw [eq_ix0 i]; rfl), extractStridedSlice_apply _ _ _ _ (ix1 (0 : Fin 2)) (by intro a; fin_cases a; rfl)]
  rfl
theorem v27_at (V0 : Valuation τ sig (Elt F)) (i : S_.Idx) : rs (res_main_v27 V0) i = seedR1 V0 := by
  show shapeCast S_ (extractStridedSlice S1 ![1] (show IVec S2 32 from V0 (Proc.devRef .tc main_arg1)) slices_S2_S1_1) shapeCasts_S1_S_ i = _
  rw [shapeCast_apply _ _ i (ix1 (0 : Fin 1)) (by rw [eq_ix0 i]; rfl), extractStridedSlice_apply _ _ _ _ (ix1 (1 : Fin 2)) (by intro a; fin_cases a; rfl)]
  rfl

theorem v86_at (V0 : Valuation τ sig (Elt F)) (i : S_.Idx) : rs (res_main_v86 V0) i = key0 (seedR0 V0) 1 := by
  show rs (res_main_v25 V0) i + 2654435769#32 = _
  rw [v25_at]
  rfl
theorem v87_at (V0 : Valuation τ sig (Elt F)) (i : S_.Idx) : rs (res_main_v87 V0) i = key1 (seedR1 V0) 1 := by
  show rs (res_main_v27 V0) i + 3144134277#32 = _
  rw [v27_at]
  rfl

theorem v146_at (V0 : Valuation τ sig (Elt F)) (i : S_.Idx) : rs (res_main_v146 V0) i = key0 (seedR0 V0) 2 := by
  show rs (res_main_v86 V0) i + 2654435769#32 = _
  rw [v86_at]
  rfl
theorem v147_at (V0 : Valuation τ sig (Elt F)) (i : S_.Idx) : rs (res_main_v147 V0) i = key1 (seedR1 V0) 2 := by
  show rs (res_main_v87 V0) i + 3144134277#32 = _
  rw [v87_at]
  rfl

theorem v206_at (V0 : Valuation τ sig (Elt F)) (i : S_.Idx) : rs (res_main_v206 V0) i = key0 (seedR0 V0) 3 := by
  show rs (res_main_v146 V0) i + 2654435769#32 = _
  rw [v146_at]
  rfl
theorem v207_at (V0 : Valuation τ sig (Elt F)) (i : S_.Idx) : rs (res_main_v207 V0) i = key1 (seedR1 V0) 3 := by
  show rs (res_main_v147 V0) i + 3144134277#32 = _
  rw [v147_at]
  rfl

theorem v266_at (V0 : Valuation τ sig (Elt F)) (i : S_.Idx) : rs (res_main_v266 V0) i = key0 (seedR0 V0) 4 := by
  show rs (res_main_v206 V0) i + 2654435769#32 = _
  rw [v206_at]
  rfl
theorem v267_at (V0 : Valuation τ sig (Elt F)) (i : S_.Idx) : rs (res_main_v267 V0) i = key1 (seedR1 V0) 4 := by
  show rs (res_main_v207 V0) i + 3144134277#32 = _
  rw [v207_at]
  rfl

theorem v326_at (V0 : Valuation τ sig (Elt F)) (i : S_.Idx) : rs (res_main_v326 V0) i = key0 (seedR0 V0) 5 := by
  show rs (res_main_v266 V0) i + 2654435769#32 = _
  rw [v266_at]
  rfl
theorem v327_at (V0 : Valuation τ sig (Elt F)) (i : S_.Idx) : rs (res_main_v327 V0) i = key1 (seedR1 V0) 5 := by
  show rs (res_main_v267 V0) i + 3144134277#32 = _
  rw [v267_at]
  rfl

theorem v386_at (V0 : Valuation τ sig (Elt F)) (i : S_.Idx) : rs (res_main_v386 V0) i = key0 (seedR0 V0) 6 := by
  show rs (res_main_v326 V0) i + 2654435769#32 = _
  rw [v326_at]
  rfl
theorem v387_at (V0 : Valuation τ sig (Elt F)) (i : S_.Idx) : rs (res_main_v387 V0) i = key1 (seedR1 V0) 6 := by
  show rs (res_main_v327 V0) i + 3144134277#32 = _
  rw [v327_at]
  rfl

theorem v446_at (V0 : Valuation τ sig (Elt F)) (i : S_.Idx) : rs (res_main_v446 V0) i = key0 (seedR0 V0) 7 := by
  show rs (res_main_v386 V0) i + 2654435769#32 = _
  rw [v386_at]
  rfl
theorem v447_at (V0 : Valuation τ sig (Elt F)) (i : S_.Idx) : rs (res_main_v447 V0) i = key1 (seedR1 V0) 7 := by
  show rs (res_main_v387 V0) i + 3144134277#32 = _
  rw [v387_at]
  rfl

theorem v506_at (V0 : Valuation τ sig (Elt F)) (i : S_.Idx) : rs (res_main_v506 V0) i = key0 (seedR0 V0) 8 := by
  show rs (res_main_v446 V0) i + 2654435769#32 = _
  rw [v446_at]
  rfl
theorem v507_at (V0 : Valuation τ sig (Elt F)) (i : S_.Idx) : rs (res_main_v507 V0) i = key1 (seedR1 V0) 8 := by
  show rs (res_main_v447 V0) i + 3144134277#32 = _
  rw [v447_at]
  rfl

/-- The counter of an element. -/
abbrev qR (V0 : Valuation τ sig (Elt F)) (j : S2x768x4096.Idx) : BitVec 32 := rd (res_main_v20 V0) j
/-- The state after `n` rounds. -/
abbrev stR (V0 : Valuation τ sig (Elt F)) (j : S2x768x4096.Idx) (n : ℕ) : W := rounds (qR V0 j) (seedR0 V0) (seedR1 V0) n

theorem st1 (V0 : Valuation τ sig (Elt F)) (j : S2x768x4096.Idx) : stR V0 j 1 = ⟨rd (res_main_v82 V0) j, 3449720151#32 * rd (res_main_v22 V0) j, rd (res_main_v85 V0) j, 3528531795#32 * rd (res_main_v20 V0) j⟩ := by
  obtain ⟨i0, e0⟩ : ∃ i, rd (res_main_v82 V0) j = rH 52638#32 36183#32 (rd (res_main_v22 V0) j) ^^^ 0#32 ^^^ rs (res_main_v25 V0) i := by
    unfold res_main_v82 res_main_v66 res_main_v55 res_main_v57
    exact ⟨_, rfl⟩
  obtain ⟨i1, e1⟩ : ∃ i, rd (res_main_v85 V0) j = rH 53841#32 8019#32 (rd (res_main_v20 V0) j) ^^^ 0#32 ^^^ rs (res_main_v27 V0) i := by
    unfold res_main_v85 res_main_v40 res_main_v29 res_main_v31
    exact ⟨_, rfl⟩
  rw [e0, e1, hiA_eq, hiB_eq, v25_at, v27_at]
  rfl

theorem st2 (V0 : Valuation τ sig (Elt F)) (j : S2x768x4096.Idx) : stR V0 j 2 = ⟨rd (res_main_v142 V0) j, 3449720151#32 * rd (res_main_v85 V0) j, rd (res_main_v145 V0) j, 3528531795#32 * rd (res_main_v82 V0) j⟩ := by
  obtain ⟨i0, e0⟩ : ∃ i, rd (res_main_v142 V0) j = rH 52638#32 36183#32 (rd (res_main_v85 V0) j) ^^^ (3449720151#32 * rd (res_main_v22 V0) j) ^^^ rs (res_main_v86 V0) i := by
    unfold res_main_v142 res_main_v126 res_main_v115 res_main_v117
    exact ⟨_, rfl⟩
  obtain ⟨i1, e1⟩ : ∃ i, rd (res_main_v145 V0) j = rH 53841#32 8019#32 (rd (res_main_v82 V0) j) ^^^ (3528531795#32 * rd (res_main_v20 V0) j) ^^^ rs (res_main_v87 V0) i := by
    unfold res_main_v145 res_main_v100 res_main_v89 res_main_v91
    exact ⟨_, rfl⟩
  have e := st1 V0 j
  show (stR V0 j 1).step (key0 (seedR0 V0) 1) (key1 (seedR1 V0) 1) = _
  rw [e0, e1, hiA_eq, hiB_eq, v86_at, v87_at, e]
  rfl

theorem st3 (V0 : Valuation τ sig (Elt F)) (j : S2x768x4096.Idx) : stR V0 j 3 = ⟨rd (res_main_v202 V0) j, 3449720151#32 * rd (res_main_v145 V0) j, rd (res_main_v205 V0) j, 3528531795#32 * rd (res_main_v142 V0) j⟩ := by
  obtain ⟨i0, e0⟩ : ∃ i, rd (res_main_v202 V0) j = rH 52638#32 36183#32 (rd (res_main_v145 V0) j) ^^^ (3449720151#32 * rd (res_main_v85 V0) j) ^^^ rs (res_main_v146 V0) i := by
    unfold res_main_v202 res_main_v186 res_main_v175 res_main_v177
    exact ⟨_, rfl⟩
  obtain ⟨i1, e1⟩ : ∃ i, rd (res_main_v205 V0) j = rH 53841#32 8019#32 (rd (res_main_v142 V0) j) ^^^ (3528531795#32 * rd (res_main_v82 V0) j) ^^^ rs (res_main_v147 V0) i := by
    unfold res_main_v205 res_main_v160 res_main_v149 res_main_v151
    exact ⟨_, rfl⟩
  have e := st2 V0 j
  show (stR V0 j 2).step (key0 (seedR0 V0) 2) (key1 (seedR1 V0) 2) = _
  rw [e0, e1, hiA_eq, hiB_eq, v146_at, v147_at, e]
  rfl

theorem st4 (V0 : Valuation τ sig (Elt F)) (j : S2x768x4096.Idx) : stR V0 j 4 = ⟨rd (res_main_v262 V0) j, 3449720151#32 * rd (res_main_v205 V0) j, rd (res_main_v265 V0) j, 3528531795#32 * rd (res_main_v202 V0) j⟩ := by
  obtain ⟨i0, e0⟩ : ∃ i, rd (res_main_v262 V0) j = rH 52638#32 36183#32 (rd (res_main_v205 V0) j) ^^^ (3449720151#32 * rd (res_main_v145 V0) j) ^^^ rs (res_main_v206 V0) i := by
    unfold res_main_v262 res_main_v246 res_main_v235 res_main_v237
    exact ⟨_, rfl⟩
  obtain ⟨i1, e1⟩ : ∃ i, rd (res_main_v265 V0) j = rH 53841#32 8019#32 (rd (res_main_v202 V0) j) ^^^ (3528531795#32 * rd (res_main_v142 V0) j) ^^^ rs (res_main_v207 V0) i := by
    unfold res_main_v265 res_main_v220 res_main_v209 res_main_v211
    exact ⟨_, rfl⟩
  have e := st3 V0 j
  show (stR V0 j 3).step (key0 (seedR0 V0) 3) (key1 (seedR1 V0) 3) = _
  rw [e0, e1, hiA_eq, hiB_eq, v206_at, v207_at, e]
  rfl

theorem st5 (V0 : Valuation τ sig (Elt F)) (j : S2x768x4096.Idx) : stR V0 j 5 = ⟨rd (res_main_v322 V0) j, 3449720151#32 * rd (res_main_v265 V0) j, rd (res_main_v325 V0) j, 3528531795#32 * rd (res_main_v262 V0) j⟩ := by
  obtain ⟨i0, e0⟩ : ∃ i, rd (res_main_v322 V0) j = rH 52638#32 36183#32 (rd (res_main_v265 V0) j) ^^^ (3449720151#32 * rd (res_main_v205 V0) j) ^^^ rs (res_main_v266 V0) i := by
    unfold res_main_v322 res_main_v306 res_main_v295 res_main_v297
    exact ⟨_, rfl⟩
  obtain ⟨i1, e1⟩ : ∃ i, rd (res_main_v325 V0) j = rH 53841#32 8019#32 (rd (res_main_v262 V0) j) ^^^ (3528531795#32 * rd (res_main_v202 V0) j) ^^^ rs (res_main_v267 V0) i := by
    unfold res_main_v325 res_main_v280 res_main_v269 res_main_v271
    exact ⟨_, rfl⟩
  have e := st4 V0 j
  show (stR V0 j 4).step (key0 (seedR0 V0) 4) (key1 (seedR1 V0) 4) = _
  rw [e0, e1, hiA_eq, hiB_eq, v266_at, v267_at, e]
  rfl

theorem st6 (V0 : Valuation τ sig (Elt F)) (j : S2x768x4096.Idx) : stR V0 j 6 = ⟨rd (res_main_v382 V0) j, 3449720151#32 * rd (res_main_v325 V0) j, rd (res_main_v385 V0) j, 3528531795#32 * rd (res_main_v322 V0) j⟩ := by
  obtain ⟨i0, e0⟩ : ∃ i, rd (res_main_v382 V0) j = rH 52638#32 36183#32 (rd (res_main_v325 V0) j) ^^^ (3449720151#32 * rd (res_main_v265 V0) j) ^^^ rs (res_main_v326 V0) i := by
    unfold res_main_v382 res_main_v366 res_main_v355 res_main_v357
    exact ⟨_, rfl⟩
  obtain ⟨i1, e1⟩ : ∃ i, rd (res_main_v385 V0) j = rH 53841#32 8019#32 (rd (res_main_v322 V0) j) ^^^ (3528531795#32 * rd (res_main_v262 V0) j) ^^^ rs (res_main_v327 V0) i := by
    unfold res_main_v385 res_main_v340 res_main_v329 res_main_v331
    exact ⟨_, rfl⟩
  have e := st5 V0 j
  show (stR V0 j 5).step (key0 (seedR0 V0) 5) (key1 (seedR1 V0) 5) = _
  rw [e0, e1, hiA_eq, hiB_eq, v326_at, v327_at, e]
  rfl

theorem st7 (V0 : Valuation τ sig (Elt F)) (j : S2x768x4096.Idx) : stR V0 j 7 = ⟨rd (res_main_v442 V0) j, 3449720151#32 * rd (res_main_v385 V0) j, rd (res_main_v445 V0) j, 3528531795#32 * rd (res_main_v382 V0) j⟩ := by
  obtain ⟨i0, e0⟩ : ∃ i, rd (res_main_v442 V0) j = rH 52638#32 36183#32 (rd (res_main_v385 V0) j) ^^^ (3449720151#32 * rd (res_main_v325 V0) j) ^^^ rs (res_main_v386 V0) i := by
    unfold res_main_v442 res_main_v426 res_main_v415 res_main_v417
    exact ⟨_, rfl⟩
  obtain ⟨i1, e1⟩ : ∃ i, rd (res_main_v445 V0) j = rH 53841#32 8019#32 (rd (res_main_v382 V0) j) ^^^ (3528531795#32 * rd (res_main_v322 V0) j) ^^^ rs (res_main_v387 V0) i := by
    unfold res_main_v445 res_main_v400 res_main_v389 res_main_v391
    exact ⟨_, rfl⟩
  have e := st6 V0 j
  show (stR V0 j 6).step (key0 (seedR0 V0) 6) (key1 (seedR1 V0) 6) = _
  rw [e0, e1, hiA_eq, hiB_eq, v386_at, v387_at, e]
  rfl

theorem st8 (V0 : Valuation τ sig (Elt F)) (j : S2x768x4096.Idx) : stR V0 j 8 = ⟨rd (res_main_v502 V0) j, 3449720151#32 * rd (res_main_v445 V0) j, rd (res_main_v505 V0) j, 3528531795#32 * rd (res_main_v442 V0) j⟩ := by
  obtain ⟨i0, e0⟩ : ∃ i, rd (res_main_v502 V0) j = rH 52638#32 36183#32 (rd (res_main_v445 V0) j) ^^^ (3449720151#32 * rd (res_main_v385 V0) j) ^^^ rs (res_main_v446 V0) i := by
    unfold res_main_v502 res_main_v486 res_main_v475 res_main_v477
    exact ⟨_, rfl⟩
  obtain ⟨i1, e1⟩ : ∃ i, rd (res_main_v505 V0) j = rH 53841#32 8019#32 (rd (res_main_v442 V0) j) ^^^ (3528531795#32 * rd (res_main_v382 V0) j) ^^^ rs (res_main_v447 V0) i := by
    unfold res_main_v505 res_main_v460 res_main_v449 res_main_v451
    exact ⟨_, rfl⟩
  have e := st7 V0 j
  show (stR V0 j 7).step (key0 (seedR0 V0) 7) (key1 (seedR1 V0) 7) = _
  rw [e0, e1, hiA_eq, hiB_eq, v446_at, v447_at, e]
  rfl

theorem st9 (V0 : Valuation τ sig (Elt F)) (j : S2x768x4096.Idx) : stR V0 j 9 = ⟨rd (res_main_v562 V0) j, 3449720151#32 * rd (res_main_v505 V0) j, rd (res_main_v565 V0) j, 3528531795#32 * rd (res_main_v502 V0) j⟩ := by
  obtain ⟨i0, e0⟩ : ∃ i, rd (res_main_v562 V0) j = rH 52638#32 36183#32 (rd (res_main_v505 V0) j) ^^^ (3449720151#32 * rd (res_main_v445 V0) j) ^^^ rs (res_main_v506 V0) i := by
    unfold res_main_v562 res_main_v546 res_main_v535 res_main_v537
    exact ⟨_, rfl⟩
  obtain ⟨i1, e1⟩ : ∃ i, rd (res_main_v565 V0) j = rH 53841#32 8019#32 (rd (res_main_v502 V0) j) ^^^ (3528531795#32 * rd (res_main_v442 V0) j) ^^^ rs (res_main_v507 V0) i := by
    unfold res_main_v565 res_main_v520 res_main_v509 res_main_v511
    exact ⟨_, rfl⟩
  have e := st8 V0 j
  show (stR V0 j 8).step (key0 (seedR0 V0) 8) (key1 (seedR1 V0) 8) = _
  rw [e0, e1, hiA_eq, hiB_eq, v506_at, v507_at, e]
  rfl

end Cert.ReferenceIdeal.Value
-- ==== Proof.RefVal.lean ====
/- The reference's results, element by element. -/
module

public import proofs.«01_k».proof.Proof.RefWords
public import proofs.«01_k».proof.Proof.Code
public import Idealize.ShloMosaic.Lib.IdealHost

@[expose] public section

set_option maxRecDepth 8192

noncomputable section

namespace Cert.ReferenceIdeal.Value

open Idealize.ShloMosaic Idealize.ShloMosaic.TcCoe Cert.ReferenceIdeal.Gen Idealize.ShloMosaic.ValueIdx
open Cert.Phil (mulhi rH rH_eq rounds key0 key1 W)
open Cert.Scal

/-- The component of a state of the generator. -/
def _root_.Cert.Phil.W.get (w : W) : ℕ → BitVec 32 | 0 => w.c0 | 1 => w.c1 | 2 => w.c2 | _ => w.c3

section Words
variable {F : FTy → Type} [FloatOps F]

theorem st10 (V0 : Valuation τ sig (Elt F)) (j : S2x768x4096.Idx) :
    stR V0 j 10 = ⟨rH 52638#32 36183#32 (rd (res_main_v565 V0) j) ^^^ (3449720151#32 * rd (res_main_v505 V0) j) ^^^ key0 (seedR0 V0) 9, 3449720151#32 * rd (res_main_v565 V0) j,
      rH 53841#32 8019#32 (rd (res_main_v562 V0) j) ^^^ (3528531795#32 * rd (res_main_v502 V0) j) ^^^ key1 (seedR1 V0) 9, 3528531795#32 * rd (res_main_v562 V0) j⟩ := by
  have e := st9 V0 j
  show (stR V0 j 9).step (key0 (seedR0 V0) 9) (key1 (seedR1 V0) 9) = _
  rw [hiA_eq, hiB_eq, e]
  rfl

/-- The four words of a counter, side by side. -/
def wcat (V0 : Valuation τ sig (Elt F)) : IVec S2x768x4096x4 32 :=
  concatenate S2x768x4096x4 3 [⟨S2x768x4096x1, ((broadcastInDim S2x768x4096x1 ![0, 1, 2] bcast_S2x768x4096_S2x768x4096x1_0_1_2 (xori (xori (addi (addi (muli (broadcastInDim S2x768x4096 ![] bcast_S_S2x768x4096 (constantI S_ 32 52638#32)) (res_main_v595 V0)) (Host.shrui (res_main_v606 V0) (broadcastInDim S2x768x4096 ![] bcast_S_S2x768x4096 (constantI S_ 32 16#32)))) (Host.shrui (addi (muli (broadcastInDim S2x768x4096 ![] bcast_S_S2x768x4096 (constantI S_ 32 36183#32)) (res_main_v595 V0)) (andi (res_main_v606 V0) (broadcastInDim S2x768x4096 ![] bcast_S_S2x768x4096 (constantI S_ 32 65535#32)))) (broadcastInDim S2x768x4096 ![] bcast_S_S2x768x4096 (constantI S_ 32 16#32)))) (muli (broadcastInDim S2x768x4096 ![] bcast_S_S2x768x4096 (constantI S_ 32 3449720151#32)) (res_main_v505 V0))) (broadcastInDim S2x768x4096 ![] bcast_S_S2x768x4096 (addi (res_main_v506 V0) (constantI S_ 32 2654435769#32))))) : (⟨S2x768x4096x1, .i32⟩ : BufTy).Contents (Elt F))⟩, ⟨S2x768x4096x1, ((broadcastInDim S2x768x4096x1 ![0, 1, 2] bcast_S2x768x4096_S2x768x4096x1_0_1_2 (muli (broadcastInDim S2x768x4096 ![] bcast_S_S2x768x4096 (constantI S_ 32 3449720151#32)) (res_main_v565 V0))) : (⟨S2x768x4096x1, .i32⟩ : BufTy).Contents (Elt F))⟩, ⟨S2x768x4096x1, ((broadcastInDim S2x768x4096x1 ![0, 1, 2] bcast_S2x768x4096_S2x768x4096x1_0_1_2 (xori (xori (addi (addi (muli (broadcastInDim S2x768x4096 ![] bcast_S_S2x768x4096 (constantI S_ 32 53841#32)) (res_main_v569 V0)) (Host.shrui (res_main_v580 V0) (broadcastInDim S2x768x4096 ![] bcast_S_S2x768x4096 (constantI S_ 32 16#32)))) (Host.shrui (addi (muli (broadcastInDim S2x768x4096 ![] bcast_S_S2x768x4096 (constantI S_ 32 8019#32)) (res_main_v569 V0)) (andi (res_main_v580 V0) (broadcastInDim S2x768x4096 ![] bcast_S_S2x768x4096 (constantI S_ 32 65535#32)))) (broadcastInDim S2x768x4096 ![] bcast_S_S2x768x4096 (constantI S_ 32 16#32)))) (muli (broadcastInDim S2x768x4096 ![] bcast_S_S2x768x4096 (constantI S_ 32 3528531795#32)) (res_main_v502 V0))) (broadcastInDim S2x768x4096 ![] bcast_S_S2x768x4096 (addi (res_main_v507 V0) (constantI S_ 32 3144134277#32))))) : (⟨S2x768x4096x1, .i32⟩ : BufTy).Contents (Elt F))⟩, ⟨S2x768x4096x1, ((broadcastInDim S2x768x4096x1 ![0, 1, 2] bcast_S2x768x4096_S2x768x4096x1_0_1_2 (muli (broadcastInDim S2x768x4096 ![] bcast_S_S2x768x4096 (constantI S_ 32 3528531795#32)) (res_main_v562 V0))) : (⟨S2x768x4096x1, .i32⟩ : BufTy).Contents (Elt F))⟩] concatenates_S2x768x4096x1_S2x768x4096x1_S2x768x4096x1_S2x768x4096x1_S2x768x4096x4_d3

/-- A column of a unit axis more, read. -/
theorem unit3_at {α : Type} (v : S2x768x4096.Idx → α) (b : Fin 2) (s : Fin 768) (q : Fin 4096) (z : Fin 1) :
    broadcastInDim S2x768x4096x1 ![0, 1, 2] bcast_S2x768x4096_S2x768x4096x1_0_1_2 v (ix4 b s q z) = v (ix3 b s q) := by
  refine broadcastInDim_apply _ _ _ _ _ ?_
  intro a; fin_cases a <;> rfl

/-- Four columns side by side, read. -/
theorem cat4_at {α : Type} (p0 p1 p2 p3 : S2x768x4096.Idx → α) (h) (b : Fin 2) (s : Fin 768) (q : Fin 4096) :
    ∀ P, P = concatenate S2x768x4096x4 3 [⟨S2x768x4096x1, broadcastInDim S2x768x4096x1 ![0, 1, 2] bcast_S2x768x4096_S2x768x4096x1_0_1_2 p0⟩, ⟨S2x768x4096x1, broadcastInDim S2x768x4096x1 ![0, 1, 2] bcast_S2x768x4096_S2x768x4096x1_0_1_2 p1⟩, ⟨S2x768x4096x1, broadcastInDim S2x768x4096x1 ![0, 1, 2] bcast_S2x768x4096_S2x768x4096x1_0_1_2 p2⟩, ⟨S2x768x4096x1, broadcastInDim S2x768x4096x1 ![0, 1, 2] bcast_S2x768x4096_S2x768x4096x1_0_1_2 p3⟩] h →
      P (ix4 b s q (0 : Fin 4)) = p0 (ix3 b s q) ∧ P (ix4 b s q (1 : Fin 4)) = p1 (ix3 b s q) ∧ P (ix4 b s q (2 : Fin 4)) = p2 (ix3 b s q) ∧ P (ix4 b s q (3 : Fin 4)) = p3 (ix3 b s q) := by
    rintro P rfl
    refine ⟨?_, ?_, ?_, ?_⟩
    · exact (concatenate_apply_piece 3 _ h _ 0 (by simp) S2x768x4096x1 _ rfl rfl 0 rfl (ix4 b s q (0 : Fin 1))
      (by intro a ha; fin_cases a <;> first | rfl | exact absurd rfl ha) rfl).trans (unit3_at p0 b s q 0)
    · exact (concatenate_apply_piece 3 _ h _ 1 (by simp) S2x768x4096x1 _ rfl rfl 1 rfl (ix4 b s q (0 : Fin 1))
      (by intro a ha; fin_cases a <;> first | rfl | exact absurd rfl ha) rfl).trans (unit3_at p1 b s q 0)
    · exact (concatenate_apply_piece 3 _ h _ 2 (by simp) S2x768x4096x1 _ rfl rfl 2 rfl (ix4 b s q (0 : Fin 1))
      (by intro a ha; fin_cases a <;> first | rfl | exact absurd rfl ha) rfl).trans (unit3_at p2 b s q 0)
    · exact (concatenate_apply_piece 3 _ h _ 3 (by simp) S2x768x4096x1 _ rfl rfl 3 rfl (ix4 b s q (0 : Fin 1))
      (by intro a ha; fin_cases a <;> first | rfl | exact absurd rfl ha) rfl).trans (unit3_at p3 b s q 0)

theorem wcat_at (V0 : Valuation τ sig (Elt F)) (b : Fin 2) (s : Fin 768) (q : Fin 4096) (j : Fin 4) :
    wcat V0 (ix4 b s q j) = (stR V0 (ix3 b s q) 10).get j.val := by
  rw [st10]
  obtain ⟨h0, h1, h2, h3⟩ := cat4_at _ _ _ _ _ b s q (wcat V0) rfl
  fin_cases j
  · refine h0.trans ?_
    obtain ⟨i0, e0⟩ : ∃ i, xori (xori (addi (addi (muli (broadcastInDim S2x768x4096 ![] bcast_S_S2x768x4096 (constantI S_ 32 52638#32)) (res_main_v595 V0)) (Host.shrui (res_main_v606 V0) (broadcastInDim S2x768x4096 ![] bcast_S_S2x768x4096 (constantI S_ 32 16#32)))) (Host.shrui (addi (muli (broadcastInDim S2x768x4096 ![] bcast_S_S2x768x4096 (constantI S_ 32 36183#32)) (res_main_v595 V0)) (andi (res_main_v606 V0) (broadcastInDim S2x768x4096 ![] bcast_S_S2x768x4096 (constantI S_ 32 65535#32)))) (broadcastInDim S2x768x4096 ![] bcast_S_S2x768x4096 (constantI S_ 32 16#32)))) (muli (broadcastInDim S2x768x4096 ![] bcast_S_S2x768x4096 (constantI S_ 32 3449720151#32)) (res_main_v505 V0))) (broadcastInDim S2x768x4096 ![] bcast_S_S2x768x4096 (addi (res_main_v506 V0) (constantI S_ 32 2654435769#32))) (ix3 b s q)
        = rH 52638#32 36183#32 (rd (res_main_v565 V0) (ix3 b s q)) ^^^ (3449720151#32 * rd (res_main_v505 V0) (ix3 b s q)) ^^^ (rs (res_main_v506 V0) i + 2654435769#32) := by
      unfold res_main_v606 res_main_v595
      exact ⟨_, rfl⟩
    refine e0.trans ?_
    rw [v506_at]
    rfl
  · refine h1.trans ?_
    rfl
  · refine h2.trans ?_
    obtain ⟨i0, e0⟩ : ∃ i, xori (xori (addi (addi (muli (broadcastInDim S2x768x4096 ![] bcast_S_S2x768x4096 (constantI S_ 32 53841#32)) (res_main_v569 V0)) (Host.shrui (res_main_v580 V0) (broadcastInDim S2x768x4096 ![] bcast_S_S2x768x4096 (constantI S_ 32 16#32)))) (Host.shrui (addi (muli (broadcastInDim S2x768x4096 ![] bcast_S_S2x768x4096 (constantI S_ 32 8019#32)) (res_main_v569 V0)) (andi (res_main_v580 V0) (broadcastInDim S2x768x4096 ![] bcast_S_S2x768x4096 (constantI S_ 32 65535#32)))) (broadcastInDim S2x768x4096 ![] bcast_S_S2x768x4096 (constantI S_ 32 16#32)))) (muli (broadcastInDim S2x768x4096 ![] bcast_S_S2x768x4096 (constantI S_ 32 3528531795#32)) (res_main_v502 V0))) (broadcastInDim S2x768x4096 ![] bcast_S_S2x768x4096 (addi (res_main_v507 V0) (constantI S_ 32 3144134277#32))) (ix3 b s q)
        = rH 53841#32 8019#32 (rd (res_main_v562 V0) (ix3 b s q)) ^^^ (3528531795#32 * rd (res_main_v502 V0) (ix3 b s q)) ^^^ (rs (res_main_v507 V0) i + 3144134277#32) := by
      unfold res_main_v580 res_main_v569
      exact ⟨_, rfl⟩
    refine e0.trans ?_
    rw [v507_at]
    rfl
  · refine h3.trans ?_
    rfl

/-- The counter of an element of four. -/
theorem qR_at (V0 : Valuation τ sig (Elt F)) (b : Fin 2) (s : Fin 768) (q : Fin 4096) :
    qR V0 (ix3 b s q) = BitVec.ofNat 32 ((768 * b.val + s.val) * 4096 + q.val) := by
  have e : qR V0 (ix3 b s q) = ((BitVec.ofNat 32 b.val * 768#32 + BitVec.ofNat 32 s.val) * 16384#32 + 4#32 * BitVec.ofNat 32 q.val) >>> 2 := by
    unfold qR res_main_v20
    rfl
  rw [e]
  have hb := b.isLt
  have hs := s.isLt
  have hq := q.isLt
  apply BitVec.eq_of_toNat_eq
  rw [BitVec.toNat_ushiftRight, Nat.shiftRight_eq_div_pow]
  simp only [BitVec.toNat_add, BitVec.toNat_mul, BitVec.toNat_ofNat]
  omega

end Words

/-- An element's random word. -/
def wordR (V0 : Valuation τ sig (Elt Ideal)) (b : Fin 2) (s : Fin 768) (d : ℕ) : BitVec 32 :=
  (rounds (BitVec.ofNat 32 ((768 * b.val + s.val) * 4096 + d / 4)) (seedR0 V0) (seedR1 V0) 10).get (d % 4)

/-- An element of the reference's input. -/
def xR (V0 : Valuation τ sig (Elt Ideal)) (b : Fin 2) (s : Fin 768) (d : Fin 16384) : EReal :=
  (show FVec Ideal S2x768x16384 .bf16 from V0 (Proc.devRef .tc main_arg0)) (ix3 b s d)

abbrev f4 (v : FVec Ideal S2x768x512x32 .f32) (j : S2x768x512x32.Idx) : EReal := v j
abbrev i4 (v : IVec S2x768x512x32 32) (j : S2x768x512x32.Idx) : BitVec 32 := v j
abbrev f3 (v : FVec Ideal S2x768x512 .f32) (j : S2x768x512.Idx) : EReal := v j
abbrev i3 (v : IVec S2x768x512 32) (j : S2x768x512.Idx) : BitVec 32 := v j

theorem v639_at (V0 : Valuation τ sig (Elt Ideal)) (b : Fin 2) (s : Fin 768) (n : Fin 512) (i : Fin 32) :
    f4 (res_main_v639 V0) (ix4 b s n i) = xR V0 b s ⟨32 * n.val + i.val, by have := n.isLt; have := i.isLt; omega⟩ := by
  have hn := n.isLt
  have hi := i.isLt
  show shapeCast S2x768x512x32 (extf .f32 (show FVec Ideal S2x768x16384 .bf16 from V0 (Proc.devRef .tc main_arg0)) bitsLt_bf16_f32) shapeCasts_S2x768x16384_S2x768x512x32 (ix4 b s n i) = _
  rw [shapeCast_apply _ _ _ (ix3 b s (⟨32 * n.val + i.val, by omega⟩ : Fin 16384)) (by
    rw [Shape.rowMajor_val_three, Shape.rowMajor_val_four]
    show (b.val * 768 + s.val) * 16384 + (32 * n.val + i.val) = ((b.val * 768 + s.val) * 512 + n.val) * 32 + i.val
    omega)]
  rfl

theorem lift4 (b : Fin 2) (s : Fin 768) (n : Fin 512) (i : Fin 32) (h : Shape.Reduces S2x768x512x32 [3] S2x768x512) :
    h.lift (ix3 b s n) i = ix4 b s n i := by
  funext a; apply Fin.ext; refine (Shape.Reduces.lift_val h _ _ a).trans ?_; fin_cases a <;> rfl

theorem v642_le (V0 : Valuation τ sig (Elt Ideal)) (b : Fin 2) (s : Fin 768) (n : Fin 512) (c : EReal) :
    f3 (res_main_v642 V0) (ix3 b s n) ≤ c ↔ ∀ i : Fin 32, max (xR V0 b s ⟨32 * n.val + i.val, by have := n.isLt; have := i.isLt; omega⟩) (-(xR V0 b s ⟨32 * n.val + i.val, by have := n.isLt; have := i.isLt; omega⟩)) ≤ c := by
  have h : Shape.Reduces S2x768x512x32 [3] S2x768x512 := by decide
  have e : f3 (res_main_v642 V0) (ix3 b s n) = (Finset.univ : Finset (Fin 32)).fold max (⊥ : EReal) (fun i => max (f4 (res_main_v639 V0) (ix4 b s n i)) (-(f4 (res_main_v639 V0) (ix4 b s n i)))) := by
    refine (Host.reduce_eq_fold_single (max : EReal → EReal → EReal) (Host.absf (res_main_v639 V0)) (constant (F := Ideal) S_ .f32 0xFF800000#32) reducesTo_S2x768x512x32_S2x768x512_d3 h h_S_ (ix3 b s n)).trans ?_
    have e0 : constant (F := Ideal) S_ .f32 0xFF800000#32 (Shape.Idx.first h_S_) = ⊥ := by
      show Ideal.ofBits .f32 0xFF800000#32 = ⊥
      simp [Ideal.ofBits, Ideal.ieee]
    rw [e0]
    exact congrArg (fun f => (Finset.univ : Finset (Fin 32)).fold max (⊥ : EReal) f) (funext fun i => congrArg (fun j => max (f4 (res_main_v639 V0) j) (-(f4 (res_main_v639 V0) j))) (lift4 b s n i h))
  rw [e, Finset.fold_max_le]
  simp only [bot_le, true_and, Finset.mem_univ, true_implies, v639_at]

theorem lift254 (b : Fin 2) (s : Fin 768) (n : Fin 512) (i : Fin 254) (h : Shape.Reduces S2x768x512x254 [3] S2x768x512) :
    h.lift (ix3 b s n) i = ix4 b s n i := by
  funext a; apply Fin.ext; refine (Shape.Reduces.lift_val h _ _ a).trans ?_; fin_cases a <;> rfl

theorem lit0_at : ∀ i : Fin 254, lit0 i = Scal.fp (i.val + 1) := by decide +kernel

theorem fold254 : ∀ K : Fin 255, (Finset.univ : Finset (Fin 254)).fold (IntOp.addi : BitVec 32 → BitVec 32 → BitVec 32) (0#32) (fun i : Fin 254 => if i.val + 1 ≤ K.val then 1#32 else 0#32) = BitVec.ofNat 32 K.val := by
  decide +kernel

/-- The reference's comparisons of every group's maximum with every power of two. -/
def cmpR (V0 : Valuation τ sig (Elt Ideal)) : IVec S2x768x512x254 32 :=
  extui 32 (cmpf .oge (broadcastInDim S2x768x512x254 ![0, 1, 2, 3] bcast_S2x768x512x1_S2x768x512x254_0_1_2_3 (broadcastInDim S2x768x512x1 ![0, 1, 2] bcast_S2x768x512_S2x768x512x1_0_1_2 (res_main_v642 V0))) (broadcastInDim S2x768x512x254 ![0, 1, 2, 3] bcast_S1x1x1x254_S2x768x512x254_0_1_2_3 (broadcastInDim S1x1x1x254 ![3] bcast_S254_S1x1x1x254_3 ((fun i => FloatOps.ofBits .f32 (lit0 (S254.rowMajor i))))))) natLt_1_32

theorem bc254_at {α : Type} (v : S2x768x512.Idx → α) (b : Fin 2) (s : Fin 768) (n : Fin 512) (i : Fin 254) :
    broadcastInDim S2x768x512x254 ![0, 1, 2, 3] bcast_S2x768x512x1_S2x768x512x254_0_1_2_3 (broadcastInDim S2x768x512x1 ![0, 1, 2] bcast_S2x768x512_S2x768x512x1_0_1_2 v) (ix4 b s n i) = v (ix3 b s n) := by
  refine (broadcastInDim_apply _ _ _ _ (ix4 b s n (0 : Fin 1)) ?_).trans (broadcastInDim_apply _ _ _ _ (ix3 b s n) ?_)
  · intro a; fin_cases a <;> rfl
  · intro a; fin_cases a <;> rfl

theorem bcl_at {α : Type} (v : S254.Idx → α) (b : Fin 2) (s : Fin 768) (n : Fin 512) (i : Fin 254) :
    broadcastInDim S2x768x512x254 ![0, 1, 2, 3] bcast_S1x1x1x254_S2x768x512x254_0_1_2_3 (broadcastInDim S1x1x1x254 ![3] bcast_S254_S1x1x1x254_3 v) (ix4 b s n i) = v (ix1 i) := by
  refine (broadcastInDim_apply _ _ _ _ (ix4 (0 : Fin 1) (0 : Fin 1) (0 : Fin 1) i) ?_).trans (broadcastInDim_apply _ _ _ _ (ix1 i) ?_)
  · intro a; fin_cases a <;> rfl
  · intro a; fin_cases a <;> rfl

theorem cmpR_at (V0 : Valuation τ sig (Elt Ideal)) (b : Fin 2) (s : Fin 768) (n : Fin 512) (i : Fin 254) (K : ℕ) (hK : Fld (f3 (res_main_v642 V0) (ix3 b s n)) K) :
    cmpR V0 (ix4 b s n i) = if i.val + 1 ≤ K then 1#32 else 0#32 := by
  have e : cmpR V0 (ix4 b s n i) = (Ideal.cmp .oge (f3 (res_main_v642 V0) (ix3 b s n)) (Ideal.ofBits .f32 (lit0 (S254.rowMajor (ix1 i))))).setWidth 32 :=
    congrArg₂ (fun x y => (Ideal.cmp .oge x y).setWidth 32) (bc254_at (res_main_v642 V0) b s n i)
      (bcl_at (fun i => Ideal.ofBits .f32 (lit0 (S254.rowMajor i))) b s n i)
  have er : S254.rowMajor (ix1 i) = i := Fin.ext (Shape.rowMajor_val_one _)
  rw [e, er, lit0_at, ofBits_pw _ (by omega) (by have := i.isLt; omega)]
  have hi := hK.iff (i.val + 1) (by omega)
  unfold Ideal.cmp
  by_cases g : i.val + 1 ≤ K
  · rw [if_pos g]; simp only [decide_eq_true (hi.mpr g)]; rfl
  · rw [if_neg g]; simp only [decide_eq_false (fun h => g (hi.mp h))]; rfl

theorem sel656 (m : FVec Ideal S2x768x512 .f32) (R : IVec S2x768x512 32) (j : S2x768x512.Idx) :
    select (cmpf .oeq m (broadcastInDim S2x768x512 ![] bcast_S_S2x768x512 (constant S_ .f32 0x00000000#32))) (broadcastInDim S2x768x512 ![] bcast_S_S2x768x512 (id (constantI S_ 32 0#32)))
      (subi (addi (broadcastInDim S2x768x512 ![] bcast_S_S2x768x512 (constantI S_ 32 4294967170#32)) R) (broadcastInDim S2x768x512 ![] bcast_S_S2x768x512 (constantI S_ 32 3#32))) j
      = Scalar.select (Ideal.cmp .oeq (m j) (Ideal.ofBits .f32 0x00000000#32)) 0#32 ((4294967170#32 + R j) - 3#32) := rfl

theorem v656_at (V0 : Valuation τ sig (Elt Ideal)) (b : Fin 2) (s : Fin 768) (n : Fin 512) (K : ℕ) (hK : Fld (f3 (res_main_v642 V0) (ix3 b s n)) K) :
    i3 (res_main_v656 V0) (ix3 b s n) = expI K := by
  have h : Shape.Reduces S2x768x512x254 [3] S2x768x512 := by decide
  haveI : Std.Commutative (IntOp.addi : BitVec 32 → BitVec 32 → BitVec 32) := ⟨BitVec.add_comm⟩
  haveI : Std.Associative (IntOp.addi : BitVec 32 → BitVec 32 → BitVec 32) := ⟨BitVec.add_assoc⟩
  have hf : Host.reduce IntOp.addi (cmpR V0) (constantI S_ 32 0#32) reducesTo_S2x768x512x254_S2x768x512_d3 h_S_ (ix3 b s n) = BitVec.ofNat 32 K := by
    refine (Host.reduce_eq_fold_single IntOp.addi (cmpR V0) (constantI S_ 32 0#32) reducesTo_S2x768x512x254_S2x768x512_d3 h h_S_ (ix3 b s n)).trans ?_
    refine Eq.trans ?_ (fold254 ⟨K, by have := hK.le; omega⟩)
    refine congrArg (fun f => (Finset.univ : Finset (Fin 254)).fold IntOp.addi (0#32) f) (funext fun i => ?_)
    exact (congrArg (cmpR V0) (lift254 b s n i h)).trans (cmpR_at V0 b s n i K hK)
  have e : i3 (res_main_v656 V0) (ix3 b s n) = Scalar.select (Ideal.cmp .oeq (f3 (res_main_v642 V0) (ix3 b s n)) (Ideal.ofBits .f32 0x00000000#32)) 0#32
      ((4294967170#32 + Host.reduce IntOp.addi (cmpR V0) (constantI S_ 32 0#32) reducesTo_S2x768x512x254_S2x768x512_d3 h_S_ (ix3 b s n)) - 3#32) := by
    exact sel656 (res_main_v642 V0) _ (ix3 b s n)
  rw [e, hf, lit0f]
  unfold Scalar.select Ideal.cmp expI
  rcases hK with ⟨h0, h1⟩ | ⟨h1, h2, h3, h4⟩
  · rw [h0, h1]; simp
  · have : f3 (res_main_v642 V0) (ix3 b s n) ≠ ((0 : ℝ) : EReal) := by
      rw [EReal.coe_zero]; exact (lt_of_lt_of_le (pw_pos K) h3).ne'
    rw [if_neg (show ¬ K = 0 by omega)]
    simp only [decide_eq_false this]
    rfl

/-- A group's maximum. -/
abbrev gmR (V0 : Valuation τ sig (Elt Ideal)) (b : Fin 2) (s : Fin 768) (n : Fin 512) : EReal := f3 (res_main_v642 V0) (ix3 b s n)

theorem bc32_at {α : Type} (v : S2x768x512.Idx → α) (b : Fin 2) (s : Fin 768) (n : Fin 512) (i : Fin 32) :
    broadcastInDim S2x768x512x32 ![0, 1, 2, 3] bcast_S2x768x512x1_S2x768x512x32_0_1_2_3 (broadcastInDim S2x768x512x1 ![0, 1, 2] bcast_S2x768x512_S2x768x512x1_0_1_2 v) (ix4 b s n i) = v (ix3 b s n) := by
  refine (broadcastInDim_apply _ _ _ _ (ix4 b s n (0 : Fin 1)) ?_).trans (broadcastInDim_apply _ _ _ _ (ix3 b s n) ?_)
  · intro a; fin_cases a <;> rfl
  · intro a; fin_cases a <;> rfl

theorem mul669 (x : FVec Ideal S2x768x512x32 .f32) (P : FVec Ideal S2x768x512x32 .f32) (j : S2x768x512x32.Idx) :
    mulf (mulf (Host.absf x) (broadcastInDim S2x768x512x32 ![] bcast_S_S2x768x512x32 (constant S_ .f32 0x3F400000#32))) P j
      = max (x j) (-(x j)) * Ideal.ofBits .f32 0x3F400000#32 * P j := rfl

theorem pow669 (e : IVec S2x768x512 32) (j : S2x768x512.Idx) :
    Host.powf (F := Ideal) (φ := .f32) (broadcastInDim S2x768x512 ![] bcast_S_S2x768x512 (constant S_ .f32 0x40000000#32)) (sitofp .f32 (negi e)) j
      = Ideal.pow (Ideal.ofBits .f32 0x40000000#32) ((((-(e j)).toInt : ℝ)) : EReal) := rfl

theorem v669_at (V0 : Valuation τ sig (Elt Ideal)) (b : Fin 2) (s : Fin 768) (n : Fin 512) (i : Fin 32) :
    f4 (res_main_v669 V0) (ix4 b s n i) = refA (f4 (res_main_v639 V0) (ix4 b s n i)) (i3 (res_main_v656 V0) (ix3 b s n)) := by
  refine (mul669 (res_main_v639 V0) _ (ix4 b s n i)).trans ?_
  refine congrArg (fun y : EReal => max (f4 (res_main_v639 V0) (ix4 b s n i)) (-(f4 (res_main_v639 V0) (ix4 b s n i))) * Ideal.ofBits .f32 0x3F400000#32 * y) ?_
  exact (bc32_at _ b s n i).trans (pow669 (res_main_v656 V0) (ix3 b s n))

theorem wresh_at (V : IVec S2x768x4096x4 32) (b : Fin 2) (s : Fin 768) (n : Fin 512) (i : Fin 32) :
    shapeCast S2x768x512x32 (shapeCast S2x768x16384 V shapeCasts_S2x768x4096x4_S2x768x16384) shapeCasts_S2x768x16384_S2x768x512x32 (ix4 b s n i)
      = V (ix4 b s (⟨8 * n.val + i.val / 4, by have := n.isLt; have := i.isLt; omega⟩ : Fin 4096) (⟨i.val % 4, by omega⟩ : Fin 4)) := by
  have hn := n.isLt
  have hi := i.isLt
  rw [shapeCast_apply _ _ (ix4 b s n i) (ix3 b s (⟨32 * n.val + i.val, by omega⟩ : Fin 16384)) (by
    rw [Shape.rowMajor_val_three, Shape.rowMajor_val_four]
    show (b.val * 768 + s.val) * 16384 + (32 * n.val + i.val) = ((b.val * 768 + s.val) * 512 + n.val) * 32 + i.val
    omega)]
  exact shapeCast_apply _ _ _ _ (by
    rw [Shape.rowMajor_val_three, Shape.rowMajor_val_four]
    show ((b.val * 768 + s.val) * 4096 + (8 * n.val + i.val / 4)) * 4 + i.val % 4 = (b.val * 768 + s.val) * 16384 + (32 * n.val + i.val)
    omega)

/-- The reference's magnitudes of scaled elements `A` and words `Q`. -/
def magV (A : FVec Ideal S2x768x512x32 .f32) (Q : IVec S2x768x512x32 32) : IVec S2x768x512x32 32 :=
  addi (fptosi 32 (select (cmpf .olt A (broadcastInDim S2x768x512x32 ![] bcast_S_S2x768x512x32 (constant S_ .f32 0x40000000#32))) (Host.floor (mulf (broadcastInDim S2x768x512x32 ![] bcast_S_S2x768x512x32 (constant S_ .f32 0x40000000#32)) A)) (select (cmpf .olt A (broadcastInDim S2x768x512x32 ![] bcast_S_S2x768x512x32 (constant S_ .f32 0x40800000#32))) (addf (broadcastInDim S2x768x512x32 ![] bcast_S_S2x768x512x32 (constant S_ .f32 0x40800000#32)) (Host.floor (subf A (broadcastInDim S2x768x512x32 ![] bcast_S_S2x768x512x32 (constant S_ .f32 0x40000000#32))))) (broadcastInDim S2x768x512x32 ![] bcast_S_S2x768x512x32 (id (constant S_ .f32 0x40C00000#32)))))) (extui 32 (cmpf .olt (mulf (uitofp .f32 (Host.shrui Q (broadcastInDim S2x768x512x32 ![] bcast_S_S2x768x512x32 (constantI S_ 32 8#32)))) (broadcastInDim S2x768x512x32 ![] bcast_S_S2x768x512x32 (constant S_ .f32 0x33800000#32))) (select (cmpf .olt A (broadcastInDim S2x768x512x32 ![] bcast_S_S2x768x512x32 (constant S_ .f32 0x40000000#32))) (subf (mulf (broadcastInDim S2x768x512x32 ![] bcast_S_S2x768x512x32 (constant S_ .f32 0x40000000#32)) A) (Host.floor (mulf (broadcastInDim S2x768x512x32 ![] bcast_S_S2x768x512x32 (constant S_ .f32 0x40000000#32)) A))) (select (cmpf .olt A (broadcastInDim S2x768x512x32 ![] bcast_S_S2x768x512x32 (constant S_ .f32 0x40800000#32))) (subf (subf A (broadcastInDim S2x768x512x32 ![] bcast_S_S2x768x512x32 (constant S_ .f32 0x40000000#32))) (Host.floor (subf A (broadcastInDim S2x768x512x32 ![] bcast_S_S2x768x512x32 (constant S_ .f32 0x40000000#32))))) (mulf (subf A (broadcastInDim S2x768x512x32 ![] bcast_S_S2x768x512x32 (constant S_ .f32 0x40800000#32))) (broadcastInDim S2x768x512x32 ![] bcast_S_S2x768x512x32 (constant S_ .f32 0x3F000000#32)))))) natLt_1_32)

theorem magV_at (A : FVec Ideal S2x768x512x32 .f32) (Q : IVec S2x768x512x32 32) (j : S2x768x512x32.Idx) : magV A Q j = magR (Q j) (A j) := rfl

theorem v702_eq (V0 : Valuation τ sig (Elt Ideal)) : res_main_v702 V0 = magV (res_main_v669 V0) (shapeCast S2x768x512x32 (shapeCast S2x768x16384 (wcat V0) shapeCasts_S2x768x4096x4_S2x768x16384) shapeCasts_S2x768x16384_S2x768x512x32) := by
  unfold res_main_v702 res_main_v677 res_main_v679 res_main_v672 res_main_v671 res_main_v675
  rfl

theorem v702_at (V0 : Valuation τ sig (Elt Ideal)) (b : Fin 2) (s : Fin 768) (n : Fin 512) (i : Fin 32) :
    i4 (res_main_v702 V0) (ix4 b s n i) = magR (wordR V0 b s (32 * n.val + i.val)) (refA (f4 (res_main_v639 V0) (ix4 b s n i)) (i3 (res_main_v656 V0) (ix3 b s n))) := by
  rw [← v669_at]
  refine (congrArg (fun v => i4 v (ix4 b s n i)) (v702_eq V0)).trans ?_
  refine (magV_at _ _ _).trans ?_
  refine congrArg (fun w => magR w (f4 (res_main_v669 V0) (ix4 b s n i))) ?_
  refine (wresh_at _ b s n i).trans ((wcat_at _ _ _ _ _).trans ?_)
  unfold wordR stR
  rw [qR_at]
  have : (32 * n.val + i.val) / 4 = 8 * n.val + i.val / 4 := by omega
  have h2 : (32 * n.val + i.val) % 4 = i.val % 4 := by omega
  rw [this, h2]

/-- The reference's code of an element. -/
def codeR (V0 : Valuation τ sig (Elt Ideal)) (b : Fin 2) (s : Fin 768) (d : Fin 16384) (e : BitVec 32) : BitVec 32 :=
  Scalar.select (Ideal.cmp .olt (xR V0 b s d) (Ideal.ofBits .f32 0x00000000#32)) (magR (wordR V0 b s d.val) (refA (xR V0 b s d) e) ||| 8#32) (magR (wordR V0 b s d.val) (refA (xR V0 b s d) e))

theorem sel708 (x : FVec Ideal S2x768x512x32 .f32) (R : IVec S2x768x512x32 32) (j : S2x768x512x32.Idx) :
    select (cmpf .olt x (broadcastInDim S2x768x512x32 ![] bcast_S_S2x768x512x32 (constant S_ .f32 0x00000000#32))) (ori R (broadcastInDim S2x768x512x32 ![] bcast_S_S2x768x512x32 (constantI S_ 32 8#32))) R j
      = Scalar.select (Ideal.cmp .olt (x j) (Ideal.ofBits .f32 0x00000000#32)) (R j ||| 8#32) (R j) := rfl

theorem cast708 (v : IVec S2x768x512x32 32) (b : Fin 2) (s : Fin 768) (d : Fin 8192) (z : Fin 2) :
    shapeCast S2x768x8192x2 v shapeCasts_S2x768x512x32_S2x768x8192x2 (ix4 b s d z)
      = v (ix4 b s (⟨d.val / 16, by have := d.isLt; omega⟩ : Fin 512) (⟨2 * (d.val % 16) + z.val, by have := z.isLt; omega⟩ : Fin 32)) := by
  have hd := d.isLt
  have hz := z.isLt
  exact shapeCast_apply _ _ _ _ (by
    rw [Shape.rowMajor_val_four, Shape.rowMajor_val_four]
    show ((b.val * 768 + s.val) * 512 + d.val / 16) * 32 + (2 * (d.val % 16) + z.val) = ((b.val * 768 + s.val) * 8192 + d.val) * 2 + z.val
    omega)

theorem v708_at (V0 : Valuation τ sig (Elt Ideal)) (b : Fin 2) (s : Fin 768) (d : Fin 8192) (z : Fin 2) :
    (show IVec S2x768x8192x2 32 from res_main_v708 V0) (ix4 b s d z)
      = codeR V0 b s ⟨2 * d.val + z.val, by have := d.isLt; have := z.isLt; omega⟩ (i3 (res_main_v656 V0) (ix3 b s (⟨d.val / 16, by have := d.isLt; omega⟩ : Fin 512))) := by
  have hd := d.isLt
  have hz := z.isLt
  refine (cast708 _ b s d z).trans ?_
  refine (sel708 (res_main_v639 V0) (res_main_v702 V0) _).trans ?_
  have e1 := v702_at V0 b s (⟨d.val / 16, by omega⟩ : Fin 512) (⟨2 * (d.val % 16) + z.val, by omega⟩ : Fin 32)
  have e2 := v639_at V0 b s (⟨d.val / 16, by omega⟩ : Fin 512) (⟨2 * (d.val % 16) + z.val, by omega⟩ : Fin 32)
  have e3 : 32 * (d.val / 16) + (2 * (d.val % 16) + z.val) = 2 * d.val + z.val := by omega
  rw [e2] at e1
  simp only [e3] at e1 e2
  unfold i4 at e1
  unfold f4 at e2
  rw [e1, e2]
  rfl

/-- A result's row is a batch and a place in it. -/
theorem row_ix (r : Fin 1536) : r.val / 768 < 2 ∧ r.val % 768 < 768 := by have := r.isLt; omega

/-- The rows of a batch that count. -/
def validR (V0 : Valuation τ sig (Elt Ideal)) (b : Fin 2) (s : Fin 768) : BitVec 1 :=
  IntOp.cmpi .slt (BitVec.ofNat 32 s.val) ((show IVec S2 32 from V0 (Proc.devRef .tc main_arg2)) (ix1 b))

theorem cmp637 (l : IVec S2 32) (b : Fin 2) (s : Fin 768) :
    cmpi .slt (broadcastInDim S2x768 ![0, 1] bcast_S1x768_S2x768_0_1 (broadcastInDim S1x768 ![1] bcast_S768_S1x768_1 (iotaInDim S768 32 0))) (broadcastInDim S2x768 ![0, 1] bcast_S2x1_S2x768_0_1 (broadcastInDim S2x1 ![0] bcast_S2_S2x1_0 l)) (ix2 b s)
      = IntOp.cmpi .slt (BitVec.ofNat 32 s.val) (l (ix1 b)) := by
  refine congrArg₂ (IntOp.cmpi .slt) ?_ ?_
  · refine (broadcastInDim_apply _ _ _ _ (ix2 (0 : Fin 1) s) ?_).trans ((broadcastInDim_apply _ _ _ _ (ix1 s) ?_).trans rfl)
    · intro a; fin_cases a <;> rfl
    · intro a; fin_cases a <;> rfl
  · refine (broadcastInDim_apply _ _ _ _ (ix2 b (0 : Fin 1)) ?_).trans (broadcastInDim_apply _ _ _ _ (ix1 b) ?_)
    · intro a; fin_cases a <;> rfl
    · intro a; fin_cases a <;> rfl

theorem v637_at (V0 : Valuation τ sig (Elt Ideal)) (b : Fin 2) (s : Fin 768) : (show IVec S2x768 1 from res_main_v637 V0) (ix2 b s) = validR V0 b s := by
  exact cmp637 _ b s

/-- The reference's first result. -/
def out0 (V0 : Valuation τ sig (Elt Ideal)) : IVec S1536x8192 8 :=
  shapeCast _ (select (broadcastInDim S2x768x8192 ![0, 1, 2] bcast_S2x768x1_S2x768x8192_0_1_2 (broadcastInDim S2x768x1 ![0, 1] bcast_S2x768_S2x768x1_0_1 (res_main_v637 V0))) (trunci 8 (ori (shapeCast _ (extractStridedSlice S2x768x8192x1 ![0, 0, 0, 0] (res_main_v708 V0) slices_S2x768x8192x2_S2x768x8192x1_0_0_0_0) shapeCasts_S2x768x8192x1_S2x768x8192) (Host.shli (shapeCast _ (extractStridedSlice S2x768x8192x1 ![0, 0, 0, 1] (res_main_v708 V0) slices_S2x768x8192x2_S2x768x8192x1_0_0_0_1) shapeCasts_S2x768x8192x1_S2x768x8192) (broadcastInDim S2x768x8192 ![] bcast_S_S2x768x8192 (constantI S_ 32 4#32)))) natLt_8_32) (broadcastInDim S2x768x8192 ![] bcast_S_S2x768x8192 (constantI S_ 8 0#8))) shapeCasts_S2x768x8192_S1536x8192
/-- The reference's second result. -/
def out1 (V0 : Valuation τ sig (Elt Ideal)) : IVec S1536x512 8 :=
  shapeCast _ (select (broadcastInDim S2x768x512 ![0, 1, 2] bcast_S2x768x1_S2x768x512_0_1_2 (broadcastInDim S2x768x1 ![0, 1] bcast_S2x768_S2x768x1_0_1 (res_main_v637 V0))) (trunci 8 (addi (res_main_v656 V0) (broadcastInDim S2x768x512 ![] bcast_S_S2x768x512 (constantI S_ 32 127#32))) natLt_8_32) (broadcastInDim S2x768x512 ![] bcast_S_S2x768x512 (constantI S_ 8 0#8))) shapeCasts_S2x768x512_S1536x512

theorem half_at (v : IVec S2x768x8192x2 32) (b : Fin 2) (s : Fin 768) (d : Fin 8192) :
    shapeCast S2x768x8192 (extractStridedSlice S2x768x8192x1 ![0, 0, 0, 0] v slices_S2x768x8192x2_S2x768x8192x1_0_0_0_0) shapeCasts_S2x768x8192x1_S2x768x8192 (ix3 b s d) = v (ix4 b s d (0 : Fin 2))
    ∧ shapeCast S2x768x8192 (extractStridedSlice S2x768x8192x1 ![0, 0, 0, 1] v slices_S2x768x8192x2_S2x768x8192x1_0_0_0_1) shapeCasts_S2x768x8192x1_S2x768x8192 (ix3 b s d) = v (ix4 b s d (1 : Fin 2)) := by
  constructor <;> refine (shapeCast_apply _ _ _ (ix4 b s d (0 : Fin 1)) (by
    rw [Shape.rowMajor_val_three, Shape.rowMajor_val_four]
    show ((b.val * 768 + s.val) * 8192 + d.val) * 1 + 0 = (b.val * 768 + s.val) * 8192 + d.val
    omega)).trans (extractStridedSlice_apply _ _ _ _ _ ?_) <;> (intro a; fin_cases a) <;> simp [ix4] <;> rfl

theorem bcv_at {α : Type} (v : S2x768.Idx → α) (b : Fin 2) (s : Fin 768) (n : Fin 8192) :
    broadcastInDim S2x768x8192 ![0, 1, 2] bcast_S2x768x1_S2x768x8192_0_1_2 (broadcastInDim S2x768x1 ![0, 1] bcast_S2x768_S2x768x1_0_1 v) (ix3 b s n) = v (ix2 b s) := by
  refine (broadcastInDim_apply _ _ _ _ (ix3 b s (0 : Fin 1)) ?_).trans (broadcastInDim_apply _ _ _ _ (ix2 b s) ?_)
  · intro a; fin_cases a <;> rfl
  · intro a; fin_cases a <;> rfl
theorem bcw_at {α : Type} (v : S2x768.Idx → α) (b : Fin 2) (s : Fin 768) (n : Fin 512) :
    broadcastInDim S2x768x512 ![0, 1, 2] bcast_S2x768x1_S2x768x512_0_1_2 (broadcastInDim S2x768x1 ![0, 1] bcast_S2x768_S2x768x1_0_1 v) (ix3 b s n) = v (ix2 b s) := by
  refine (broadcastInDim_apply _ _ _ _ (ix3 b s (0 : Fin 1)) ?_).trans (broadcastInDim_apply _ _ _ _ (ix2 b s) ?_)
  · intro a; fin_cases a <;> rfl
  · intro a; fin_cases a <;> rfl

theorem sel721 (c : IVec S2x768x8192 1) (p q : IVec S2x768x8192 32) (j : S2x768x8192.Idx) :
    select c (trunci 8 (ori p (Host.shli q (broadcastInDim S2x768x8192 ![] bcast_S_S2x768x8192 (constantI S_ 32 4#32)))) natLt_8_32) (broadcastInDim S2x768x8192 ![] bcast_S_S2x768x8192 (constantI S_ 8 0#8)) j
      = Scalar.select (c j) ((p j ||| (q j <<< 4)).setWidth 8) 0#8 := rfl
theorem sel722 (c : IVec S2x768x512 1) (p : IVec S2x768x512 32) (j : S2x768x512.Idx) :
    select c (trunci 8 (addi p (broadcastInDim S2x768x512 ![] bcast_S_S2x768x512 (constantI S_ 32 127#32))) natLt_8_32) (broadcastInDim S2x768x512 ![] bcast_S_S2x768x512 (constantI S_ 8 0#8)) j
      = Scalar.select (c j) ((p j + 127#32).setWidth 8) 0#8 := rfl

/-- The batch and the place of a row. -/
def rb (r : Fin 1536) : Fin 2 := ⟨r.val / 768, by have := r.isLt; omega⟩
def rp (r : Fin 1536) : Fin 768 := ⟨r.val % 768, Nat.mod_lt _ (by decide)⟩

theorem out0_at (V0 : Valuation τ sig (Elt Ideal)) (r : Fin 1536) (d : Fin 8192) :
    out0 V0 (ix2 r d) = Scalar.select (validR V0 (rb r) (rp r))
      ((codeR V0 (rb r) (rp r) ⟨2 * d.val, by have := d.isLt; omega⟩ (i3 (res_main_v656 V0) (ix3 (rb r) (rp r) (⟨d.val / 16, by have := d.isLt; omega⟩ : Fin 512)))
        ||| (codeR V0 (rb r) (rp r) ⟨2 * d.val + 1, by have := d.isLt; omega⟩ (i3 (res_main_v656 V0) (ix3 (rb r) (rp r) (⟨d.val / 16, by have := d.isLt; omega⟩ : Fin 512))) <<< 4)).setWidth 8) 0#8 := by
  have hr := r.isLt
  unfold out0
  refine (shapeCast_apply _ _ _ (ix3 (rb r) (rp r) d) (by
    rw [Shape.rowMajor_val_three, Shape.rowMajor_val_two]
    show (r.val / 768 * 768 + r.val % 768) * 8192 + d.val = r.val * 8192 + d.val
    omega)).trans ?_
  refine (sel721 _ _ _ _).trans ?_
  obtain ⟨h0, h1⟩ := half_at (res_main_v708 V0) (rb r) (rp r) d
  rw [h0, h1]
  have g0 := v708_at V0 (rb r) (rp r) d 0
  have g1 := v708_at V0 (rb r) (rp r) d 1
  have e := (bcv_at (res_main_v637 V0) (rb r) (rp r) d).trans (v637_at V0 (rb r) (rp r))
  refine (congrArg₂ (fun c y => Scalar.select c y 0#8) e (congrArg₂ (fun p q : BitVec 32 => (p ||| (q <<< 4)).setWidth 8) g0 g1)).trans rfl

theorem out1_at (V0 : Valuation τ sig (Elt Ideal)) (r : Fin 1536) (n : Fin 512) :
    out1 V0 (ix2 r n) = Scalar.select (validR V0 (rb r) (rp r)) ((i3 (res_main_v656 V0) (ix3 (rb r) (rp r) n) + 127#32).setWidth 8) 0#8 := by
  have hr := r.isLt
  unfold out1
  refine (shapeCast_apply _ _ _ (ix3 (rb r) (rp r) n) (by
    rw [Shape.rowMajor_val_three, Shape.rowMajor_val_two]
    show (r.val / 768 * 768 + r.val % 768) * 512 + n.val = r.val * 512 + n.val
    omega)).trans ?_
  refine (sel722 _ _ _).trans ?_
  have e := (bcw_at (res_main_v637 V0) (rb r) (rp r) n).trans (v637_at V0 (rb r) (rp r))
  exact congrArg (fun c => Scalar.select c ((i3 (res_main_v656 V0) (ix3 (rb r) (rp r) n) + 127#32).setWidth 8) 0#8) e

end Cert.ReferenceIdeal.Value
-- ==== Proof.KWords.lean ====
/- The kernel's random words, element by element, are the generator's. -/
module

public import proofs.«01_k».proof.Proof.KISpec
public import proofs.«01_k».proof.Proof.Phil
public import proofs.«01_k».proof.Proof.RefVal

@[expose] public section

set_option maxRecDepth 16384

noncomputable section

namespace Cert.KernelIdeal.Gen

open Idealize.ShloMosaic Idealize.ShloMosaic.TcCoe
open Idealize.ShloMosaic.ValueIdx
open Cert.Phil (mulhi kA kB kA_eq kB_eq W rounds mulhi_zero)

/-- A state of the generator at one element. -/
def Words4.at (s : Words4) (y : S16x128.Idx) : W := ⟨s.c0 y, s.c1 y, s.c2 y, s.c3 y⟩

theorem Words4.get_at (s : Words4) (j : ℕ) (y : S16x128.Idx) : s.get j y = (s.at y).get j := by
  match j with
  | 0 => rfl
  | 1 => rfl
  | 2 => rfl
  | n + 3 => rfl

theorem hiA_at (b : IVec S16x128 32) (y : S16x128.Idx) : hiA b y = mulhi 3528531795 (b y) := (show hiA b y = kA (b y) from rfl).trans (kA_eq _)
theorem hiB_at (b : IVec S16x128 32) (y : S16x128.Idx) : hiB b y = mulhi 3449720151 (b y) := (show hiB b y = kB (b y) from rfl).trans (kB_eq _)
theorem hiS_eq (b : BitVec 32) : hiS b = mulhi 3528531795 b := (show hiS b = kA b from rfl).trans (kA_eq _)
theorem loA_at (b : IVec S16x128 32) (y : S16x128.Idx) : loA b y = 3528531795#32 * b y := (show loA b y = b y * 3528531795#32 from rfl).trans (BitVec.mul_comm _ _)
theorem loB_at (b : IVec S16x128 32) (y : S16x128.Idx) : loB b y = 3449720151#32 * b y := (show loB b y = b y * 3449720151#32 from rfl).trans (BitVec.mul_comm _ _)

theorem xor_at (a b : IVec S16x128 32) (y : S16x128.Idx) : xori a b y = a y ^^^ b y := rfl
theorem broad_at (a : BitVec 32) (y : S16x128.Idx) : broadcast S16x128 a y = a := rfl

theorem W.ext' {a b c d a' b' c' d' : BitVec 32} (h0 : a = a') (h1 : b = b') (h2 : c = c') (h3 : d = d') : (⟨a, b, c, d⟩ : W) = ⟨a', b', c', d'⟩ := by
  rw [h0, h1, h2, h3]

theorem step_at (k0 k1 : BitVec 32) (s : Words4) (y : S16x128.Idx) : (s.step k0 k1).at y = (s.at y).step k0 k1 := by
  refine W.ext' ?_ ?_ ?_ ?_
  · show xori (hiB s.c2) (xori s.c1 (broadcast S16x128 k0)) y = mulhi 3449720151 (s.c2 y) ^^^ s.c1 y ^^^ k0
    rw [xor_at, xor_at, hiB_at, broad_at, BitVec.xor_assoc]
  · exact loB_at _ _
  · show xori (hiA s.c0) (xori s.c3 (broadcast S16x128 k1)) y = mulhi 3528531795 (s.c0 y) ^^^ s.c3 y ^^^ k1
    rw [xor_at, xor_at, hiA_at, broad_at, BitVec.xor_assoc]
  · exact loA_at _ _

theorem keys0_eq (k : BitVec 32) (n : ℕ) : keys0 k n = Cert.Phil.key0 k n := by
  induction n with
  | zero => rfl
  | succ n ih => show keys0 k n + 2654435769#32 = Cert.Phil.key0 k n + 2654435769#32; rw [ih]
theorem keys1_eq (k : BitVec 32) (n : ℕ) : keys1 k n = Cert.Phil.key1 k n := by
  induction n with
  | zero => rfl
  | succ n ih => show keys1 k n + 3144134277#32 = Cert.Phil.key1 k n + 3144134277#32; rw [ih]

theorem words3_at (q : IVec S16x128 32) (k0 k1 : BitVec 32) (y : S16x128.Idx) : (words3 q k0 k1).at y = rounds (q y) k0 k1 3 := by
  have r1 : rounds (q y) k0 k1 1 = ⟨k0, 0#32, mulhi 3528531795 (q y) ^^^ k1, 3528531795#32 * q y⟩ := by
    refine W.ext' ?_ ?_ ?_ ?_
    · show mulhi 3449720151 0#32 ^^^ 0#32 ^^^ k0 = k0
      rw [mulhi_zero, BitVec.xor_zero, BitVec.zero_xor]
    · show 3449720151#32 * 0#32 = 0#32
      rw [BitVec.mul_zero]
    · show mulhi 3528531795 (q y) ^^^ 0#32 ^^^ k1 = _
      rw [BitVec.xor_zero]
    · rfl
  have r2 : rounds (q y) k0 k1 2 = ⟨mulhi 3449720151 (mulhi 3528531795 (q y) ^^^ k1) ^^^ Cert.Phil.key0 k0 1, 3449720151#32 * (mulhi 3528531795 (q y) ^^^ k1),
      mulhi 3528531795 k0 ^^^ (3528531795#32 * q y) ^^^ Cert.Phil.key1 k1 1, 3528531795#32 * k0⟩ := by
    show (rounds (q y) k0 k1 1).step _ _ = _
    rw [r1]
    refine W.ext' ?_ rfl rfl rfl
    show mulhi 3449720151 (mulhi 3528531795 (q y) ^^^ k1) ^^^ 0#32 ^^^ Cert.Phil.key0 k0 1 = _
    rw [BitVec.xor_zero]
  have hc2 : (xori (loA q) (broadcast S16x128 (Scalar.xori (hiS k0) (key1 k1)))) y = mulhi 3528531795 k0 ^^^ (3528531795#32 * q y) ^^^ Cert.Phil.key1 k1 1 := by
    rw [xor_at, loA_at, broad_at, ← hiS_eq]
    show (3528531795#32 * q y) ^^^ (hiS k0 ^^^ Cert.Phil.key1 k1 1) = _
    rw [← BitVec.xor_assoc, BitVec.xor_comm (3528531795#32 * q y)]
  have hb2 : (xori (hiA q) (broadcast S16x128 k1)) y = mulhi 3528531795 (q y) ^^^ k1 := by
    rw [xor_at, hiA_at, broad_at]
  have hc0 : (xori (hiB (xori (hiA q) (broadcast S16x128 k1))) (broadcast S16x128 (key0 k0))) y = mulhi 3449720151 (mulhi 3528531795 (q y) ^^^ k1) ^^^ Cert.Phil.key0 k0 1 := by
    rw [xor_at, hiB_at, hb2, broad_at]
    rfl
  show _ = (rounds (q y) k0 k1 2).step _ _
  rw [r2]
  refine W.ext' ?_ ?_ ?_ ?_
  · show xori (hiB (xori (loA q) (broadcast S16x128 (Scalar.xori (hiS k0) (key1 k1))))) (xori (loB (xori (hiA q) (broadcast S16x128 k1))) (broadcast S16x128 (key0 (key0 k0)))) y = _
    rw [xor_at, hiB_at, hc2, xor_at, loB_at, hb2, broad_at, ← BitVec.xor_assoc]
    rfl
  · show loB (xori (loA q) (broadcast S16x128 (Scalar.xori (hiS k0) (key1 k1)))) y = _
    rw [loB_at, hc2]
  · show xori (hiA (xori (hiB (xori (hiA q) (broadcast S16x128 k1))) (broadcast S16x128 (key0 k0)))) (broadcast S16x128 (Scalar.xori (Scalar.muli k0 3528531795#32) (key1 (key1 k1)))) y = _
    rw [xor_at, hiA_at, hc0, broad_at]
    show _ ^^^ ((k0 * 3528531795#32) ^^^ Cert.Phil.key1 k1 2) = _
    rw [BitVec.mul_comm k0, ← BitVec.xor_assoc]
  · show loA (xori (hiB (xori (hiA q) (broadcast S16x128 k1))) (broadcast S16x128 (key0 k0))) y = _
    rw [loA_at, hc0]

theorem wordsN_at (q : IVec S16x128 32) (k0 k1 : BitVec 32) (y : S16x128.Idx) (n : ℕ) : (wordsN q k0 k1 n).at y = rounds (q y) k0 k1 (n + 3) := by
  induction n with
  | zero => exact words3_at q k0 k1 y
  | succ n ih =>
    show ((wordsN q k0 k1 n).step _ _).at y = (rounds (q y) k0 k1 (n + 3)).step _ _
    rw [step_at, ih, keys0_eq, keys1_eq]

theorem tripW_eq : ∀ k : Fin 8, tripW k.val = BitVec.ofNat 32 k.val := by decide +kernel

theorem ofNat_lin (i ch s p l : ℕ) :
    (BitVec.ofNat 32 p * 4096#32 + BitVec.ofNat 32 l)
      + ((BitVec.ofNat 32 i * 32#32 + BitVec.ofNat 32 (16 * s)) * 4096#32 + (BitVec.ofNat 32 (ch / 4) * 4#32 + BitVec.ofNat 32 (ch % 4)) * 128#32)
      = BitVec.ofNat 32 ((32 * i + (16 * s + p)) * 4096 + (128 * ch + l)) := by
  apply BitVec.eq_of_toNat_eq
  simp only [BitVec.toNat_add, BitVec.toNat_mul, BitVec.toNat_ofNat]
  omega

theorem counter_at (i : ℕ) (ch s : ℕ) (hch : ch < 32) (p : Fin 16) (l : Fin 128) :
    counter (BitVec.ofNat 32 i) (tripW (ch / 4)) (BitVec.ofNat 32 (ch % 4)) (BitVec.ofNat 32 (16 * s)) (ix2 p l)
      = BitVec.ofNat 32 ((32 * i + (16 * s + p.val)) * 4096 + (128 * ch + l.val)) := by
  rw [tripW_eq ⟨ch / 4, by omega⟩]
  have e : k0_pay735 (ix2 p l) = BitVec.ofNat 32 p.val * 4096#32 + BitVec.ofNat 32 l.val := by
    have e1 : k0_pay735 (ix2 p l) = iota .tc S16x128 32 [0] iota_S16x128_d0_w32 (ix2 p l) * 4096#32 + iota .tc S16x128 32 [1] iota_S16x128_d1_w32 (ix2 p l) := rfl
    have e2 : iota .tc S16x128 32 [0] iota_S16x128_d0_w32 (ix2 p l) = BitVec.ofNat 32 p.val := by simp [iota]
    have e3 : iota .tc S16x128 32 [1] iota_S16x128_d1_w32 (ix2 p l) = BitVec.ofNat 32 l.val := by simp [iota]
    rw [e1, e2, e3]
  show k0_pay735 (ix2 p l)
    + ((BitVec.ofNat 32 i * 32#32 + BitVec.ofNat 32 (16 * s)) * 4096#32 + (BitVec.ofNat 32 (ch / 4) * 4#32 + BitVec.ofNat 32 (ch % 4)) * 128#32) = _
  rw [e]
  rw [ofNat_lin i ch s p.val l.val]

/-- The word of an element. -/
theorem wordsG_at (i : ℕ) (k0 k1 : BitVec 32) (ch s j : ℕ) (hch : ch < 32) (p : Fin 16) (l : Fin 128) :
    (wordsG (BitVec.ofNat 32 i) k0 k1 ch s).get j (ix2 p l) = (rounds (BitVec.ofNat 32 ((32 * i + (16 * s + p.val)) * 4096 + (128 * ch + l.val))) k0 k1 10).get j := by
  rw [Words4.get_at]
  unfold wordsG subW
  rw [wordsN_at, counter_at i ch s hch]

end Cert.KernelIdeal.Gen
-- ==== Proof.KPt.lean ====
/- The kernel's stored values over the extended reals, element by element. -/
module

public import proofs.«01_k».proof.Proof.KMat
public import proofs.«01_k».proof.Proof.KWords

@[expose] public section

set_option maxRecDepth 16384

noncomputable section

namespace Cert.KernelIdeal.Gen

open Idealize.ShloMosaic Idealize.ShloMosaic.TcCoe
open Idealize.ShloMosaic.ValueIdx
open Cert.Scal
open Cert.Phil (rounds)

/-- An element of a block. -/
abbrev xK (X : Vec Ideal S1x32x16384 .bf16) (r : Fin 32) (d : Fin 16384) : EReal := X (ix3 (0 : Fin 1) r d)

theorem planeG_at (X : Vec Ideal S1x32x16384 .bf16) (ch s j : ℕ) (hch : ch < 32) (hs : s < 2) (hj : j < 4) (p : Fin 16) (l : Fin 128) :
    planeG X permC ch s j (ix2 p l) = xK X ⟨16 * s + p.val, by have := p.isLt; omega⟩ ⟨512 * ch + 4 * l.val + j, by have := l.isLt; omega⟩ := by
  have hp := p.isLt
  have hl := l.isLt
  refine (pay17_at (blkG X ch) _ _).trans ?_
  show X (ix3 (0 : Fin 1) _ _) = X (ix3 (0 : Fin 1) _ _)
  congr 1
  have e1 : (⟨(16 * s + p.val) % 32, Nat.mod_lt _ (by decide)⟩ : Fin 32) = ⟨16 * s + p.val, by omega⟩ := Fin.ext (by simp only; omega)
  have e2 : (128 * j + l.val) % 512 = 128 * j + l.val := by omega
  have e3 : (128 * j + l.val) % 128 = l.val := by omega
  have e4 : (128 * j + l.val) / 128 = j := by omega
  refine congrArg₂ (fun a b => ix3 (0 : Fin 1) a b) e1 (Fin.ext ?_)
  show (512 * ch + (4 * ((128 * j + l.val) % 512 % 128) + (128 * j + l.val) % 512 / 128)) % 16384 = 512 * ch + 4 * l.val + j
  rw [e2, e3, e4]
  omega

/-- The lane across a step of the exchange. -/
def xl (s : ℕ) (l : Fin 128) : Fin 128 := ⟨(l.val ^^^ s) % 128, Nat.mod_lt _ (by decide)⟩
/-- One exchange of maxima. -/
def gstep (s : ℕ) (M : Fin 128 → EReal) (l : Fin 128) : EReal := max (M l) (M (xl s l))

theorem laneW : ∀ l : Fin 128, ∀ s : Fin 5, (Scalar.select (IntOp.cmpi .slt (IntOp.xori (BitVec.ofNat 32 l.val) (BitVec.ofNat 32 s.val)) 0#32) (IntOp.addi (IntOp.xori (BitVec.ofNat 32 l.val) (BitVec.ofNat 32 s.val)) 128#32) (IntOp.xori (BitVec.ofNat 32 l.val) (BitVec.ofNat 32 s.val))).toNat % 128 = (xl s.val l).val := by
  decide +kernel

theorem laneZ (z : IVec S16x128 32) (s : BitVec 32) (y : S16x128.Idx) :
    select (cmpi .slt (xori z (broadcast S16x128 s)) (broadcast S16x128 0#32)) (addi (xori z (broadcast S16x128 s)) (broadcast S16x128 128#32)) (xori z (broadcast S16x128 s)) y
      = Scalar.select (IntOp.cmpi .slt (IntOp.xori (z y) s) 0#32) (IntOp.addi (IntOp.xori (z y) s) 128#32) (IntOp.xori (z y) s) := rfl

/-- The lanes across, as printed. -/
def laneV (s : BitVec 32) : IVec S16x128 32 :=
  shapeCast S16x128 (shapeCast S16x128x1 (select (cmpi .slt (xori (iota .tc S16x128 32 [1] iota_S16x128_d1_w32) (broadcast S16x128 s)) (broadcast S16x128 0#32))
    (addi (xori (iota .tc S16x128 32 [1] iota_S16x128_d1_w32) (broadcast S16x128 s)) (broadcast S16x128 128#32)) (xori (iota .tc S16x128 32 [1] iota_S16x128_d1_w32) (broadcast S16x128 s))) shapeCasts_S16x128_S16x128x1) shapeCasts_S16x128x1_S16x128

theorem laneV_at (s : Fin 5) (p : Fin 16) (l : Fin 128) : (laneV (BitVec.ofNat 32 s.val) (ix2 p l)).toNat % 128 = (xl s.val l).val := by
  unfold laneV
  rw [shapeCast_shapeCast]
  refine (congrArg (fun w : BitVec 32 => w.toNat % 128) (laneZ _ (BitVec.ofNat 32 s.val) (ix2 p l))).trans ?_
  rw [show iota .tc S16x128 32 [1] iota_S16x128_d1_w32 (ix2 p l) = BitVec.ofNat 32 l.val from iota1_at _ p l]
  exact laneW l s

theorem gather_at (x : FVec Ideal S16x128 .f32) (s : Fin 5) (p : Fin 16) (l : Fin 128) :
    dynamicGather 1 x (laneV (BitVec.ofNat 32 s.val)) (ix2 p l) = x (ix2 p (xl s.val l)) := by
  refine congrArg x ?_
  funext a
  fin_cases a
  · rfl
  · exact Fin.ext (laneV_at s p l)

/-- One exchange of maxima, as printed. -/
def gmV (s : BitVec 32) (x : FVec Ideal S16x128 .bf16) : FVec Ideal S16x128 .bf16 :=
  maximumf x (truncf .bf16 (dynamicGather 1 (extf .f32 x bitsLt_bf16_f32) (laneV s)) bitsLt_bf16_f32)

theorem gmV_at (s : Fin 5) (x : FVec Ideal S16x128 .bf16) (p : Fin 16) (l : Fin 128) :
    gmV (BitVec.ofNat 32 s.val) x (ix2 p l) = gstep s.val (fun l => x (ix2 p l)) l := by
  show max (x (ix2 p l)) (dynamicGather 1 (extf .f32 x bitsLt_bf16_f32) (laneV (BitVec.ofNat 32 s.val)) (ix2 p l)) = _
  rw [gather_at]
  rfl

/-- The four planes' largest magnitude in a lane. -/
def lane4 (x0 x1 x2 x3 : FVec Ideal S16x128 .f32) (p : Fin 16) (l : Fin 128) : EReal :=
  max (max (max (max (x0 (ix2 p l)) (-(x0 (ix2 p l)))) (max (x1 (ix2 p l)) (-(x1 (ix2 p l))))) (max (x2 (ix2 p l)) (-(x2 (ix2 p l))))) (max (x3 (ix2 p l)) (-(x3 (ix2 p l))))

/-- The printed maximum over a group. -/
abbrev gmax4 (x0 x1 x2 x3 : FVec Ideal S16x128 .f32) : FVec Ideal S16x128 .f32 := k0_pay94 (k0_pay90 x0) (k0_pay91 x1) (k0_pay92 x2) (k0_pay93 x3)

theorem gmax4_at (x0 x1 x2 x3 : FVec Ideal S16x128 .f32) (p : Fin 16) (l : Fin 128) :
    gmax4 x0 x1 x2 x3 (ix2 p l) = gstep 4 (gstep 2 (gstep 1 (lane4 x0 x1 x2 x3 p))) l := by
  have e : gmax4 x0 x1 x2 x3 (ix2 p l) = gmV (BitVec.ofNat 32 (4 : Fin 5).val) (gmV (BitVec.ofNat 32 (2 : Fin 5).val) (gmV (BitVec.ofNat 32 (1 : Fin 5).val)
      (maximumf (maximumf (maximumf (absf (k0_pay90 x0)) (absf (k0_pay91 x1))) (absf (k0_pay92 x2))) (absf (k0_pay93 x3))))) (ix2 p l) := rfl
  rw [e, gmV_at]
  refine congrArg (fun M => gstep 4 M l) (funext fun l => ?_)
  rw [gmV_at]
  refine congrArg (fun M => gstep 2 M l) (funext fun l => ?_)
  rw [gmV_at]
  rfl

theorem lanes8 : ∀ l : Fin 128, ∀ e : Fin 8, (⟨8 * (l.val / 8) + e.val, by have := l.isLt; omega⟩ : Fin 128) ∈ [l, xl 1 l, xl 2 l, xl 1 (xl 2 l), xl 4 l, xl 1 (xl 4 l), xl 2 (xl 4 l), xl 1 (xl 2 (xl 4 l))] := by
  decide +kernel
theorem lanes8' : ∀ l : Fin 128, ∀ z ∈ [l, xl 1 l, xl 2 l, xl 1 (xl 2 l), xl 4 l, xl 1 (xl 4 l), xl 2 (xl 4 l), xl 1 (xl 2 (xl 4 l))], z.val / 8 = l.val / 8 := by
  decide +kernel

theorem gstep_le (M : Fin 128 → EReal) (l : Fin 128) (c : EReal) :
    gstep 4 (gstep 2 (gstep 1 M)) l ≤ c ↔ ∀ e : Fin 8, M ⟨8 * (l.val / 8) + e.val, by have := l.isLt; omega⟩ ≤ c := by
  have h : gstep 4 (gstep 2 (gstep 1 M)) l ≤ c ↔ ∀ z ∈ [l, xl 1 l, xl 2 l, xl 1 (xl 2 l), xl 4 l, xl 1 (xl 4 l), xl 2 (xl 4 l), xl 1 (xl 2 (xl 4 l))], M z ≤ c := by
    unfold gstep
    simp only [max_le_iff, List.forall_mem_cons, List.not_mem_nil, false_implies, implies_true, and_true, and_assoc]
  rw [h]
  constructor
  · intro g e
    exact g _ (lanes8 l e)
  · intro g z hz
    have hd := lanes8' l z hz
    have := g ⟨z.val % 8, Nat.mod_lt _ (by decide)⟩
    have e : (⟨8 * (l.val / 8) + z.val % 8, by have := l.isLt; omega⟩ : Fin 128) = z := Fin.ext (by simp only; omega)
    simp only at this
    rwa [e] at this

/-- The largest magnitude of group `n` of row `r`, told by its upper bounds. -/
def IsMax (X : Vec Ideal S1x32x16384 .bf16) (r : Fin 32) (n : Fin 512) (v : EReal) : Prop :=
  ∀ c : EReal, v ≤ c ↔ ∀ i : Fin 32, max (xK X r ⟨32 * n.val + i.val, by have := n.isLt; have := i.isLt; omega⟩) (-(xK X r ⟨32 * n.val + i.val, by have := n.isLt; have := i.isLt; omega⟩)) ≤ c

/-- The planes of a sub-block hold its groups' elements. -/
theorem gmax4_eq (X : Vec Ideal S1x32x16384 .bf16) (ch s : ℕ) (hch : ch < 32) (hs : s < 2) (p : Fin 16) (l : Fin 128) (v : EReal)
    (hv : IsMax X ⟨16 * s + p.val, by have := p.isLt; omega⟩ ⟨16 * ch + l.val / 8, by have := l.isLt; omega⟩ v) :
    gmax4 (planeG X permC ch s 0) (planeG X permC ch s 1) (planeG X permC ch s 2) (planeG X permC ch s 3) (ix2 p l) = v := by
  have hl := l.isLt
  refine eq_of_forall_ge_iff fun c => ?_
  rw [gmax4_at, gstep_le, hv c]
  have key : ∀ (e : Fin 8) (j : ℕ) (hj : j < 4), planeG X permC ch s j (ix2 p (⟨8 * (l.val / 8) + e.val, by have := e.isLt; omega⟩ : Fin 128))
      = xK X ⟨16 * s + p.val, by have := p.isLt; omega⟩ ⟨32 * (16 * ch + l.val / 8) + (4 * e.val + j), by have := e.isLt; omega⟩ := fun e j hj => by
    rw [planeG_at X ch s j hch hs hj]
    exact congrArg (xK X _) (Fin.ext (by simp only; omega))
  constructor
  · intro g i
    have hi := i.isLt
    have := g ⟨i.val / 4, by omega⟩
    unfold lane4 at this
    rw [key _ 0 (by decide), key _ 1 (by decide), key _ 2 (by decide), key _ 3 (by decide)] at this
    obtain ⟨h3, g3⟩ := max_le_iff.mp this
    obtain ⟨h2, g2⟩ := max_le_iff.mp h3
    obtain ⟨g0, g1⟩ := max_le_iff.mp h2
    have pick : ∀ j : ℕ, i.val % 4 = j → ∀ hj : 32 * (16 * ch + l.val / 8) + (4 * (i.val / 4) + j) < 16384, xK X (⟨16 * s + p.val, by have := p.isLt; omega⟩ : Fin 32) (⟨32 * (16 * ch + l.val / 8) + (4 * (i.val / 4) + j), hj⟩ : Fin 16384)
        = xK X ⟨16 * s + p.val, by have := p.isLt; omega⟩ ⟨32 * (16 * ch + l.val / 8) + i.val, by omega⟩ := fun j hj _ => congrArg (xK X _) (Fin.ext (by simp only; omega))
    have h4 : i.val % 4 = 0 ∨ i.val % 4 = 1 ∨ i.val % 4 = 2 ∨ i.val % 4 = 3 := by omega
    rcases h4 with h | h | h | h
    · rw [pick 0 h] at g0; exact g0
    · rw [pick 1 h] at g1; exact g1
    · rw [pick 2 h] at g2; exact g2
    · rw [pick 3 h] at g3; exact g3
  · intro g e
    unfold lane4
    rw [key _ 0 (by decide), key _ 1 (by decide), key _ 2 (by decide), key _ 3 (by decide)]
    have he := e.isLt
    have g' : ∀ (j : ℕ) (hj : j < 4), _ := fun j hj => g ⟨4 * e.val + j, by omega⟩
    exact max_le (max_le (max_le (g' 0 (by decide)) (g' 1 (by decide))) (g' 2 (by decide))) (g' 3 (by decide))

/-- One step of the search, on vectors. -/
def vstep {S : Shape} (v : FVec Ideal S .f32) (t : IVec S 32) (b : BitVec 32) : IVec S 32 := fun y => fstep (v y) (t y) b
theorem vstep_eq {S : Shape} (v : FVec Ideal S .f32) (t : IVec S 32) (b : BitVec 32) :
    select (cmpf .oge v (bitcastToFloat .f32 (addi t (broadcast S b)))) (addi t (broadcast S b)) t = vstep v t b := rfl
theorem vfield {S : Shape} (v : FVec Ideal S .f32) (y : S.Idx) :
   vstep v (vstep v (vstep v (vstep v (vstep v (vstep v (vstep v (vstep v (broadcast S 0#32) 1073741824#32) 536870912#32) 268435456#32) 134217728#32) 67108864#32) 33554432#32) 16777216#32) 8388608#32 y = fieldS (v y) := by
  simp only [vstep, fieldS]
  rfl
theorem pay96_at (v : FVec Ideal S16x128 .f32) (y : S16x128.Idx) : k0_pay96 v k0_pay95 1073741824#32 y = fieldS (v y) := by
  rw [← vfield]
  unfold k0_pay96 k0_pay95
  dsimp only
  rw [vstep_eq (S := S16x128) v _ 1073741824#32, vstep_eq (S := S16x128) v _ 536870912#32, vstep_eq (S := S16x128) v _ 268435456#32, vstep_eq (S := S16x128) v _ 134217728#32, vstep_eq (S := S16x128) v _ 67108864#32, vstep_eq (S := S16x128) v _ 33554432#32, vstep_eq (S := S16x128) v _ 16777216#32, vstep_eq (S := S16x128) v _ 8388608#32]
theorem pay97_at (v : FVec Ideal S16x128 .f32) (y : S16x128.Idx) : k0_pay97 v k0_pay95 1073741824#32 y = Ideal.ofBits .f32 (fieldS (v y)) := by
  rw [← pay96_at]
  unfold k0_pay97
  rw [shapeCast_self]
  rfl
theorem scaleB_at (V : Vec Ideal S32x1024 .bf16) (W : Vec Ideal S1024x128 .bf16) (y : S32x128.Idx) :
    scaleB V W y = (Scalar.select (IntOp.cmpi .eq (IntOp.shrui .vector (fieldS (k0_pay736 V W y)) 23#32) 0#32) 127#32 (IntOp.shrui .vector (fieldS (k0_pay736 V W y)) 23#32 - 2#32)).setWidth 8 := by
  rw [← vfield]
  unfold scaleB k0_pay740 k0_pay739 k0_pay738 k0_pay737
  dsimp only
  generalize k0_pay736 V W = v
  rw [vstep_eq (S := S32x128) v _ 1073741824#32, vstep_eq (S := S32x128) v _ 536870912#32, vstep_eq (S := S32x128) v _ 268435456#32, vstep_eq (S := S32x128) v _ 134217728#32, vstep_eq (S := S32x128) v _ 67108864#32, vstep_eq (S := S32x128) v _ 33554432#32, vstep_eq (S := S32x128) v _ 16777216#32, vstep_eq (S := S32x128) v _ 8388608#32]
  generalize vstep v _ _ = t
  rfl
theorem pay100_at (w : IVec S16x128 32) (x : FVec Ideal S16x128 .f32) (f : IVec S16x128 32) (y : S16x128.Idx) :
    k0_pay100 (F := Ideal) w x (k0_pay90 x) f k0_pay98 y = nibS (w y) (x y) (scaleS (f y)) := by
  have es : k0_pay99 (F := Ideal) f k0_pay98 = fun y => scaleS (f y) := rfl
  have e : k0_pay100 (F := Ideal) w x (k0_pay90 x) f k0_pay98 = shapeCast S16x128 (fun y => Ideal.ofBits .bf16 ((magS (w y) (max (x y) (-(x y)) * k0_pay99 (F := Ideal) f k0_pay98 y)).setWidth 16 + Scalar.select (Ideal.cmp .olt (x y) (Ideal.ofBits .bf16 0x0000#16)) 17160#16 17168#16) : FVec Ideal S16x128 .bf16) shapeCasts_S16x128_S16x128 := by
    unfold k0_pay100
    dsimp only
    generalize k0_pay99 (F := Ideal) f k0_pay98 = s
    rfl
  rw [e, shapeCast_self, es]
  rfl

theorem powerV_at (x0 x1 x2 x3 : FVec Ideal S16x128 .f32) (y : S16x128.Idx) : powerV x0 x1 x2 x3 y = Ideal.ofBits .f32 (fieldS (gmax4 x0 x1 x2 x3 y)) := pay97_at _ y

theorem nibV_at (w : IVec S16x128 32) (x x0 x1 x2 x3 : FVec Ideal S16x128 .f32) (y : S16x128.Idx) :
    nibV w x x0 x1 x2 x3 y = nibS (w y) (x y) (scaleS (fieldS (gmax4 x0 x1 x2 x3 y))) := by
  refine (pay100_at w x (fieldV x0 x1 x2 x3) y).trans ?_
  exact congrArg (fun f => nibS (w y) (x y) (scaleS f)) (pay96_at _ y)

/-- The random word of element `d` of row `R`. -/
def wordK (k0 k1 : BitVec 32) (R d : ℕ) : BitVec 32 := (rounds (BitVec.ofNat 32 (R * 4096 + d / 4)) k0 k1 10).get (d % 4)

/-- The stored code value of an element. -/
theorem nibG_at (X : Vec Ideal S1x32x16384 .bf16) (i : ℕ) (k0 k1 : BitVec 32) (r : Fin 32) (d : Fin 16384) (v : EReal) (K : ℕ) (x : ℝ)
    (hv : IsMax X r ⟨d.val / 32, by have := d.isLt; omega⟩ v) (hK : Fld v K) (hx : xK X r d = (x : EReal)) :
    (show EReal from nibG X permC (BitVec.ofNat 32 i) k0 k1 (d.val / 512) (ix2 r (⟨128 * (d.val % 4) + d.val % 512 / 4, by have := d.isLt; omega⟩ : Fin 512)))
      = ((144 - (codeN (wordK k0 k1 (32 * i + r.val) d.val) K x : ℝ) : ℝ) : EReal) := by
  have hr := r.isLt
  have hd := d.isLt
  have a1 : (128 * (d.val % 4) + d.val % 512 / 4) / 128 = d.val % 4 := by omega
  have a2 : (128 * (d.val % 4) + d.val % 512 / 4) % 128 = d.val % 512 / 4 := by omega
  have e : nibG X permC (BitVec.ofNat 32 i) k0 k1 (d.val / 512) (ix2 r (⟨128 * (d.val % 4) + d.val % 512 / 4, by omega⟩ : Fin 512))
      = nibSub X permC (BitVec.ofNat 32 i) k0 k1 (d.val / 512) (r.val / 16) (d.val % 4) (ix2 (⟨r.val % 16, Nat.mod_lt _ (by decide)⟩ : Fin 16) (⟨d.val % 512 / 4, by omega⟩ : Fin 128)) := by
    show nibSub X permC (BitVec.ofNat 32 i) k0 k1 (d.val / 512) (r.val / 16) ((128 * (d.val % 4) + d.val % 512 / 4) / 128) (ix2 _ ⟨(128 * (d.val % 4) + d.val % 512 / 4) % 128, _⟩) = _
    simp only [a1, a2]
  refine e.trans ?_
  unfold nibSub
  rw [nibV_at]
  rw [gmax4_eq X (d.val / 512) (r.val / 16) (by omega) (by omega) _ _ v (by
    have f1 : (⟨16 * (r.val / 16) + r.val % 16, by omega⟩ : Fin 32) = r := Fin.ext (by simp only; omega)
    have f2 : (⟨16 * (d.val / 512) + d.val % 512 / 4 / 8, by omega⟩ : Fin 512) = ⟨d.val / 32, by omega⟩ := Fin.ext (by simp only; omega)
    simp only
    rw [f1, f2]; exact hv), fieldS_eq hK]
  rw [planeG_at X (d.val / 512) (r.val / 16) (d.val % 4) (by omega) (by omega) (by omega), wordsG_at i k0 k1 (d.val / 512) (r.val / 16) (d.val % 4) (by omega)]
  have f1 : (⟨16 * (r.val / 16) + r.val % 16, by omega⟩ : Fin 32) = r := Fin.ext (by simp only; omega)
  have f2 : (⟨512 * (d.val / 512) + 4 * (d.val % 512 / 4) + d.val % 4, by omega⟩ : Fin 16384) = d := Fin.ext (by simp only; omega)
  have f3 : (32 * i + (16 * (r.val / 16) + r.val % 16)) * 4096 + (128 * (d.val / 512) + d.val % 512 / 4) = (32 * i + r.val) * 4096 + d.val / 4 := by omega
  simp only
  rw [f1, f2, f3, hx]
  refine nibS_eq _ hK ?_
  have := (hv v).mp le_rfl ⟨d.val % 32, Nat.mod_lt _ (by decide)⟩
  have f4 : (⟨32 * (d.val / 32) + d.val % 32, by omega⟩ : Fin 16384) = d := Fin.ext (by simp only; omega)
  simp only at this
  rw [f4, hx, abs_coe] at this
  exact this

/-- The stored power of a group. -/
theorem powG_at (X : Vec Ideal S1x32x16384 .bf16) (r : Fin 32) (n : Fin 512) (v : EReal) (K : ℕ) (hv : IsMax X r n v) (hK : Fld v K) :
    (show EReal from powG X permC (ix2 r (⟨8 * n.val, by have := n.isLt; omega⟩ : Fin 4096))) = fldVal K := by
  have hr := r.isLt
  have hn := n.isLt
  refine (powerV_at _ _ _ _ _).trans ?_
  rw [gmax4_eq X (8 * n.val / 128) (r.val / 16) (by omega) (by omega) _ _ v (by
    have f1 : (⟨16 * (r.val / 16) + r.val % 16, by omega⟩ : Fin 32) = r := Fin.ext (by simp only; omega)
    have f2 : (⟨16 * (8 * n.val / 128) + 8 * n.val % 128 / 8, by omega⟩ : Fin 512) = n := Fin.ext (by simp only; omega)
    show IsMax X ⟨16 * (r.val / 16) + r.val % 16, _⟩ ⟨16 * (8 * n.val / 128) + 8 * n.val % 128 / 8, _⟩ v
    rw [f1, f2]; exact hv), fieldS_eq hK, ofBits_fld K hK.le]

theorem fp_shr : ∀ K : Fin 255, IntOp.shrui .vector (fp K.val) 23#32 = BitVec.ofNat 32 K.val := by decide +kernel
theorem byteK : ∀ K : Fin 255, (Scalar.select (IntOp.cmpi .eq (BitVec.ofNat 32 K.val) 0#32) 127#32 (BitVec.ofNat 32 K.val - 2#32)).setWidth 8 = (expI K.val + 127#32).setWidth 8 := by decide +kernel

/-- The scale of a group. -/
theorem scaleG_at (X : Vec Ideal S1x32x16384 .bf16) (r : Fin 32) (n : Fin 512) (v : EReal) (K : ℕ) (hv : IsMax X r n v) (hK : Fld v K) :
    (show BitVec 8 from scaleG (powG X permC) pickC (ix2 r n)) = (expI K + 127#32).setWidth 8 := by
  have hn := n.isLt
  have hK2 := hK.le
  refine (scaleB_at _ _ _).trans ?_
  have e : k0_pay736 (fun z => powG X permC (ix2 (z 0) ⟨(1024 * (n.val / 128) + (z 1).val) % 4096, Nat.mod_lt _ (by decide)⟩)) (pickC (F := Ideal)) (ix2 r (⟨n.val % 128, Nat.mod_lt _ (by decide)⟩ : Fin 128)) = fldVal K := by
    refine (pay736_at _ _ _).trans ?_
    refine Eq.trans ?_ (powG_at X r n v K hv hK)
    show powG X permC (ix2 r ⟨(1024 * (n.val / 128) + 8 * (n.val % 128)) % 4096, _⟩) = _
    exact congrArg (fun c => powG X permC (ix2 r c)) (Fin.ext (by simp only; omega))
  rw [← byteK ⟨K, by omega⟩, ← fp_shr ⟨K, by omega⟩]
  have e2 := congrArg (fun z => (Scalar.select (IntOp.cmpi .eq (IntOp.shrui .vector (fieldS z) 23#32) 0#32) 127#32 (IntOp.shrui .vector (fieldS z) 23#32 - 2#32)).setWidth 8) e
  refine e2.trans ?_
  simp only
  rw [fieldS_eq (Fld_fldVal K hK2)]

/-- The packed byte of two elements. -/
theorem codeG_at (X : Vec Ideal S1x32x16384 .bf16) (i : ℕ) (k0 k1 : BitVec 32) (r : Fin 32) (b : Fin 8192) (v : EReal) (K : ℕ) (x0 x1 : ℝ)
    (hv : IsMax X r ⟨b.val / 16, by have := b.isLt; omega⟩ v) (hK : Fld v K) (h0 : xK X r ⟨2 * b.val, by have := b.isLt; omega⟩ = (x0 : EReal)) (h1 : xK X r ⟨2 * b.val + 1, by have := b.isLt; omega⟩ = (x1 : EReal)) :
    (show BitVec 8 from codeG X permC packC (BitVec.ofNat 32 i) k0 k1 (ix2 r b))
      = BitVec.ofNat 8 (codeN (wordK k0 k1 (32 * i + r.val) (2 * b.val)) K x0 + 16 * codeN (wordK k0 k1 (32 * i + r.val) (2 * b.val + 1)) K x1) := by
  have hb := b.isLt
  have f0 : (⟨2 * b.val / 32, by omega⟩ : Fin 512) = ⟨b.val / 16, by omega⟩ := Fin.ext (by simp only; omega)
  have f1 : (⟨(2 * b.val + 1) / 32, by omega⟩ : Fin 512) = ⟨b.val / 16, by omega⟩ := Fin.ext (by simp only; omega)
  have n0 := nibG_at X i k0 k1 r ⟨2 * b.val, by omega⟩ v K x0 (by simp only; rw [f0]; exact hv) hK h0
  have n1 := nibG_at X i k0 k1 r ⟨2 * b.val + 1, by omega⟩ v K x1 (by simp only; rw [f1]; exact hv) hK h1
  refine (pay731_at _ r (⟨b.val % 256, Nat.mod_lt _ (by decide)⟩ : Fin 256)).trans ?_
  have g0 : (128 * (2 * (b.val % 256 % 2)) + b.val % 256 / 2) = 128 * (2 * b.val % 4) + 2 * b.val % 512 / 4 := by omega
  have g1 : (128 * (2 * (b.val % 256 % 2) + 1) + b.val % 256 / 2) = 128 * ((2 * b.val + 1) % 4) + (2 * b.val + 1) % 512 / 4 := by omega
  have d0 : b.val / 256 = 2 * b.val / 512 := by omega
  have d1 : b.val / 256 = (2 * b.val + 1) / 512 := by omega
  have m0 : (show EReal from nibG X permC (BitVec.ofNat 32 i) k0 k1 (b.val / 256) (ix2 r (⟨128 * (2 * (b.val % 256 % 2)) + b.val % 256 / 2, by omega⟩ : Fin 512))) = ((144 - (codeN (wordK k0 k1 (32 * i + r.val) (2 * b.val)) K x0 : ℝ) : ℝ) : EReal) := by
    refine Eq.trans ?_ n0
    simp only
    rw [← d0]
    exact congrArg (fun c => nibG X permC (BitVec.ofNat 32 i) k0 k1 (b.val / 256) (ix2 r c)) (Fin.ext g0)
  have m1 : (show EReal from nibG X permC (BitVec.ofNat 32 i) k0 k1 (b.val / 256) (ix2 r (⟨128 * (2 * (b.val % 256 % 2) + 1) + b.val % 256 / 2, by omega⟩ : Fin 512))) = ((144 - (codeN (wordK k0 k1 (32 * i + r.val) (2 * b.val + 1)) K x1 : ℝ) : ℝ) : EReal) := by
    refine Eq.trans ?_ n1
    simp only
    rw [← d1]
    exact congrArg (fun c => nibG X permC (BitVec.ofNat 32 i) k0 k1 (b.val / 256) (ix2 r c)) (Fin.ext g1)
  have hb0 : ((|x0| : ℝ) : EReal) ≤ v := by
    have := (hv v).mp le_rfl ⟨2 * b.val % 32, Nat.mod_lt _ (by decide)⟩
    have f4 : (⟨32 * (b.val / 16) + 2 * b.val % 32, by omega⟩ : Fin 16384) = ⟨2 * b.val, by omega⟩ := Fin.ext (by simp only; omega)
    simp only at this
    rw [f4, h0, abs_coe] at this
    exact this
  have hb1 : ((|x1| : ℝ) : EReal) ≤ v := by
    have := (hv v).mp le_rfl ⟨(2 * b.val + 1) % 32, Nat.mod_lt _ (by decide)⟩
    have f4 : (⟨32 * (b.val / 16) + (2 * b.val + 1) % 32, by omega⟩ : Fin 16384) = ⟨2 * b.val + 1, by omega⟩ := Fin.ext (by simp only; omega)
    simp only at this
    rw [f4, h1, abs_coe] at this
    exact this
  refine Eq.trans ?_ (kerByte ⟨_, codeN_lt _ hK hb0⟩ ⟨_, codeN_lt _ hK hb1⟩)
  refine congrArg (fun z => (Ideal.fptosi 32 z + 2448#32).setWidth 8) ?_
  refine (congrArg₂ (fun a b : EReal => a * ((-1 : ℝ) : EReal) + b * ((-16 : ℝ) : EReal)) m0 m1).trans ?_
  simp only
  rw [← EReal.coe_mul, ← EReal.coe_mul, ← EReal.coe_add]

end Cert.KernelIdeal.Gen
-- ==== Proof.KIVal.lean ====
/- The run of `KernelIdeal` with the contents of its two results. -/
module

public import proofs.«01_k».proof.Proof.KIFrame
public import proofs.«01_k».proof.Proof.KIVRun
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (BodyObligationLoose)

variable (m : (ℓ : Loc nD τ sig) → Buf (Elt F) ℓ) (ρ : Dev nD → PrngReg)

/-- The length at point `i`, and the words of the seed. -/
abbrev lenM (i : grid0.Coords) : BitVec 32 := lenP (F := F) (c := (0 : Dev nD)) tbM0_0 i (tbl m 0)
abbrev seedM0 : BitVec 32 := seed0 (F := F) (c := (0 : Dev nD)) tbM0_1 (tbl m 1)
abbrev seedM1 : BitVec 32 := seed1 (F := F) (c := (0 : Dev nD)) tbM0_1 (tbl m 1)

/-- What a point leaves in its two blocks. -/
def blkC (c : Dev nD) (t : Fin (cfgM m (ok_all m)).N) : Vec F S32x8192 .i8 := outC (grid0.coords t) (lenM m (grid0.coords t)) (seedM0 m) (seedM1 m) (iblk m (ok_all m) c 0 t)
def blkS (c : Dev nD) (t : Fin (cfgM m (ok_all m)).N) : Vec F S32x512 .i8 := outS (grid0.coords t) (lenM m (grid0.coords t)) (iblk m (ok_all m) c 0 t)

/-- What the points carry: after the first, the three matrices are in their buffers. -/
def PhiV (c : Dev nD) (t : ℕ) : sProp 𝕄 :=
  iprop((∃ d6 d7 d8, ⌜0 < t → d6 = permC (F := F) ∧ d7 = packC ∧ d8 = pickC⌝ ∗ owns (c : Thread nD τ) scM0_0 fullShare d6 ∗ owns (c : Thread nD τ) scM0_1 fullShare d7 ∗ owns (c : Thread nD τ) scM0_2 fullShare d8)
    ∗ (∃ d, owns (c : Thread nD τ) scM0_3 fullShare d) ∗ (∃ d, owns (c : Thread nD τ) scM0_4 fullShare d) ∗ (∃ d, owns (c : Thread nD τ) scM0_5 fullShare d)
    ∗ (∃ r, prngReg c r) ∗ tbPt0 c tbM0_0 (tbl m 0) ∗ tbPt0 c tbM0_1 (tbl m 1))

/-- The proof data of the run. -/
def datV (_ : Fin 1) (c : Dev nD) : Dat τ (Elt F) Unit ℕ (UR sig nD τ) ℕ (cfgM m (ok_all m)) c where
  A w := V m c (Pipeline.arrRef spec0 w)
  after w t := match w with
    | ⟨0, _⟩ => iblk m (ok_all m) c 0 t
    | ⟨1, _⟩ => blkC m c t
    | ⟨2, _⟩ => blkS m c t
  Φ t := PhiV m c t.val
  q _ := fullShare
  owed _ := 0

theorem A_eqV (c : Dev nD) (w : Fin (cfgM m (ok_all m)).W) : (datV m 0 c).A w = V m c (Pipeline.arrRef spec0 w) := by
  dsimp only [datV]
theorem afterV_0 (c : Dev nD) (t : Fin (cfgM m (ok_all m)).N) : (datV m 0 c).after 0 t = iblk m (ok_all m) c 0 t := by dsimp only [datV]; try rfl
theorem afterV_1 (c : Dev nD) (t : Fin (cfgM m (ok_all m)).N) : (datV m 0 c).after 1 t = blkC m c t := by dsimp only [datV]; try rfl
theorem afterV_2 (c : Dev nD) (t : Fin (cfgM m (ok_all m)).N) : (datV m 0 c).after 2 t = blkS m c t := by dsimp only [datV]; try rfl
theorem beforeV_0 (c : Dev nD) (t : Fin (cfgM m (ok_all m)).N) (d) : (datV m 0 c).before 0 t d = iblk m (ok_all m) c 0 t :=
  before0_0_of m (ok_all m) (datV m 0 c) (A_eqV m c 0) (afterV_0 m c) t d

theorem coords_val : ∀ t : Fin grid0.N, (grid0.coords t 0).val = t.val := by decide +kernel
theorem firstP_zero (t : Fin grid0.N) (h : t.val = 0) : firstP (grid0.coords t) := by
  unfold firstP
  rw [coords_val, h]
  decide

def bodyPreV (c : Dev nD) (t : Fin (cfgM m (ok_all m)).N) : sProp 𝕄 :=
  iprop((datV m 0 c).Φ t.castSucc ∗ (datV m 0 c).owesAt () t.castSucc
    ∗ (∃ d, owns (c : Thread nD τ) (ms0_0 m t) fullShare ((datV m 0 c).before 0 t d))
    ∗ (∃ d, owns (c : Thread nD τ) (ms0_1 m t) fullShare ((datV m 0 c).before 1 t d))
    ∗ (∃ d, owns (c : Thread nD τ) (ms0_2 m t) fullShare ((datV m 0 c).before 2 t d)))

def bodyPostV (c : Dev nD) (t : Fin (cfgM m (ok_all m)).N) : sProp 𝕄 :=
  iprop((datV m 0 c).Φ t.succ ∗ (datV m 0 c).owesAt () t.succ
    ∗ owns (c : Thread nD τ) (ms0_0 m t) fullShare ((datV m 0 c).after 0 t)
    ∗ owns (c : Thread nD τ) (ms0_1 m t) fullShare ((datV m 0 c).after 1 t)
    ∗ owns (c : Thread nD τ) (ms0_2 m t) fullShare ((datV m 0 c).after 2 t))

set_option maxHeartbeats 1000000 in
theorem sound_bodyV (c : Dev nD) (t : Fin (cfgM m (ok_all m)).N) :
    bodyPreV m c t ⊢ wp Idealize.ShloMosaic.frame (wpE (defs₀ (F := F)) Variants.none c none) Set.univ (bodyAt0 (adm m (ok_all m)) t) (fun _ => bodyPostV m c t) := by
  obtain rfl : c = 0 := Subsingleton.elim _ _
  unfold bodyPreV bodyPostV bodyAt0
  simp only [beforeV_0]
  rw [show (datV m 0 (0 : Dev nD)).owesAt () t.succ = (datV m 0 (0 : Dev nD)).owesAt () t.castSucc from rfl, afterV_0, afterV_1, afterV_2]
  rw [show (datV m 0 (0 : Dev nD)).Φ t.castSucc = PhiV m 0 t.val from rfl, show (datV m 0 (0 : Dev nD)).Φ t.succ = PhiV m 0 (t.val + 1) from rfl]
  unfold PhiV
  iintro ⟨⟨⟨%d6, %d7, %d8, %hd, HS0, HS1, HS2⟩, HS3, HS4, HS5, Hg, HT0, HT1⟩, Ho, ⟨%d0, H0⟩, ⟨%d1, H1⟩, ⟨%d2, H2⟩⟩
  iapply (kernel_value (0 : Dev nD) (grid0.coords t) _ _ _ _ _ _ _ _ _ _ _ _ _ _ _ _ _ _ _ _ _ _ (tbl m 0) (tbl m 1) (iblk m (ok_all m) 0 0 t) d6 d7 d8
    (fun hf => hd (Nat.pos_of_ne_zero fun h => hf (firstP_zero t h))) Set.univ _)
  isplitl [HT0]; · iexact HT0
  isplitl [HT1]; · iexact HT1
  isplitl [H0]; · iexact H0
  isplitl [H1]; · iexists _; iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HS5]; · iexact HS5
  iintro ⟨HT0, HT1, H0, H1, H2, HS0, HS1, HS2, HS3, HS4, HS5⟩
  isplitl [HT0 HT1 Hg HS0 HS1 HS2 HS3 HS4 HS5]
  · isplitl [HS0 HS1 HS2]
    · iexists _, _, _
      isplitr
      · ipureintro; exact fun _ => ⟨rfl, rfl, rfl⟩
      isplitl [HS0]; · iexact HS0
      isplitl [HS1]; · iexact HS1
      iexact HS2
    isplitl [HS3]; · iexact HS3
    isplitl [HS4]; · iexact HS4
    isplitl [HS5]; · iexact HS5
    isplitl [Hg]; · iexact Hg
    isplitl [HT0]; · iexact HT0
    iexact HT1
  isplitl [Ho]; · iexact Ho
  isplitl [H0]; · iexact H0
  isplitl [H1]; · iexact H1
  iexact H2

/-- At every point the two results are stored: the number of live rows is zero or positive. -/
theorem stored (i : grid0.Coords) (L : BitVec 32) : (!(k0_cond2 i L == 1#1) && !(k0_cond3 i L == 1#1) && !(k0_cond3 i L == 1#1 && k0_cond4 i L == 1#1)) = false := by
  have h := liveW_toInt i L
  by_cases h2 : k0_cond2 i L = 1#1
  · rw [h2]; rfl
  · have h3 : k0_cond3 i L = 1#1 := by rw [cond3_iff]; rw [cond2_iff] at h2; omega
    rw [h3]
    cases (k0_cond2 i L == 1#1) <;> rfl
theorem idle_at (a : (pcfg0 (F := F)).Adm) (w : Fin 3) (i : grid0.Coords) : (cfg0 a).idle w i = idle0 a.1 w i := rfl
theorem idle0_1 (pf : pre0.Contents (Elt F)) (i : grid0.Coords) : idle0 pf 1 i = false := stored i (pf.atD 0 (k0_off1 i))
theorem idle_1 (t : Fin (cfgM m (ok_all m)).N) : (cfgM m (ok_all m)).idle 1 ((cfgM m (ok_all m)).grid.coords t) = false := (idle_at (adm m (ok_all m)) 1 _).trans (idle0_1 (tbl m) _)
theorem idle0_2 (pf : pre0.Contents (Elt F)) (i : grid0.Coords) : idle0 pf 2 i = false := stored i (pf.atD 0 (k0_off1 i))
theorem idle_2 (t : Fin (cfgM m (ok_all m)).N) : (cfgM m (ok_all m)).idle 2 ((cfgM m (ok_all m)).grid.coords t) = false := (idle_at (adm m (ok_all m)) 2 _).trans (idle0_2 (tbl m) _)

theorem body_obligationV (c : Dev nD) : BodyObligation (datV (F := F) m 0 c) (defs₀ (F := F)) Variants.none () Set.univ := fun t => by
  rw [bigSep_W0, bigSep_W0, defs₀_row m]
  rw [idle_1, idle_2]
  exact triple_restated (sound_bodyV m c t) rfl .rfl fun _ => .rfl

theorem PhiV_in (c : Dev nD) : iprop(Pipeline.ΦA spec0 c ∗ Pipeline.ΦT pre0 (tbl m) c) ⊢ PhiV m c 0 := by
  rw [PhiA0_eq, PhiT0_eq]
  unfold PhiV
  iintro ⟨⟨⟨⟨%d6, HS0⟩, ⟨%d7, HS1⟩, ⟨%d8, HS2⟩, HS3, HS4, HS5⟩, Hg⟩, ⟨HT0, HT1⟩⟩
  isplitl [HS0 HS1 HS2]
  · iexists d6, d7, d8
    isplitr
    · ipureintro; exact fun h => absurd h (Nat.lt_irrefl 0)
    isplitl [HS0]; · iexact HS0
    isplitl [HS1]; · iexact HS1
    iexact HS2
  isplitl [HS3]; · iexact HS3
  isplitl [HS4]; · iexact HS4
  isplitl [HS5]; · iexact HS5
  isplitl [Hg]; · iexact Hg
  isplitl [HT0]; · iexact HT0
  iexact HT1

theorem PhiV_out (c : Dev nD) (n : ℕ) : PhiV m c n ⊢ (Pipeline.ΦA spec0 c : sProp 𝕄) := by
  rw [PhiA0_eq]
  unfold PhiV
  iintro ⟨⟨%d6, %d7, %d8, -, HS0, HS1, HS2⟩, HS3, HS4, HS5, Hg, -, -⟩
  isplitl [HS0 HS1 HS2 HS3 HS4 HS5]
  · isplitl [HS0]; · iexists _; iexact HS0
    isplitl [HS1]; · iexists _; iexact HS1
    isplitl [HS2]; · iexists _; iexact HS2
    isplitl [HS3]; · iexact HS3
    isplitl [HS4]; · iexact HS4
    iexact HS5
  iexact Hg

set_option backward.isDefEq.respectTransparency.types false in
/-- The launch: every execution ends, the arrays as the proof data says, the counters at zero. -/
theorem run_mainV : θ_run defs (onTc (τ := τ) (main (F := F))) (s₀ m ρ) (Pipeline.FramePost (Pipeline.pin pcfgs fun _ => adm m (ok_all m)) (datV m) 0 (V m)) :=
  Pipeline.θ_run_frameP_track (Q' := _) pcfgs (fun _ => adm m (ok_all m)) (datV m) (0 : Fin 1) launch0 defs₀ Variants.none m ρ main
    (hbody := fun c => (body_obligationV m c).loose) (hshare := fun c => (datV m 0 c).share_full fun _ => rfl)
    (howed := fun _ _ => rfl) (V := V m) (hmain := hmain m Variants.none) (hA := A_eqV m) (hpf := V_pre m)
    (hin := fun c => PhiV_in m c) (hout := fun c => PhiV_out m c _)

theorem N48 : grid0.N = 48 := by decide +kernel
/-- The point that writes row `r`. -/
def ptOf (r : ℕ) (h : r < 1536) : Fin (cfgM m (ok_all m)).N := ⟨r / 32, by
  have : (cfgM m (ok_all m)).N = 48 := N48
  omega⟩

/-- The two result arrays, block by block. -/
def resC (c : Dev nD) : Vec F S1536x8192 .i8 := fun y => blkC m c (ptOf m (y 0).val (y 0).isLt) (ix2 ⟨(y 0).val % 32, Nat.mod_lt _ (by decide)⟩ (y 1))
def resS (c : Dev nD) : Vec F S1536x512 .i8 := fun y => blkS m c (ptOf m (y 0).val (y 0).isLt) (ix2 ⟨(y 0).val % 32, Nat.mod_lt _ (by decide)⟩ (y 1))

theorem index_1 : ∀ t : Fin grid0.N, cc0_transform_1 (grid0.coords t) = ![t.val, 0] := by decide +kernel

theorem read_C (c : Dev nD) (t : Fin (cfgM m (ok_all m)).N) (x : S32x8192.Idx) (z : S1536x8192.Idx) (h0 : (z 0).val = 32 * t.val + (x 0).val) (h1 : (z 1).val = (x 1).val) :
    blkC m c t x = resC m c z := by
  have hx : (x 0).val < 32 := (x 0).isLt
  unfold resC
  have e : ptOf m (z 0).val (z 0).isLt = t := Fin.ext (show (z 0).val / 32 = t.val by omega)
  rw [e]
  refine congrArg _ ((eq_ix2 x).trans (ix2_congr ?_ ?_))
  · show (x 0).val = (z 0).val % 32
    omega
  · exact h1.symm

theorem flushed_C (c : Dev nD) (t : Fin (cfgM m (ok_all m)).N) (hf : ((cfgM m (ok_all m)).win 1).flush t = true) :
    (datV m 0 c).flushed 1 t = (((cfgM m (ok_all m)).win 1).blk t).view.read (Elt F) (resC m c) := by
  show ((cfgM m (ok_all m)).win 1).cut (grid0.coords t) ((datV m 0 c).after 1 t) = _
  rw [afterV_1]
  funext x
  have i0 : cc0_transform_1 (grid0.coords t) 0 = t.val := congrFun (index_1 t) 0
  have i1 : cc0_transform_1 (grid0.coords t) 1 = 0 := congrFun (index_1 t) 1
  refine read_C m c t (fun a => ⟨(x a).val, _⟩) ((((cfgM m (ok_all m)).win 1).rect t).emb x) ?_ ?_
  · show cc0_transform_1 (grid0.coords t) 0 * 32 + 1 * (x (0 : Fin 2)).val = 32 * t.val + (x (0 : Fin 2)).val
    rw [i0]; omega
  · show cc0_transform_1 (grid0.coords t) 1 * 8192 + 1 * (x (1 : Fin 2)).val = (x (1 : Fin 2)).val
    rw [i1]; omega

theorem final_C (c : Dev nD) : (datV m 0 c).arrAt 1 (cfgM m (ok_all m)).N = resC m c :=
  (datV m 0 c).arrAt_eq_of_cover 1 (resC m c) (flushed_C m c) fun (i : S1536x8192.Idx) =>
    ⟨ptOf m (i 0).val (i 0).isLt, flush0_1 _ _, by
      have i0 : cc0_transform_1 (grid0.coords (ptOf m (i 0).val (i 0).isLt)) 0 = (i 0).val / 32 := congrFun (index_1 _) 0
      have i1 : cc0_transform_1 (grid0.coords (ptOf m (i 0).val (i 0).isLt)) 1 = 0 := congrFun (index_1 _) 1
      have h0 : (i 0).val < 1536 := (i 0).isLt
      have h1 : (i 1).val < 8192 := (i 1).isLt
      show i ∈ ((View.whole main_v0_0).slice (((cfgM m (ok_all m)).win 1).rect (ptOf m (i 0).val (i 0).isLt))).set
      refine (Finset.ext_iff.mp (View.set_slice_whole _ _) i).mpr ?_
      refine Rect.mem_set_unit.mpr ?_
      intro a
      match a with
      | ⟨0, _⟩ => show cc0_transform_1 (grid0.coords (ptOf m (i 0).val (i 0).isLt)) 0 * 32 ≤ (i 0).val ∧ (i 0).val < cc0_transform_1 (grid0.coords (ptOf m (i 0).val (i 0).isLt)) 0 * 32 + 32
                  rw [i0]; omega
      | ⟨1, _⟩ => show cc0_transform_1 (grid0.coords (ptOf m (i 0).val (i 0).isLt)) 1 * 8192 ≤ (i 1).val ∧ (i 1).val < cc0_transform_1 (grid0.coords (ptOf m (i 0).val (i 0).isLt)) 1 * 8192 + 8192
                  rw [i1]; omega⟩

theorem index_2 : ∀ t : Fin grid0.N, cc0_transform_2 (grid0.coords t) = ![t.val, 0] := by decide +kernel

theorem read_S (c : Dev nD) (t : Fin (cfgM m (ok_all m)).N) (x : S32x512.Idx) (z : S1536x512.Idx) (h0 : (z 0).val = 32 * t.val + (x 0).val) (h1 : (z 1).val = (x 1).val) :
    blkS m c t x = resS m c z := by
  have hx : (x 0).val < 32 := (x 0).isLt
  unfold resS
  have e : ptOf m (z 0).val (z 0).isLt = t := Fin.ext (show (z 0).val / 32 = t.val by omega)
  rw [e]
  refine congrArg _ ((eq_ix2 x).trans (ix2_congr ?_ ?_))
  · show (x 0).val = (z 0).val % 32
    omega
  · exact h1.symm

theorem flushed_S (c : Dev nD) (t : Fin (cfgM m (ok_all m)).N) (hf : ((cfgM m (ok_all m)).win 2).flush t = true) :
    (datV m 0 c).flushed 2 t = (((cfgM m (ok_all m)).win 2).blk t).view.read (Elt F) (resS m c) := by
  show ((cfgM m (ok_all m)).win 2).cut (grid0.coords t) ((datV m 0 c).after 2 t) = _
  rw [afterV_2]
  funext x
  have i0 : cc0_transform_2 (grid0.coords t) 0 = t.val := congrFun (index_2 t) 0
  have i1 : cc0_transform_2 (grid0.coords t) 1 = 0 := congrFun (index_2 t) 1
  refine read_S m c t (fun a => ⟨(x a).val, _⟩) ((((cfgM m (ok_all m)).win 2).rect t).emb x) ?_ ?_
  · show cc0_transform_2 (grid0.coords t) 0 * 32 + 1 * (x (0 : Fin 2)).val = 32 * t.val + (x (0 : Fin 2)).val
    rw [i0]; omega
  · show cc0_transform_2 (grid0.coords t) 1 * 512 + 1 * (x (1 : Fin 2)).val = (x (1 : Fin 2)).val
    rw [i1]; omega

theorem final_S (c : Dev nD) : (datV m 0 c).arrAt 2 (cfgM m (ok_all m)).N = resS m c :=
  (datV m 0 c).arrAt_eq_of_cover 2 (resS m c) (flushed_S m c) fun (i : S1536x512.Idx) =>
    ⟨ptOf m (i 0).val (i 0).isLt, flush0_2 _ _, by
      have i0 : cc0_transform_2 (grid0.coords (ptOf m (i 0).val (i 0).isLt)) 0 = (i 0).val / 32 := congrFun (index_2 _) 0
      have i1 : cc0_transform_2 (grid0.coords (ptOf m (i 0).val (i 0).isLt)) 1 = 0 := congrFun (index_2 _) 1
      have h0 : (i 0).val < 1536 := (i 0).isLt
      have h1 : (i 1).val < 512 := (i 1).isLt
      show i ∈ ((View.whole main_v0_1).slice (((cfgM m (ok_all m)).win 2).rect (ptOf m (i 0).val (i 0).isLt))).set
      refine (Finset.ext_iff.mp (View.set_slice_whole _ _) i).mpr ?_
      refine Rect.mem_set_unit.mpr ?_
      intro a
      match a with
      | ⟨0, _⟩ => show cc0_transform_2 (grid0.coords (ptOf m (i 0).val (i 0).isLt)) 0 * 32 ≤ (i 0).val ∧ (i 0).val < cc0_transform_2 (grid0.coords (ptOf m (i 0).val (i 0).isLt)) 0 * 32 + 32
                  rw [i0]; omega
      | ⟨1, _⟩ => show cc0_transform_2 (grid0.coords (ptOf m (i 0).val (i 0).isLt)) 1 * 512 ≤ (i 1).val ∧ (i 1).val < cc0_transform_2 (grid0.coords (ptOf m (i 0).val (i 0).isLt)) 1 * 512 + 512
                  rw [i1]; omega⟩

/-- Every execution ends with the two results as stated and the arguments unchanged. -/
theorem runV : θ_run defs (onTc (τ := τ) (main (F := F))) ⟨m, fun _ => 0, ρ⟩ (fun r => ∀ c : Dev nD,
      r.2.mem ((c.tc : Thread nD τ).loc main_v0_0) = resC m c ∧ r.2.mem ((c.tc : Thread nD τ).loc main_v0_1) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 1).trans (final_C m c), ((h c).1 2).trans (final_S m c),
      ((h c).1 0).trans (((datV m 0 c).arrAt_in 0 rfl _).trans (A_eqV m c 0)),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) (run_mainV m ρ)

end Cert.KernelIdeal.Gen

end
-- ==== Proof.Blk.lean ====
/- The live rows of a point and the block it reads, in numbers. -/
module

public import proofs.«01_k».proof.Proof.Words

@[expose] public section

namespace Cert.Words

open Idealize.ShloMosaic

theorem floorMod_ofNat (n : ℕ) (h : n < 48) : floorMod (BitVec.ofNat 32 n) 24#32 = BitVec.ofNat 32 (n % 24) := by
  apply BitVec.eq_of_toNat_eq
  rw [floorMod_toNat n h, BitVec.toNat_ofNat]
  omega

theorem toInt_ofNat_small (n : ℕ) (h : n < 2147483648) : (BitVec.ofNat 32 n).toInt = n := by
  have e : (BitVec.ofNat 32 n).toNat = n := by rw [BitVec.toNat_ofNat]; omega
  rw [BitVec.toInt_eq_toNat_of_lt (by omega), e]

/-- The number of live rows at a point. -/
theorem live_toInt (t : ℕ) (ht : t < 48) (L : BitVec 32) (hL : -2147482912 ≤ L.toInt) :
    (Scalar.minsi 32#32 (Scalar.maxsi 0#32 (Scalar.subi L (Scalar.muli (floorMod (BitVec.ofNat 32 t) 24#32) 32#32)))).toInt
      = min 32 (max 0 (L.toInt - ((32 * (t % 24) : ℕ) : ℤ))) := by
  have hL2 : L.toInt < 2147483648 := by have := BitVec.toInt_lt (x := L); omega
  rw [minsi_toInt, maxsi_toInt, floorMod_ofNat t ht]
  have e1 : Scalar.muli (BitVec.ofNat 32 (t % 24)) 32#32 = BitVec.ofNat 32 (32 * (t % 24)) := by
    show BitVec.ofNat 32 (t % 24) * BitVec.ofNat 32 32 = _
    rw [← BitVec.ofNat_mul, Nat.mul_comm]
  rw [e1]
  have e2 : (Scalar.subi L (BitVec.ofNat 32 (32 * (t % 24)))).toInt = L.toInt - ((32 * (t % 24) : ℕ) : ℤ) := by
    show (L - BitVec.ofNat 32 (32 * (t % 24))).toInt = _
    rw [BitVec.toInt_sub, toInt_ofNat_small _ (by omega)]
    apply Int.bmod_eq_of_le <;> omega
  rw [e2]
  have a : (0#32).toInt = 0 := by decide
  have b : (32#32).toInt = 32 := by decide
  rw [a, b]

/-- A row of a point is kept exactly when its place is before the length. -/
theorem keep_slt (t r : ℕ) (ht : t < 48) (hr : r < 32) (L : BitVec 32) (hL : -2147482912 ≤ L.toInt) :
    (BitVec.ofNat 32 r).slt (Scalar.minsi 32#32 (Scalar.maxsi 0#32 (Scalar.subi L (Scalar.muli (floorMod (BitVec.ofNat 32 t) 24#32) 32#32))))
      = (BitVec.ofNat 32 (32 * (t % 24) + r)).slt L := by
  unfold BitVec.slt
  rw [live_toInt t ht L hL, toInt_ofNat_small r (by omega), toInt_ofNat_small (32 * (t % 24) + r) (by omega)]
  apply decide_eq_decide.mpr
  push_cast
  omega

theorem divsi_toNat (a : BitVec 32) (h : a.toNat < 2147483648) (h0 : 0 < a.toNat) : (floorDiv a 32#32).toNat = a.toNat / 32 := by
  have hi : a.toInt = a.toNat := BitVec.toInt_eq_toNat_of_lt (by omega)
  have z : (0#32).toInt = 0 := by decide
  have e1 : Scalar.cmpi .sgt a 0#32 = 1#1 := by
    show BitVec.ofBool ((0#32).slt a) = 1#1
    unfold BitVec.slt
    rw [hi, z, decide_eq_true (by omega)]
    rfl
  have e2 : Scalar.cmpi .slt a 0#32 = 0#1 := by
    show BitVec.ofBool (a.slt 0#32) = 0#1
    unfold BitVec.slt
    rw [hi, z, decide_eq_false (by omega)]
    rfl
  have e3 : floorDiv a 32#32 = Scalar.divsi a 32#32 := by
    unfold floorDiv
    rw [e1, e2]
    have : ∀ b : BitVec 1, Scalar.andi (Scalar.cmpi .ne (Scalar.subi (Scalar.extui 1#1 : BitVec 32) (Scalar.extui 0#1)) (Scalar.subi (Scalar.extui (Scalar.cmpi .sgt 32#32 0#32)) (Scalar.extui (Scalar.cmpi .slt 32#32 0#32)))) b = 0#1 := by decide
    rw [this]
    rfl
  rw [e3]
  have e4 : Scalar.divsi a 32#32 = a.sdiv 32#32 := if_neg (by simp [IntOp.SDivCorner])
  rw [e4]
  rw [BitVec.sdiv_eq]
  have m1 : a.msb = false := by rw [BitVec.msb_eq_decide]; exact decide_eq_false (by omega)
  have m2 : (32#32).msb = false := by decide
  rw [m1, m2]
  rfl

/-- At a point with a live row the block read is the point's own. -/
theorem blockWord_live (t : ℕ) (ht : t < 48) (L : BitVec 32) (hu : L.toInt ≤ 2147483616) (hl : ((32 * (t % 24) : ℕ) : ℤ) < L.toInt) :
    (blockWord (BitVec.ofNat 32 t) L).toNat = t % 24 := by
  have hn : L.toInt = L.toNat := by
    rcases Nat.lt_or_ge L.toNat 2147483648 with h | h
    · exact BitVec.toInt_eq_toNat_of_lt (by omega)
    · have := BitVec.toInt_eq_toNat_cond L
      rw [if_neg (by omega)] at this
      have := L.isLt
      omega
  have a1 : Scalar.subi (Scalar.addi L 32#32) 1#32 = L + 31#32 := by
    show L + 32#32 - 1#32 = _
    rw [BitVec.sub_eq_add_neg, BitVec.add_assoc]; rfl
  have a2 : (L + 31#32).toNat = L.toNat + 31 := by
    rw [BitVec.toNat_add]
    show (L.toNat + 31) % 4294967296 = _
    omega
  have a3 := divsi_toNat (L + 31#32) (by omega) (by omega)
  rw [a2] at a3
  unfold blockWord lastWord
  rw [a1, floorMod_ofNat t ht]
  generalize floorDiv (L + 31#32) 32#32 = w at a3
  have w1 : w.toInt = w.toNat := BitVec.toInt_eq_toNat_of_lt (by omega)
  have b1 : Scalar.maxsi w 1#32 = w := by
    apply BitVec.eq_of_toInt_eq
    rw [maxsi_toInt, w1]
    have : (1#32).toInt = 1 := by decide
    omega
  rw [b1]
  have b2 : (Scalar.subi w 1#32).toNat = w.toNat - 1 := by
    show (w - 1#32).toNat = _
    rw [BitVec.toNat_sub]
    show (4294967296 - 1 + w.toNat) % 4294967296 = _
    omega
  have b3 : (Scalar.subi w 1#32).toInt = (w.toNat - 1 : ℕ) := by
    rw [BitVec.toInt_eq_toNat_of_lt (by omega), b2]
  have b4 : Scalar.minsi (BitVec.ofNat 32 (t % 24)) (Scalar.subi w 1#32) = BitVec.ofNat 32 (t % 24) := by
    apply BitVec.eq_of_toInt_eq
    rw [minsi_toInt, b3, toInt_ofNat_small _ (by omega)]
    omega
  rw [b4, BitVec.toNat_ofNat]
  omega

end Cert.Words
-- ==== Proof.KBlk.lean ====
/- What a point reads: its block of the input, the length of its sequence, the seed. -/
module

public import proofs.«01_k».proof.Proof.KIVal
public import proofs.«01_k».proof.Proof.Blk

@[expose] public section

set_option maxRecDepth 16384

noncomputable section

namespace Cert.KernelIdeal.Gen

open Idealize.ShloMosaic Idealize.ShloMosaic.TcCoe
open Idealize.ShloMosaic.ValueIdx

variable {F : FTy → Type} [FloatOps F]
variable (m : (ℓ : Loc nD τ sig) → Buf (Elt F) ℓ)

/-- The three arguments. -/
abbrev argX : FVec F S2x768x16384 .bf16 := m (((0 : Dev nD).tc : Thread nD τ).loc main_arg0)
abbrev argK : IVec S2 32 := m (((0 : Dev nD).tc : Thread nD τ).loc main_arg1)
abbrev argL : IVec S2 32 := m (((0 : Dev nD).tc : Thread nD τ).loc main_arg2)

theorem off1_at : ∀ t : Fin 48, ∀ t' : Fin grid0.N, t'.val = t.val → k0_off1 (grid0.coords t') 0 = t.val / 24 := by
  have h : ∀ t' : Fin grid0.N, k0_off1 (grid0.coords t') 0 = t'.val / 24 := by decide +kernel
  intro t t' e
  rw [h t', e]

theorem idx1 (y z : S2.Idx) (h : (y 0).val = (z 0).val) : y = z := funext fun a => by
  obtain rfl : a = 0 := Subsingleton.elim _ _
  exact Fin.ext h

theorem lenM_at (t : Fin (cfgM m (ok_all m)).N) (b : Fin 2) (hb : b.val = t.val / 24) : lenM m (grid0.coords t) = argL m (ix1 b) := by
  have ht : t.val < 48 := N48 ▸ t.isLt
  show argL m _ = argL m _
  refine congrArg (argL m) (idx1 _ _ ?_)
  show k0_off1 (grid0.coords t) 0 + 1 * 0 = b.val
  rw [off1_at ⟨t.val, ht⟩ t rfl, hb]
  rfl

theorem seedM0_at : seedM0 m = argK m (ix1 (0 : Fin 2)) := by
  show argK m _ = argK m _
  exact congrArg (argK m) (idx1 _ _ rfl)

theorem seedM1_at : seedM1 m = argK m (ix1 (1 : Fin 2)) := by
  show argK m _ = argK m _
  exact congrArg (argK m) (idx1 _ _ rfl)

theorem len_word (i : grid0.Coords) : (tbl m).at 0 (Rect.unit (s := S2) (k0_off1 i) S1.size (k0_off1_inb i)) numel1_S1 = lenM m i := rfl

/-- The input block of a point, element by element. -/
theorem iblk_at (t : Fin (cfgM m (ok_all m)).N) (r : Fin 32) (d : Fin 16384) (b : Fin 2) (s : Fin 768) (hb : b.val = t.val / 24)
    (hs : s.val = 32 * (Cert.Words.blockWord (BitVec.ofNat 32 t.val) (lenM m (grid0.coords t))).toNat + r.val) :
    iblk m (ok_all m) 0 0 t (ix3 (0 : Fin 1) r d) = argX m (ix3 b s d) := by
  have ht : t.val < 48 := N48 ▸ t.isLt
  have hc := transform_0_eq (tbl m) (grid0.coords t)
  rw [coords_val t, len_word] at hc
  have c0 := congrFun hc 0
  have c1 := congrFun hc 1
  have c2 := congrFun hc 2
  show argX m ((((cfgM m (ok_all m)).win 0).rect t).emb (ix3 (0 : Fin 1) r d)) = argX m _
  refine congrArg (argX m) ?_
  funext a
  refine Fin.ext ?_
  fin_cases a
  · show cc0_transform_0 k0_off1_inb numel1_S1 (tbl m) (grid0.coords t) 0 * 1 + 1 * 0 = b.val
    rw [c0, hb]
    show (Cert.Words.seqWord (BitVec.ofNat 32 t.val)).toNat * 1 + 1 * 0 = _
    rw [Cert.Words.seqWord_toNat _ ht]; omega
  · show cc0_transform_0 k0_off1_inb numel1_S1 (tbl m) (grid0.coords t) 1 * 32 + 1 * r.val = s.val
    rw [c1, hs]
    show (Cert.Words.blockWord (BitVec.ofNat 32 t.val) (lenM m (grid0.coords t))).toNat * 32 + 1 * r.val = _
    omega
  · show cc0_transform_0 k0_off1_inb numel1_S1 (tbl m) (grid0.coords t) 2 * 16384 + 1 * d.val = d.val
    rw [c2]
    show 0 * 16384 + 1 * d.val = _
    omega

end Cert.KernelIdeal.Gen
-- ==== Proof.RefPt.lean ====
/- The reference's results in the terms the kernel's are stated in. -/
module

public import proofs.«01_k».proof.Proof.RefVal

@[expose] public section

set_option maxRecDepth 16384

noncomputable section

namespace Cert.ReferenceIdeal.Value

open Idealize.ShloMosaic Idealize.ShloMosaic.TcCoe Idealize.ShloMosaic.Tactic
open Idealize.ShloMosaic.ValueIdx
open Cert.ReferenceIdeal Cert.ReferenceIdeal.Gen
open Cert.Scal

theorem Fld_lt_top {v : EReal} {K : ℕ} (h : Fld v K) : v < ⊤ := by
  rcases h with ⟨rfl, _⟩ | ⟨_, _, _, h⟩
  · exact EReal.zero_lt_top
  · exact h.trans (EReal.coe_lt_top _)

theorem real_of {x v : EReal} (h : max x (-x) ≤ v) (hv : v < ⊤) : ∃ r : ℝ, x = (r : EReal) := by
  obtain ⟨h1, h2⟩ := max_le_iff.mp h
  have a1 : x ≠ ⊤ := (h1.trans_lt hv).ne
  have a2 : x ≠ ⊥ := fun e => by
    rw [e, EReal.neg_bot] at h2
    exact absurd (h2.trans_lt hv) (lt_irrefl _)
  exact ⟨x.toReal, (EReal.coe_toReal a1 a2).symm⟩

theorem codeR_at (V0 : Valuation τ sig (Elt Ideal)) (b : Fin 2) (s : Fin 768) (d : Fin 16384) {v : EReal} {K : ℕ} {r : ℝ} (hK : Fld v K) (hx : xR V0 b s d = (r : EReal)) (hb : ((|r| : ℝ) : EReal) ≤ v) :
    codeR V0 b s d (expI K) = BitVec.ofNat 32 (codeN (wordR V0 b s d.val) K r) := by
  obtain ⟨s0, s1⟩ := sca_range hK (abs_nonneg r) hb
  obtain ⟨M, hM, e⟩ := codeN_parts (wordR V0 b s d.val) hK hb
  unfold codeR
  rw [hx, refA_eq hK hb, magR_eq _ s0 s1, hM, lit0f, sel_olt, e]
  by_cases h : r < 0
  · rw [if_pos h, if_pos h, refCode]
  · rw [if_neg h, if_neg h, refCode0]

theorem bound_at (V0 : Valuation τ sig (Elt Ideal)) (b : Fin 2) (s : Fin 768) (n : Fin 512) (d : Fin 16384) (hd : d.val / 32 = n.val) : max (xR V0 b s d) (-(xR V0 b s d)) ≤ gmR V0 b s n := by
  have := (v642_le V0 b s n (gmR V0 b s n)).mp le_rfl ⟨d.val % 32, Nat.mod_lt _ (by decide)⟩
  have e : (⟨32 * n.val + d.val % 32, by have := d.isLt; omega⟩ : Fin 16384) = d := Fin.ext (by simp only; omega)
  simp only at this
  rw [e] at this
  exact this

theorem out0_eq (V0 : Valuation τ sig (Elt Ideal)) (r : Fin 1536) (d : Fin 8192) (K : ℕ) (x0 x1 : ℝ) (hK : Fld (gmR V0 (rb r) (rp r) ⟨d.val / 16, by have := d.isLt; omega⟩) K)
    (h0 : xR V0 (rb r) (rp r) ⟨2 * d.val, by have := d.isLt; omega⟩ = (x0 : EReal)) (h1 : xR V0 (rb r) (rp r) ⟨2 * d.val + 1, by have := d.isLt; omega⟩ = (x1 : EReal)) :
    out0 V0 (ix2 r d) = Scalar.select (validR V0 (rb r) (rp r)) (BitVec.ofNat 8 (codeN (wordR V0 (rb r) (rp r) (2 * d.val)) K x0 + 16 * codeN (wordR V0 (rb r) (rp r) (2 * d.val + 1)) K x1)) 0#8 := by
  have hd := d.isLt
  have b0 := bound_at V0 (rb r) (rp r) ⟨d.val / 16, by omega⟩ ⟨2 * d.val, by omega⟩ (by simp only; omega)
  have b1 := bound_at V0 (rb r) (rp r) ⟨d.val / 16, by omega⟩ ⟨2 * d.val + 1, by omega⟩ (by simp only; omega)
  rw [h0, abs_coe] at b0
  rw [h1, abs_coe] at b1
  rw [out0_at, v656_at V0 _ _ _ K hK, codeR_at V0 _ _ _ hK h0 b0, codeR_at V0 _ _ _ hK h1 b1]
  have := refByte ⟨_, codeN_lt (wordR V0 (rb r) (rp r) (2 * d.val)) hK b0⟩ ⟨_, codeN_lt (wordR V0 (rb r) (rp r) (2 * d.val + 1)) hK b1⟩
  exact congrArg (fun y => Scalar.select (validR V0 (rb r) (rp r)) y 0#8) this

theorem out1_eq (V0 : Valuation τ sig (Elt Ideal)) (r : Fin 1536) (n : Fin 512) (K : ℕ) (hK : Fld (gmR V0 (rb r) (rp r) n) K) :
    out1 V0 (ix2 r n) = Scalar.select (validR V0 (rb r) (rp r)) ((expI K + 127#32).setWidth 8) 0#8 := by
  rw [out1_at, v656_at V0 _ _ _ K hK]

end Cert.ReferenceIdeal.Value
-- ==== Proof.PreT.lean ====
/- What the precondition says: every group's largest magnitude has a field, every length lies in its range. -/
module

public import proofs.«01_k».proof.Pre_tame
public import proofs.«01_k».proof.Proof.Scal
public import Idealize.ShloMosaic.Lib.Decide
public import Idealize.ShloMosaic.Lib.Exec
public import proofs.«01_k».proof.Proof.RefVal

@[expose] public section

set_option maxRecDepth 16384

noncomputable section

namespace Cert.Pre_tame

open Idealize.ShloMosaic Idealize.ShloMosaic.TcCoe
open Idealize.ShloMosaic.ValueIdx
open Cert.Scal

instance facts : Facts where
  bitsLt_bf16_f32 := by decide
  shapeCasts_S2x768x16384_S2x768x512x32 := by decide
  reducesTo_S2x768x512x32_S2x768x512_d3 := by decide
  h_S_ := by decide
  bcast_S_S2x768x512 := by decide
  bcast_S_S2 := by decide
  bcast_S2_S2x1x1_0 := by decide
  bcast_S2x1x1_S2x768x512_0_1_2 := by decide

open Facts

/-- Every group's largest magnitude. -/
def amax (X : FVec Ideal S2x768x16384 .bf16) : FVec Ideal S2x768x512 .f32 :=
  Host.reduce FloatOps.maximumf (shapeCast S2x768x512x32 (Host.absf (extf .f32 X bitsLt_bf16_f32)) shapeCasts_S2x768x16384_S2x768x512x32) (constant (F := Ideal) S_ .f32 0xFF800000#32) reducesTo_S2x768x512x32_S2x768x512_d3 h_S_

abbrev a3 (v : FVec Ideal S2x768x512 .f32) (j : S2x768x512.Idx) : EReal := v j
abbrev xP (X : FVec Ideal S2x768x16384 .bf16) (b : Fin 2) (s : Fin 768) (d : Fin 16384) : EReal := X (ix3 b s d)

theorem lift4 (b : Fin 2) (s : Fin 768) (n : Fin 512) (i : Fin 32) (h : Shape.Reduces S2x768x512x32 [3] S2x768x512) :
    h.lift (ix3 b s n) i = ix4 b s n i := by
  funext a; apply Fin.ext; refine (Shape.Reduces.lift_val h _ _ a).trans ?_; fin_cases a <;> rfl

theorem abs_at (X : FVec Ideal S2x768x16384 .bf16) (b : Fin 2) (s : Fin 768) (n : Fin 512) (i : Fin 32) :
    (show EReal from shapeCast S2x768x512x32 (Host.absf (extf .f32 X bitsLt_bf16_f32)) shapeCasts_S2x768x16384_S2x768x512x32 (ix4 b s n i))
      = max (xP X b s ⟨32 * n.val + i.val, by have := n.isLt; have := i.isLt; omega⟩) (-(xP X b s ⟨32 * n.val + i.val, by have := n.isLt; have := i.isLt; omega⟩)) := by
  have hn := n.isLt
  have hi := i.isLt
  simp only
  rw [shapeCast_apply _ _ _ (ix3 b s (⟨32 * n.val + i.val, by omega⟩ : Fin 16384)) (by
    rw [Shape.rowMajor_val_three, Shape.rowMajor_val_four]
    show (b.val * 768 + s.val) * 16384 + (32 * n.val + i.val) = ((b.val * 768 + s.val) * 512 + n.val) * 32 + i.val
    omega)]
  rfl

theorem amax_le (X : FVec Ideal S2x768x16384 .bf16) (b : Fin 2) (s : Fin 768) (n : Fin 512) (c : EReal) :
    a3 (amax X) (ix3 b s n) ≤ c ↔ ∀ i : Fin 32, max (xP X b s ⟨32 * n.val + i.val, by have := n.isLt; have := i.isLt; omega⟩) (-(xP X b s ⟨32 * n.val + i.val, by have := n.isLt; have := i.isLt; omega⟩)) ≤ c := by
  have h : Shape.Reduces S2x768x512x32 [3] S2x768x512 := by decide
  have e : a3 (amax X) (ix3 b s n) = (Finset.univ : Finset (Fin 32)).fold max (⊥ : EReal) (fun i => max (xP X b s ⟨32 * n.val + i.val, by have := n.isLt; have := i.isLt; omega⟩) (-(xP X b s ⟨32 * n.val + i.val, by have := n.isLt; have := i.isLt; omega⟩))) := by
    refine (Host.reduce_eq_fold_single (max : EReal → EReal → EReal) _ (constant (F := Ideal) S_ .f32 0xFF800000#32) reducesTo_S2x768x512x32_S2x768x512_d3 h h_S_ (ix3 b s n)).trans ?_
    have e0 : constant (F := Ideal) S_ .f32 0xFF800000#32 (Shape.Idx.first h_S_) = ⊥ := by
      show Ideal.ofBits .f32 0xFF800000#32 = ⊥
      simp [Ideal.ofBits, Ideal.ieee]
    rw [e0]
    refine congrArg (fun f => (Finset.univ : Finset (Fin 32)).fold max (⊥ : EReal) f) (funext fun i => ?_)
    exact (congrArg (shapeCast S2x768x512x32 (Host.absf (extf .f32 X bitsLt_bf16_f32)) shapeCasts_S2x768x16384_S2x768x512x32) (lift4 b s n i h)).trans (abs_at X b s n i)
  rw [e, Finset.fold_max_le]
  simp only [bot_le, true_and, Finset.mem_univ, true_implies]

theorem bc0_at (v : EReal) (b : Fin 2) (s : Fin 768) (n : Fin 512) : broadcastInDim S2x768x512 ![] bcast_S_S2x768x512 (fun _ : S_.Idx => v) (ix3 b s n) = v := rfl

theorem bcL_at (v : IVec S2 1) (b : Fin 2) (s : Fin 768) (n : Fin 512) :
    broadcastInDim S2x768x512 ![0, 1, 2] bcast_S2x1x1_S2x768x512_0_1_2 (broadcastInDim S2x1x1 ![0] bcast_S2_S2x1x1_0 v) (ix3 b s n) = v (ix1 b) := by
  refine (broadcastInDim_apply _ _ _ _ (ix3 b (0 : Fin 1) (0 : Fin 1)) ?_).trans (broadcastInDim_apply _ _ _ _ (ix1 b) ?_)
  · intro a; fin_cases a <;> rfl
  · intro a; fin_cases a <;> rfl

theorem grp_at (A : FVec Ideal S2x768x512 .f32) (w0 w1 w2 : BitVec 32) (B : IVec S2x768x512 1) (j : S2x768x512.Idx) :
    andi (ori (cmpf .oeq A (broadcastInDim S2x768x512 ![] bcast_S_S2x768x512 (constant (F := Ideal) S_ .f32 w0)))
      (andi (cmpf .oge A (broadcastInDim S2x768x512 ![] bcast_S_S2x768x512 (constant (F := Ideal) S_ .f32 w1))) (cmpf .ole A (broadcastInDim S2x768x512 ![] bcast_S_S2x768x512 (constant (F := Ideal) S_ .f32 w2))))) B j
      = IntOp.andi (IntOp.ori (Ideal.cmp .oeq (a3 A j) (Ideal.ofBits .f32 w0)) (IntOp.andi (Ideal.cmp .oge (a3 A j) (Ideal.ofBits .f32 w1)) (Ideal.cmp .ole (a3 A j) (Ideal.ofBits .f32 w2)))) (B j) := rfl

theorem len_at (L : IVec S2 32) (w1 w2 : BitVec 32) (j : S2.Idx) :
    andi (cmpi .sge L (broadcastInDim S2 ![] bcast_S_S2 (constantI S_ 32 w1))) (cmpi .sle L (broadcastInDim S2 ![] bcast_S_S2 (constantI S_ 32 w2))) j
      = IntOp.andi (IntOp.cmpi .sge (L j) w1) (IntOp.cmpi .sle (L j) w2) := rfl

/-- The predicate at a group, of what it reads there. -/
theorem fn_at (X : FVec Ideal S2x768x16384 .bf16) (K : IVec S2 32) (L : IVec S2 32) (b : Fin 2) (s : Fin 768) (n : Fin 512) :
    fn X K L (ix3 b s n) = IntOp.andi (IntOp.ori (Ideal.cmp .oeq (a3 (amax X) (ix3 b s n)) (Ideal.ofBits .f32 0x00000000#32))
      (IntOp.andi (Ideal.cmp .oge (a3 (amax X) (ix3 b s n)) (Ideal.ofBits .f32 0x00800000#32)) (Ideal.cmp .ole (a3 (amax X) (ix3 b s n)) (Ideal.ofBits .f32 0x7F7F0000#32))))
      (IntOp.andi (IntOp.cmpi .sge (L (ix1 b)) 2147484384#32) (IntOp.cmpi .sle (L (ix1 b)) 2147483616#32)) := by
  refine Eq.trans (grp_at (amax X) _ _ _ _ _) ?_
  exact congrArg (IntOp.andi _) ((bcL_at _ b s n).trans (len_at L _ _ _))

theorem and1 : ∀ a b : BitVec 1, IntOp.andi a b = 1#1 → a = 1#1 ∧ b = 1#1 := by decide
theorem or1 : ∀ a b : BitVec 1, IntOp.ori a b = 1#1 → a = 1#1 ∨ b = 1#1 := by decide

theorem top_lt : Ideal.ofBits .f32 0x7F7F0000#32 < pw 255 := by
  have e : Ideal.ofBits .f32 0x7F7F0000#32 = (((255 : ℝ) * 2 ^ (120 : ℕ) : ℝ) : EReal) := by
    simp [Ideal.ofBits, Ideal.ieee, -EReal.coe_mul, -EReal.coe_pow, -EReal.coe_add, -EReal.coe_one]
    norm_num
  rw [e]
  unfold pw
  refine EReal.coe_lt_coe_iff.mpr ?_
  norm_num

theorem oeq1 (a b : EReal) (h : Ideal.cmp .oeq a b = 1#1) : a = b := by
  unfold Ideal.cmp at h
  by_contra hn
  simp [hn] at h
theorem oge1 (a b : EReal) (h : Ideal.cmp .oge a b = 1#1) : b ≤ a := by
  unfold Ideal.cmp at h
  by_contra hn
  simp [hn] at h
theorem ole1 (a b : EReal) (h : Ideal.cmp .ole a b = 1#1) : a ≤ b := by
  unfold Ideal.cmp at h
  by_contra hn
  simp [hn] at h
theorem sle1 (a b : BitVec 32) (h : IntOp.cmpi .sle a b = 1#1) : a.toInt ≤ b.toInt := by
  have : BitVec.ofBool (a.sle b) = 1#1 := h
  unfold BitVec.sle at this
  by_contra hn
  rw [decide_eq_false hn] at this
  exact absurd this (by decide)
theorem sge1 (a b : BitVec 32) (h : IntOp.cmpi .sge a b = 1#1) : b.toInt ≤ a.toInt := by
  have : BitVec.ofBool (b.sle a) = 1#1 := h
  unfold BitVec.sle at this
  by_contra hn
  rw [decide_eq_false hn] at this
  exact absurd this (by decide)

theorem group_of (X : FVec Ideal S2x768x16384 .bf16) (K : IVec S2 32) (L : IVec S2 32) (h : fn X K L = fun _ => 1#1) (b : Fin 2) (s : Fin 768) (n : Fin 512) :
    ∃ k, Fld (a3 (amax X) (ix3 b s n)) k := by
  have h1 := (fn_at X K L b s n).symm.trans (congrFun h _)
  refine Fld_exists _ ?_
  rcases or1 _ _ (and1 _ _ h1).1 with h2 | h2
  · left
    rw [oeq1 _ _ h2]
    simp [Ideal.ofBits, Ideal.ieee]
  · right
    obtain ⟨h3, h4⟩ := and1 _ _ h2
    refine ⟨?_, (ole1 _ _ h4).trans_lt top_lt⟩
    rw [← ofBits_pw 1 (by omega) (by omega)]
    exact oge1 _ _ h3

theorem len_of (X : FVec Ideal S2x768x16384 .bf16) (K : IVec S2 32) (L : IVec S2 32) (h : fn X K L = fun _ => 1#1) (b : Fin 2) :
    -2147482912 ≤ (L (ix1 b)).toInt ∧ (L (ix1 b)).toInt ≤ 2147483616 := by
  have h1 := (fn_at X K L b 0 0).symm.trans (congrFun h _)
  obtain ⟨h3, h4⟩ := and1 _ _ (and1 _ _ h1).2
  have a1 : (2147484384#32).toInt = -2147482912 := by decide
  have a2 : (2147483616#32).toInt = 2147483616 := by decide
  have g3 := sge1 _ _ h3
  have g4 := sle1 _ _ h4
  rw [a1] at g3
  rw [a2] at g4
  exact ⟨g3, g4⟩

end Cert.Pre_tame
-- ==== Proof.Agree.lean ====
/- The kernel's results and the reference's, element by element. -/
module

public import proofs.«01_k».proof.Proof.KPt
public import proofs.«01_k».proof.Proof.KBlk
public import proofs.«01_k».proof.Proof.RefPt
public import proofs.«01_k».proof.Proof.PreT

@[expose] public section

set_option maxRecDepth 16384

noncomputable section

namespace Cert.Agree

open Idealize.ShloMosaic Idealize.ShloMosaic.TcCoe
open Idealize.ShloMosaic.ValueIdx
open Cert.Scal
open Cert.KernelIdeal.Gen (argX argK argL resC resS xK IsMax wordK iblk ok_all lenM seedM0 seedM1 keepEl ptOf)
open Cert.ReferenceIdeal.Value (out0 out1 rb rp xR gmR wordR validR)
open Cert.Pre_tame (amax a3 xP)

abbrev KMem := (ℓ : Loc Cert.KernelIdeal.nD Cert.KernelIdeal.τ Cert.KernelIdeal.sig) → Buf (Elt Ideal) ℓ
abbrev RVal := Valuation Cert.ReferenceIdeal.τ Cert.ReferenceIdeal.sig (Elt Ideal)

/-- Both programs start from the same arguments. -/
structure Same (m : KMem) (V0 : RVal) : Prop where
  x : (show FVec Ideal Cert.KernelIdeal.S2x768x16384 .bf16 from V0 (Proc.devRef .tc Cert.ReferenceIdeal.main_arg0)) = argX m
  k : (show IVec Cert.KernelIdeal.S2 32 from V0 (Proc.devRef .tc Cert.ReferenceIdeal.main_arg1)) = argK m
  l : (show IVec Cert.KernelIdeal.S2 32 from V0 (Proc.devRef .tc Cert.ReferenceIdeal.main_arg2)) = argL m

variable {m : KMem} {V0 : RVal}

theorem xR_eq (h : Same m V0) (b : Fin 2) (s : Fin 768) (d : Fin 16384) : xR V0 b s d = xP (argX m) b s d := congrFun h.x (ix3 b s d)

theorem gmR_eq (h : Same m V0) (b : Fin 2) (s : Fin 768) (n : Fin 512) : gmR V0 b s n = a3 (amax (argX m)) (ix3 b s n) :=
  eq_of_forall_ge_iff fun c => by
    rw [Cert.ReferenceIdeal.Value.v642_le, Cert.Pre_tame.amax_le]
    simp only [xR_eq h]

theorem validR_eq (h : Same m V0) (b : Fin 2) (s : Fin 768) : validR V0 b s = BitVec.ofBool ((BitVec.ofNat 32 s.val).slt (argL m (ix1 b))) :=
  congrArg (fun l : IVec Cert.KernelIdeal.S2 32 => IntOp.cmpi .slt (BitVec.ofNat 32 s.val) (l (ix1 b))) h.l

theorem select_ofBool {α : Type} (c : Bool) (a b : α) : Scalar.select (BitVec.ofBool c) a b = if c then a else b := by
  cases c <;> rfl

theorem wordR_eq (h : Same m V0) (r : Fin 1536) (d : ℕ) : wordK (seedM0 m) (seedM1 m) r.val d = wordR V0 (rb r) (rp r) d := by
  have e : 768 * (rb r).val + (rp r).val = r.val := by
    show 768 * (r.val / 768) + r.val % 768 = r.val
    omega
  have e0 : seedM0 m = Cert.ReferenceIdeal.Value.seedR0 V0 := (Cert.KernelIdeal.Gen.seedM0_at m).trans (congrFun h.k (ix1 (0 : Fin 2))).symm
  have e1 : seedM1 m = Cert.ReferenceIdeal.Value.seedR1 V0 := (Cert.KernelIdeal.Gen.seedM1_at m).trans (congrFun h.k (ix1 (1 : Fin 2))).symm
  unfold wordK wordR
  rw [e, e0, e1]

/-- The point that writes row `r`. -/
abbrev pt (m : KMem) (r : Fin 1536) := ptOf m r.val r.isLt

theorem pt_val (r : Fin 1536) : (pt m r).val = r.val / 32 := rfl
theorem len_eq (r : Fin 1536) : lenM m (Cert.KernelIdeal.grid0.coords (pt m r)) = argL m (ix1 (rb r)) :=
  Cert.KernelIdeal.Gen.lenM_at m (pt m r) (rb r) (by
    show r.val / 768 = r.val / 32 / 24
    omega)

/-- The test that keeps a row is the reference's. -/
theorem keep_eq (r : Fin 1536) (hL : -2147482912 ≤ (argL m (ix1 (rb r))).toInt) (y : BitVec 8) :
    keepEl (Cert.KernelIdeal.Gen.liveW (Cert.KernelIdeal.grid0.coords (pt m r)) (lenM m (Cert.KernelIdeal.grid0.coords (pt m r)))) (r.val % 32) y
      = if (BitVec.ofNat 32 (rp r).val).slt (argL m (ix1 (rb r))) then y else 0#8 := by
  have hr := r.isLt
  unfold keepEl Cert.KernelIdeal.Gen.liveW
  rw [len_eq, Cert.KernelIdeal.Gen.coords_val, pt_val, Cert.Words.keep_slt (r.val / 32) (r.val % 32) (by omega) (by omega) _ hL]
  have e : 32 * (r.val / 32 % 24) + r.val % 32 = (rp r).val := by
    show _ = r.val % 768
    omega
  rw [e]

/-- A live row's input is read from its own place. -/
theorem row_at (r : Fin 1536) (hu : (argL m (ix1 (rb r))).toInt ≤ 2147483616) (hl : (BitVec.ofNat 32 (rp r).val).slt (argL m (ix1 (rb r))) = true) (d : Fin 16384) :
    xK (iblk m (ok_all m) 0 0 (pt m r)) ⟨r.val % 32, Nat.mod_lt _ (by decide)⟩ d = xP (argX m) (rb r) (rp r) d := by
  have hr := r.isLt
  have hp : (rp r).val = r.val % 768 := rfl
  rw [BitVec.slt_iff_toInt_lt, Cert.Words.toInt_ofNat_small _ (by omega)] at hl
  refine Cert.KernelIdeal.Gen.iblk_at m (pt m r) _ d (rb r) (rp r) ?_ ?_
  · show r.val / 768 = r.val / 32 / 24
    omega
  · rw [len_eq, pt_val, Cert.Words.blockWord_live (r.val / 32) (by omega) _ hu (by omega)]
    show r.val % 768 = 32 * (r.val / 32 % 24) + r.val % 32
    omega

theorem isMax_at (r : Fin 1536) (hu : (argL m (ix1 (rb r))).toInt ≤ 2147483616) (hl : (BitVec.ofNat 32 (rp r).val).slt (argL m (ix1 (rb r))) = true) (n : Fin 512) :
    IsMax (iblk m (ok_all m) 0 0 (pt m r)) ⟨r.val % 32, Nat.mod_lt _ (by decide)⟩ n (a3 (amax (argX m)) (ix3 (rb r) (rp r) n)) := fun c => by
  rw [Cert.Pre_tame.amax_le]
  simp only [row_at r hu hl]

/-- The packed codes agree. -/
theorem codes (h : Same m V0) (hpre : Cert.Pre_tame.fn (argX m) (argK m) (argL m) = fun _ => 1#1) (r : Fin 1536) (d : Fin 8192) : resC m 0 (ix2 r d) = out0 V0 (ix2 r d) := by
  have hr := r.isLt
  have hd := d.isLt
  obtain ⟨l0, l1⟩ := Cert.Pre_tame.len_of _ _ _ hpre (rb r)
  obtain ⟨K, hK⟩ := Cert.Pre_tame.group_of _ _ _ hpre (rb r) (rp r) ⟨d.val / 16, by omega⟩
  have hK' := hK
  rw [← gmR_eq h] at hK'
  have top := Cert.ReferenceIdeal.Value.Fld_lt_top hK'
  obtain ⟨x0, h0⟩ := Cert.ReferenceIdeal.Value.real_of (Cert.ReferenceIdeal.Value.bound_at V0 (rb r) (rp r) ⟨d.val / 16, by omega⟩ ⟨2 * d.val, by omega⟩ (by simp only; omega)) top
  obtain ⟨x1, h1⟩ := Cert.ReferenceIdeal.Value.real_of (Cert.ReferenceIdeal.Value.bound_at V0 (rb r) (rp r) ⟨d.val / 16, by omega⟩ ⟨2 * d.val + 1, by omega⟩ (by simp only; omega)) top
  rw [Cert.ReferenceIdeal.Value.out0_eq V0 r d K x0 x1 hK' h0 h1, validR_eq h, select_ofBool]
  refine (keep_eq r l0 _).trans ?_
  by_cases hl : (BitVec.ofNat 32 (rp r).val).slt (argL m (ix1 (rb r))) = true
  · rw [if_pos hl, if_pos hl, Cert.KernelIdeal.Gen.coords_val, pt_val]
    refine (Cert.KernelIdeal.Gen.codeG_at _ (r.val / 32) _ _ ⟨r.val % 32, Nat.mod_lt _ (by decide)⟩ d _ K x0 x1 (isMax_at r l1 hl _) hK
      ((row_at r l1 hl _).trans ((xR_eq h _ _ _).symm.trans h0)) ((row_at r l1 hl _).trans ((xR_eq h _ _ _).symm.trans h1))).trans ?_
    have e : 32 * (r.val / 32) + r.val % 32 = r.val := by omega
    simp only
    rw [e, wordR_eq h, wordR_eq h]
  · rw [if_neg hl, if_neg hl]

/-- The scales agree. -/
theorem scales (h : Same m V0) (hpre : Cert.Pre_tame.fn (argX m) (argK m) (argL m) = fun _ => 1#1) (r : Fin 1536) (n : Fin 512) : resS m 0 (ix2 r n) = out1 V0 (ix2 r n) := by
  obtain ⟨l0, l1⟩ := Cert.Pre_tame.len_of _ _ _ hpre (rb r)
  obtain ⟨K, hK⟩ := Cert.Pre_tame.group_of _ _ _ hpre (rb r) (rp r) n
  have hK' := hK
  rw [← gmR_eq h] at hK'
  rw [Cert.ReferenceIdeal.Value.out1_eq V0 r n K hK', validR_eq h, select_ofBool]
  refine (keep_eq r l0 _).trans ?_
  by_cases hl : (BitVec.ofNat 32 (rp r).val).slt (argL m (ix1 (rb r))) = true
  · rw [if_pos hl, if_pos hl]
    exact Cert.KernelIdeal.Gen.scaleG_at _ ⟨r.val % 32, Nat.mod_lt _ (by decide)⟩ n _ K (isMax_at r l1 hl n) hK
  · rw [if_neg hl, if_neg hl]

end Cert.Agree
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KBFrame
public import proofs.«01_k».proof.Proof.KIFrame
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frameRI : @Cert.quiescent_ReferenceIdeal Cert.ReferenceIdeal.Gen.facts := fun m g _ =>
  (θ_run _ _ _).mono (fun r h => ⟨fun c => ⟨(h c).2.2.1, (h c).2.2.2.1, (h c).2.2.2.2⟩, sem_eq_zero_of_no_sems rfl r.2⟩) (Cert.ReferenceIdeal.Value.run (F := Ideal) m g)

open Idealize.ShloMosaic.ValueIdx (ix2)

theorem split2 {n k : ℕ} (y : Shape.Idx ⟨2, ![n, k]⟩) : y = ix2 (y 0) (y 1) := funext fun a => by
  fin_cases a <;> rfl

/-- The two results of the kernel are the reference's, whenever both start from the same arguments and the precondition holds of them. -/
theorem algebraic : @Cert.algebraic_KernelIdeal_ReferenceIdeal_pre_tame Cert.KernelIdeal.Gen.facts Cert.ReferenceIdeal.Gen.facts Cert.Pre_tame.facts := by
  intro m g m' g' hpre hagree
  refine ⟨fun c => Cert.KernelIdeal.Gen.resC m c, fun c => Cert.KernelIdeal.Gen.resS m c, Cert.KernelIdeal.Gen.runV (F := Ideal) m g, ?_⟩
  refine (θ_run Cert.ReferenceIdeal.defs _ _).mono (fun _ h c => ?_) (Cert.ReferenceIdeal.Value.run (F := Ideal) m' g')
  obtain rfl : c = 0 := Subsingleton.elim _ _
  have hs : Cert.Agree.Same m (Idealize.ShloMosaic.StableHlo.launchContents m' 0) := ⟨(hagree 0).1, (hagree 0).2.1, (hagree 0).2.2⟩
  have hp := hpre 0
  refine ⟨(h 0).1.trans ?_, (h 0).2.1.trans ?_, (h 0).2.2⟩
  · refine Eq.trans (b := Cert.ReferenceIdeal.Value.out0 (Idealize.ShloMosaic.StableHlo.launchContents m' 0)) rfl (funext fun y => ?_)
    rw [split2 y]
    exact (Cert.Agree.codes hs hp _ _).symm
  · refine Eq.trans (b := Cert.ReferenceIdeal.Value.out1 (Idealize.ShloMosaic.StableHlo.launchContents m' 0)) rfl (funext fun y => ?_)
    rw [split2 y]
    exact (Cert.Agree.scales hs hp _ _).symm

theorem claim : Cert.Claim := ⟨Cert.Kernel.Gen.facts, Cert.KernelIdeal.Gen.facts, Cert.ReferenceIdeal.Gen.facts, Cert.Pre_tame.facts,
  fun m g _ => Cert.Kernel.Gen.frame m g, fun m g _ => Cert.KernelIdeal.Gen.frame m g, fun m g _ => Cert.KernelIdeal.Gen.frame m g,
  frameRI, fun m g _ => frameRI m g trivial, trivial, algebraic⟩

end Cert.Proof

end
